-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "half_inv_alpha" .f32 0x3ED744FD#32 ((262144 / 623487 : ℝ) : EReal)
  ∧ IdealRules.named_const.Statement Cert.Kernel2Ideal.κ "eps_inv_alpha_sq" .f32 0x36ED4403#32 ((2748779 / 388736039169 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "half_inv_alpha" .f32 0x3ED744FD#32 ((262144 / 623487 : ℝ) : EReal)
  ∧ IdealRules.named_const.Statement Cert.Kernel3Ideal.κ "eps_inv_alpha_sq" .f32 0x36ED4403#32 ((2748779 / 388736039169 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v61) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)) (v4 : (c : Dev Cert.Kernel8Ideal.nD) → Buf (Elt Ideal) ((c.tc : Thread Cert.Kernel8Ideal.nD Cert.Kernel8Ideal.τ).loc Cert.Kernel8Ideal.main_v9_4)) (v5 : (c : Dev Cert.Kernel8Ideal.nD) → Buf (Elt Ideal) ((c.tc : Thread Cert.Kernel8Ideal.nD Cert.Kernel8Ideal.τ).loc Cert.Kernel8Ideal.main_v9_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_v9_4) = v4 c
          ∧ r.2.mem ((c.tc : Thread Cert.Kernel8Ideal.nD Cert.Kernel8Ideal.τ).loc Cert.Kernel8Ideal.main_v9_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_v21) = v2 c
          ∧ r.2.mem ((c.tc : Thread Cert.Reference8Ideal.nD Cert.Reference8Ideal.τ).loc Cert.Reference8Ideal.main_v24) = v3 c
          ∧ r.2.mem ((c.tc : Thread Cert.Reference8Ideal.nD Cert.Reference8Ideal.τ).loc Cert.Reference8Ideal.main_v27) = v4 c
          ∧ r.2.mem ((c.tc : Thread Cert.Reference8Ideal.nD Cert.Reference8Ideal.τ).loc Cert.Reference8Ideal.main_v30) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4x8192x10240 : Shape := ⟨3, ![4, 8192, 10240]⟩
abbrev S4x8192x128 : Shape := ⟨3, ![4, 8192, 128]⟩
abbrev S1x16x1024 : Shape := ⟨3, ![1, 16, 1024]⟩
abbrev S1x1024 : Shape := ⟨2, ![1, 1024]⟩
abbrev S1x4x512 : Shape := ⟨3, ![1, 4, 512]⟩
abbrev S4x8192x4096 : Shape := ⟨3, ![4, 8192, 4096]⟩
abbrev S_ : Shape := ⟨0, ![]⟩
abbrev S4x8192x16 : Shape := ⟨3, ![4, 8192, 16]⟩

class Facts : Prop where
  slices_S4x8192x10240_S4x8192x4096_0_0_0 : S4x8192x10240.Slices ![0, 0, 0] S4x8192x4096
  bcast_S_S4x8192x4096 : S_.BroadcastsInDim S4x8192x4096 (![] : Fin 0 → Fin S4x8192x4096.rank)
  slices_S4x8192x128_S4x8192x16_0_0_0 : S4x8192x128.Slices ![0, 0, 0] S4x8192x16
  bcast_S_S4x8192x16 : S_.BroadcastsInDim S4x8192x16 (![] : Fin 0 → Fin S4x8192x16.rank)
  bcast_S_S1x16x1024 : S_.BroadcastsInDim S1x16x1024 (![] : Fin 0 → Fin S1x16x1024.rank)
  bcast_S_S1x1024 : S_.BroadcastsInDim S1x1024 (![] : Fin 0 → Fin S1x1024.rank)

variable [Facts]

def fn {F : FTy → Type} [FloatOps F] (main_arg0 : FVec F S4x8192x10240 .bf16) (main_arg1 : FVec F S4x8192x128 .f32) (main_arg2 : FVec F S1x16x1024 .f32) (main_arg3 : FVec F S1x1024 .f32) (main_arg4 : FVec F S1x4x512 .f32) : IVec S4x8192x4096 1 × IVec S4x8192x16 1 × IVec S1x16x1024 1 × IVec S1x1024 1 :=
  let main_v0 : FVec F S4x8192x4096 .bf16 := (extractStridedSlice S4x8192x4096 ![0, 0, 0] · slices_S4x8192x10240_S4x8192x4096_0_0_0) main_arg0
  let main_v1 : FVec F S4x8192x4096 .bf16 := Host.absf main_v0
  let main_cst : FVec F S_ .bf16 := constant S_ .bf16 0x7F80#16
  let main_v2 : FVec F S4x8192x4096 .bf16 := broadcastInDim S4x8192x4096 ![] bcast_S_S4x8192x4096 main_cst
  let main_v3 : IVec S4x8192x4096 1 := cmpf .olt main_v1 main_v2
  let main_v4 : FVec F S4x8192x16 .f32 := (extractStridedSlice S4x8192x16 ![0, 0, 0] · slices_S4x8192x128_S4x8192x16_0_0_0) main_arg1
  let main_v5 : FVec F S4x8192x16 .f32 := Host.absf main_v4
  let main_cst_0 : FVec F S_ .f32 := constant S_ .f32 0x7F800000#32
  let main_v6 : FVec F S4x8192x16 .f32 := broadcastInDim S4x8192x16 ![] bcast_S_S4x8192x16 main_cst_0
  let main_v7 : IVec S4x8192x16 1 := cmpf .olt main_v5 main_v6
  let main_v8 : FVec F S1x16x1024 .f32 := Host.absf main_arg2
  let main_cst_1 : FVec F S_ .f32 := constant S_ .f32 0x7F800000#32
  let main_v9 : FVec F S1x16x1024 .f32 := broadcastInDim S1x16x1024 ![] bcast_S_S1x16x1024 main_cst_1
  let main_v10 : IVec S1x16x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Kernel.lean ====
abbrev S4x8192x10240 : Shape := ⟨3, ![4, 8192, 10240]⟩
abbrev S4x8192x128 : Shape := ⟨3, ![4, 8192, 128]⟩
abbrev S1x16x1024 : Shape := ⟨3, ![1, 16, 1024]⟩
abbrev S1x1024 : Shape := ⟨2, ![1, 1024]⟩
abbrev S1x4x512 : Shape := ⟨3, ![1, 4, 512]⟩
abbrev S16x1024 : Shape := ⟨2, ![16, 1024]⟩
abbrev S_ : Shape := ⟨0, ![]⟩
abbrev S128x1024 : Shape := ⟨2, ![128, 1024]⟩
abbrev S1024 : Shape := ⟨1, ![1024]⟩
abbrev S4x512 : Shape := ⟨2, ![4, 512]⟩
abbrev S4x1x512 : Shape := ⟨3, ![4, 1, 512]⟩
abbrev S4x8192x2048 : Shape := ⟨3, ![4, 8192, 2048]⟩
abbrev S1x1024x256 : Shape := ⟨3, ![1, 1024, 256]⟩
abbrev S1x1024x512 : Shape := ⟨3, ![1, 1024, 512]⟩
abbrev S1x1024x128 : Shape := ⟨3, ![1, 1024, 128]⟩
abbrev S128x256 : Shape := ⟨2, ![128, 256]⟩
abbrev S1x256 : Shape := ⟨2, ![1, 256]⟩
abbrev S1x1x512 : Shape := ⟨3, ![1, 1, 512]⟩
abbrev S256x512 : Shape := ⟨2, ![256, 512]⟩
abbrev S1024x256 : Shape := ⟨2, ![1024, 256]⟩
abbrev S1024x1024 : Shape := ⟨2, ![1024, 1024]⟩
abbrev S256x256 : Shape := ⟨2, ![256, 256]⟩
abbrev S1x256x128 : Shape := ⟨3, ![1, 256, 128]⟩
abbrev S256x128 : Shape := ⟨2, ![256, 128]⟩
abbrev S64x256 : Shape := ⟨2, ![64, 256]⟩
abbrev S1x64x256 : Shape := ⟨3, ![1, 64, 256]⟩
abbrev S128x128 : Shape := ⟨2, ![128, 128]⟩
abbrev S896x256 : Shape := ⟨2, ![896, 256]⟩
abbrev S896x128 : Shape := ⟨2, ![896, 128]⟩
abbrev S768x256 : Shape := ⟨2, ![768, 256]⟩
abbrev S768x128 : Shape := ⟨2, ![768, 128]⟩
abbrev S640x256 : Shape := ⟨2, ![640, 256]⟩
abbrev S640x128 : Shape := ⟨2, ![640, 128]⟩
abbrev S512x256 : Shape := ⟨2, ![512, 256]⟩
abbrev S512x128 : Shape := ⟨2, ![512, 128]⟩
abbrev S384x256 : Shape := ⟨2, ![384, 256]⟩
abbrev S384x128 : Shape := ⟨2, ![384, 128]⟩
abbrev S1x256x512 : Shape := ⟨3, ![1, 256, 512]⟩
abbrev S256 : Shape := ⟨1, ![256]⟩
abbrev S256x1 : Shape := ⟨2, ![256, 1]⟩
abbrev S1x512 : Shape := ⟨2, ![1, 512]⟩
abbrev S1x512x512 : Shape := ⟨3, ![1, 512, 512]⟩
abbrev S512x512 : Shape := ⟨2, ![512, 512]⟩
abbrev S256x768 : Shape := ⟨2, ![256, 768]⟩
abbrev S1x768x512 : Shape := ⟨3, ![1, 768, 512]⟩
abbrev S768x512 : Shape := ⟨2, ![768, 512]⟩
abbrev S256x1024 : Shape := ⟨2, ![256, 1024]⟩
abbrev S1024x512 : Shape := ⟨2, ![1024, 512]⟩
abbrev S8x256 : Shape := ⟨2, ![8, 256]⟩
abbrev S256x8 : Shape := ⟨2, ![256, 8]⟩

abbrev nBuf : Space → Nat
  | .hbm => 15
  | .vmem => 27
  | .smem => 0
  | _ => 0

abbrev bufTy : (tb : Table) → Fin (tcTables nBuf tb) → BufTy
  | .hbm, ⟨0, _⟩ => ⟨S4x8192x10240, .bf16⟩
  | .hbm, ⟨1, _⟩ => ⟨S4x8192x128, .f32⟩
  | .hbm, ⟨2, _⟩ => ⟨S1x16x1024, .f32⟩
  | .hbm, ⟨3, _⟩ => ⟨S1x1024, .f32⟩
  | .hbm, ⟨4, _⟩ => ⟨S1x4x512, .f32⟩
  | .hbm, ⟨5, _⟩ => ⟨S16x1024, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S128x1024, .bf16⟩
  | .hbm, ⟨10, _⟩ => ⟨S1024, .f32⟩
  | .hbm, ⟨11, _⟩ => ⟨S1x1024, .f32⟩
  | .hbm, ⟨12, _⟩ => ⟨S4x512, .f32⟩
  | .hbm, ⟨13, _⟩ => ⟨S4x1x512, .f32⟩
  | .hbm, ⟨14, _⟩ => ⟨S4x8192x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x128, .f32⟩
  | .local _ .vmem, ⟨9, _⟩ => ⟨S1x1024x128, .f32⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x1x512, .f32⟩
  | .local _ .vmem, ⟨15, _⟩ => ⟨S1x1x512, .f32⟩
  | .local _ .vmem, ⟨16, _⟩ => ⟨S1x1024x512, .bf16⟩
  | .local _ .vmem, ⟨17, _⟩ => ⟨S1x1024x512, .bf16⟩
  | .local _ .vmem, ⟨18, _⟩ => ⟨S256x512, .f32⟩
  | .local _ .vmem, ⟨19, _⟩ => ⟨S1024x256, .f32⟩
  | .local _ .vmem, ⟨20, _⟩ => ⟨S1024x256, .f32⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x1024, .bf16⟩
  | _, _ => ⟨S4x8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4x8192x10240 : Shape := ⟨3, ![4, 8192, 10240]⟩
abbrev S4x8192x128 : Shape := ⟨3, ![4, 8192, 128]⟩
abbrev S1x16x1024 : Shape := ⟨3, ![1, 16, 1024]⟩
abbrev S1x1024 : Shape := ⟨2, ![1, 1024]⟩
abbrev S1x4x512 : Shape := ⟨3, ![1, 4, 512]⟩
abbrev S4x8192x1024 : Shape := ⟨3, ![4, 8192, 1024]⟩
abbrev S4x8192x2048 : Shape := ⟨3, ![4, 8192, 2048]⟩
abbrev S4x8192x16 : Shape := ⟨3, ![4, 8192, 16]⟩
abbrev S16x1024 : Shape := ⟨2, ![16, 1024]⟩
abbrev S1024 : Shape := ⟨1, ![1024]⟩
abbrev S1x1x1024 : Shape := ⟨3, ![1, 1, 1024]⟩
abbrev S_ : Shape := ⟨0, ![]⟩
abbrev S4x8192x4x256 : Shape := ⟨4, ![4, 8192, 4, 256]⟩
abbrev S4x8192x4x512 : Shape := ⟨4, ![4, 8192, 4, 512]⟩
abbrev S4x128x64x4x256 : Shape := ⟨5, ![4, 128, 64, 4, 256]⟩
abbrev S128x4x4x64x256 : Shape := ⟨5, ![128, 4, 4, 64, 256]⟩
abbrev S4x128x64x4x512 : Shape := ⟨5, ![4, 128, 64, 4, 512]⟩
abbrev S128x4x4x64x512 : Shape := ⟨5, ![128, 4, 4, 64, 512]⟩
abbrev S128x4x4x1x256 : Shape := ⟨5, ![128, 4, 4, 1, 256]⟩
abbrev S64x64 : Shape := ⟨2, ![64, 64]⟩
abbrev S128x4x4x64x64 : Shape := ⟨5, ![128, 4, 4, 64, 64]⟩
abbrev S128x4x4x256 : Shape := ⟨4, ![128, 4, 4, 256]⟩
abbrev S4x4x256x512 : Shape := ⟨4, ![4, 4, 256, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S1x4x4x256 : Shape := ⟨4, ![1, 4, 4, 256]⟩
abbrev S4x4x256 : Shape := ⟨3, ![4, 4, 256]⟩
abbrev S4x4x256x1 : Shape := ⟨4, ![4, 4, 256, 1]⟩
abbrev S4x8192x4 : Shape := ⟨3, ![4, 8192, 4]⟩
abbrev S4x8192x4x1 : Shape := ⟨4, ![4, 8192, 4, 1]⟩
abbrev S4x512 : Shape := ⟨2, ![4, 512]⟩
abbrev S1x1x4x512 : Shape := ⟨4, ![1, 1, 4, 512]⟩

abbrev nBuf : Space → Nat
  | .hbm => 177
  | .vmem => 0
  | .smem => 0
  | _ => 0

abbrev hbmTy0_0 (i : Nat) : BufTy := match i % 128 with
  | 0 => ⟨S4x8192x10240, .bf16⟩
  | 1 => ⟨S4x8192x128, .f32⟩
  | 2 => ⟨S1x16x1024, .f32⟩
  | 3 => ⟨S1x1024, .f32⟩
  | 4 => ⟨S1x4x512, .f32⟩
  | 5 => ⟨S4x8192x1024, .bf16⟩
  | 6 => ⟨S4x8192x1024, .bf16⟩
  | 7 => ⟨S4x8192x2048, .bf16⟩
  | 8 => ⟨S4x8192x16, .f32⟩
  | 9 => ⟨S16x1024, .f32⟩
  | 10 => ⟨S4x8192x1024, .f32⟩
  | 11 => ⟨S1024, .f32⟩
  | 12 => ⟨S1x1x1024, .f32⟩
  | 13 => ⟨S4x8192x1024, .f32⟩
  | 14 => ⟨S4x8192x1024, .f32⟩
  | 15 => ⟨S4x8192x1024, .f32⟩
  | 16 => ⟨S_, .f32⟩
  | 17 => ⟨S4x8192x1024, .f32⟩
  | 18 => ⟨S4x8192x1024, .f32⟩
  | 19 => ⟨S4x8192x1024, .f32⟩
  | 20 => ⟨S4x8192x1024, .f32⟩
  | 21 => ⟨S4x8192x1024, .i1⟩
  | 22 => ⟨S4x8192x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S4x8192x1024, .f32⟩
  | 28 => ⟨S4x8192x1024, .f32⟩
  | 29 => ⟨S4x8192x1024, .f32⟩
  | 30 => ⟨S4x8192x1024, .f32⟩
  | 31 => ⟨S_, .f32⟩
  | 32 => ⟨S4x8192x1024, .f32⟩
  | 33 => ⟨S4x8192x1024, .f32⟩
  | 34 => ⟨S4x8192x4x256, .bf16⟩
  | 35 => ⟨S4x8192x4x256, .bf16⟩
  | 36 => ⟨S4x8192x4x512, .bf16⟩
  | 37 => ⟨S4x8192x4x256, .f32⟩
  | 38 => ⟨S4x8192x4x256, .f32⟩
  | 39 => ⟨S4x128x64x4x256, .f32⟩
  | 40 => ⟨S128x4x4x64x256, .f32⟩
  | 41 => ⟨S4x8192x4x256, .f32⟩
  | 42 => ⟨S4x128x64x4x256, .f32⟩
  | 43 => ⟨S128x4x4x64x256, .f32⟩
  | 44 => ⟨S4x8192x4x512, .f32⟩
  | 45 => ⟨S4x128x64x4x512, .f32⟩
  | 46 => ⟨S128x4x4x64x512, .f32⟩
  | 47 => ⟨S4x128x64x4x256, .f32⟩
  | 48 => ⟨S128x4x4x64x256, .f32⟩
  | 49 => ⟨S_, .f32⟩
  | 50 => ⟨S_, .f32⟩
  | 51 => ⟨S128x4x4x64x256, .f32⟩
  | 52 => ⟨S128x4x4x1x256, .f32⟩
  | 53 => ⟨S128x4x4x64x256, .f32⟩
  | 54 => ⟨S128x4x4x64x256, .f32⟩
  | 55 => ⟨S_, .f32⟩
  | 56 => ⟨S128x4x4x64x256, .f32⟩
  | 57 => ⟨S128x4x4x64x256, .f32⟩
  | 58 => ⟨S128x4x4x64x256, .f32⟩
  | 59 => ⟨S128x4x4x64x256, .f32⟩
  | 60 => ⟨S128x4x4x64x256, .f32⟩
  | 61 => ⟨S128x4x4x64x256, .f32⟩
  | 62 => ⟨S128x4x4x64x256, .f32⟩
  | 63 => ⟨S128x4x4x64x256, .f32⟩
  | 64 => ⟨S128x4x4x64x256, .f32⟩
  | 65 => ⟨S_, .i1⟩
  | 66 => ⟨S64x64, .i1⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i1⟩
  | 73 => ⟨S_, .i1⟩
  | 74 => ⟨S64x64, .i1⟩
  | 75 => ⟨S64x64, .i1⟩
  | 76 => ⟨S128x4x4x64x64, .f32⟩
  | 77 => ⟨S_, .f32⟩
  | 78 => ⟨S_, .f32⟩
  | 79 => ⟨S128x4x4x64x64, .i1⟩
  | 80 => ⟨S128x4x4x64x64, .f32⟩
  | 81 => ⟨S128x4x4x64x64, .f32⟩
  | 82 => ⟨S128x4x4x64x512, .f32⟩
  | 83 => ⟨S128x4x4x256, .f32⟩
  | 84 => ⟨S128x4x4x256, .f32⟩
  | 85 => ⟨S_, .f32⟩
  | 86 => ⟨S4x4x256x512, .f32⟩
  | 87 => ⟨S_, .f32⟩
  | 88 => ⟨S128x4x4x64x512, .f32⟩
  | 89 => ⟨S_, .i32⟩
  | 90 => ⟨S128x4x4x64x256, .f32⟩
  | 91 => ⟨S128x4x4x64x256, .f32⟩
  | 92 => ⟨S128x4x4x64x512, .f32⟩
  | 93 => ⟨S128x4x4x256, .f32⟩
  | 94 => ⟨S128x4x4x64x512, .f32⟩
  | 95 => ⟨S_, .i32⟩
  | 96 => ⟨S4x4x256x512, .f32⟩
  | 97 => ⟨S128x4x4x64x512, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x4x4x64x256, .f32⟩
  | 105 => ⟨S4x4x64x256, .f32⟩
  | 106 => ⟨S_, .i32⟩
  | 107 => ⟨S_, .i32⟩
  | 108 => ⟨S_, .i32⟩
  | 109 => ⟨S_, .i32⟩
  | 110 => ⟨S1x4x4x64x256, .f32⟩
  | 111 => ⟨S4x4x64x256, .f32⟩
  | 112 => ⟨S_, .i32⟩
  | 113 => ⟨S_, .i32⟩
  | 114 => ⟨S_, .i32⟩
  | 115 => ⟨S_, .i32⟩
  | 116 => ⟨S1x4x4x64x512, .f32⟩
  | 117 => ⟨S4x4x64x512, .f32⟩
  | 118 => ⟨S_, .i32⟩
  | 119 => ⟨S_, .i32⟩
  | 120 => ⟨S_, .i32⟩
  | 121 => ⟨S1x4x4x256, .f32⟩
  | 122 => ⟨S4x4x256, .f32⟩
  | 123 => ⟨S_, .i32⟩
  | 124 => ⟨S_, .i32⟩
  | 125 => ⟨S_, .i32⟩
  | 126 => ⟨S_, .i32⟩
  | 127 => ⟨S1x4x4x64x512, .f32⟩
  | _ => ⟨S4x8192x10240, .bf16⟩

abbrev hbmTy0_1 (i : Nat) : BufTy := match i % 128 with
  | 0 => ⟨S4x4x64x512, .f32⟩
  | 1 => ⟨S4x4x64x512, .f32⟩
  | 2 => ⟨S4x4x64x512, .f32⟩
  | 3 => ⟨S4x4x256x1, .f32⟩
  | 4 => ⟨S4x4x256x512, .f32⟩
  | 5 => ⟨S4x4x256x512, .f32⟩
  | 6 => ⟨S4x4x256x512, .f32⟩
  | 7 => ⟨S4x4x256x512, .f32⟩
  | 8 => ⟨S1x4x4x64x512, .f32⟩
  | 9 => ⟨S_, .i32⟩
  | 10 => ⟨S_, .i32⟩
  | 11 => ⟨S_, .i32⟩
  | 12 => ⟨S_, .i32⟩
  | 13 => ⟨S128x4x4x64x512, .f32⟩
  | 14 => ⟨S_, .i32⟩
  | 15 => ⟨S_, .i32⟩
  | 16 => ⟨S4x128x64x4x512, .f32⟩
  | 17 => ⟨S4x8192x4x512, .f32⟩
  | 18 => ⟨S4x8192x4x512, .f32⟩
  | 19 => ⟨S_, .f32⟩
  | 20 => ⟨S4x8192x4, .f32⟩
  | 21 => ⟨S4x8192x4x1, .f32⟩
  | 22 => ⟨S_, .f32⟩
  | 23 => ⟨S4x8192x4x1, .f32⟩
  | 24 => ⟨S4x8192x4x1, .f32⟩
  | 25 => ⟨S_, .f32⟩
  | 26 => ⟨S4x8192x4x1, .f32⟩
  | 27 => ⟨S4x8192x4x1, .f32⟩
  | 28 => ⟨S4x8192x4x1, .f32⟩
  | 29 => ⟨S4x8192x4x512, .f32⟩
  | 30 => ⟨S4x8192x4x512, .f32⟩
  | 31 => ⟨S4x512, .f32⟩
  | 32 => ⟨S1x1x4x512, .f32⟩
  | 33 => ⟨S4x8192x4x512, .f32⟩
  | 34 => ⟨S4x8192x4x512, .f32⟩
  | 35 => ⟨S4x8192x2048, .bf16⟩
  | 36 => ⟨S4x8192x2048, .f32⟩
  | 37 => ⟨S4x8192x2048, .f32⟩
  | 38 => ⟨S4x8192x2048, .f32⟩
  | 39 => ⟨S4x8192x2048, .f32⟩
  | 40 => ⟨S_, .f32⟩
  | 41 => ⟨S4x8192x2048, .f32⟩
  | 42 => ⟨S4x8192x2048, .f32⟩
  | 43 => ⟨S_, .f32⟩
  | 44 => ⟨S4x8192x2048, .f32⟩
  | 45 => ⟨S4x8192x2048, .f32⟩
  | 46 => ⟨S4x8192x2048, .f32⟩
  | 47 => ⟨S4x8192x2048, .f32⟩
  | 48 => ⟨S4x8192x2048, .bf16⟩
  | _ => ⟨S4x8192x10240, .bf16⟩

abbrev hbmTy (i : Nat) : BufTy := match i / 128 with
  | 0 => hbmTy0_0 i
  | 1 => hbmTy0_1 i
  | _ => ⟨S4x8192x10240, .bf16⟩

abbrev bufTy : (tb : Table) → Fin (tcTables nBuf tb) → BufTy
  | .hbm, ⟨i, _⟩ => hbmTy i
  | _, _ => ⟨S4x8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_call0_call0_cst : Ref sig .tc := ⟨.hbm, 49, rfl⟩
abbrev main_call0_call0_v0 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_1 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_c : Ref sig .tc := ⟨.hbm, 65, rfl⟩
abbrev main_v55 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_0 : Ref sig .tc := ⟨.hbm, 73, rfl⟩
abbrev main_call1_v5 : Ref sig .tc := ⟨.hbm, 74, rfl⟩
abbrev main_v56 : Ref sig .tc := ⟨.hbm, 75, rfl⟩
abbrev main_v57 : Ref sig .tc := ⟨.hbm, 76, rfl⟩
abbrev main_cst_2 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_cst_4 : Ref sig .tc := ⟨.hbm, 87, rfl⟩
abbrev main_v63 : Ref sig .tc := ⟨.hbm, 88, rfl⟩
abbrev main_c_5 : Ref sig .tc := ⟨.hbm, 89, rfl⟩
abbrev main_v64_0 : Ref sig .tc := ⟨.hbm, 90, rfl⟩
abbrev main_v64_1 : Ref sig .tc := ⟨.hbm, 91, rfl⟩
abbrev main_v64_2 : Ref sig .tc := ⟨.hbm, 92, rfl⟩
abbrev main_v64_3 : Ref sig .tc := ⟨.hbm, 93, rfl⟩
abbrev main_v64_4 : Ref sig .tc := ⟨.hbm, 94, rfl⟩
abbrev main_v64_5 : Ref sig .tc := ⟨.hbm, 95, rfl⟩
abbrev main_v64_6 : Ref sig .tc := ⟨.hbm, 96, rfl⟩
abbrev main_v64_7 : Ref sig .tc := ⟨.hbm, 97, rfl⟩
abbrev main_while0c_c_16 : Ref sig .tc := ⟨.hbm, 98, rfl⟩
abbrev main_while0c_v87 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v0 : Ref sig .tc := ⟨.hbm, 104, rfl⟩
abbrev main_while0b_v87 : Ref sig .tc := ⟨.hbm, 105, rfl⟩
abbrev main_while0b_call4_c : Ref sig .tc := ⟨.hbm, 106, rfl⟩
abbrev main_while0b_call4_c_0 : Ref sig .tc := ⟨.hbm, 107, rfl⟩
abbrev main_while0b_call4_c_1 : Ref sig .tc := ⟨.hbm, 108, rfl⟩
abbrev main_while0b_call4_c_2 : Ref sig .tc := ⟨.hbm, 109, rfl⟩
abbrev main_while0b_call4_v0 : Ref sig .tc := ⟨.hbm, 110, rfl⟩
abbrev main_while0b_v88 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_c_2 : Ref sig .tc := ⟨.hbm, 115, rfl⟩
abbrev main_while0b_call5_v0 : Ref sig .tc := ⟨.hbm, 116, rfl⟩
abbrev main_while0b_v89 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_v0 : Ref sig .tc := ⟨.hbm, 121, rfl⟩
abbrev main_while0b_v90 : Ref sig .tc := ⟨.hbm, 122, rfl⟩
abbrev main_while0b_call7_c : Ref sig .tc := ⟨.hbm, 123, rfl⟩
abbrev main_while0b_call7_c_0 : Ref sig .tc := ⟨.hbm, 124, rfl⟩
abbrev main_while0b_call7_c_1 : Ref sig .tc := ⟨.hbm, 125, rfl⟩
abbrev main_while0b_call7_c_2 : Ref sig .tc := ⟨.hbm, 126, rfl⟩
abbrev main_while0b_call7_v0 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_call8_v0 : Ref sig .tc := ⟨.hbm, 136, rfl⟩
abbrev main_while0b_call8_c : Ref sig .tc := ⟨.hbm, 137, rfl⟩
abbrev main_while0b_call8_c_0 : Ref sig .tc := ⟨.hbm, 138, rfl⟩
abbrev main_while0b_call8_c_1 : Ref sig .tc := ⟨.hbm, 139, rfl⟩
abbrev main_while0b_call8_c_2 : Ref sig .tc := ⟨.hbm, 140, rfl⟩
abbrev main_while0b_v99 : Ref sig .tc := ⟨.hbm, 141, rfl⟩
abbrev main_while0b_c_16 : Ref sig .tc := ⟨.hbm, 142, rfl⟩
abbrev main_while0b_v100 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_cst_6 : Ref sig .tc := ⟨.hbm, 147, rfl⟩
abbrev main_v68 : Ref sig .tc := ⟨.hbm, 148, rfl⟩
abbrev main_v69 : Ref sig .tc := ⟨.hbm, 149, rfl⟩
abbrev main_cst_7 : Ref sig .tc := ⟨.hbm, 150, rfl⟩
abbrev main_v70 : Ref sig .tc := ⟨.hbm, 151, rfl⟩
abbrev main_v71 : Ref sig .tc := ⟨.hbm, 152, rfl⟩
abbrev main_cst_8 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_call9_v0 : Ref sig .tc := ⟨.hbm, 166, rfl⟩
abbrev main_call9_v1 : Ref sig .tc := ⟨.hbm, 167, rfl⟩
abbrev main_call9_cst : Ref sig .tc := ⟨.hbm, 168, rfl⟩
abbrev main_call9_v2 : Ref sig .tc := ⟨.hbm, 169, rfl⟩
abbrev main_call9_v3 : Ref sig .tc := ⟨.hbm, 170, rfl⟩
abbrev main_call9_cst_0 : Ref sig .tc := ⟨.hbm, 171, rfl⟩
abbrev main_call9_v4 : Ref sig .tc := ⟨.hbm, 172, rfl⟩
abbrev main_call9_v5 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S4x8192x2048 : Shape := ⟨3, ![4, 8192, 2048]⟩
abbrev S4x18432 : Shape := ⟨2, ![4, 18432]⟩
abbrev S1x2048x11264 : Shape := ⟨3, ![1, 2048, 11264]⟩
abbrev S1x5632x2048 : Shape := ⟨3, ![1, 5632, 2048]⟩
abbrev S1x2048 : Shape := ⟨2, ![1, 2048]⟩
abbrev S32768x2048 : Shape := ⟨2, ![32768, 2048]⟩
abbrev S36x1x2048 : Shape := ⟨3, ![36, 1, 2048]⟩
abbrev S2048x11264 : Shape := ⟨2, ![2048, 11264]⟩
abbrev S5632x2048 : Shape := ⟨2, ![5632, 2048]⟩
abbrev S2048 : Shape := ⟨1, ![2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S512x512 : Shape := ⟨2, ![512, 512]⟩
abbrev S1024 : Shape := ⟨1, ![1024]⟩
abbrev S1024x1 : Shape := ⟨2, ![1024, 1]⟩

abbrev nBuf : Space → Nat
  | .hbm => 17
  | .vmem => 19
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S32768x2048, .f32⟩
  | .hbm, ⟨7, _⟩ => ⟨S36x1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "eps_inv_alpha_sq" => some ((2748779 / 388736039169 : ℝ) : EReal)
  | "half_inv_alpha" => some ((262144 / 623487 : ℝ) : EReal)
  | _ => none
-- ==== Reference2Ideal.lean ====
abbrev S4x8192x2048 : Shape := ⟨3, ![4, 8192, 2048]⟩
abbrev S4x18432 : Shape := ⟨2, ![4, 18432]⟩
abbrev S1x2048x11264 : Shape := ⟨3, ![1, 2048, 11264]⟩
abbrev S1x5632x2048 : Shape := ⟨3, ![1, 5632, 2048]⟩
abbrev S1x2048 : Shape := ⟨2, ![1, 2048]⟩
abbrev S4x2048 : Shape := ⟨2, ![4, 2048]⟩
abbrev S4x1x2048 : Shape := ⟨3, ![4, 1, 2048]⟩
abbrev S_ : Shape := ⟨0, ![]⟩
abbrev S2048x11264 : Shape := ⟨2, ![2048, 11264]⟩
abbrev S5632x2048 : Shape := ⟨2, ![5632, 2048]⟩
abbrev S4x8192x11264 : Shape := ⟨3, ![4, 8192, 11264]⟩
abbrev S4x8192x5632 : Shape := ⟨3, ![4, 8192, 5632]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x1x2048, .f32⟩
  | .hbm, ⟨16, _⟩ => ⟨S_, .f32⟩
  | .hbm, ⟨17, _⟩ => ⟨S4x1x2048, .f32⟩
  | .hbm, ⟨18, _⟩ => ⟨S4x1x2048, .f32⟩
  | .hbm, ⟨19, _⟩ => ⟨S4x8192x2048, .f32⟩
  | .hbm, ⟨20, _⟩ => ⟨S4x8192x2048, .f32⟩
  | .hbm, ⟨21, _⟩ => ⟨S4x1x2048, .f32⟩
  | .hbm, ⟨22, _⟩ => ⟨S4x8192x2048, .f32⟩
  | .hbm, ⟨23, _⟩ => ⟨S4x8192x2048, .f32⟩
  | .hbm, ⟨24, _⟩ => ⟨S2048x11264, .f32⟩
  | .hbm, ⟨25, _⟩ => ⟨S5632x2048, .f32⟩
  | .hbm, ⟨26, _⟩ => ⟨S4x8192x11264, .f32⟩
  | .hbm, ⟨27, _⟩ => ⟨S4x8192x5632, .f32⟩
  | .hbm, ⟨28, _⟩ => ⟨S4x8192x5632, .f32⟩
  | .hbm, ⟨29, _⟩ => ⟨S4x8192x5632, .f32⟩
  | .hbm, ⟨30, _⟩ => ⟨S4x8192x5632, .f32⟩
  | .hbm, ⟨31, _⟩ => ⟨S_, .f32⟩
  | .hbm, ⟨32, _⟩ => ⟨S4x8192x5632, .f32⟩
  | .hbm, ⟨33, _⟩ => ⟨S4x8192x5632, .f32⟩
  | .hbm, ⟨34, _⟩ => ⟨S_, .f32⟩
  | .hbm, ⟨35, _⟩ => ⟨S4x8192x5632, .f32⟩
  | .hbm, ⟨36, _⟩ => ⟨S4x8192x5632, .f32⟩
  | .hbm, ⟨37, _⟩ => ⟨S4x8192x5632, .f32⟩
  | .hbm, ⟨38, _⟩ => ⟨S4x8192x5632, .f32⟩
  | .hbm, ⟨39, _⟩ => ⟨S4x8192x2048, .f32⟩
  | .hbm, ⟨40, _⟩ => ⟨S_, .f32⟩
  | .hbm, ⟨41, _⟩ => ⟨S4x8192x2048, .f32⟩
  | .hbm, ⟨42, _⟩ => ⟨S4x8192x2048, .f32⟩
  | .hbm, ⟨43, _⟩ => ⟨S4x1x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x2048, .f32⟩
  | .hbm, ⟨59, _⟩ => ⟨S4x8192x2048, .f32⟩
  | .hbm, ⟨60, _⟩ => ⟨S4x8192x2048, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x2048, .f32⟩
  | .hbm, ⟨68, _⟩ => ⟨S4x8192x2048, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x8192x1, .f32⟩
  | .hbm, ⟨73, _⟩ => ⟨S4x8192x2048, .f32⟩
  | .hbm, ⟨74, _⟩ => ⟨S4x8192x2048, .f32⟩
  | .hbm, ⟨75, _⟩ => ⟨S1x1x2048, .f32⟩
  | .hbm, ⟨76, _⟩ => ⟨S4x8192x2048, .f32⟩
  | .hbm, ⟨77, _⟩ => ⟨S4x8192x2048, .f32⟩
  | .hbm, ⟨78, _⟩ => ⟨S1x1x2048, .f32⟩
  | .hbm, ⟨79, _⟩ => ⟨S4x8192x2048, .f32⟩
  | .hbm, ⟨80, _⟩ => ⟨S4x8192x2048, .f32⟩
  | .hbm, ⟨81, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel3.lean ====
abbrev S4x8192x2048 : Shape := ⟨3, ![4, 8192, 2048]⟩
abbrev S4x18432 : Shape := ⟨2, ![4, 18432]⟩
abbrev S1x2048x11264 : Shape := ⟨3, ![1, 2048, 11264]⟩
abbrev S1x5632x2048 : Shape := ⟨3, ![1, 5632, 2048]⟩
abbrev S1x2048 : Shape := ⟨2, ![1, 2048]⟩
abbrev S32768x2048 : Shape := ⟨2, ![32768, 2048]⟩
abbrev S36x1x2048 : Shape := ⟨3, ![36, 1, 2048]⟩
abbrev S2048x11264 : Shape := ⟨2, ![2048, 11264]⟩
abbrev S5632x2048 : Shape := ⟨2, ![5632, 2048]⟩
abbrev S2048 : Shape := ⟨1, ![2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S512x512 : Shape := ⟨2, ![512, 512]⟩
abbrev S1024 : Shape := ⟨1, ![1024]⟩
abbrev S1024x1 : Shape := ⟨2, ![1024, 1]⟩

abbrev nBuf : Space → Nat
  | .hbm => 17
  | .vmem => 19
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S32768x2048, .f32⟩
  | .hbm, ⟨7, _⟩ => ⟨S36x1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c6_i32 : BitVec 32 := 6#32
  let v18 : BitVec 32 := Scalar.addi v17 c6_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c7_i32 : BitVec 32 := 7#32
  let v18 : BitVec 32 := Scalar.addi v17 c7_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c8_i32_4 : BitVec 32 := 8#32
  let v18 : BitVec 32 := Scalar.addi v17 c8_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel3Ideal.lean ====
variable {F : FTy → Type} [FloatOps F] [Named F]
def κ : String → Option EReal := fun
  | "eps_inv_alpha_sq" => some ((2748779 / 388736039169 : ℝ) : EReal)
  | "half_inv_alpha" => some ((262144 / 623487 : ℝ) : EReal)
  | _ => none
-- ==== Reference3Ideal.lean ====
abbrev S4x8192x2048 : Shape := ⟨3, ![4, 8192, 2048]⟩
abbrev S4x18432 : Shape := ⟨2, ![4, 18432]⟩
abbrev S1x2048x11264 : Shape := ⟨3, ![1, 2048, 11264]⟩
abbrev S1x5632x2048 : Shape := ⟨3, ![1, 5632, 2048]⟩
abbrev S1x2048 : Shape := ⟨2, ![1, 2048]⟩
abbrev S4x2048 : Shape := ⟨2, ![4, 2048]⟩
abbrev S4x1x2048 : Shape := ⟨3, ![4, 1, 2048]⟩
abbrev S_ : Shape := ⟨0, ![]⟩
abbrev S2048x11264 : Shape := ⟨2, ![2048, 11264]⟩
abbrev S5632x2048 : Shape := ⟨2, ![5632, 2048]⟩
abbrev S4x8192x11264 : Shape := ⟨3, ![4, 8192, 11264]⟩
abbrev S4x8192x5632 : Shape := ⟨3, ![4, 8192, 5632]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x1x2048, .f32⟩
  | .hbm, ⟨16, _⟩ => ⟨S_, .f32⟩
  | .hbm, ⟨17, _⟩ => ⟨S4x1x2048, .f32⟩
  | .hbm, ⟨18, _⟩ => ⟨S4x1x2048, .f32⟩
  | .hbm, ⟨19, _⟩ => ⟨S4x8192x2048, .f32⟩
  | .hbm, ⟨20, _⟩ => ⟨S4x8192x2048, .f32⟩
  | .hbm, ⟨21, _⟩ => ⟨S4x1x2048, .f32⟩
  | .hbm, ⟨22, _⟩ => ⟨S4x8192x2048, .f32⟩
  | .hbm, ⟨23, _⟩ => ⟨S4x8192x2048, .f32⟩
  | .hbm, ⟨24, _⟩ => ⟨S2048x11264, .f32⟩
  | .hbm, ⟨25, _⟩ => ⟨S5632x2048, .f32⟩
  | .hbm, ⟨26, _⟩ => ⟨S4x8192x11264, .f32⟩
  | .hbm, ⟨27, _⟩ => ⟨S4x8192x5632, .f32⟩
  | .hbm, ⟨28, _⟩ => ⟨S4x8192x5632, .f32⟩
  | .hbm, ⟨29, _⟩ => ⟨S4x8192x5632, .f32⟩
  | .hbm, ⟨30, _⟩ => ⟨S4x8192x5632, .f32⟩
  | .hbm, ⟨31, _⟩ => ⟨S_, .f32⟩
  | .hbm, ⟨32, _⟩ => ⟨S4x8192x5632, .f32⟩
  | .hbm, ⟨33, _⟩ => ⟨S4x8192x5632, .f32⟩
  | .hbm, ⟨34, _⟩ => ⟨S_, .f32⟩
  | .hbm, ⟨35, _⟩ => ⟨S4x8192x5632, .f32⟩
  | .hbm, ⟨36, _⟩ => ⟨S4x8192x5632, .f32⟩
  | .hbm, ⟨37, _⟩ => ⟨S4x8192x5632, .f32⟩
  | .hbm, ⟨38, _⟩ => ⟨S4x8192x5632, .f32⟩
  | .hbm, ⟨39, _⟩ => ⟨S4x8192x2048, .f32⟩
  | .hbm, ⟨40, _⟩ => ⟨S_, .f32⟩
  | .hbm, ⟨41, _⟩ => ⟨S4x8192x2048, .f32⟩
  | .hbm, ⟨42, _⟩ => ⟨S4x8192x2048, .f32⟩
  | .hbm, ⟨43, _⟩ => ⟨S4x1x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x2048, .f32⟩
  | .hbm, ⟨59, _⟩ => ⟨S4x8192x2048, .f32⟩
  | .hbm, ⟨60, _⟩ => ⟨S4x8192x2048, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x2048, .f32⟩
  | .hbm, ⟨68, _⟩ => ⟨S4x8192x2048, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x8192x1, .f32⟩
  | .hbm, ⟨73, _⟩ => ⟨S4x8192x2048, .f32⟩
  | .hbm, ⟨74, _⟩ => ⟨S4x8192x2048, .f32⟩
  | .hbm, ⟨75, _⟩ => ⟨S1x1x2048, .f32⟩
  | .hbm, ⟨76, _⟩ => ⟨S4x8192x2048, .f32⟩
  | .hbm, ⟨77, _⟩ => ⟨S4x8192x2048, .f32⟩
  | .hbm, ⟨78, _⟩ => ⟨S1x1x2048, .f32⟩
  | .hbm, ⟨79, _⟩ => ⟨S4x8192x2048, .f32⟩
  | .hbm, ⟨80, _⟩ => ⟨S4x8192x2048, .f32⟩
  | .hbm, ⟨81, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_2 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel4.lean ====
abbrev S4x8192x2048 : Shape := ⟨3, ![4, 8192, 2048]⟩
abbrev S4x18432 : Shape := ⟨2, ![4, 18432]⟩
abbrev S2048x22528 : Shape := ⟨2, ![2048, 22528]⟩
abbrev S32768x2048 : Shape := ⟨2, ![32768, 2048]⟩
abbrev S36x1x2048 : Shape := ⟨3, ![36, 1, 2048]⟩
abbrev S32768x10240 : Shape := ⟨2, ![32768, 10240]⟩
abbrev S32768x128 : Shape := ⟨2, ![32768, 128]⟩
abbrev S1024x2048 : Shape := ⟨2, ![1024, 2048]⟩
abbrev S1x1x2048 : Shape := ⟨3, ![1, 1, 2048]⟩
abbrev S2048x2048 : Shape := ⟨2, ![2048, 2048]⟩
abbrev S2048x128 : Shape := ⟨2, ![2048, 128]⟩
abbrev S1024x128 : Shape := ⟨2, ![1024, 128]⟩
abbrev S1x2048 : Shape := ⟨2, ![1, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S2048x22528, .bf16⟩
  | .hbm, ⟨3, _⟩ => ⟨S32768x2048, .f32⟩
  | .hbm, ⟨4, _⟩ => ⟨S36x1x2048, .f32⟩
  | .hbm, ⟨5, _⟩ => ⟨S32768x10240, .bf16⟩
  | .hbm, ⟨6, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S2048x2048, .bf16⟩
  | .local _ .vmem, ⟨8, _⟩ => ⟨S2048x128, .bf16⟩
  | .local _ .vmem, ⟨9, _⟩ => ⟨S1024x2048, .bf16⟩
  | .local _ .vmem, ⟨10, _⟩ => ⟨S1024x2048, .bf16⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c168_i32 : BitVec 32 := 168#32
  let c0_i32_0 : BitVec 32 := 0#32
  ![c0_i32.toNat, c168_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S4x8192x2048 : Shape := ⟨3, ![4, 8192, 2048]⟩
abbrev S4x18432 : Shape := ⟨2, ![4, 18432]⟩
abbrev S2048x22528 : Shape := ⟨2, ![2048, 22528]⟩
abbrev S4x2048 : Shape := ⟨2, ![4, 2048]⟩
abbrev S4x1x2048 : Shape := ⟨3, ![4, 1, 2048]⟩
abbrev S_ : Shape := ⟨0, ![]⟩
abbrev S4x8192x22528 : Shape := ⟨3, ![4, 8192, 22528]⟩
abbrev S4x8192x10240 : Shape := ⟨3, ![4, 8192, 10240]⟩
abbrev S32768x10240 : Shape := ⟨2, ![32768, 10240]⟩
abbrev S4x8192x128 : Shape := ⟨3, ![4, 8192, 128]⟩
abbrev S32768x128 : Shape := ⟨2, ![32768, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S2048x22528, .bf16⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S_, .f32⟩
  | .hbm, ⟨14, _⟩ => ⟨S4x1x2048, .f32⟩
  | .hbm, ⟨15, _⟩ => ⟨S4x1x2048, .f32⟩
  | .hbm, ⟨16, _⟩ => ⟨S4x8192x2048, .f32⟩
  | .hbm, ⟨17, _⟩ => ⟨S4x8192x2048, .f32⟩
  | .hbm, ⟨18, _⟩ => ⟨S4x1x2048, .f32⟩
  | .hbm, ⟨19, _⟩ => ⟨S4x8192x2048, .f32⟩
  | .hbm, ⟨20, _⟩ => ⟨S4x8192x2048, .f32⟩
  | .hbm, ⟨21, _⟩ => ⟨S4x8192x22528, .f32⟩
  | .hbm, ⟨22, _⟩ => ⟨S4x8192x10240, .f32⟩
  | .hbm, ⟨23, _⟩ => ⟨S4x8192x10240, .bf16⟩
  | .hbm, ⟨24, _⟩ => ⟨S32768x10240, .bf16⟩
  | .hbm, ⟨25, _⟩ => ⟨S4x8192x128, .f32⟩
  | .hbm, ⟨26, _⟩ => ⟨S32768x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Kernel5.lean ====
abbrev S4x8192x2048 : Shape := ⟨3, ![4, 8192, 2048]⟩
abbrev S4x18432 : Shape := ⟨2, ![4, 18432]⟩
abbrev S2048x22528 : Shape := ⟨2, ![2048, 22528]⟩
abbrev S4x8192x64 : Shape := ⟨3, ![4, 8192, 64]⟩
abbrev S32768x2048 : Shape := ⟨2, ![32768, 2048]⟩
abbrev S36x1x2048 : Shape := ⟨3, ![36, 1, 2048]⟩
abbrev S4x8192x128 : Shape := ⟨3, ![4, 8192, 128]⟩
abbrev S32768x128 : Shape := ⟨2, ![32768, 128]⟩
abbrev S4x1x8192x3072 : Shape := ⟨4, ![4, 1, 8192, 3072]⟩
abbrev S1024x2048 : Shape := ⟨2, ![1024, 2048]⟩
abbrev S1x1x2048 : Shape := ⟨3, ![1, 1, 2048]⟩
abbrev S2048x3072 : Shape := ⟨2, ![2048, 3072]⟩
abbrev S1024x128 : Shape := ⟨2, ![1024, 128]⟩
abbrev S1x1x1024x3072 : Shape := ⟨4, ![1, 1, 1024, 3072]⟩
abbrev S1x8x128 : Shape := ⟨3, ![1, 8, 128]⟩
abbrev S1x2048 : Shape := ⟨2, ![1, 2048]⟩
abbrev S2048x1024 : Shape := ⟨2, ![2048, 1024]⟩
abbrev S1024x1024 : Shape := ⟨2, ![1024, 1024]⟩
abbrev S1x1x1024x128 : Shape := ⟨4, ![1, 1, 1024, 128]⟩
abbrev S1x1x1024x1024 : Shape := ⟨4, ![1, 1, 1024, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S2048x22528, .bf16⟩
  | .hbm, ⟨3, _⟩ => ⟨S4x8192x64, .f32⟩
  | .hbm, ⟨4, _⟩ => ⟨S4x8192x64, .f32⟩
  | .hbm, ⟨5, _⟩ => ⟨S32768x2048, .f32⟩
  | .hbm, ⟨6, _⟩ => ⟨S36x1x2048, .f32⟩
  | .hbm, ⟨7, _⟩ => ⟨S4x8192x128, .f32⟩
  | .hbm, ⟨8, _⟩ => ⟨S32768x128, .f32⟩
  | .hbm, ⟨9, _⟩ => ⟨S4x8192x64, .f32⟩
  | .hbm, ⟨10, _⟩ => ⟨S4x8192x128, .f32⟩
  | .hbm, ⟨11, _⟩ => ⟨S32768x128, .f32⟩
  | .hbm, ⟨12, _⟩ => ⟨S4x1x8192x3072, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x3072, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1x1024x3072, .bf16⟩
  | .local _ .vmem, ⟨12, _⟩ => ⟨S1x1x1024x3072, .bf16⟩
  | .local _ .vmem, ⟨13, _⟩ => ⟨S1024x2048, .bf16⟩
  | .local _ .vmem, ⟨14, _⟩ => ⟨S1x8x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4x8192x2048 : Shape := ⟨3, ![4, 8192, 2048]⟩
abbrev S4x18432 : Shape := ⟨2, ![4, 18432]⟩
abbrev S2048x22528 : Shape := ⟨2, ![2048, 22528]⟩
abbrev S4x8192x64 : Shape := ⟨3, ![4, 8192, 64]⟩
abbrev S4x2048 : Shape := ⟨2, ![4, 2048]⟩
abbrev S4x1x2048 : Shape := ⟨3, ![4, 1, 2048]⟩
abbrev S_ : Shape := ⟨0, ![]⟩
abbrev S2048x3072 : Shape := ⟨2, ![2048, 3072]⟩
abbrev S4x8192x3072 : Shape := ⟨3, ![4, 8192, 3072]⟩
abbrev S4x8192x1024 : Shape := ⟨3, ![4, 8192, 1024]⟩
abbrev S4x8192x8x128 : Shape := ⟨4, ![4, 8192, 8, 128]⟩
abbrev S4x8192x1x64 : Shape := ⟨4, ![4, 8192, 1, 64]⟩
abbrev S4x8192x8x64 : Shape := ⟨4, ![4, 8192, 8, 64]⟩
abbrev S4x1x8192x3072 : Shape := ⟨4, ![4, 1, 8192, 3072]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S2048x22528, .bf16⟩
  | .hbm, ⟨3, _⟩ => ⟨S4x8192x64, .f32⟩
  | .hbm, ⟨4, _⟩ => ⟨S4x8192x64, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S_, .f32⟩
  | .hbm, ⟨16, _⟩ => ⟨S4x1x2048, .f32⟩
  | .hbm, ⟨17, _⟩ => ⟨S4x1x2048, .f32⟩
  | .hbm, ⟨18, _⟩ => ⟨S4x8192x2048, .f32⟩
  | .hbm, ⟨19, _⟩ => ⟨S4x8192x2048, .f32⟩
  | .hbm, ⟨20, _⟩ => ⟨S4x1x2048, .f32⟩
  | .hbm, ⟨21, _⟩ => ⟨S4x8192x2048, .f32⟩
  | .hbm, ⟨22, _⟩ => ⟨S4x8192x2048, .f32⟩
  | .hbm, ⟨23, _⟩ => ⟨S2048x3072, .bf16⟩
  | .hbm, ⟨24, _⟩ => ⟨S4x8192x3072, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x8x128, .f32⟩
  | .hbm, ⟨29, _⟩ => ⟨S4x8192x1x64, .f32⟩
  | .hbm, ⟨30, _⟩ => ⟨S4x8192x1x64, .f32⟩
  | .hbm, ⟨31, _⟩ => ⟨S4x8192x8x64, .f32⟩
  | .hbm, ⟨32, _⟩ => ⟨S4x8192x8x64, .f32⟩
  | .hbm, ⟨33, _⟩ => ⟨S4x8192x8x64, .f32⟩
  | .hbm, ⟨34, _⟩ => ⟨S4x8192x8x64, .f32⟩
  | .hbm, ⟨35, _⟩ => ⟨S4x8192x8x64, .f32⟩
  | .hbm, ⟨36, _⟩ => ⟨S4x8192x8x64, .f32⟩
  | .hbm, ⟨37, _⟩ => ⟨S4x8192x8x64, .f32⟩
  | .hbm, ⟨38, _⟩ => ⟨S4x8192x8x64, .f32⟩
  | .hbm, ⟨39, _⟩ => ⟨S4x8192x8x64, .f32⟩
  | .hbm, ⟨40, _⟩ => ⟨S4x8192x8x64, .f32⟩
  | .hbm, ⟨41, _⟩ => ⟨S4x8192x8x64, .f32⟩
  | .hbm, ⟨42, _⟩ => ⟨S4x8192x8x64, .f32⟩
  | .hbm, ⟨43, _⟩ => ⟨S4x8192x8x128, .f32⟩
  | .hbm, ⟨44, _⟩ => ⟨S_, .f32⟩
  | .hbm, ⟨45, _⟩ => ⟨S4x8192x8x128, .f32⟩
  | .hbm, ⟨46, _⟩ => ⟨S4x8192x8x128, .f32⟩
  | .hbm, ⟨47, _⟩ => ⟨S4x8192x8x128, .f32⟩
  | .hbm, ⟨48, _⟩ => ⟨S4x8192x1x64, .f32⟩
  | .hbm, ⟨49, _⟩ => ⟨S4x8192x1x64, .f32⟩
  | .hbm, ⟨50, _⟩ => ⟨S4x8192x8x64, .f32⟩
  | .hbm, ⟨51, _⟩ => ⟨S4x8192x8x64, .f32⟩
  | .hbm, ⟨52, _⟩ => ⟨S4x8192x8x64, .f32⟩
  | .hbm, ⟨53, _⟩ => ⟨S4x8192x8x64, .f32⟩
  | .hbm, ⟨54, _⟩ => ⟨S4x8192x8x64, .f32⟩
  | .hbm, ⟨55, _⟩ => ⟨S4x8192x8x64, .f32⟩
  | .hbm, ⟨56, _⟩ => ⟨S4x8192x8x64, .f32⟩
  | .hbm, ⟨57, _⟩ => ⟨S4x8192x8x64, .f32⟩
  | .hbm, ⟨58, _⟩ => ⟨S4x8192x8x64, .f32⟩
  | .hbm, ⟨59, _⟩ => ⟨S4x8192x8x64, .f32⟩
  | .hbm, ⟨60, _⟩ => ⟨S4x8192x8x64, .f32⟩
  | .hbm, ⟨61, _⟩ => ⟨S4x8192x8x64, .f32⟩
  | .hbm, ⟨62, _⟩ => ⟨S4x8192x8x128, .f32⟩
  | .hbm, ⟨63, _⟩ => ⟨S4x8192x1024, .f32⟩
  | .hbm, ⟨64, _⟩ => ⟨S4x8192x1024, .f32⟩
  | .hbm, ⟨65, _⟩ => ⟨S4x8192x3072, .f32⟩
  | .hbm, ⟨66, _⟩ => ⟨S4x8192x3072, .bf16⟩
  | .hbm, ⟨67, _⟩ => ⟨S4x1x8192x3072, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩

abbrev nD : Nat := 1
abbrev τ : Topo := Topo.v7x

variable {F : FTy → Type} [FloatOps F]
-- ==== Kernel6.lean ====
abbrev S4x8192x2048 : Shape := ⟨3, ![4, 8192, 2048]⟩
abbrev S4x18432 : Shape := ⟨2, ![4, 18432]⟩
abbrev S2048x22528 : Shape := ⟨2, ![2048, 22528]⟩
abbrev S4x8192x64 : Shape := ⟨3, ![4, 8192, 64]⟩
abbrev S32768x2048 : Shape := ⟨2, ![32768, 2048]⟩
abbrev S36x1x2048 : Shape := ⟨3, ![36, 1, 2048]⟩
abbrev S4x8192x128 : Shape := ⟨3, ![4, 8192, 128]⟩
abbrev S32768x128 : Shape := ⟨2, ![32768, 128]⟩
abbrev S32x256x4x128 : Shape := ⟨4, ![32, 256, 4, 128]⟩
abbrev S32x4x256x128 : Shape := ⟨4, ![32, 4, 256, 128]⟩
abbrev S4x4x2048x3072 : Shape := ⟨4, ![4, 4, 2048, 3072]⟩
abbrev S1024x2048 : Shape := ⟨2, ![1024, 2048]⟩
abbrev S1x1x2048 : Shape := ⟨3, ![1, 1, 2048]⟩
abbrev S2048x3072 : Shape := ⟨2, ![2048, 3072]⟩
abbrev S1024x128 : Shape := ⟨2, ![1024, 128]⟩
abbrev S1x4x256x3072 : Shape := ⟨4, ![1, 4, 256, 3072]⟩
abbrev S16x1024x128 : Shape := ⟨3, ![16, 1024, 128]⟩
abbrev S1x1x128 : Shape := ⟨3, ![1, 1, 128]⟩
abbrev S1x128 : Shape := ⟨2, ![1, 128]⟩
abbrev S1x1024x128 : Shape := ⟨3, ![1, 1024, 128]⟩
abbrev S1x256x128 : Shape := ⟨3, ![1, 256, 128]⟩
abbrev S256x128 : Shape := ⟨2, ![256, 128]⟩
abbrev S2048x1024 : Shape := ⟨2, ![2048, 1024]⟩
abbrev S1024x1024 : Shape := ⟨2, ![1024, 1024]⟩
abbrev S1x1x256x128 : Shape := ⟨4, ![1, 1, 256, 128]⟩
abbrev S256x1024 : Shape := ⟨2, ![256, 1024]⟩
abbrev S1x1x256x1024 : Shape := ⟨4, ![1, 1, 256, 1024]⟩

abbrev nBuf : Space → Nat
  | .hbm => 19
  | .vmem => 15
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S2048x22528, .bf16⟩
  | .hbm, ⟨3, _⟩ => ⟨S4x8192x64, .f32⟩
  | .hbm, ⟨4, _⟩ => ⟨S4x8192x64, .f32⟩
  | .hbm, ⟨5, _⟩ => ⟨S32768x2048, .f32⟩
  | .hbm, ⟨6, _⟩ => ⟨S36x1x2048, .f32⟩
  | .hbm, ⟨7, _⟩ => ⟨S4x8192x128, .f32⟩
  | .hbm, ⟨8, _⟩ => ⟨S32768x128, .f32⟩
  | .hbm, ⟨9, _⟩ => ⟨S32x256x4x128, .f32⟩
  | .hbm, ⟨10, _⟩ => ⟨S32x4x256x128, .f32⟩
  | .hbm, ⟨11, _⟩ => ⟨S32768x128, .f32⟩
  | .hbm, ⟨12, _⟩ => ⟨S4x8192x64, .f32⟩
  | .hbm, ⟨13, _⟩ => ⟨S4x8192x128, .f32⟩
  | .hbm, ⟨14, _⟩ => ⟨S32768x128, .f32⟩
  | .hbm, ⟨15, _⟩ => ⟨S32x256x4x128, .f32⟩
  | .hbm, ⟨16, _⟩ => ⟨S32x4x256x128, .f32⟩
  | .hbm, ⟨17, _⟩ => ⟨S32768x128, .f32⟩
  | .hbm, ⟨18, _⟩ => ⟨S4x4x2048x3072, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x3072, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x4x256x3072, .bf16⟩
  | .local _ .vmem, ⟨12, _⟩ => ⟨S1x4x256x3072, .bf16⟩
  | .local _ .vmem, ⟨13, _⟩ => ⟨S1024x2048, .bf16⟩
  | .local _ .vmem, ⟨14, _⟩ => ⟨S16x1024x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x8192x2048 : Shape := ⟨3, ![4, 8192, 2048]⟩
abbrev S4x18432 : Shape := ⟨2, ![4, 18432]⟩
abbrev S2048x22528 : Shape := ⟨2, ![2048, 22528]⟩
abbrev S4x8192x64 : Shape := ⟨3, ![4, 8192, 64]⟩
abbrev S4x2048 : Shape := ⟨2, ![4, 2048]⟩
abbrev S4x1x2048 : Shape := ⟨3, ![4, 1, 2048]⟩
abbrev S_ : Shape := ⟨0, ![]⟩
abbrev S2048x3072 : Shape := ⟨2, ![2048, 3072]⟩
abbrev S4x8192x3072 : Shape := ⟨3, ![4, 8192, 3072]⟩
abbrev S4x8192x1024 : Shape := ⟨3, ![4, 8192, 1024]⟩
abbrev S4x8192x8x128 : Shape := ⟨4, ![4, 8192, 8, 128]⟩
abbrev S4x8192x1x64 : Shape := ⟨4, ![4, 8192, 1, 64]⟩
abbrev S4x8192x8x64 : Shape := ⟨4, ![4, 8192, 8, 64]⟩
abbrev S4x2048x4x3072 : Shape := ⟨4, ![4, 2048, 4, 3072]⟩
abbrev S4x4x2048x3072 : Shape := ⟨4, ![4, 4, 2048, 3072]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x18432, .f32⟩
  | .hbm, ⟨2, _⟩ => ⟨S2048x22528, .bf16⟩
  | .hbm, ⟨3, _⟩ => ⟨S4x8192x64, .f32⟩
  | .hbm, ⟨4, _⟩ => ⟨S4x8192x64, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S_, .f32⟩
  | .hbm, ⟨16, _⟩ => ⟨S4x1x2048, .f32⟩
  | .hbm, ⟨17, _⟩ => ⟨S4x1x2048, .f32⟩
  | .hbm, ⟨18, _⟩ => ⟨S4x8192x2048, .f32⟩
  | .hbm, ⟨19, _⟩ => ⟨S4x8192x2048, .f32⟩
  | .hbm, ⟨20, _⟩ => ⟨S4x1x2048, .f32⟩
  | .hbm, ⟨21, _⟩ => ⟨S4x8192x2048, .f32⟩
  | .hbm, ⟨22, _⟩ => ⟨S4x8192x2048, .f32⟩
  | .hbm, ⟨23, _⟩ => ⟨S2048x3072, .bf16⟩
  | .hbm, ⟨24, _⟩ => ⟨S4x8192x3072, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x8x128, .f32⟩
  | .hbm, ⟨29, _⟩ => ⟨S4x8192x1x64, .f32⟩
  | .hbm, ⟨30, _⟩ => ⟨S4x8192x1x64, .f32⟩
  | .hbm, ⟨31, _⟩ => ⟨S4x8192x8x64, .f32⟩
  | .hbm, ⟨32, _⟩ => ⟨S4x8192x8x64, .f32⟩
  | .hbm, ⟨33, _⟩ => ⟨S4x8192x8x64, .f32⟩
  | .hbm, ⟨34, _⟩ => ⟨S4x8192x8x64, .f32⟩
  | .hbm, ⟨35, _⟩ => ⟨S4x8192x8x64, .f32⟩
  | .hbm, ⟨36, _⟩ => ⟨S4x8192x8x64, .f32⟩
  | .hbm, ⟨37, _⟩ => ⟨S4x8192x8x64, .f32⟩
  | .hbm, ⟨38, _⟩ => ⟨S4x8192x8x64, .f32⟩
  | .hbm, ⟨39, _⟩ => ⟨S4x8192x8x64, .f32⟩
  | .hbm, ⟨40, _⟩ => ⟨S4x8192x8x64, .f32⟩
  | .hbm, ⟨41, _⟩ => ⟨S4x8192x8x64, .f32⟩
  | .hbm, ⟨42, _⟩ => ⟨S4x8192x8x64, .f32⟩
  | .hbm, ⟨43, _⟩ => ⟨S4x8192x8x128, .f32⟩
  | .hbm, ⟨44, _⟩ => ⟨S_, .f32⟩
  | .hbm, ⟨45, _⟩ => ⟨S4x8192x8x128, .f32⟩
  | .hbm, ⟨46, _⟩ => ⟨S4x8192x8x128, .f32⟩
  | .hbm, ⟨47, _⟩ => ⟨S4x8192x8x128, .f32⟩
  | .hbm, ⟨48, _⟩ => ⟨S4x8192x1x64, .f32⟩
  | .hbm, ⟨49, _⟩ => ⟨S4x8192x1x64, .f32⟩
  | .hbm, ⟨50, _⟩ => ⟨S4x8192x8x64, .f32⟩
  | .hbm, ⟨51, _⟩ => ⟨S4x8192x8x64, .f32⟩
  | .hbm, ⟨52, _⟩ => ⟨S4x8192x8x64, .f32⟩
  | .hbm, ⟨53, _⟩ => ⟨S4x8192x8x64, .f32⟩
  | .hbm, ⟨54, _⟩ => ⟨S4x8192x8x64, .f32⟩
  | .hbm, ⟨55, _⟩ => ⟨S4x8192x8x64, .f32⟩
  | .hbm, ⟨56, _⟩ => ⟨S4x8192x8x64, .f32⟩
  | .hbm, ⟨57, _⟩ => ⟨S4x8192x8x64, .f32⟩
  | .hbm, ⟨58, _⟩ => ⟨S4x8192x8x64, .f32⟩
  | .hbm, ⟨59, _⟩ => ⟨S4x8192x8x64, .f32⟩
  | .hbm, ⟨60, _⟩ => ⟨S4x8192x8x64, .f32⟩
  | .hbm, ⟨61, _⟩ => ⟨S4x8192x8x64, .f32⟩
  | .hbm, ⟨62, _⟩ => ⟨S4x8192x8x128, .f32⟩
  | .hbm, ⟨63, _⟩ => ⟨S4x8192x1024, .f32⟩
  | .hbm, ⟨64, _⟩ => ⟨S4x8192x1024, .f32⟩
  | .hbm, ⟨65, _⟩ => ⟨S4x8192x3072, .f32⟩
  | .hbm, ⟨66, _⟩ => ⟨S4x8192x3072, .bf16⟩
  | .hbm, ⟨67, _⟩ => ⟨S4x2048x4x3072, .bf16⟩
  | .hbm, ⟨68, _⟩ => ⟨S4x4x2048x3072, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩

abbrev nD : Nat := 1
abbrev τ : Topo := Topo.v7x

variable {F : FTy → Type} [FloatOps F]
-- ==== Kernel7.lean ====
abbrev S4x2048 : Shape := ⟨2, ![4, 2048]⟩
abbrev S1x2048x18432 : Shape := ⟨3, ![1, 2048, 18432]⟩
abbrev S1x18432 : Shape := ⟨2, ![1, 18432]⟩
abbrev S_ : Shape := ⟨0, ![]⟩
abbrev S8x2048 : Shape := ⟨2, ![8, 2048]⟩
abbrev S2048x18432 : Shape := ⟨2, ![2048, 18432]⟩
abbrev S18432 : Shape := ⟨1, ![18432]⟩
abbrev S8x18432 : Shape := ⟨2, ![8, 18432]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S1x2048x18432, .f32⟩
  | .hbm, ⟨2, _⟩ => ⟨S1x18432, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2048x18432, .f32⟩
  | .hbm, ⟨7, _⟩ => ⟨S18432, .f32⟩
  | .hbm, ⟨8, _⟩ => ⟨S1x18432, .f32⟩
  | .hbm, ⟨9, _⟩ => ⟨S8x18432, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x2048 : Shape := ⟨2, ![4, 2048]⟩
abbrev S1x2048x18432 : Shape := ⟨3, ![1, 2048, 18432]⟩
abbrev S1x18432 : Shape := ⟨2, ![1, 18432]⟩
abbrev S_ : Shape := ⟨0, ![]⟩
abbrev S8x2048 : Shape := ⟨2, ![8, 2048]⟩
abbrev S2048x18432 : Shape := ⟨2, ![2048, 18432]⟩
abbrev S8x18432 : Shape := ⟨2, ![8, 18432]⟩
abbrev S18432 : Shape := ⟨1, ![18432]⟩

abbrev nBuf : Space → Nat
  | .hbm => 21
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x18432, .f32⟩
  | .hbm, ⟨2, _⟩ => ⟨S1x18432, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S2048x18432, .f32⟩
  | .hbm, ⟨16, _⟩ => ⟨S8x18432, .f32⟩
  | .hbm, ⟨17, _⟩ => ⟨S18432, .f32⟩
  | .hbm, ⟨18, _⟩ => ⟨S1x18432, .f32⟩
  | .hbm, ⟨19, _⟩ => ⟨S8x18432, .f32⟩
  | .hbm, ⟨20, _⟩ => ⟨S8x18432, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel8.lean ====
abbrev S4x8192 : Shape := ⟨2, ![4, 8192]⟩
abbrev S64 : Shape := ⟨1, ![64]⟩
abbrev S_ : Shape := ⟨0, ![]⟩
abbrev S128 : Shape := ⟨1, ![128]⟩
abbrev S1x128 : Shape := ⟨2, ![1, 128]⟩
abbrev S32x8x128 : Shape := ⟨3, ![32, 8, 128]⟩
abbrev S32768x128 : Shape := ⟨2, ![32768, 128]⟩
abbrev S1x8x128 : Shape := ⟨3, ![1, 8, 128]⟩
abbrev S1024x128 : Shape := ⟨2, ![1024, 128]⟩
abbrev S8x128 : Shape := ⟨2, ![8, 128]⟩
abbrev S128x8 : Shape := ⟨2, ![128, 8]⟩
abbrev S128x128 : Shape := ⟨2, ![128, 128]⟩
abbrev S128x1 : Shape := ⟨2, ![128, 1]⟩
abbrev S256x128 : Shape := ⟨2, ![256, 128]⟩
abbrev S64x128 : Shape := ⟨2, ![64, 128]⟩

abbrev nBuf : Space → Nat
  | .hbm => 18
  | .vmem => 15
  | .smem => 0
  | _ => 0

abbrev bufTy : (tb : Table) → Fin (tcTables nBuf tb) → BufTy
  | .hbm, ⟨0, _⟩ => ⟨S4x8192, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S32x8x128, .i32⟩
  | .hbm, ⟨12, _⟩ => ⟨S32768x128, .f32⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S32768x128, .f32⟩
  | .local _ .vmem, ⟨0, _⟩ => ⟨S1x8x128, .i32⟩
  | .local _ .vmem, ⟨1, _⟩ => ⟨S1x8x128, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4x8192 : Shape := ⟨2, ![4, 8192]⟩
abbrev S64 : Shape := ⟨1, ![64]⟩
abbrev S_ : Shape := ⟨0, ![]⟩
abbrev S4x8192x1 : Shape := ⟨3, ![4, 8192, 1]⟩
abbrev S1x1x64 : Shape := ⟨3, ![1, 1, 64]⟩
abbrev S4x8192x64 : Shape := ⟨3, ![4, 8192, 64]⟩
abbrev S4x8192x128 : Shape := ⟨3, ![4, 8192, 128]⟩
abbrev S32768x128 : Shape := ⟨2, ![32768, 128]⟩
abbrev S32x256x4x128 : Shape := ⟨4, ![32, 256, 4, 128]⟩
abbrev S32x4x256x128 : Shape := ⟨4, ![32, 4, 256, 128]⟩
abbrev S32x64x16x128 : Shape := ⟨4, ![32, 64, 16, 128]⟩
abbrev S32x16x64x128 : Shape := ⟨4, ![32, 16, 64, 128]⟩

abbrev nBuf : Space → Nat
  | .hbm => 34
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S4x8192, .f32⟩
  | .hbm, ⟨10, _⟩ => ⟨S4x8192x1, .f32⟩
  | .hbm, ⟨11, _⟩ => ⟨S1x1x64, .f32⟩
  | .hbm, ⟨12, _⟩ => ⟨S4x8192x64, .f32⟩
  | .hbm, ⟨13, _⟩ => ⟨S4x8192x64, .f32⟩
  | .hbm, ⟨14, _⟩ => ⟨S4x8192x64, .f32⟩
  | .hbm, ⟨15, _⟩ => ⟨S4x8192x64, .f32⟩
  | .hbm, ⟨16, _⟩ => ⟨S4x8192x64, .f32⟩
  | .hbm, ⟨17, _⟩ => ⟨S4x8192x128, .f32⟩
  | .hbm, ⟨18, _⟩ => ⟨S32768x128, .f32⟩
  | .hbm, ⟨19, _⟩ => ⟨S4x8192x64, .f32⟩
  | .hbm, ⟨20, _⟩ => ⟨S4x8192x128, .f32⟩
  | .hbm, ⟨21, _⟩ => ⟨S32768x128, .f32⟩
  | .hbm, ⟨22, _⟩ => ⟨S32x256x4x128, .f32⟩
  | .hbm, ⟨23, _⟩ => ⟨S32x4x256x128, .f32⟩
  | .hbm, ⟨24, _⟩ => ⟨S32768x128, .f32⟩
  | .hbm, ⟨25, _⟩ => ⟨S32x256x4x128, .f32⟩
  | .hbm, ⟨26, _⟩ => ⟨S32x4x256x128, .f32⟩
  | .hbm, ⟨27, _⟩ => ⟨S32768x128, .f32⟩
  | .hbm, ⟨28, _⟩ => ⟨S32x64x16x128, .f32⟩
  | .hbm, ⟨29, _⟩ => ⟨S32x16x64x128, .f32⟩
  | .hbm, ⟨30, _⟩ => ⟨S32768x128, .f32⟩
  | .hbm, ⟨31, _⟩ => ⟨S32x64x16x128, .f32⟩
  | .hbm, ⟨32, _⟩ => ⟨S32x16x64x128, .f32⟩
  | .hbm, ⟨33, _⟩ => ⟨S32768x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Proof.Body1.lean ====
module

public import proofs.«01_k».proof.Proof.Gen.KernelIdeal.Value
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Body

open Cert.KernelIdeal Cert.KernelIdeal.Gen

/-! ## Arrays read at natural-number coordinates -/

/-- Row `t`, column `d` of a block of 1024 rows of 256, at natural numbers. -/
def at256 (x : S1x1024x256.Idx → EReal) (t d : ℕ) : EReal := x (ix3 0 (Fin.ofNat 1024 t) (Fin.ofNat 256 d))
/-- Row `t`, column `d` of a block of 1024 rows of 512, at natural numbers. -/
def at512 (x : S1x1024x512.Idx → EReal) (t d : ℕ) : EReal := x (ix3 0 (Fin.ofNat 1024 t) (Fin.ofNat 512 d))
/-- Row `t`, column `d` of a block of 1024 rows of 128, at natural numbers. -/
def at128 (x : S1x1024x128.Idx → EReal) (t d : ℕ) : EReal := x (ix3 0 (Fin.ofNat 1024 t) (Fin.ofNat 128 d))

/-! ## The formulas of the body, at one row and column -/

/-- The logarithm of the decay at row `t`, channel `d`: the log-sigmoid of the gate's value over 16. -/
def lgN (x4 : S1x1024x128.Idx → EReal) (x5 : S128x256.Idx → EReal) (x6 : S1x256.Idx → EReal) (t d : ℕ) : EReal :=
  Ideal.div
    (min ((∑ k : Fin 128, at128 x4 t k * x5 (ix2 k (Fin.ofNat 256 d))) + x6 (ix2 0 (Fin.ofNat 256 d))) 0 -
      Ideal.log (1 + Ideal.exp (0 - FloatOps.absf (F := Ideal) (φ := .f32)
        ((∑ k : Fin 128, at128 x4 t k * x5 (ix2 k (Fin.ofNat 256 d))) + x6 (ix2 0 (Fin.ofNat 256 d))))))
    (Ideal.ofBits FTy.f32 1098907648#32)

/-- One at row `a` and column `k` of the same group of 64 with `k ≤ a`, else zero. -/
def triN (a k : ℕ) : EReal := if k ≤ a ∧ k / 64 = a / 64 then 1 else 0

/-- The running sum of `P` inside the group of 64 rows of row `t`, as the body takes it: over 256 rows by the mask, in three parts. -/
def bN (P : ℕ → ℕ → EReal) (t d : ℕ) : EReal :=
  (∑ k : Fin 256, triN (t % 256) k * P (t / 256 * 256 + k) d) +
  (∑ k : Fin 256, triN (t % 256) k * (P (t / 256 * 256 + k) d - P (t / 256 * 256 + k) d)) +
  (∑ k : Fin 256, triN (t % 256) k * ((P (t / 256 * 256 + k) d - P (t / 256 * 256 + k) d) -
    (P (t / 256 * 256 + k) d - P (t / 256 * 256 + k) d)))

/-- The sum of the last rows of the first `c` groups. -/
def hN (B : ℕ → ℕ → EReal) : ℕ → ℕ → EReal
  | 0, _ => 0
  | c + 1, d => hN B c d + B (64 * c + 63) d

/-! ## The masks -/

/-- The quotient of a word by 64 rounded down, as the body spells it (`s` is the sign of 64). -/
def fdW (x s : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32))) s)
      (IntOp.cmpi CmpIPredicate.ne (IntOp.remsi ArithUnit.vector x 64#32) 0#32))
    (IntOp.subi (IntOp.divsi ArithUnit.vector x 64#32) 1#32)
    (IntOp.divsi ArithUnit.vector x 64#32)

theorem fdW_ofNat : ∀ a : Fin 256, fdW (BitVec.ofNat 32 a) 1#32 = BitVec.ofNat 32 (a.val / 64) := by decide +kernel

theorem sge_ofNat (a b : Fin 256) :
    IntOp.cmpi CmpIPredicate.sge (BitVec.ofNat 32 a) (BitVec.ofNat 32 b) = if b.val ≤ a.val then 1#1 else 0#1 := by
  rw [WordCmp.cmpi_sge_ofNat (by omega) (by omega)]
  by_cases h : b.val ≤ a.val <;> simp [h]

theorem slt_ofNat (a b : Fin 256) :
    IntOp.cmpi CmpIPredicate.slt (BitVec.ofNat 32 a) (BitVec.ofNat 32 b) = if a.val < b.val then 1#1 else 0#1 := by
  rw [WordCmp.cmpi_slt_ofNat (by omega) (by omega)]
  by_cases h : a.val < b.val <;> simp [h]

theorem eq_ofNat (a b : Fin 4) :
    IntOp.cmpi CmpIPredicate.eq (BitVec.ofNat 32 a) (BitVec.ofNat 32 b) = if a.val = b.val then 1#1 else 0#1 := by
  revert a b; decide +kernel

/-- The mask word: one exactly when the column is not after the row and in its group of 64. -/
theorem maskW (a b : Fin 256) :
    IntOp.andi (IntOp.cmpi CmpIPredicate.sge (BitVec.ofNat 32 a) (BitVec.ofNat 32 b))
      (IntOp.cmpi CmpIPredicate.eq (fdW (BitVec.ofNat 32 a) 1#32) (fdW (BitVec.ofNat 32 b) 1#32)) =
      if b.val ≤ a.val ∧ b.val / 64 = a.val / 64 then 1#1 else 0#1 := by
  rw [fdW_ofNat, fdW_ofNat, sge_ofNat,
    eq_ofNat ⟨a.val / 64, by omega⟩ ⟨b.val / 64, by omega⟩]
  by_cases h1 : b.val ≤ a.val <;> by_cases h2 : a.val / 64 = b.val / 64 <;> simp [h1, h2, IntOp.andi, eq_comm]

/-- The mask the running sums are taken with. -/
theorem mask256 (v4 : IVec S256x256 32) (hv4 : v4 = iota .tc S256x256 32 [1] iota_S256x256_d1_w32) (a b : Fin 256) :
    k0_pay6 (F := Ideal) v4 k0_pay2 k0_pay3 (64#32) k0_pay4 k0_pay5 1#32 0#1 (ix2 a b) = triN a b := by
  subst hv4
  unfold k0_pay6 k0_pay2 k0_pay3 k0_pay4 k0_pay5
  pointwise
  have h := maskW a b
  have e : ∀ w : BitVec 1, FloatOps.sitofp (F := Ideal) FTy.f32 (BitVec.setWidth 32 w) = if w = 1#1 then (1 : EReal) else 0 := by
    intro w
    have : w = 0#1 ∨ w = 1#1 := by revert w; decide
    rcases this with rfl | rfl
    · show (((BitVec.setWidth 32 0#1).toInt : ℝ) : EReal) = _
      simp
    · show (((BitVec.setWidth 32 1#1).toInt : ℝ) : EReal) = _
      simp
  rw [e]
  refine Eq.trans (b := if (if b.val ≤ a.val ∧ b.val / 64 = a.val / 64 then 1#1 else 0#1) = 1#1 then (1 : EReal) else 0) ?_ ?_
  · exact congrArg (fun w : BitVec 1 => if w = 1#1 then (1 : EReal) else 0) h
  · unfold triN
    by_cases hh : b.val ≤ a.val ∧ b.val / 64 = a.val / 64 <;> simp [hh]

/-! ## The logarithm of the decay -/

theorem pay7_apply (x4 : S1x1024x128.Idx → EReal) (x5 : S128x256.Idx → EReal) (x6 : S1x256.Idx → EReal)
    (o : ℕ) (X : Vec Ideal S1x256x128 .f32) (Y : Vec Ideal S128x256 .bf16) (Z : Vec Ideal S1x256 .f32)
    (hX : ∀ (r : Fin 256) (k : Fin 128), X (ix3 0 r k) = at128 x4 (o + r) k) (hY : Y = x5) (hZ : Z = x6)
    (a b : Fin 256) : k0_pay7 X Y Z (ix2 a b) = lgN x4 x5 x6 (o + a) b := by
  subst hY hZ
  unfold k0_pay7
  pointwise
  simp only [hX, lgN]
  have hb : Fin.ofNat 256 b.val = b := Fin.ext (Nat.mod_eq_of_lt b.isLt)
  rw [hb]

theorem pay12_apply (x4 : S1x1024x128.Idx → EReal) (x5 : S128x256.Idx → EReal) (x6 : S1x256.Idx → EReal)
    (o : ℕ) (ho : o % 256 = 0) (X : Vec Ideal S1x256x128 .f32) (Y : Vec Ideal S128x256 .bf16) (Z : Vec Ideal S1x256 .f32)
    (hX : ∀ (r : Fin 256) (k : Fin 128), X (ix3 0 r k) = at128 x4 (o + r) k) (hY : Y = x5) (hZ : Z = x6)
    (r : FVec Ideal S256x256 .bf16) (hr : ∀ a k : Fin 256, r (ix2 a k) = triN a k)
    (a b : Fin 256) :
    k0_pay12 r (k0_pay8 X Y Z) (k0_pay10 X Y Z) (k0_pay11 X Y Z) (ix2 a b) = bN (lgN x4 x5 x6) (o + a) b := by
  unfold k0_pay12 k0_pay11 k0_pay10 k0_pay9 k0_pay8
  pointwise
  simp only [hr, pay7_apply x4 x5 x6 o X Y Z hX hY hZ]
  have h1 : (o + a.val) % 256 = a := by omega
  have h2 : (o + a.val) / 256 * 256 = o := by omega
  unfold bN
  rw [h1, h2]

end Cert.KernelIdeal.Body
-- ==== Proof.Body2.lean ====
module

public import proofs.«01_k».proof.Proof.Body1

@[expose] public section

set_option maxRecDepth 16384

noncomputable section

open Idealize.ShloMosaic Idealize.ShloMosaic.TcCoe Idealize.SL.Sem

namespace Cert.KernelIdeal.Body

open Cert.KernelIdeal Cert.KernelIdeal.Gen

/-- A function of two natural numbers, as an array of 1024 rows of 256. -/
def G2 (g : ℕ → ℕ → EReal) : S1024x256.Idx → EReal := fun y => g (y 0).val (y 1).val

section Loads
theorem ld128 (arg : Memref sig .tc .vmem S1x1024x128 .f32) (h : arg.IsWhole) (x : Vec Ideal S1x1024x128 .f32)
    (o : ℕ) (inb) (hs : o + 256 ≤ 1024) (r : Fin 256) (k : Fin 128) :
    View.readAt (Elt Ideal) arg.view (Rect.toLoadRect (Rect.unit ![0, o, 0] (Shape.size S1x256x128) inb)) (h.unread x) (ix3 0 r k)
      = at128 x (o + r) k := by
  simp only [View.readAt_eq_ld, h.read_unread, View.ld]
  unfold at128
  congr 1
  funext a; apply Fin.ext; fin_cases a
  · rfl
  · show o + 1 * r.val = (o + r.val) % 1024; omega
  · show 0 + 1 * k.val = k.val % 128; omega

theorem hz2 : (![0, 0] : Fin 2 → ℕ) = fun _ => 0 := by funext a; fin_cases a <;> rfl

theorem ldW (arg : Memref sig .tc .vmem S128x256 .bf16) (h : arg.IsWhole) (x : Vec Ideal S128x256 .bf16) (inb) :
    View.readAt (Elt Ideal) arg.view (Rect.toLoadRect (Rect.unit ![0, 0] (Shape.size S128x256) inb)) (h.unread x) = x := by
  simp only [View.readAt_eq_ld, h.read_unread]
  exact View.ld_unit_zero (S := S128x256) hz2 _ _

theorem ldA (arg : Memref sig .tc .vmem S1x256 .f32) (h : arg.IsWhole) (x : Vec Ideal S1x256 .f32) (inb) :
    View.readAt (Elt Ideal) arg.view (Rect.toLoadRect (Rect.unit ![0, 0] (Shape.size S1x256) inb)) (h.unread x) = x := by
  simp only [View.readAt_eq_ld, h.read_unread]
  exact View.ld_unit_zero (S := S1x256) hz2 _ _

end Loads

/-- Four groups of 64 rows of the running sums, as one store leaves them. -/
theorem piece_b (x4 : S1x1024x128.Idx → EReal) (x5 : S128x256.Idx → EReal) (x6 : S1x256.Idx → EReal)
    (o : ℕ) (ho : o % 256 = 0) (X : Vec Ideal S1x256x128 .f32) (Y : Vec Ideal S128x256 .bf16) (Z : Vec Ideal S1x256 .f32)
    (hX : ∀ (r : Fin 256) (k : Fin 128), X (ix3 0 r k) = at128 x4 (o + r) k) (hY : Y = x5) (hZ : Z = x6)
    (r : FVec Ideal S256x256 .bf16) (hr : ∀ a k : Fin 256, r (ix2 a k) = triN a k) (inb) (x : S256x256.Idx) :
    k0_pay12 r (k0_pay8 X Y Z) (k0_pay10 X Y Z) (k0_pay11 X Y Z) x =
      G2 (bN (lgN x4 x5 x6)) ((Rect.unit (s := S1024x256) ![o, 0] (Shape.size S256x256) inb).emb x) := by
  idx_vars x
  refine (pay12_apply x4 x5 x6 o ho X Y Z hX hY hZ r hr _ _).trans ?_
  unfold G2
  congr 1
  · show o + x0.val = o + 1 * x0.val; omega
  · show x1.val = 0 + 1 * x1.val; omega

section Sums
variable (c : Dev nD) (arg7 : Memref sig .tc .vmem S1x1024x128 .f32) (harg7 : arg7.IsWhole) (arg8 : Memref sig .tc .vmem S128x256 .bf16) (harg8 : arg8.IsWhole) (arg9 : Memref sig .tc .vmem S1x256 .f32) (harg9 : arg9.IsWhole)
  (x4 : Vec Ideal S1x1024x128 .f32) (x5 : Vec Ideal S128x256 .bf16) (x6 : Vec Ideal S1x256 .f32)

/-- What the first scratch array holds after its four stores: the running sums of the logarithm of the decay. -/
theorem canon_b : View.canon (kernelRun0_B.sl.HS1_4 (F := Ideal) c arg7 harg7 arg8 harg8 arg9 harg9 x4 x5 x6) =
      G2 (bN (lgN x4 x5 x6)) := by
  funext y
  refine View.canon_apply_of_pieces (Val := Elt Ideal) (e := .f32) (G2 (bN (lgN x4 x5 x6))) _ ?_ y ?_
  · intro p hp x
    unfold kernelRun0_B.sl.HS1_4 at hp
    simp only [List.mem_cons, List.not_mem_nil, or_false] at hp
    rcases hp with rfl | rfl | rfl | rfl
    · refine piece_b x4 x5 x6 768 (by decide) _ _ _ ?_ ?_ ?_ _ (mask256 _ rfl) (by decide) x
      · exact ld128 arg7 harg7 x4 _ _ (by decide)
      · exact ldW arg8 harg8 x5 _
      · exact ldA arg9 harg9 x6 _
    · refine piece_b x4 x5 x6 512 (by decide) _ _ _ ?_ ?_ ?_ _ (mask256 _ rfl) (by decide) x
      · exact ld128 arg7 harg7 x4 _ _ (by decide)
      · exact ldW arg8 harg8 x5 _
      · exact ldA arg9 harg9 x6 _
    · refine piece_b x4 x5 x6 256 (by decide) _ _ _ ?_ ?_ ?_ _ (mask256 _ rfl) (by decide) x
      · exact ld128 arg7 harg7 x4 _ _ (by decide)
      · exact ldW arg8 harg8 x5 _
      · exact ldA arg9 harg9 x6 _
    · refine piece_b x4 x5 x6 0 (by decide) _ _ _ ?_ ?_ ?_ _ (mask256 _ rfl) (by decide) x
      · exact ld128 arg7 harg7 x4 _ _ (by decide)
      · exact ldW arg8 harg8 x5 _
      · exact ldA arg9 harg9 x6 _
  · exact View.cover_of_tiled _ ![256, 256] (by rfl) y

end Sums

end Cert.KernelIdeal.Body
-- ==== Proof.Body3.lean ====
module

public import proofs.«01_k».proof.Proof.Body2

@[expose] public section

set_option maxRecDepth 16384

noncomputable section

open Idealize.ShloMosaic Idealize.ShloMosaic.TcCoe Idealize.SL.Sem

namespace Cert.KernelIdeal.Body

open Cert.KernelIdeal Cert.KernelIdeal.Gen

/-! ## The scaled queries and keys -/

/-- A query times the decay since its group's start, over 16. -/
def qdN (Q B : ℕ → ℕ → EReal) (t d : ℕ) : EReal := Q t d * Ideal.exp (B t d) * Ideal.ofBits FTy.f32 1031798784#32
/-- A query times the decay since the block's start, over 16. -/
def qhN (Q B : ℕ → ℕ → EReal) (t d : ℕ) : EReal := qdN Q B t d * Ideal.exp (hN B (t / 64) d)
/-- A key divided by the decay since its group's start. -/
def kiN (K B : ℕ → ℕ → EReal) (t d : ℕ) : EReal := K t d * Ideal.exp (0 - B t d)
/-- A key times the decay from it to its group's end. -/
def keN (K B : ℕ → ℕ → EReal) (t d : ℕ) : EReal := K t d * Ideal.exp (B (t / 64 * 64 + 63) d - B t d)
/-- A key times the decay from it to the end of its pair of groups. -/
def kpN (K B : ℕ → ℕ → EReal) (t d : ℕ) : EReal :=
  if t / 64 % 2 = 0 then keN K B t d * Ideal.exp (B (t / 64 * 64 + 127) d) else keN K B t d
/-- A key times the decay from it to the block's end. -/
def khN (K B : ℕ → ℕ → EReal) (t d : ℕ) : EReal :=
  keN K B t d * Ideal.exp (hN B 16 d - hN B (t / 64 + 1) d)

/-! ## Loads of 64 rows -/

theorem ld64 (arg : Memref sig .tc .vmem S1x1024x256 .bf16) (h : arg.IsWhole) (x : Vec Ideal S1x1024x256 .bf16)
    (o : ℕ) (inb) (hs : o + 64 ≤ 1024) (r : Fin 64) (k : Fin 256) :
    View.readAt (Elt Ideal) arg.view (Rect.toLoadRect (Rect.unit ![0, o, 0] (Shape.size S1x64x256) inb)) (h.unread x) (ix3 0 r k)
      = at256 x (o + r) k := by
  simp only [View.readAt_eq_ld, h.read_unread, View.ld]
  unfold at256
  congr 1
  funext a; apply Fin.ext; fin_cases a
  · rfl
  · show o + 1 * r.val = (o + r.val) % 1024; omega
  · show 0 + 1 * k.val = k.val % 256; omega

theorem rd64 (v : View sig .tc .vmem S1024x256 .f32)
    (L : List (View.Piece (Elt Ideal) S1024x256 .f32)) (g : ℕ → ℕ → EReal)
    (hL : View.canon L = G2 g) (o : ℕ) (inb) (r : Fin 64) (d : Fin 256) :
    View.readCov v L (Rect.toLoadRect (Rect.unit ![o, 0] (Shape.size S64x256) inb)) (ix2 r d) = g (o + r) d := by
  rw [View.readCov_eq_canon', hL]
  unfold G2
  show g (o + 1 * r.val) (0 + 1 * d.val) = g (o + r) d
  congr 1 <;> omega

theorem rd1 (v : View sig .tc .vmem S1024x256 .f32)
    (L : List (View.Piece (Elt Ideal) S1024x256 .f32)) (g : ℕ → ℕ → EReal)
    (hL : View.canon L = G2 g) (o : ℕ) (inb) (d : Fin 256) :
    View.readCov v L (Rect.toLoadRect (Rect.unit ![o, 0] (Shape.size S1x256) inb)) (ix2 0 d) = g o d := by
  rw [View.readCov_eq_canon', hL]
  unfold G2
  show g (o + 1 * 0) (0 + 1 * d.val) = g o d
  congr 1; omega

/-! ## Each store's contents -/

theorem emb64 (g : ℕ → ℕ → EReal) (o : ℕ) (inb) (r : Fin 64) (d : Fin 256) :
    G2 g ((Rect.unit (s := S1024x256) ![o, 0] (Shape.size S64x256) inb).emb (ix2 r d)) = g (o + r) d := by
  show g (o + 1 * r.val) (0 + 1 * d.val) = g (o + r) d
  congr 1 <;> omega

/-- One row laid out over 64 rows. -/
theorem bc1 (v : Vec Ideal S1x256 .f32) (g : ℕ → EReal) (h : ∀ d : Fin 256, v (ix2 0 d) = g d) (r : Fin 64) (d : Fin 256) :
    broadcastTo S64x256 v broadcasts_S1x256_S64x256 (ix2 r d) = g d := by
  pointwise
  exact h d

section Pieces
variable (Q K B : ℕ → ℕ → EReal) (o : ℕ) (ho : o % 64 = 0)
  (b : Vec Ideal S64x256 .f32) (q k : Vec Ideal S1x64x256 .bf16) (h h1 h16 bl1 : Vec Ideal S1x256 .f32) (bl : Vec Ideal S64x256 .f32)
  (hb : ∀ (r : Fin 64) (d : Fin 256), b (ix2 r d) = B (o + r) d)
  (hq : ∀ (r : Fin 64) (d : Fin 256), q (ix3 0 r d) = Q (o + r) d)
  (hk : ∀ (r : Fin 64) (d : Fin 256), k (ix3 0 r d) = K (o + r) d)
  (hh : ∀ d : Fin 256, h (ix2 0 d) = hN B (o / 64) d)
  (hh1 : ∀ d : Fin 256, h1 (ix2 0 d) = hN B (o / 64 + 1) d)
  (hh16 : ∀ d : Fin 256, h16 (ix2 0 d) = hN B 16 d)
  (hbl : ∀ (r : Fin 64) (d : Fin 256), bl (ix2 r d) = B (o + 63) d)
  (hbl1 : ∀ d : Fin 256, bl1 (ix2 0 d) = B (o + 127) d)
include hb

include hq in
theorem piece_qd (inb) (x : S64x256.Idx) :
    k0_pay43 b q x = G2 (qdN Q B) ((Rect.unit (s := S1024x256) ![o, 0] (Shape.size S64x256) inb).emb x) := by
  idx_vars x
  rw [emb64]
  unfold k0_pay43 k0_pay41
  pointwise
  simp only [hb, hq, qdN]

include hq hh ho in
theorem piece_qh (inb) (x : S64x256.Idx) :
    k0_pay44 h b q x = G2 (qhN Q B) ((Rect.unit (s := S1024x256) ![o, 0] (Shape.size S64x256) inb).emb x) := by
  idx_vars x
  rw [emb64]
  unfold k0_pay44 k0_pay41
  pointwise
  have e : (o + x0.val) / 64 = o / 64 := by omega
  simp only [hb, hq, hh, qhN, qdN, e]

include hk in
theorem piece_ki (inb) (x : S64x256.Idx) :
    k0_pay45 b k x = G2 (kiN K B) ((Rect.unit (s := S1024x256) ![o, 0] (Shape.size S64x256) inb).emb x) := by
  idx_vars x
  rw [emb64]
  unfold k0_pay45 k0_pay40
  pointwise
  simp only [hb, hk, kiN]

include hk hbl ho in
theorem piece_ke (inb) (x : S64x256.Idx) :
    shapeCast S64x256 (truncf (F := Ideal) (φ := .f32) .bf16 (mulf (F := Ideal) (φ := .f32) (extf .f32 (shapeCast S64x256 k shapeCasts_S1x64x256_S64x256 : FVec Ideal S64x256 .bf16) bitsLt_bf16_f32) (exp (subf bl b))) bitsLt_bf16_f32) shapeCasts_S64x256_S64x256 x = G2 (keN K B) ((Rect.unit (s := S1024x256) ![o, 0] (Shape.size S64x256) inb).emb x) := by
  idx_vars x
  rw [emb64]
  pointwise
  have e : (o + x0.val) / 64 * 64 = o := by omega
  simp only [hb, hk, hbl, keN, e]

include hk hbl hbl1 ho in
theorem piece_kp_even (he : o / 64 % 2 = 0) (inb) (x : S64x256.Idx) :
    shapeCast S64x256 (truncf (F := Ideal) (φ := .f32) .bf16 (mulf (mulf (F := Ideal) (φ := .f32) (extf .f32 (shapeCast S64x256 k shapeCasts_S1x64x256_S64x256 : FVec Ideal S64x256 .bf16) bitsLt_bf16_f32) (exp (subf bl b))) (broadcastTo S64x256 (exp bl1) broadcasts_S1x256_S64x256)) bitsLt_bf16_f32) shapeCasts_S64x256_S64x256 x =
      G2 (kpN K B) ((Rect.unit (s := S1024x256) ![o, 0] (Shape.size S64x256) inb).emb x) := by
  idx_vars x
  rw [emb64]
  pointwise
  have e : (o + x0.val) / 64 * 64 = o := by omega
  have e2 : (o + x0.val) / 64 % 2 = 0 := by omega
  simp only [hb, hk, hbl, hbl1, kpN, keN, e, e2, if_true]

include hk hbl ho in
theorem piece_kp_odd (he : o / 64 % 2 = 1) (inb) (x : S64x256.Idx) :
    shapeCast S64x256 (truncf (F := Ideal) (φ := .f32) .bf16 (mulf (F := Ideal) (φ := .f32) (extf .f32 (shapeCast S64x256 k shapeCasts_S1x64x256_S64x256 : FVec Ideal S64x256 .bf16) bitsLt_bf16_f32) (exp (subf bl b))) bitsLt_bf16_f32) shapeCasts_S64x256_S64x256 x =
      G2 (kpN K B) ((Rect.unit (s := S1024x256) ![o, 0] (Shape.size S64x256) inb).emb x) := by
  idx_vars x
  rw [emb64]
  pointwise
  have e : (o + x0.val) / 64 * 64 = o := by omega
  have e2 : ¬ (o + x0.val) / 64 % 2 = 0 := by omega
  simp only [hb, hk, hbl, kpN, keN, e, e2, if_false]

include hk hbl hh1 hh16 ho in
theorem piece_kh (inb) (x : S64x256.Idx) :
    shapeCast S64x256 (truncf (F := Ideal) (φ := .f32) .bf16 (mulf (mulf (F := Ideal) (φ := .f32) (extf .f32 (shapeCast S64x256 k shapeCasts_S1x64x256_S64x256 : FVec Ideal S64x256 .bf16) bitsLt_bf16_f32) (exp (subf bl b))) (broadcastTo S64x256 (exp (subf h16 h1)) broadcasts_S1x256_S64x256)) bitsLt_bf16_f32) shapeCasts_S64x256_S64x256 x =
      G2 (khN K B) ((Rect.unit (s := S1024x256) ![o, 0] (Shape.size S64x256) inb).emb x) := by
  idx_vars x
  rw [emb64]
  pointwise
  have e : (o + x0.val) / 64 = o / 64 := by omega
  have e2 : o / 64 * 64 = o := by omega
  simp only [hb, hk, hbl, hh1, hh16, khN, keN, e, e2]

end Pieces

end Cert.KernelIdeal.Body
-- ==== Proof.Body4.lean ====
module

public import proofs.«01_k».proof.Proof.Body3

@[expose] public section

set_option maxRecDepth 16384

noncomputable section

open Idealize.ShloMosaic Idealize.ShloMosaic.TcCoe Idealize.SL.Sem

namespace Cert.KernelIdeal.Body

open Cert.KernelIdeal Cert.KernelIdeal.Gen

section Canon
variable (c : Dev nD) (arg3 : Memref sig .tc .vmem S1x1024x256 .bf16) (harg3 : arg3.IsWhole)
  (arg4 : Memref sig .tc .vmem S1x1024x256 .bf16) (harg4 : arg4.IsWhole)
  (arg7 : Memref sig .tc .vmem S1x1024x128 .f32) (harg7 : arg7.IsWhole)
  (arg8 : Memref sig .tc .vmem S128x256 .bf16) (harg8 : arg8.IsWhole)
  (arg9 : Memref sig .tc .vmem S1x256 .f32) (harg9 : arg9.IsWhole)
  (arg13 : Memref sig .tc .vmem S1024x256 .f32)
  (x0 x1 : Vec Ideal S1x1024x256 .bf16)
  (x4 : Vec Ideal S1x1024x128 .f32) (x5 : Vec Ideal S128x256 .bf16) (x6 : Vec Ideal S1x256 .f32)

/-- The scaled queries, as their scratch array holds them. -/
theorem canon_qd : View.canon (kernelRun0_B.sl.HS2_16 (F := Ideal) c arg3 harg3 arg7 harg7 arg8 harg8 arg9 harg9 arg13 x0 x4 x5 x6) =
      G2 (qdN (at256 x0) (bN (lgN x4 x5 x6))) := by
  funext y
  refine View.canon_apply_of_pieces (Val := Elt Ideal) (e := .f32) (G2 (qdN (at256 x0) (bN (lgN x4 x5 x6)))) _ ?_ y ?_
  · have hb := canon_b c arg7 harg7 arg8 harg8 arg9 harg9 x4 x5 x6
    intro p hp x
    unfold kernelRun0_B.sl.HS2_16 at hp
    simp only [List.mem_cons, List.not_mem_nil, or_false] at hp
    rcases hp with rfl | rfl | rfl | rfl | rfl | rfl | rfl | rfl | rfl | rfl | rfl | rfl | rfl | rfl | rfl | rfl <;>
    · refine piece_qd (at256 x0) (bN (lgN x4 x5 x6)) _ _ _ ?_ ?_ (by decide) x
      · exact rd64 _ _ _ hb _ _
      · exact ld64 arg3 harg3 x0 _ _ (by decide)
  · exact View.cover_of_tiled _ ![64, 256] (by rfl) y

/-- One more group's last row added to the running total. -/
theorem h_step (B : ℕ → ℕ → EReal) (n : ℕ) (h v : Vec Ideal S1x256 .f32) (hh : ∀ d : Fin 256, h (ix2 0 d) = hN B n d)
    (hv : ∀ d : Fin 256, v (ix2 0 d) = B (64 * n + 63) d) (d : Fin 256) :
    addf (F := Ideal) (φ := .f32) h v (ix2 0 d) = hN B (n + 1) d := by
  pointwise
  rw [hh, hv, hN]

/-- The running totals of the groups' last rows, from none to sixteen groups. -/
theorem h_chain :
    (∀ d : Fin 256, k0_pay23 (F := Ideal) (ix2 0 d) = hN (bN (lgN x4 x5 x6)) 0 d) ∧
    (∀ d : Fin 256, kernelRun0_B.sl.r_7 c arg7 harg7 arg8 harg8 arg9 harg9 arg13 x4 x5 x6 (ix2 0 d) = hN (bN (lgN x4 x5 x6)) 1 d) ∧
    (∀ d : Fin 256, kernelRun0_B.sl.r_8 c arg7 harg7 arg8 harg8 arg9 harg9 arg13 x4 x5 x6 (ix2 0 d) = hN (bN (lgN x4 x5 x6)) 2 d) ∧
    (∀ d : Fin 256, kernelRun0_B.sl.r_9 c arg7 harg7 arg8 harg8 arg9 harg9 arg13 x4 x5 x6 (ix2 0 d) = hN (bN (lgN x4 x5 x6)) 3 d) ∧
    (∀ d : Fin 256, kernelRun0_B.sl.r_10 c arg7 harg7 arg8 harg8 arg9 harg9 arg13 x4 x5 x6 (ix2 0 d) = hN (bN (lgN x4 x5 x6)) 4 d) ∧
    (∀ d : Fin 256, kernelRun0_B.sl.r_11 c arg7 harg7 arg8 harg8 arg9 harg9 arg13 x4 x5 x6 (ix2 0 d) = hN (bN (lgN x4 x5 x6)) 5 d) ∧
    (∀ d : Fin 256, kernelRun0_B.sl.r_12 c arg7 harg7 arg8 harg8 arg9 harg9 arg13 x4 x5 x6 (ix2 0 d) = hN (bN (lgN x4 x5 x6)) 6 d) ∧
    (∀ d : Fin 256, kernelRun0_B.sl.r_13 c arg7 harg7 arg8 harg8 arg9 harg9 arg13 x4 x5 x6 (ix2 0 d) = hN (bN (lgN x4 x5 x6)) 7 d) ∧
    (∀ d : Fin 256, kernelRun0_B.sl.r_14 c arg7 harg7 arg8 harg8 arg9 harg9 arg13 x4 x5 x6 (ix2 0 d) = hN (bN (lgN x4 x5 x6)) 8 d) ∧
    (∀ d : Fin 256, kernelRun0_B.sl.r_15 c arg7 harg7 arg8 harg8 arg9 harg9 arg13 x4 x5 x6 (ix2 0 d) = hN (bN (lgN x4 x5 x6)) 9 d) ∧
    (∀ d : Fin 256, kernelRun0_B.sl.r_16 c arg7 harg7 arg8 harg8 arg9 harg9 arg13 x4 x5 x6 (ix2 0 d) = hN (bN (lgN x4 x5 x6)) 10 d) ∧
    (∀ d : Fin 256, kernelRun0_B.sl.r_17 c arg7 harg7 arg8 harg8 arg9 harg9 arg13 x4 x5 x6 (ix2 0 d) = hN (bN (lgN x4 x5 x6)) 11 d) ∧
    (∀ d : Fin 256, kernelRun0_B.sl.r_18 c arg7 harg7 arg8 harg8 arg9 harg9 arg13 x4 x5 x6 (ix2 0 d) = hN (bN (lgN x4 x5 x6)) 12 d) ∧
    (∀ d : Fin 256, kernelRun0_B.sl.r_19 c arg7 harg7 arg8 harg8 arg9 harg9 arg13 x4 x5 x6 (ix2 0 d) = hN (bN (lgN x4 x5 x6)) 13 d) ∧
    (∀ d : Fin 256, kernelRun0_B.sl.r_20 c arg7 harg7 arg8 harg8 arg9 harg9 arg13 x4 x5 x6 (ix2 0 d) = hN (bN (lgN x4 x5 x6)) 14 d) ∧
    (∀ d : Fin 256, kernelRun0_B.sl.r_21 c arg7 harg7 arg8 harg8 arg9 harg9 arg13 x4 x5 x6 (ix2 0 d) = hN (bN (lgN x4 x5 x6)) 15 d) ∧
    (∀ d : Fin 256, kernelRun0_B.sl.r_22 c arg7 harg7 arg8 harg8 arg9 harg9 arg13 x4 x5 x6 (ix2 0 d) = hN (bN (lgN x4 x5 x6)) 16 d) := by
  have hb := canon_b c arg7 harg7 arg8 harg8 arg9 harg9 x4 x5 x6
  have h0 : ∀ d : Fin 256, k0_pay23 (F := Ideal) (ix2 0 d) = hN (bN (lgN x4 x5 x6)) 0 d := by
    intro d
    unfold k0_pay23
    pointwise
    rfl
  have h1 := h_step _ 0 _ (kernelRun0_B.sl.v207 c arg7 harg7 arg8 harg8 arg9 harg9 arg13 x4 x5 x6) h0 (rd1 _ _ _ hb _ _)
  have h2 := h_step _ 1 _ (kernelRun0_B.sl.v208 c arg7 harg7 arg8 harg8 arg9 harg9 arg13 x4 x5 x6) h1 (rd1 _ _ _ hb _ _)
  have h3 := h_step _ 2 _ (kernelRun0_B.sl.v209 c arg7 harg7 arg8 harg8 arg9 harg9 arg13 x4 x5 x6) h2 (rd1 _ _ _ hb _ _)
  have h4 := h_step _ 3 _ (kernelRun0_B.sl.v210 c arg7 harg7 arg8 harg8 arg9 harg9 arg13 x4 x5 x6) h3 (rd1 _ _ _ hb _ _)
  have h5 := h_step _ 4 _ (kernelRun0_B.sl.v211 c arg7 harg7 arg8 harg8 arg9 harg9 arg13 x4 x5 x6) h4 (rd1 _ _ _ hb _ _)
  have h6 := h_step _ 5 _ (kernelRun0_B.sl.v212 c arg7 harg7 arg8 harg8 arg9 harg9 arg13 x4 x5 x6) h5 (rd1 _ _ _ hb _ _)
  have h7 := h_step _ 6 _ (kernelRun0_B.sl.v213 c arg7 harg7 arg8 harg8 arg9 harg9 arg13 x4 x5 x6) h6 (rd1 _ _ _ hb _ _)
  have h8 := h_step _ 7 _ (kernelRun0_B.sl.v214 c arg7 harg7 arg8 harg8 arg9 harg9 arg13 x4 x5 x6) h7 (rd1 _ _ _ hb _ _)
  have h9 := h_step _ 8 _ (kernelRun0_B.sl.v215 c arg7 harg7 arg8 harg8 arg9 harg9 arg13 x4 x5 x6) h8 (rd1 _ _ _ hb _ _)
  have h10 := h_step _ 9 _ (kernelRun0_B.sl.v216 c arg7 harg7 arg8 harg8 arg9 harg9 arg13 x4 x5 x6) h9 (rd1 _ _ _ hb _ _)
  have h11 := h_step _ 10 _ (kernelRun0_B.sl.v217 c arg7 harg7 arg8 harg8 arg9 harg9 arg13 x4 x5 x6) h10 (rd1 _ _ _ hb _ _)
  have h12 := h_step _ 11 _ (kernelRun0_B.sl.v218 c arg7 harg7 arg8 harg8 arg9 harg9 arg13 x4 x5 x6) h11 (rd1 _ _ _ hb _ _)
  have h13 := h_step _ 12 _ (kernelRun0_B.sl.v219 c arg7 harg7 arg8 harg8 arg9 harg9 arg13 x4 x5 x6) h12 (rd1 _ _ _ hb _ _)
  have h14 := h_step _ 13 _ (kernelRun0_B.sl.v220 c arg7 harg7 arg8 harg8 arg9 harg9 arg13 x4 x5 x6) h13 (rd1 _ _ _ hb _ _)
  have h15 := h_step _ 14 _ (kernelRun0_B.sl.v221 c arg7 harg7 arg8 harg8 arg9 harg9 arg13 x4 x5 x6) h14 (rd1 _ _ _ hb _ _)
  have h16 := h_step _ 15 _ (kernelRun0_B.sl.v222 c arg7 harg7 arg8 harg8 arg9 harg9 arg13 x4 x5 x6) h15 (rd1 _ _ _ hb _ _)
  exact ⟨h0, h1, h2, h3, h4, h5, h6, h7, h8, h9, h10, h11, h12, h13, h14, h15, h16⟩

end Canon

end Cert.KernelIdeal.Body
-- ==== Proof.Body5.lean ====
module

public import proofs.«01_k».proof.Proof.Body4

@[expose] public section

set_option maxRecDepth 16384

noncomputable section

open Idealize.ShloMosaic Idealize.ShloMosaic.TcCoe Idealize.SL.Sem

namespace Cert.KernelIdeal.Body

open Cert.KernelIdeal Cert.KernelIdeal.Gen

section Canon
variable (c : Dev nD) (arg3 : Memref sig .tc .vmem S1x1024x256 .bf16) (harg3 : arg3.IsWhole)
  (arg4 : Memref sig .tc .vmem S1x1024x256 .bf16) (harg4 : arg4.IsWhole)
  (arg7 : Memref sig .tc .vmem S1x1024x128 .f32) (harg7 : arg7.IsWhole)
  (arg8 : Memref sig .tc .vmem S128x256 .bf16) (harg8 : arg8.IsWhole)
  (arg9 : Memref sig .tc .vmem S1x256 .f32) (harg9 : arg9.IsWhole)
  (arg13 : Memref sig .tc .vmem S1024x256 .f32)
  (x0 x1 : Vec Ideal S1x1024x256 .bf16)
  (x4 : Vec Ideal S1x1024x128 .f32) (x5 : Vec Ideal S128x256 .bf16) (x6 : Vec Ideal S1x256 .f32)

/-- The queries scaled by the decay since the block's start. -/
theorem canon_qh : View.canon (kernelRun0_B.sl.HS3_16 (F := Ideal) c arg3 harg3 arg7 harg7 arg8 harg8 arg9 harg9 arg13 x0 x4 x5 x6) =
      G2 (qhN (at256 x0) (bN (lgN x4 x5 x6))) := by
  funext y
  refine View.canon_apply_of_pieces (Val := Elt Ideal) (e := .bf16) (G2 (qhN (at256 x0) (bN (lgN x4 x5 x6)))) _ ?_ y ?_
  · have hb := canon_b c arg7 harg7 arg8 harg8 arg9 harg9 x4 x5 x6
    obtain ⟨h0, h1, h2, h3, h4, h5, h6, h7, h8, h9, h10, h11, h12, h13, h14, h15, h16⟩ :=
      h_chain c arg7 harg7 arg8 harg8 arg9 harg9 arg13 x4 x5 x6
    intro p hp x
    unfold kernelRun0_B.sl.HS3_16 at hp
    simp only [List.mem_cons, List.not_mem_nil, or_false] at hp
    rcases hp with rfl | rfl | rfl | rfl | rfl | rfl | rfl | rfl | rfl | rfl | rfl | rfl | rfl | rfl | rfl | rfl
    all_goals (refine piece_qh (at256 x0) (bN (lgN x4 x5 x6)) _ (by decide) _ _ _ ?_ ?_ ?_ (by decide) x <;> [exact rd64 _ _ _ hb _ _; exact ld64 arg3 harg3 x0 _ _ (by decide); skip])
    exacts [h15, h14, h13, h12, h11, h10, h9, h8, h7, h6, h5, h4, h3, h2, h1, h0]
  · exact View.cover_of_tiled _ ![64, 256] (by rfl) y

/-- The keys divided by the decay since their group's start. -/
theorem canon_ki : View.canon (kernelRun0_B.sl.HS4_16 (F := Ideal) c arg4 harg4 arg7 harg7 arg8 harg8 arg9 harg9 arg13 x1 x4 x5 x6) =
      G2 (kiN (at256 x1) (bN (lgN x4 x5 x6))) := by
  funext y
  refine View.canon_apply_of_pieces (Val := Elt Ideal) (e := .bf16) (G2 (kiN (at256 x1) (bN (lgN x4 x5 x6)))) _ ?_ y ?_
  · have hb := canon_b c arg7 harg7 arg8 harg8 arg9 harg9 x4 x5 x6
    obtain ⟨h0, h1, h2, h3, h4, h5, h6, h7, h8, h9, h10, h11, h12, h13, h14, h15, h16⟩ :=
      h_chain c arg7 harg7 arg8 harg8 arg9 harg9 arg13 x4 x5 x6
    intro p hp x
    unfold kernelRun0_B.sl.HS4_16 at hp
    simp only [List.mem_cons, List.not_mem_nil, or_false] at hp
    rcases hp with rfl | rfl | rfl | rfl | rfl | rfl | rfl | rfl | rfl | rfl | rfl | rfl | rfl | rfl | rfl | rfl
    all_goals (refine piece_ki (at256 x1) (bN (lgN x4 x5 x6)) _ _ _ ?_ ?_ (by decide) x <;> [exact rd64 _ _ _ hb _ _; exact ld64 arg4 harg4 x1 _ _ (by decide)])
  · exact View.cover_of_tiled _ ![64, 256] (by rfl) y

/-- The keys times the decay to their group's end. -/
theorem canon_ke : View.canon (kernelRun0_B.sl.HS5_16 (F := Ideal) c arg4 harg4 arg7 harg7 arg8 harg8 arg9 harg9 arg13 x1 x4 x5 x6) =
      G2 (keN (at256 x1) (bN (lgN x4 x5 x6))) := by
  funext y
  refine View.canon_apply_of_pieces (Val := Elt Ideal) (e := .bf16) (G2 (keN (at256 x1) (bN (lgN x4 x5 x6)))) _ ?_ y ?_
  · have hb := canon_b c arg7 harg7 arg8 harg8 arg9 harg9 x4 x5 x6
    obtain ⟨h0, h1, h2, h3, h4, h5, h6, h7, h8, h9, h10, h11, h12, h13, h14, h15, h16⟩ :=
      h_chain c arg7 harg7 arg8 harg8 arg9 harg9 arg13 x4 x5 x6
    intro p hp x
    unfold kernelRun0_B.sl.HS5_16 at hp
    simp only [List.mem_cons, List.not_mem_nil, or_false] at hp
    rcases hp with rfl | rfl | rfl | rfl | rfl | rfl | rfl | rfl | rfl | rfl | rfl | rfl | rfl | rfl | rfl | rfl
    all_goals (refine piece_ke (at256 x1) (bN (lgN x4 x5 x6)) _ (by decide) _ _ _ ?_ ?_ ?_ (by decide) x <;> [exact rd64 _ _ _ hb _ _; exact ld64 arg4 harg4 x1 _ _ (by decide); exact bc1 _ _ (rd1 _ _ _ hb _ _)])
  · exact View.cover_of_tiled _ ![64, 256] (by rfl) y

/-- The keys times the decay to the end of their pair of groups. -/
theorem canon_kp : View.canon (kernelRun0_B.sl.HS6_16 (F := Ideal) c arg4 harg4 arg7 harg7 arg8 harg8 arg9 harg9 arg13 x1 x4 x5 x6) =
      G2 (kpN (at256 x1) (bN (lgN x4 x5 x6))) := by
  funext y
  refine View.canon_apply_of_pieces (Val := Elt Ideal) (e := .bf16) (G2 (kpN (at256 x1) (bN (lgN x4 x5 x6)))) _ ?_ y ?_
  · have hb := canon_b c arg7 harg7 arg8 harg8 arg9 harg9 x4 x5 x6
    obtain ⟨h0, h1, h2, h3, h4, h5, h6, h7, h8, h9, h10, h11, h12, h13, h14, h15, h16⟩ :=
      h_chain c arg7 harg7 arg8 harg8 arg9 harg9 arg13 x4 x5 x6
    intro p hp x
    unfold kernelRun0_B.sl.HS6_16 at hp
    simp only [List.mem_cons, List.not_mem_nil, or_false] at hp
    rcases hp with rfl | rfl | rfl | rfl | rfl | rfl | rfl | rfl | rfl | rfl | rfl | rfl | rfl | rfl | rfl | rfl
    iterate 8
      · refine piece_kp_odd (at256 x1) (bN (lgN x4 x5 x6)) _ (by decide) _ _ _ ?_ ?_ ?_ (by decide) (by decide) x <;> [exact rd64 _ _ _ hb _ _; exact ld64 arg4 harg4 x1 _ _ (by decide); exact bc1 _ _ (rd1 _ _ _ hb _ _)]
      · refine piece_kp_even (at256 x1) (bN (lgN x4 x5 x6)) _ (by decide) _ _ _ _ ?_ ?_ ?_ ?_ (by decide) (by decide) x <;> [exact rd64 _ _ _ hb _ _; exact ld64 arg4 harg4 x1 _ _ (by decide); exact bc1 _ _ (rd1 _ _ _ hb _ _); exact rd1 _ _ _ hb _ _]
  · exact View.cover_of_tiled _ ![64, 256] (by rfl) y

/-- The keys times the decay to the block's end. -/
theorem canon_kh : View.canon (kernelRun0_B.sl.HS7_16 (F := Ideal) c arg4 harg4 arg7 harg7 arg8 harg8 arg9 harg9 arg13 x1 x4 x5 x6) =
      G2 (khN (at256 x1) (bN (lgN x4 x5 x6))) := by
  funext y
  refine View.canon_apply_of_pieces (Val := Elt Ideal) (e := .bf16) (G2 (khN (at256 x1) (bN (lgN x4 x5 x6)))) _ ?_ y ?_
  · have hb := canon_b c arg7 harg7 arg8 harg8 arg9 harg9 x4 x5 x6
    obtain ⟨h0, h1, h2, h3, h4, h5, h6, h7, h8, h9, h10, h11, h12, h13, h14, h15, h16⟩ :=
      h_chain c arg7 harg7 arg8 harg8 arg9 harg9 arg13 x4 x5 x6
    intro p hp x
    unfold kernelRun0_B.sl.HS7_16 at hp
    simp only [List.mem_cons, List.not_mem_nil, or_false] at hp
    rcases hp with rfl | rfl | rfl | rfl | rfl | rfl | rfl | rfl | rfl | rfl | rfl | rfl | rfl | rfl | rfl | rfl
    all_goals (refine piece_kh (at256 x1) (bN (lgN x4 x5 x6)) _ (by decide) _ _ _ _ _ ?_ ?_ ?_ ?_ ?_ (by decide) x <;> [exact rd64 _ _ _ hb _ _; exact ld64 arg4 harg4 x1 _ _ (by decide); skip; exact h16; exact bc1 _ _ (rd1 _ _ _ hb _ _)])
    exacts [h16, h15, h14, h13, h12, h11, h10, h9, h8, h7, h6, h5, h4, h3, h2, h1]
  · exact View.cover_of_tiled _ ![64, 256] (by rfl) y

end Canon

end Cert.KernelIdeal.Body
-- ==== Proof.Body6.lean ====
module

public import proofs.«01_k».proof.Proof.Body5

@[expose] public section

set_option maxRecDepth 16384

noncomputable section

open Idealize.ShloMosaic Idealize.ShloMosaic.TcCoe Idealize.SL.Sem

namespace Cert.KernelIdeal.Body

open Cert.KernelIdeal Cert.KernelIdeal.Gen

/-- A function of two natural numbers, as an array of 1024 rows of 1024. -/
def G3 (g : ℕ → ℕ → EReal) : S1024x1024.Idx → EReal := fun y => g (y 0).val (y 1).val

/-- A query scaled for the groups after group `n`, at a row of such a group. -/
def qlN (Q B : ℕ → ℕ → EReal) (n t d : ℕ) : EReal := qdN Q B t d * Ideal.exp (hN B (t / 64) d - hN B n d)

/-- The score of key row `s` at query row `t`, as the score array holds it. -/
def aN (Q K B : ℕ → ℕ → EReal) (t s : ℕ) : EReal :=
  if t / 128 = s / 128 then
    if s ≤ t ∧ s / 64 = t / 64 then ∑ d : Fin 256, qdN Q B t d * kiN K B s d
    else if 64 ≤ t % 128 ∧ s % 128 < 64 then ∑ d : Fin 256, qdN Q B t d * keN K B s d
    else 0
  else if s / 128 < t / 128 then ∑ d : Fin 256, qlN Q B (2 * (s / 128) + 2) t d * kpN K B s d
  else 0

/-! ## Rows stacked in groups of 64 -/

/-- The pieces of a list are the groups of 64 rows of `g` from row `o` on. -/
def Rows (g : ℕ → ℕ → EReal) : ℕ → List ((s : Shape) × (s.Idx → EReal)) → Prop
  | _, [] => True
  | o, p :: xs => (∃ x : S64x256.Idx → EReal, p = ⟨S64x256, x⟩ ∧ ∀ (r : Fin 64) (d : Fin 256), x (ix2 r d) = g (o + r) d) ∧
      Rows g (o + 64) xs

/-- The group of 64 rows of `g` from row `o` on. -/
def rowsW (g : ℕ → ℕ → EReal) (o : ℕ) : S64x256.Idx → EReal := fun y => g (o + (y 0).val) (y 1).val

theorem rows_eq (g : ℕ → ℕ → EReal) : ∀ (xs : List ((s : Shape) × (s.Idx → EReal))) (o : ℕ), Rows g o xs →
    xs = List.ofFn fun k : Fin xs.length => (⟨S64x256, rowsW g (o + 64 * k.val)⟩ : (s : Shape) × (s.Idx → EReal))
  | [], _, _ => rfl
  | p :: xs, o, ⟨⟨x, hp, hx⟩, h⟩ => by
    have e := rows_eq g xs (o + 64) h
    simp only [List.length_cons, List.ofFn_succ]
    congr 1
    · rw [hp]
      congr 1
      funext y
      idx_vars y
      rw [hx]
      rfl
    · refine e.trans ?_
      congr 1
      funext k
      have : o + 64 + 64 * k.val = o + 64 * (k.succ : Fin _).val := by simp only [Fin.val_succ]; omega
      rw [this]

/-- Stacked groups of 64 rows, read at a row. -/
theorem conc_rows {N : ℕ} (g : ℕ → ℕ → EReal) (o : ℕ) (xs : List ((s : Shape) × (s.Idx → EReal)))
    (h : Shape.Concatenates (xs.map (·.1)) (⟨2, ![N, 256]⟩ : Shape) 0) (hx : Rows g o xs) (hN : N = 64 * xs.length)
    (a : Fin N) (d : Fin 256) :
    concatenate (⟨2, ![N, 256]⟩ : Shape) 0 xs h (ix2 a d) = g (o + a) d := by
  have e := rows_eq g xs o hx
  have ha : a.val / 64 < xs.length := by omega
  have h' : Shape.Concatenates ((List.ofFn fun k : Fin xs.length =>
      (⟨S64x256, rowsW g (o + 64 * k.val)⟩ : (s : Shape) × (s.Idx → EReal))).map (·.1)) (⟨2, ![N, 256]⟩ : Shape) 0 := by
    rw [← e]; exact h
  have key := concatenate_ofFn_apply (t := (⟨2, ![N, 256]⟩ : Shape)) (s₁ := S64x256) 0
    (fun k : Fin xs.length => rowsW g (o + 64 * k.val)) h' rfl 64 rfl (ix2 a d) ⟨a.val / 64, ha⟩ rfl
    (ix2 ⟨a.val % 64, Nat.mod_lt _ (by decide)⟩ d) rfl (by
      intro b hb
      fin_cases b
      · exact absurd rfl hb
      · rfl)
  have e2 : concatenate (⟨2, ![N, 256]⟩ : Shape) 0 xs h (ix2 a d) =
      concatenate (⟨2, ![N, 256]⟩ : Shape) 0 (List.ofFn fun k : Fin xs.length =>
      (⟨S64x256, rowsW g (o + 64 * k.val)⟩ : (s : Shape) × (s.Idx → EReal))) h' (ix2 a d) := by
    congr 1
  rw [e2, key]
  show g (o + 64 * (a.val / 64) + a.val % 64) d.val = g (o + a.val) d.val
  congr 1
  omega

/-- One group of the scaled queries. -/
theorem low_row (Q B : ℕ → ℕ → EReal) (n o : ℕ) (ho : o % 64 = 0) (q : Vec Ideal S64x256 .f32) (h h0 : Vec Ideal S1x256 .f32)
    (hq : ∀ (r : Fin 64) (d : Fin 256), q (ix2 r d) = qdN Q B (o + r) d)
    (hh : ∀ d : Fin 256, h (ix2 0 d) = hN B (o / 64) d) (hh0 : ∀ d : Fin 256, h0 (ix2 0 d) = hN B n d)
    (r : Fin 64) (d : Fin 256) :
    (truncf (F := Ideal) (φ := .f32) .bf16 (mulf q (broadcastTo S64x256 (exp (subf h h0)) broadcasts_S1x256_S64x256)) bitsLt_bf16_f32
      : FVec Ideal S64x256 .bf16) (ix2 r d) = qlN Q B n (o + r) d := by
  pointwise
  have e : (o + r.val) / 64 = o / 64 := by omega
  simp only [hq, hh, hh0, qlN, e]

/-! ## The masks of a diagonal block -/

theorem fdW_ofNat128 (a : Fin 128) : fdW (BitVec.ofNat 32 a) 1#32 = BitVec.ofNat 32 (a.val / 64) :=
  fdW_ofNat ⟨a.val, by omega⟩

/-- The mask of the keys of a query's own chunk that the query may see. -/
def m1W (a b : ℕ) : BitVec 1 := if b ≤ a ∧ b / 64 = a / 64 then 1#1 else 0#1

/-- The mask of the first chunk's keys for the second chunk's queries. -/
def m2W (a b : ℕ) : BitVec 1 := if 64 ≤ a ∧ b < 64 then 1#1 else 0#1

theorem mask1 (i j s z o : IVec S128x128 32) (hi : i = iota .tc S128x128 32 [0] iota_S128x128_d0_w32)
    (hj : j = iota .tc S128x128 32 [1] iota_S128x128_d1_w32) (hs : s = broadcast S128x128 64#32)
    (hz : z = broadcast S128x128 0#32) (ho : o = broadcast S128x128 1#32) (a b : Fin 128) :
    k0_pay205 (cmpi .sge i j)
      (select (andi (cmpi .ne (subi (extui 32 (cmpi .sgt i z) natLt_1_32) (extui 32 (cmpi .slt i z) natLt_1_32)) o)
        (cmpi .ne (remsi i s) z)) (subi (divsi i s) o) (divsi i s))
      (divsi j s)
      (cmpi .ne (subi (extui 32 (cmpi .sgt j z) natLt_1_32) (extui 32 (cmpi .slt j z) natLt_1_32)) o)
      (remsi j s) z (ix2 a b) = m1W a b := by
  subst hi hj hs hz ho
  unfold k0_pay205
  pointwise
  exact maskW ⟨a.val, by omega⟩ ⟨b.val, by omega⟩

theorem mask2 (i j : IVec S128x128 32) (hi : i = iota .tc S128x128 32 [0] iota_S128x128_d0_w32)
    (hj : j = iota .tc S128x128 32 [1] iota_S128x128_d1_w32) (a b : Fin 128) :
    k0_pay206 i j (ix2 a b) = m2W a b := by
  subst hi hj
  unfold k0_pay206
  pointwise
  have e1 := sge_ofNat ⟨a.val, by omega⟩ 64
  have e2 := slt_ofNat ⟨b.val, by omega⟩ 64
  refine (congrArg₂ IntOp.andi e1 e2).trans ?_
  show IntOp.andi (if 64 ≤ a.val then 1#1 else 0#1) (if b.val < 64 then 1#1 else 0#1) = m2W a b
  unfold m2W
  by_cases h1 : 64 ≤ a.val <;> by_cases h2 : b.val < 64 <;> simp [h1, h2, IntOp.andi]

/-- The scores of a block of 128 queries against its own keys and against its first chunk's ending keys. -/
def sW (q : Vec Ideal S128x256 .f32) (k : Vec Ideal S128x256 .bf16) (e : Vec Ideal S64x256 .bf16) : FVec Ideal S128x256 .f32 :=
  have kk : FVec Ideal S256x256 .bf16 :=
    concatenate S256x256 0 [⟨S128x256, k⟩, ⟨S64x256, e⟩, ⟨S64x256, e⟩] concatenates_S128x256_S64x256_S64x256_S256x256_d0
  matmul dot_S128x256_S256x256_S128x256_1_1_0_0_n_n none (truncf .bf16 q bitsLt_bf16_f32) kk (constant S128x256 .f32 0x00000000#32)

theorem sW_left (q : Vec Ideal S128x256 .f32) (k : Vec Ideal S128x256 .bf16) (e : Vec Ideal S64x256 .bf16) (a b : Fin 128) :
    sW q k e (ix2 a ⟨b.val, by omega⟩) = ∑ d : Fin 256, q (ix2 a d) * k (ix2 b d) := by
  unfold sW
  pointwise

theorem sW_right (q : Vec Ideal S128x256 .f32) (k : Vec Ideal S128x256 .bf16) (e : Vec Ideal S64x256 .bf16) (a b : Fin 128)
    (h : b.val < 64) :
    sW q k e (ix2 a ⟨128 + b.val, by omega⟩) = ∑ d : Fin 256, q (ix2 a d) * e (ix2 ⟨b.val, h⟩ d) := by
  unfold sW
  pointwise
  refine Finset.sum_congr rfl fun d _ => ?_
  rw [dif_pos h]

/-- A block of 128 queries against its own 128 keys. -/
theorem piece_diag (Q K B : ℕ → ℕ → EReal) (o : ℕ) (ho : o % 128 = 0) (q : Vec Ideal S128x256 .f32) (k : Vec Ideal S128x256 .bf16)
    (e : Vec Ideal S64x256 .bf16) (m1 m2 : IVec S128x128 1) (hm1 : ∀ a b : Fin 128, m1 (ix2 a b) = m1W a b)
    (hm2 : ∀ a b : Fin 128, m2 (ix2 a b) = m2W a b)
    (hq : ∀ (r : Fin 128) (d : Fin 256), q (ix2 r d) = qdN Q B (o + r) d)
    (hk : ∀ (r : Fin 128) (d : Fin 256), k (ix2 r d) = kiN K B (o + r) d)
    (he : ∀ (r : Fin 64) (d : Fin 256), e (ix2 r d) = keN K B (o + r) d)
    (inb) (x : S128x128.Idx) :
    k0_pay209 m1 m2 (sW q k e) x =
      G3 (aN Q K B) ((Rect.unit (s := S1024x1024) ![o, o] (Shape.size S128x128) inb).emb x) := by
  idx_vars x
  unfold k0_pay209
  pointwise
  show Scalar.select (m1 (ix2 x0 x1)) (sW q k e (ix2 x0 ⟨x1.val, by omega⟩))
    (Scalar.select (m2 (ix2 x0 x1)) (sW q k e (ix2 x0 ⟨128 + x1.val, by omega⟩)) 0) = aN Q K B (o + 1 * x0.val) (o + 1 * x1.val)
  rw [one_mul, one_mul, hm1, hm2, sW_left]
  unfold aN
  rw [if_pos (by omega)]
  simp only [hq, hk]
  have c1 : (o + x1.val ≤ o + x0.val ∧ (o + x1.val) / 64 = (o + x0.val) / 64) ↔ (x1.val ≤ x0.val ∧ x1.val / 64 = x0.val / 64) := by
    omega
  have c2 : (64 ≤ (o + x0.val) % 128 ∧ (o + x1.val) % 128 < 64) ↔ (64 ≤ x0.val ∧ x1.val < 64) := by omega
  simp only [c1, c2]
  unfold m1W m2W
  by_cases h1 : x1.val ≤ x0.val ∧ x1.val / 64 = x0.val / 64
  · simp only [if_pos h1]
    rfl
  · simp only [if_neg h1]
    by_cases h2 : 64 ≤ x0.val ∧ x1.val < 64
    · simp only [if_pos h2]
      rw [sW_right _ _ _ _ _ h2.2]
      simp only [hq, he]
      rfl
    · simp only [if_neg h2]
      rfl

/-- The queries after a block of 128 against that block's keys. -/
theorem piece_col {N : ℕ} (Q K B : ℕ → ℕ → EReal) (p o o' : ℕ) (ho : o = 128 * p + 128) (ho' : o' = 128 * p)
    (X : FVec Ideal (⟨2, ![N, 256]⟩ : Shape) .bf16) (Y : FVec Ideal S128x256 .bf16)
    (D : DotDims (⟨2, ![N, 256]⟩ : Shape) S128x256 (⟨2, ![N, 128]⟩ : Shape))
    (hM : ∀ (X : FVec Ideal (⟨2, ![N, 256]⟩ : Shape) .bf16) (Y : FVec Ideal S128x256 .bf16) (a : Fin N) (b : Fin 128),
      matmul (F := Ideal) D none X Y (constant (⟨2, ![N, 128]⟩ : Shape) .f32 0x00000000#32) (ix2 a b) =
        ∑ d : Fin 256, X (ix2 a d) * Y (ix2 b d))
    (hX : ∀ (a : Fin N) (d : Fin 256), X (ix2 a d) = qlN Q B (2 * p + 2) (o + a) d)
    (hY : ∀ (r : Fin 128) (d : Fin 256), Y (ix2 r d) = kpN K B (o' + r) d) (inb) (hs)
    (x : (⟨2, ![N, 128]⟩ : Shape).Idx) :
    shapeCast (⟨2, ![N, 128]⟩ : Shape) (truncf .bf16 (matmul (F := Ideal) D none X Y
        (constant (⟨2, ![N, 128]⟩ : Shape) .f32 0x00000000#32)) bitsLt_bf16_f32 : FVec Ideal (⟨2, ![N, 128]⟩ : Shape) .bf16) hs x =
      G3 (aN Q K B) ((Rect.unit (s := S1024x1024) ![o, o'] ![N, 128] inb).emb x) := by
  rw [shapeCast_self, eq_ix2 x]
  obtain ⟨a, ha⟩ : ∃ a : Fin N, a = x 0 := ⟨_, rfl⟩
  obtain ⟨b, hb⟩ : ∃ b : Fin 128, b = x 1 := ⟨_, rfl⟩
  rw [← ha, ← hb]
  change matmul (F := Ideal) D none X Y (constant (⟨2, ![N, 128]⟩ : Shape) .f32 0x00000000#32) (ix2 a b) = aN Q K B (o + 1 * a.val) (o' + 1 * b.val)
  rw [one_mul, one_mul, hM]
  simp only [hX, hY]
  unfold aN
  have e : (o' + b.val) / 128 = p := by omega
  have h1 : ¬ (o + a.val) / 128 = (o' + b.val) / 128 := by omega
  have h2 : (o' + b.val) / 128 < (o + a.val) / 128 := by omega
  rw [if_neg h1, if_pos h2, e]

/-- A block of keys after a block of 128 queries. -/
theorem piece_zero (Q K B : ℕ → ℕ → EReal) (o o' : ℕ) (ho : o % 128 = 0) (ho' : o' = o + 128) (z : EReal) (hz : z = 0)
    (inb) (hs) (x : S128x128.Idx) :
    shapeCast S128x128 (broadcast S128x128 z) hs x =
      G3 (aN Q K B) ((Rect.unit (s := S1024x1024) ![o, o'] (Shape.size S128x128) inb).emb x) := by
  rw [shapeCast_self, eq_ix2 x]
  obtain ⟨a, ha⟩ : ∃ a : Fin 128, a = x 0 := ⟨_, rfl⟩
  obtain ⟨b, hb⟩ : ∃ b : Fin 128, b = x 1 := ⟨_, rfl⟩
  rw [← ha, ← hb]
  change z = aN Q K B (o + 1 * a.val) (o' + 1 * b.val)
  unfold aN
  have h1 : ¬ (o + a.val) / 128 = (o' + b.val) / 128 := by omega
  have h2 : ¬ (o' + b.val) / 128 < (o + a.val) / 128 := by omega
  rw [one_mul, one_mul, if_neg h1, if_neg h2, hz]

theorem rd128 {e : EltTy} (v : View sig .tc .vmem S1024x256 e)
    (L : List (View.Piece (Elt Ideal) S1024x256 e)) (G : S1024x256.Idx → Elt Ideal e)
    (hL : View.canon L = G) (o : ℕ) (inb) (r : Fin 128) (d : Fin 256) (h : o + 128 ≤ 1024) :
    View.readCov v L (Rect.toLoadRect (Rect.unit ![o, 0] (Shape.size S128x256) inb)) (ix2 r d) =
      G (ix2 ⟨o + r, by omega⟩ d) := by
  rw [View.readCov_eq_canon', hL]
  refine congrArg G ?_
  funext a; apply Fin.ext; fin_cases a
  · show o + 1 * r.val = o + r.val; omega
  · show 0 + 1 * d.val = d.val; omega

theorem rdb64 (v : View sig .tc .vmem S1024x256 .bf16)
    (L : List (View.Piece (Elt Ideal) S1024x256 .bf16)) (g : ℕ → ℕ → EReal)
    (hL : View.canon L = G2 g) (o : ℕ) (inb) (r : Fin 64) (d : Fin 256) :
    View.readCov v L (Rect.toLoadRect (Rect.unit ![o, 0] (Shape.size S64x256) inb)) (ix2 r d) = g (o + r) d := by
  rw [View.readCov_eq_canon', hL]
  unfold G2
  show g (o + 1 * r.val) (0 + 1 * d.val) = g (o + r) d
  congr 1 <;> omega

/-- One more group on top of a stack of scaled queries. -/
theorem row_cons {Q B : ℕ → ℕ → EReal} {n o : ℕ} {v : View sig .tc .vmem S1024x256 .f32}
    {L : List (View.Piece (Elt Ideal) S1024x256 .f32)} (hL : View.canon L = G2 (qdN Q B)) (ho : o % 64 = 0) {inb}
    {h h0 : Vec Ideal S1x256 .f32} (hh : ∀ d : Fin 256, h (ix2 0 d) = hN B (o / 64) d) (hh0 : ∀ d : Fin 256, h0 (ix2 0 d) = hN B n d)
    {xs : List ((s : Shape) × (s.Idx → EReal))} (hx : Rows (qlN Q B n) (o + 64) xs) :
    Rows (qlN Q B n) o (⟨S64x256, (truncf (F := Ideal) (φ := .f32) .bf16
      (mulf (View.readCov v L (Rect.toLoadRect (Rect.unit ![o, 0] (Shape.size S64x256) inb)))
        (broadcastTo S64x256 (exp (subf h h0)) broadcasts_S1x256_S64x256)) bitsLt_bf16_f32 : FVec Ideal S64x256 .bf16)⟩ :: xs) :=
  ⟨⟨_, rfl, low_row Q B n o ho _ _ _ (rd64 _ _ _ hL _ _) hh hh0⟩, hx⟩

end Cert.KernelIdeal.Body
-- ==== Proof.Body7.lean ====
module

public import proofs.«01_k».proof.Proof.Body6

@[expose] public section

set_option maxRecDepth 16384

noncomputable section

open Idealize.ShloMosaic Idealize.ShloMosaic.TcCoe Idealize.SL.Sem

namespace Cert.KernelIdeal.Body

open Cert.KernelIdeal Cert.KernelIdeal.Gen

theorem mem_rect (y : S1024x1024.Idx) (o o' n n' : ℕ) (inb) (h0 : o ≤ (y 0).val ∧ (y 0).val < o + n)
    (h1 : o' ≤ (y 1).val ∧ (y 1).val < o' + n') : y ∈ (Rect.unit (s := S1024x1024) ![o, o'] ![n, n'] inb).set := by
  rw [Rect.mem_set_unit]
  intro a
  fin_cases a
  · exact h0
  · exact h1

section Canon
variable (c : Dev nD) (arg3 : Memref sig .tc .vmem S1x1024x256 .bf16) (harg3 : arg3.IsWhole)
  (arg4 : Memref sig .tc .vmem S1x1024x256 .bf16) (harg4 : arg4.IsWhole)
  (arg7 : Memref sig .tc .vmem S1x1024x128 .f32) (harg7 : arg7.IsWhole)
  (arg8 : Memref sig .tc .vmem S128x256 .bf16) (harg8 : arg8.IsWhole)
  (arg9 : Memref sig .tc .vmem S1x256 .f32) (harg9 : arg9.IsWhole)
  (arg13 : Memref sig .tc .vmem S1024x256 .f32) (arg14 : Memref sig .tc .vmem S1024x256 .f32)
  (arg16 : Memref sig .tc .vmem S1024x256 .bf16) (arg17 : Memref sig .tc .vmem S1024x256 .bf16)
  (arg18 : Memref sig .tc .vmem S1024x256 .bf16)
  (x0 x1 : Vec Ideal S1x1024x256 .bf16)
  (x4 : Vec Ideal S1x1024x128 .f32) (x5 : Vec Ideal S128x256 .bf16) (x6 : Vec Ideal S1x256 .f32)

/-- The score array on and below its diagonal blocks of 256. -/
theorem canon_a (y : S1024x1024.Idx) (hy : (y 1).val < 256 * ((y 0).val / 256 + 1)) :
    View.canon (kernelRun0_B.sl.HS8_19 (F := Ideal) c arg3 harg3 arg4 harg4 arg7 harg7 arg8 harg8 arg9 harg9 arg13 arg14 arg16 arg17
      arg18 x0 x1 x4 x5 x6) y = G3 (aN (at256 x0) (at256 x1) (bN (lgN x4 x5 x6))) y := by
  refine View.canon_apply_of_pieces (Val := Elt Ideal) (e := .bf16) (G3 (aN (at256 x0) (at256 x1) (bN (lgN x4 x5 x6)))) _ ?_ y ?_
  · have hqd := canon_qd c arg3 harg3 arg7 harg7 arg8 harg8 arg9 harg9 arg13 x0 x4 x5 x6
    have hki := canon_ki c arg4 harg4 arg7 harg7 arg8 harg8 arg9 harg9 arg13 x1 x4 x5 x6
    have hke := canon_ke c arg4 harg4 arg7 harg7 arg8 harg8 arg9 harg9 arg13 x1 x4 x5 x6
    have hkp := canon_kp c arg4 harg4 arg7 harg7 arg8 harg8 arg9 harg9 arg13 x1 x4 x5 x6
    obtain ⟨h0, h1, h2, h3, h4, h5, h6, h7, h8, h9, h10, h11, h12, h13, h14, h15, h16⟩ :=
      h_chain c arg7 harg7 arg8 harg8 arg9 harg9 arg13 x4 x5 x6
    have hm1 : ∀ a b : Fin 128, kernelRun0_B.sl.r_66 (ix2 a b) = m1W a b := mask1 _ _ _ _ _ rfl rfl rfl rfl rfl
    have hm2 : ∀ a b : Fin 128, k0_pay206 kernelRun0_B.sl.v1048 kernelRun0_B.sl.v1049 (ix2 a b) = m2W a b := mask2 _ _ rfl rfl
    intro p hp x
    unfold kernelRun0_B.sl.HS8_19 at hp
    simp only [List.mem_cons, List.not_mem_nil, or_false] at hp
    rcases hp with rfl | rfl | rfl | rfl | rfl | rfl | rfl | rfl | rfl | rfl | rfl | rfl | rfl | rfl | rfl | rfl | rfl | rfl | rfl
    iterate 4 exact piece_zero _ _ _ _ _ (by decide) (by decide) _ Ideal.ofBits_zero_bf16 (by decide) shapeCasts_S128x128_S128x128 x
    rotate_left 7
    iterate 8
      (refine piece_diag _ _ _ _ (by decide) _ _ _ _ _ hm1 hm2 ?_ ?_ ?_ (by decide) x <;> [exact fun r d => rd128 _ _ _ hqd _ _ r d (by decide); exact fun r d => rd128 _ _ _ hki _ _ r d (by decide); exact rdb64 _ _ _ hke _ _])
    · refine piece_col _ _ _ 6 _ _ (by decide) (by decide) _ _ dot_S128x256_S128x256_S128x128_1_1_0_0_n_n
        (fun X Y a b => by pointwise) ?_ (fun r d => rd128 _ _ _ hkp _ _ r d (by decide)) (by decide)
        shapeCasts_S128x128_S128x128 x
      refine conc_rows _ _ _ _ ?_ rfl
      exact row_cons hqd (by decide) h14 h14 (row_cons hqd (by decide) h15 h14 trivial)
    · refine piece_col _ _ _ 5 _ _ (by decide) (by decide) _ _ dot_S256x256_S128x256_S256x128_1_1_0_0_n_n
        (fun X Y a b => by pointwise) ?_ (fun r d => rd128 _ _ _ hkp _ _ r d (by decide)) (by decide)
        shapeCasts_S256x128_S256x128 x
      refine conc_rows _ _ _ _ ?_ rfl
      exact row_cons hqd (by decide) h12 h12 (row_cons hqd (by decide) h13 h12 (row_cons hqd (by decide) h14 h12 (row_cons hqd (by decide) h15 h12 trivial)))
    · refine piece_col _ _ _ 4 _ _ (by decide) (by decide) _ _ dot_S384x256_S128x256_S384x128_1_1_0_0_n_n
        (fun X Y a b => by pointwise) ?_ (fun r d => rd128 _ _ _ hkp _ _ r d (by decide)) (by decide)
        shapeCasts_S384x128_S384x128 x
      refine conc_rows _ _ _ _ ?_ rfl
      exact row_cons hqd (by decide) h10 h10 (row_cons hqd (by decide) h11 h10 (row_cons hqd (by decide) h12 h10 (row_cons hqd (by decide) h13 h10 (row_cons hqd (by decide) h14 h10 (row_cons hqd (by decide) h15 h10 trivial)))))
    · refine piece_col _ _ _ 3 _ _ (by decide) (by decide) _ _ dot_S512x256_S128x256_S512x128_1_1_0_0_n_n
        (fun X Y a b => by pointwise) ?_ (fun r d => rd128 _ _ _ hkp _ _ r d (by decide)) (by decide)
        shapeCasts_S512x128_S512x128 x
      refine conc_rows _ _ _ _ ?_ rfl
      exact row_cons hqd (by decide) h8 h8 (row_cons hqd (by decide) h9 h8 (row_cons hqd (by decide) h10 h8 (row_cons hqd (by decide) h11 h8 (row_cons hqd (by decide) h12 h8 (row_cons hqd (by decide) h13 h8 (row_cons hqd (by decide) h14 h8 (row_cons hqd (by decide) h15 h8 trivial)))))))
    · refine piece_col _ _ _ 2 _ _ (by decide) (by decide) _ _ dot_S640x256_S128x256_S640x128_1_1_0_0_n_n
        (fun X Y a b => by pointwise) ?_ (fun r d => rd128 _ _ _ hkp _ _ r d (by decide)) (by decide)
        shapeCasts_S640x128_S640x128 x
      refine conc_rows _ _ _ _ ?_ rfl
      exact row_cons hqd (by decide) h6 h6 (row_cons hqd (by decide) h7 h6 (row_cons hqd (by decide) h8 h6 (row_cons hqd (by decide) h9 h6 (row_cons hqd (by decide) h10 h6 (row_cons hqd (by decide) h11 h6 (row_cons hqd (by decide) h12 h6 (row_cons hqd (by decide) h13 h6 (row_cons hqd (by decide) h14 h6 (row_cons hqd (by decide) h15 h6 trivial)))))))))
    · refine piece_col _ _ _ 1 _ _ (by decide) (by decide) _ _ dot_S768x256_S128x256_S768x128_1_1_0_0_n_n
        (fun X Y a b => by pointwise) ?_ (fun r d => rd128 _ _ _ hkp _ _ r d (by decide)) (by decide)
        shapeCasts_S768x128_S768x128 x
      refine conc_rows _ _ _ _ ?_ rfl
      exact row_cons hqd (by decide) h4 h4 (row_cons hqd (by decide) h5 h4 (row_cons hqd (by decide) h6 h4 (row_cons hqd (by decide) h7 h4 (row_cons hqd (by decide) h8 h4 (row_cons hqd (by decide) h9 h4 (row_cons hqd (by decide) h10 h4 (row_cons hqd (by decide) h11 h4 (row_cons hqd (by decide) h12 h4 (row_cons hqd (by decide) h13 h4 (row_cons hqd (by decide) h14 h4 (row_cons hqd (by decide) h15 h4 trivial)))))))))))
    · refine piece_col _ _ _ 0 _ _ (by decide) (by decide) _ _ dot_S896x256_S128x256_S896x128_1_1_0_0_n_n
        (fun X Y a b => by pointwise) ?_ (fun r d => rd128 _ _ _ hkp _ _ r d (by decide)) (by decide)
        shapeCasts_S896x128_S896x128 x
      refine conc_rows _ _ _ (by exact concatenates_S64x256_S64x256_S64x256_S64x256_S64x256_S64x256_S64x256_S64x256_S64x256_S64x256_S64x256_S64x256_S64x256_S64x256_S896x256_d0) ?_ rfl
      exact row_cons hqd (by decide) h2 h2 (row_cons hqd (by decide) h3 h2 (row_cons hqd (by decide) h4 h2 (row_cons hqd (by decide) h5 h2 (row_cons hqd (by decide) h6 h2 (row_cons hqd (by decide) h7 h2 (row_cons hqd (by decide) h8 h2 (row_cons hqd (by decide) h9 h2 (row_cons hqd (by decide) h10 h2 (row_cons hqd (by decide) h11 h2 (row_cons hqd (by decide) h12 h2 (row_cons hqd (by decide) h13 h2 (row_cons hqd (by decide) h14 h2 (row_cons hqd (by decide) h15 h2 trivial)))))))))))))
  · have b0 : (y 0).val < 1024 := (y 0).isLt
    have b1 : (y 1).val < 1024 := (y 1).isLt
    obtain ⟨i, hi⟩ : ∃ i, i = (y 0).val / 128 := ⟨_, rfl⟩
    obtain ⟨j, hj⟩ : ∃ j, j = (y 1).val / 128 := ⟨_, rfl⟩
    rcases lt_trichotomy j i with h | h | h
    · have hj' : j < 7 := by omega
      interval_cases j
      · exact ⟨_, List.mem_of_getElem? (i := 10) rfl, mem_rect y _ _ _ _ (by decide) (by omega) (by omega)⟩
      · exact ⟨_, List.mem_of_getElem? (i := 9) rfl, mem_rect y _ _ _ _ (by decide) (by omega) (by omega)⟩
      · exact ⟨_, List.mem_of_getElem? (i := 8) rfl, mem_rect y _ _ _ _ (by decide) (by omega) (by omega)⟩
      · exact ⟨_, List.mem_of_getElem? (i := 7) rfl, mem_rect y _ _ _ _ (by decide) (by omega) (by omega)⟩
      · exact ⟨_, List.mem_of_getElem? (i := 6) rfl, mem_rect y _ _ _ _ (by decide) (by omega) (by omega)⟩
      · exact ⟨_, List.mem_of_getElem? (i := 5) rfl, mem_rect y _ _ _ _ (by decide) (by omega) (by omega)⟩
      · exact ⟨_, List.mem_of_getElem? (i := 4) rfl, mem_rect y _ _ _ _ (by decide) (by omega) (by omega)⟩
    · subst h
      have hj' : j < 8 := by omega
      interval_cases j
      · exact ⟨_, List.mem_of_getElem? (i := 18) rfl, mem_rect y _ _ _ _ (by decide) (by omega) (by omega)⟩
      · exact ⟨_, List.mem_of_getElem? (i := 17) rfl, mem_rect y _ _ _ _ (by decide) (by omega) (by omega)⟩
      · exact ⟨_, List.mem_of_getElem? (i := 16) rfl, mem_rect y _ _ _ _ (by decide) (by omega) (by omega)⟩
      · exact ⟨_, List.mem_of_getElem? (i := 15) rfl, mem_rect y _ _ _ _ (by decide) (by omega) (by omega)⟩
      · exact ⟨_, List.mem_of_getElem? (i := 14) rfl, mem_rect y _ _ _ _ (by decide) (by omega) (by omega)⟩
      · exact ⟨_, List.mem_of_getElem? (i := 13) rfl, mem_rect y _ _ _ _ (by decide) (by omega) (by omega)⟩
      · exact ⟨_, List.mem_of_getElem? (i := 12) rfl, mem_rect y _ _ _ _ (by decide) (by omega) (by omega)⟩
      · exact ⟨_, List.mem_of_getElem? (i := 11) rfl, mem_rect y _ _ _ _ (by decide) (by omega) (by omega)⟩
    · obtain ⟨k, hk⟩ : ∃ k, i = 2 * k := ⟨i / 2, by omega⟩
      have hk' : k < 4 := by omega
      interval_cases k
      · exact ⟨_, List.mem_of_getElem? (i := 3) rfl, mem_rect y _ _ _ _ (by decide) (by omega) (by omega)⟩
      · exact ⟨_, List.mem_of_getElem? (i := 2) rfl, mem_rect y _ _ _ _ (by decide) (by omega) (by omega)⟩
      · exact ⟨_, List.mem_of_getElem? (i := 1) rfl, mem_rect y _ _ _ _ (by decide) (by omega) (by omega)⟩
      · exact ⟨_, List.mem_of_getElem? (i := 0) rfl, mem_rect y _ _ _ _ (by decide) (by omega) (by omega)⟩

end Canon

end Cert.KernelIdeal.Body
-- ==== Proof.Body8.lean ====
module

public import proofs.«01_k».proof.Proof.Body7

@[expose] public section

set_option maxRecDepth 16384

noncomputable section

open Idealize.ShloMosaic Idealize.ShloMosaic.TcCoe Idealize.SL.Sem

namespace Cert.KernelIdeal.Body

open Cert.KernelIdeal Cert.KernelIdeal.Gen

/-! ## The outputs of one block -/

/-- A function of a row and a column, as a block of 1024 rows of 512. -/
def G8 (g : ℕ → ℕ → EReal) : S1x1024x512.Idx → EReal := fun y => g (y 1).val (y 2).val

/-- Row `d`, column `e` of a state, at natural numbers. -/
def atS (x : S256x512.Idx → EReal) (d e : ℕ) : EReal := x (ix2 (Fin.ofNat 256 d) (Fin.ofNat 512 e))

/-- Column `e` of a row of 512, at a natural number. -/
def atg (x : S1x1x512.Idx → EReal) (e : ℕ) : EReal := x (ix3 0 0 (Fin.ofNat 512 e))

/-- A block's attention at row `t`, column `e`: its own scores, and the state before it. -/
def oN (Q K V B S : ℕ → ℕ → EReal) (t e : ℕ) : EReal :=
  ∑ s ∈ Finset.range (256 * (t / 256 + 1)), aN Q K B t s * V s e + ∑ d ∈ Finset.range 256, qhN Q B t d * S d e

/-- The normalised and gated attention. -/
def outN (o r : ℕ → ℕ → EReal) (ng : ℕ → EReal) (t e : ℕ) : EReal :=
  o t e * Ideal.rsqrt (Ideal.div (∑ x ∈ Finset.range 512, o t x * o t x) (Ideal.ofBits FTy.f32 1140850688#32) +
    Ideal.ofBits FTy.f32 925353388#32) * ng e * (r t e * Ideal.div 1 (1 + Ideal.exp (0 - r t e)))

/-- The state after a block. -/
def stN (K V B S : ℕ → ℕ → EReal) (d e : ℕ) : EReal :=
  S d e * Ideal.exp (hN B 16 d) + ∑ s ∈ Finset.range 1024, khN K B s d * V s e

theorem fin_apply (o : FVec Ideal S256x512 .f32) (ng : Vec Ideal S1x1x512 .f32) (r : Vec Ideal S1x256x512 .bf16) (a : Fin 256) (e : Fin 512) :
    k0_pay265 o (mulf o o) ng r (ix3 0 a e) =
      o (ix2 a e) * Ideal.rsqrt (Ideal.div (∑ x, o (ix2 a x) * o (ix2 a x)) (Ideal.ofBits FTy.f32 1140850688#32) +
        Ideal.ofBits FTy.f32 925353388#32) * ng (ix3 0 0 e) *
        (r (ix3 0 a e) * Ideal.div 1 (1 + Ideal.exp (0 - r (ix3 0 a e)))) := by
  unfold k0_pay265
  pointwise

theorem mm2 (X : FVec Ideal S256x256 .bf16) (S : Vec Ideal S256x512 .f32) (a : Fin 256) (e : Fin 512) :
    matmul (F := Ideal) dot_S256x256_S256x512_S256x512_1_0_0_1_n_n none X (k0_pay262 S) (constant S256x512 .f32 0x00000000#32) (ix2 a e) =
      ∑ d : Fin 256, X (ix2 a d) * S (ix2 d e) := by
  unfold k0_pay262
  pointwise

/-- One store of 256 output rows. -/
theorem piece_out {N : ℕ} (Q K V B S R : ℕ → ℕ → EReal) (g : ℕ → EReal) (p : ℕ) (hp : p % 256 = 0) (hN : N = p + 256)
    (A : FVec Ideal (⟨2, ![256, N]⟩ : Shape) .bf16) (v : Vec Ideal (⟨3, ![1, N, 512]⟩ : Shape) .bf16) (qh : FVec Ideal S256x256 .bf16)
    (s : Vec Ideal S256x512 .f32) (ng : Vec Ideal S1x1x512 .f32) (r : Vec Ideal S1x256x512 .bf16)
    (D : DotDims (⟨2, ![256, N]⟩ : Shape) (⟨2, ![N, 512]⟩ : Shape) S256x512) (hs)
    (hM : ∀ (X : FVec Ideal (⟨2, ![256, N]⟩ : Shape) .bf16) (Y : Vec Ideal (⟨3, ![1, N, 512]⟩ : Shape) .bf16) (a : Fin 256) (e : Fin 512),
      matmul (F := Ideal) D none X (shapeCast (⟨2, ![N, 512]⟩ : Shape) Y hs : FVec Ideal (⟨2, ![N, 512]⟩ : Shape) .bf16)
        (constant S256x512 .f32 0x00000000#32) (ix2 a e) = ∑ d : Fin N, X (ix2 a d) * Y (ix3 0 d e))
    (hA : ∀ (a : Fin 256) (d : Fin N), A (ix2 a d) = aN Q K B (p + a) d)
    (hv : ∀ (d : Fin N) (e : Fin 512), v (ix3 0 d e) = V d e)
    (hq : ∀ (a d : Fin 256), qh (ix2 a d) = qhN Q B (p + a) d)
    (hS : ∀ (d : Fin 256) (e : Fin 512), s (ix2 d e) = S d e)
    (hg : ∀ e : Fin 512, ng (ix3 0 0 e) = g e)
    (hr : ∀ (a : Fin 256) (e : Fin 512), r (ix3 0 a e) = R (p + a) e) (inb) (x : S1x256x512.Idx) :
    k0_pay265
      (addf (matmul (F := Ideal) D none A (shapeCast (⟨2, ![N, 512]⟩ : Shape) v hs : FVec Ideal (⟨2, ![N, 512]⟩ : Shape) .bf16)
        (constant S256x512 .f32 0x00000000#32))
        (matmul (F := Ideal) dot_S256x256_S256x512_S256x512_1_0_0_1_n_n none qh (k0_pay262 s) (constant S256x512 .f32 0x00000000#32)))
      (mulf (addf (matmul (F := Ideal) D none A (shapeCast (⟨2, ![N, 512]⟩ : Shape) v hs : FVec Ideal (⟨2, ![N, 512]⟩ : Shape) .bf16)
        (constant S256x512 .f32 0x00000000#32))
        (matmul (F := Ideal) dot_S256x256_S256x512_S256x512_1_0_0_1_n_n none qh (k0_pay262 s) (constant S256x512 .f32 0x00000000#32)))
        (addf (matmul (F := Ideal) D none A (shapeCast (⟨2, ![N, 512]⟩ : Shape) v hs : FVec Ideal (⟨2, ![N, 512]⟩ : Shape) .bf16)
        (constant S256x512 .f32 0x00000000#32))
        (matmul (F := Ideal) dot_S256x256_S256x512_S256x512_1_0_0_1_n_n none qh (k0_pay262 s) (constant S256x512 .f32 0x00000000#32)))) ng r x =
      G8 (outN (oN Q K V B S) R g) ((Rect.unit (s := S1x1024x512) ![0, p, 0] (Shape.size S1x256x512) inb).emb x) := by
  idx_vars x
  obtain rfl : x0 = 0 := Subsingleton.elim _ _
  rw [fin_apply, hg, hr]
  have ho : ∀ e : Fin 512, addf (matmul (F := Ideal) D none A (shapeCast (⟨2, ![N, 512]⟩ : Shape) v hs : FVec Ideal (⟨2, ![N, 512]⟩ : Shape) .bf16)
        (constant S256x512 .f32 0x00000000#32))
        (matmul (F := Ideal) dot_S256x256_S256x512_S256x512_1_0_0_1_n_n none qh (k0_pay262 s) (constant S256x512 .f32 0x00000000#32)) (ix2 x1 e) =
      oN Q K V B S (p + x1) e := by
    intro e
    have e1 : 256 * ((p + x1.val) / 256 + 1) = N := by omega
    unfold oN
    rw [e1, Finset.sum_range, Finset.sum_range]
    refine (congrArg₂ (· + ·) (hM A v x1 e) (mm2 qh s x1 e)).trans ?_
    simp only [hA, hv, hq, hS]
  simp only [ho]
  show _ = outN (oN Q K V B S) R g (p + 1 * x1.val) (0 + 1 * x2.val)
  unfold outN
  rw [one_mul, one_mul, zero_add, Finset.sum_range]

/-- The store of the state. -/
theorem piece_st (K V B S : ℕ → ℕ → EReal) (h : Vec Ideal S1x256 .f32) (s : Vec Ideal S256x512 .f32) (k : Vec Ideal S1024x256 .bf16)
    (v : Vec Ideal S1x1024x512 .bf16) (hh : ∀ d : Fin 256, h (ix2 0 d) = hN B 16 d)
    (hS : ∀ (d : Fin 256) (e : Fin 512), s (ix2 d e) = S d e)
    (hk : ∀ (a : Fin 1024) (d : Fin 256), k (ix2 a d) = khN K B a d)
    (hv : ∀ (d : Fin 1024) (e : Fin 512), v (ix3 0 d e) = V d e) (d : Fin 256) (e : Fin 512) :
    k0_pay273 (k0_pay272 h s) k v (ix2 d e) = stN K V B S d e := by
  unfold k0_pay273 k0_pay272
  pointwise
  unfold stN
  rw [Finset.sum_range]
  simp only [hh, hS, hk, hv]

/-! ## Loads -/

theorem ldv {N : ℕ} (arg : Memref sig .tc .vmem S1x1024x512 .bf16) (h : arg.IsWhole) (x : Vec Ideal S1x1024x512 .bf16)
    (hN : N ≤ 1024) (inb) (r : Fin N) (k : Fin 512) :
    View.readAt (Elt Ideal) arg.view (Rect.toLoadRect (Rect.unit ![0, 0, 0] ![1, N, 512] inb)) (h.unread x) (ix3 0 r k)
      = at512 x r k := by
  simp only [View.readAt_eq_ld, h.read_unread, View.ld]
  unfold at512
  congr 1
  funext a; apply Fin.ext; fin_cases a
  · rfl
  · show 0 + 1 * r.val = r.val % 1024; omega
  · show 0 + 1 * k.val = k.val % 512; omega

theorem ldr (arg : Memref sig .tc .vmem S1x1024x512 .bf16) (h : arg.IsWhole) (x : Vec Ideal S1x1024x512 .bf16)
    (o : ℕ) (hs : o + 256 ≤ 1024) (inb) (r : Fin 256) (k : Fin 512) :
    View.readAt (Elt Ideal) arg.view (Rect.toLoadRect (Rect.unit ![0, o, 0] (Shape.size S1x256x512) inb)) (h.unread x) (ix3 0 r k)
      = at512 x (o + r) k := by
  simp only [View.readAt_eq_ld, h.read_unread, View.ld]
  unfold at512
  congr 1
  funext a; apply Fin.ext; fin_cases a
  · rfl
  · show o + 1 * r.val = (o + r.val) % 1024; omega
  · show 0 + 1 * k.val = k.val % 512; omega

theorem ldg (arg : Memref sig .tc .vmem S1x1x512 .f32) (h : arg.IsWhole) (x : Vec Ideal S1x1x512 .f32) (inb) (k : Fin 512) :
    View.readAt (Elt Ideal) arg.view (Rect.toLoadRect (Rect.unit ![0, 0, 0] (Shape.size S1x1x512) inb)) (h.unread x) (ix3 0 0 k)
      = atg x k := by
  simp only [View.readAt_eq_ld, h.read_unread, View.ld]
  unfold atg
  congr 1
  funext a; apply Fin.ext; fin_cases a
  · rfl
  · rfl
  · show 0 + 1 * k.val = k.val % 512; omega

theorem lds (arg : Memref sig .tc .vmem S256x512 .f32) (h : arg.IsWhole) (x : Vec Ideal S256x512 .f32) (inb) (d : Fin 256) (k : Fin 512) :
    View.readAt (Elt Ideal) arg.view (Rect.toLoadRect (Rect.unit ![0, 0] (Shape.size S256x512) inb)) (h.unread x) (ix2 d k)
      = atS x d k := by
  simp only [View.readAt_eq_ld, h.read_unread, View.ld]
  unfold atS
  congr 1
  funext a; apply Fin.ext; fin_cases a
  · show 0 + 1 * d.val = d.val % 256; omega
  · show 0 + 1 * k.val = k.val % 512; omega

theorem rdq {N : ℕ} (v : View sig .tc .vmem S1024x256 .bf16)
    (L : List (View.Piece (Elt Ideal) S1024x256 .bf16)) (g : ℕ → ℕ → EReal)
    (hL : View.canon L = G2 g) (o : ℕ) (inb) (r : Fin N) (d : Fin 256) :
    View.readCov v L (Rect.toLoadRect (Rect.unit ![o, 0] ![N, 256] inb)) (ix2 r d) = g (o + r) d := by
  rw [View.readCov_eq_canon', hL]
  unfold G2
  show g (o + 1 * r.val) (0 + 1 * d.val) = g (o + r) d
  congr 1 <;> omega

theorem rda {N : ℕ} (v : View sig .tc .vmem S1024x1024 .bf16)
    (L : List (View.Piece (Elt Ideal) S1024x1024 .bf16)) (g : ℕ → ℕ → EReal)
    (hL : ∀ y : S1024x1024.Idx, (y 1).val < 256 * ((y 0).val / 256 + 1) → View.canon L y = G3 g y) (o : ℕ) (ho : o % 256 = 0)
    (hN : N = o + 256) (inb) (r : Fin 256) (d : Fin N) :
    View.readCov v L (Rect.toLoadRect (Rect.unit ![o, 0] ![256, N] inb)) (ix2 r d) = g (o + r) d := by
  rw [View.readCov_eq_canon']
  refine (hL _ ?_).trans ?_
  · show 0 + 1 * d.val < 256 * ((o + 1 * r.val) / 256 + 1)
    omega
  · show g (o + 1 * r.val) (0 + 1 * d.val) = g (o + r) d
    congr 1 <;> omega

end Cert.KernelIdeal.Body
-- ==== Proof.Body9.lean ====
module

public import proofs.«01_k».proof.Proof.Body8

@[expose] public section

set_option maxRecDepth 16384

noncomputable section

open Idealize.ShloMosaic Idealize.ShloMosaic.TcCoe Idealize.SL.Sem

namespace Cert.KernelIdeal.Body

open Cert.KernelIdeal Cert.KernelIdeal.Gen

/-- A function of two natural numbers, as a state. -/
def GS (g : ℕ → ℕ → EReal) : S256x512.Idx → EReal := fun y => g (y 0).val (y 1).val

section Body
variable (c : Dev nD) (i : grid0.Coords)
  (arg3 : Memref sig .tc .vmem S1x1024x256 .bf16) (harg3 : arg3.IsWhole)
  (arg4 : Memref sig .tc .vmem S1x1024x256 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x1024x128 .f32) (harg7 : arg7.IsWhole)
  (arg8 : Memref sig .tc .vmem S128x256 .bf16) (harg8 : arg8.IsWhole)
  (arg9 : Memref sig .tc .vmem S1x256 .f32) (harg9 : arg9.IsWhole)
  (arg10 : Memref sig .tc .vmem S1x1x512 .f32) (harg10 : arg10.IsWhole)
  (arg11 : Memref sig .tc .vmem S1x1024x512 .bf16) (harg11 : arg11.IsWhole)
  (arg12 : Memref sig .tc .vmem S256x512 .f32) (harg12 : arg12.IsWhole)
  (arg13 : Memref sig .tc .vmem S1024x256 .f32) (harg13 : arg13.IsWhole)
  (arg14 : Memref sig .tc .vmem S1024x256 .f32) (harg14 : arg14.IsWhole)
  (arg15 : Memref sig .tc .vmem S1024x256 .bf16) (harg15 : arg15.IsWhole)
  (arg16 : Memref sig .tc .vmem S1024x256 .bf16) (harg16 : arg16.IsWhole)
  (arg17 : Memref sig .tc .vmem S1024x256 .bf16) (harg17 : arg17.IsWhole)
  (arg18 : Memref sig .tc .vmem S1024x256 .bf16) (harg18 : arg18.IsWhole)
  (arg19 : Memref sig .tc .vmem S1024x256 .bf16) (harg19 : arg19.IsWhole)
  (arg20 : Memref sig .tc .vmem S1024x1024 .bf16) (harg20 : arg20.IsWhole)
  (x0 x1 : Vec Ideal S1x1024x256 .bf16) (x2 x3 : Vec Ideal S1x1024x512 .bf16) (x4 : Vec Ideal S1x1024x128 .f32)
  (x5 : Vec Ideal S128x256 .bf16) (x6 : Vec Ideal S1x256 .f32) (x7 : Vec Ideal S1x1x512 .f32)

/-- What the first block of a head reads as its state. -/
theorem ld_zero (v : View sig .tc .vmem S256x512 .f32) (inb) (d : Fin 256) (e : Fin 512) :
    View.readCov v (kernelRun0_A.sl.HS0_1 (F := Ideal)) (Rect.toLoadRect (Rect.unit ![0, 0] (Shape.size S256x512) inb)) (ix2 d e) = 0 := by
  unfold kernelRun0_A.sl.HS0_1
  rw [View.readCov_unit_zero (Val := Elt Ideal) (S := S256x512) v hz2]
  unfold k0_pay1
  pointwise

/-! A later block of a head, from the state `xs0` before it. -/

theorem out_B (hc0 : ¬cond0_0 i) (xs0 : Vec Ideal S256x512 .f32) :
    out0_B_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 =
      G8 (outN (oN (at256 x0) (at256 x1) (at512 x2) (bN (lgN x4 x5 x6)) (atS xs0)) (at512 x3) (atg x7)) := by
  funext y
  unfold out0_B_8
  rw [View.read_writes_junk_eq_canon]
  refine View.canon_apply_of_pieces (Val := Elt Ideal) (e := .bf16)
    (G8 (outN (oN (at256 x0) (at256 x1) (at512 x2) (bN (lgN x4 x5 x6)) (atS xs0)) (at512 x3) (atg x7))) _ ?_ y
    (cover0_B_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 y)
  have ha := canon_a c arg3 harg3 arg4 harg4 arg7 harg7 arg8 harg8 arg9 harg9 arg13 arg14 arg16 arg17 arg18 x0 x1 x4 x5 x6
  have hq := canon_qh c arg3 harg3 arg7 harg7 arg8 harg8 arg9 harg9 arg13 x0 x4 x5 x6
  intro p hp x
  unfold kernelRun0_B at hp
  simp only [List.mem_cons, List.not_mem_nil, or_false] at hp
  rcases hp with rfl | rfl | rfl | rfl
  · refine piece_out _ _ _ _ _ _ _ _ (by decide) rfl _ _ _ _ _ _ dot_S256x1024_S1024x512_S256x512_1_0_0_1_n_n shapeCasts_S1x1024x512_S1024x512
      (fun X Y a e => by pointwise) ?_ ?_ ?_ ?_ ?_ ?_ (by decide) x
    · exact rda _ _ _ ha _ (by decide) rfl _
    · exact ldv arg5 harg5 x2 (by decide) _
    · exact rdq _ _ _ hq _ _
    · exact lds arg12 harg12 xs0 _
    · exact ldg arg10 harg10 x7 _
    · exact ldr arg6 harg6 x3 _ (by decide) _
  · refine piece_out _ _ _ _ _ _ _ _ (by decide) rfl _ _ _ _ _ _ dot_S256x768_S768x512_S256x512_1_0_0_1_n_n shapeCasts_S1x768x512_S768x512
      (fun X Y a e => by pointwise) ?_ ?_ ?_ ?_ ?_ ?_ (by decide) x
    · exact rda _ _ _ ha _ (by decide) rfl _
    · exact ldv arg5 harg5 x2 (by decide) _
    · exact rdq _ _ _ hq _ _
    · exact lds arg12 harg12 xs0 _
    · exact ldg arg10 harg10 x7 _
    · exact ldr arg6 harg6 x3 _ (by decide) _
  · refine piece_out _ _ _ _ _ _ _ _ (by decide) rfl _ _ _ _ _ _ dot_S256x512_S512x512_S256x512_1_0_0_1_n_n shapeCasts_S1x512x512_S512x512
      (fun X Y a e => by pointwise) ?_ ?_ ?_ ?_ ?_ ?_ (by decide) x
    · exact rda _ _ _ ha _ (by decide) rfl _
    · exact ldv arg5 harg5 x2 (by decide) _
    · exact rdq _ _ _ hq _ _
    · exact lds arg12 harg12 xs0 _
    · exact ldg arg10 harg10 x7 _
    · exact ldr arg6 harg6 x3 _ (by decide) _
  · refine piece_out _ _ _ _ _ _ _ _ (by decide) rfl _ _ _ _ _ _ dot_S256x256_S256x512_S256x512_1_0_0_1_n_n shapeCasts_S1x256x512_S256x512
      (fun X Y a e => by pointwise) ?_ ?_ ?_ ?_ ?_ ?_ (by decide) x
    · exact rda _ _ _ ha _ (by decide) rfl _
    · exact ldv arg5 harg5 x2 (by decide) _
    · exact rdq _ _ _ hq _ _
    · exact lds arg12 harg12 xs0 _
    · exact ldg arg10 harg10 x7 _
    · exact ldr arg6 harg6 x3 _ (by decide) _

theorem st_B (hc0 : ¬cond0_0 i) (xs0 : Vec Ideal S256x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 =
      GS (stN (at256 x1) (at512 x2) (bN (lgN x4 x5 x6)) (atS xs0)) := by
  have hk := canon_kh c arg4 harg4 arg7 harg7 arg8 harg8 arg9 harg9 arg13 x1 x4 x5 x6
  obtain ⟨h0, h1, h2, h3, h4, h5, h6, h7, h8, h9, h10, h11, h12, h13, h14, h15, h16⟩ :=
    h_chain c arg7 harg7 arg8 harg8 arg9 harg9 arg13 x4 x5 x6
  funext y
  unfold sout0_B_0
  rw [View.read_writes_junk_eq_canon]
  unfold kernelRun0_B
  refine (congrFun (View.canon_cons_unit_zero (Val := Elt Ideal) (S := S256x512) hz2 _ _ _) y).trans ?_
  rw [eq_ix2 y]
  refine (piece_st _ _ _ _ _ _ _ _ h16 ?_ ?_ ?_ (y 0) (y 1)).trans rfl
  · exact lds arg12 harg12 xs0 _
  · exact fun a d => (rdq _ _ _ hk _ _ a d).trans (by rw [zero_add])
  · exact ldv arg5 harg5 x2 (by decide) _

/-! The first block of a head. -/

theorem out_A (hc0 : cond0_0 i) :
    out0_A_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 =
      G8 (outN (oN (at256 x0) (at256 x1) (at512 x2) (bN (lgN x4 x5 x6)) (fun _ _ => 0)) (at512 x3) (atg x7)) := by
  funext y
  unfold out0_A_8
  rw [View.read_writes_junk_eq_canon]
  refine View.canon_apply_of_pieces (Val := Elt Ideal) (e := .bf16)
    (G8 (outN (oN (at256 x0) (at256 x1) (at512 x2) (bN (lgN x4 x5 x6)) (fun _ _ => 0)) (at512 x3) (atg x7))) _ ?_ y
    (cover0_A_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 y)
  have ha := canon_a c arg3 harg3 arg4 harg4 arg7 harg7 arg8 harg8 arg9 harg9 arg13 arg14 arg16 arg17 arg18 x0 x1 x4 x5 x6
  have hq := canon_qh c arg3 harg3 arg7 harg7 arg8 harg8 arg9 harg9 arg13 x0 x4 x5 x6
  intro p hp x
  unfold kernelRun0_A at hp
  simp only [List.mem_cons, List.not_mem_nil, or_false] at hp
  rcases hp with rfl | rfl | rfl | rfl
  · refine piece_out _ _ _ _ _ _ _ _ (by decide) rfl _ _ _ _ _ _ dot_S256x1024_S1024x512_S256x512_1_0_0_1_n_n shapeCasts_S1x1024x512_S1024x512
      (fun X Y a e => by pointwise) ?_ ?_ ?_ ?_ ?_ ?_ (by decide) x
    · exact rda _ _ _ ha _ (by decide) rfl _
    · exact ldv arg5 harg5 x2 (by decide) _
    · exact rdq _ _ _ hq _ _
    · exact ld_zero _ _
    · exact ldg arg10 harg10 x7 _
    · exact ldr arg6 harg6 x3 _ (by decide) _
  · refine piece_out _ _ _ _ _ _ _ _ (by decide) rfl _ _ _ _ _ _ dot_S256x768_S768x512_S256x512_1_0_0_1_n_n shapeCasts_S1x768x512_S768x512
      (fun X Y a e => by pointwise) ?_ ?_ ?_ ?_ ?_ ?_ (by decide) x
    · exact rda _ _ _ ha _ (by decide) rfl _
    · exact ldv arg5 harg5 x2 (by decide) _
    · exact rdq _ _ _ hq _ _
    · exact ld_zero _ _
    · exact ldg arg10 harg10 x7 _
    · exact ldr arg6 harg6 x3 _ (by decide) _
  · refine piece_out _ _ _ _ _ _ _ _ (by decide) rfl _ _ _ _ _ _ dot_S256x512_S512x512_S256x512_1_0_0_1_n_n shapeCasts_S1x512x512_S512x512
      (fun X Y a e => by pointwise) ?_ ?_ ?_ ?_ ?_ ?_ (by decide) x
    · exact rda _ _ _ ha _ (by decide) rfl _
    · exact ldv arg5 harg5 x2 (by decide) _
    · exact rdq _ _ _ hq _ _
    · exact ld_zero _ _
    · exact ldg arg10 harg10 x7 _
    · exact ldr arg6 harg6 x3 _ (by decide) _
  · refine piece_out _ _ _ _ _ _ _ _ (by decide) rfl _ _ _ _ _ _ dot_S256x256_S256x512_S256x512_1_0_0_1_n_n shapeCasts_S1x256x512_S256x512
      (fun X Y a e => by pointwise) ?_ ?_ ?_ ?_ ?_ ?_ (by decide) x
    · exact rda _ _ _ ha _ (by decide) rfl _
    · exact ldv arg5 harg5 x2 (by decide) _
    · exact rdq _ _ _ hq _ _
    · exact ld_zero _ _
    · exact ldg arg10 harg10 x7 _
    · exact ldr arg6 harg6 x3 _ (by decide) _

theorem st_A (hc0 : cond0_0 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 =
      GS (stN (at256 x1) (at512 x2) (bN (lgN x4 x5 x6)) (fun _ _ => 0)) := by
  have hk := canon_kh c arg4 harg4 arg7 harg7 arg8 harg8 arg9 harg9 arg13 x1 x4 x5 x6
  obtain ⟨h0, h1, h2, h3, h4, h5, h6, h7, h8, h9, h10, h11, h12, h13, h14, h15, h16⟩ :=
    h_chain c arg7 harg7 arg8 harg8 arg9 harg9 arg13 x4 x5 x6
  funext y
  unfold sout0_A_0
  rw [View.read_writes_junk_eq_canon]
  unfold kernelRun0_A
  refine (congrFun (View.canon_cons_unit_zero (Val := Elt Ideal) (S := S256x512) hz2 _ _ _) y).trans ?_
  rw [eq_ix2 y]
  refine (piece_st _ _ _ _ _ _ _ _ h16 ?_ ?_ ?_ (y 0) (y 1)).trans rfl
  · exact ld_zero _ _
  · exact fun a d => (rdq _ _ _ hk _ _ a d).trans (by rw [zero_add])
  · exact ldv arg5 harg5 x2 (by decide) _

end Body

end Cert.KernelIdeal.Body
-- ==== Proof.Recur.lean ====
module

public import proofs.«01_k».proof.Proof.Body9

@[expose] public section

set_option maxRecDepth 16384

noncomputable section

open Idealize.ShloMosaic Idealize.ShloMosaic.TcCoe Idealize.SL.Sem

namespace Cert.Gla

/-! ## Gated linear attention over the reals: one head of one batch element

`a t d` is the logarithm of the decay of channel `d` at time `t`. -/

variable (q k v a : ℕ → ℕ → ℝ)

/-- The sum of the decays' logarithms before time `n`. -/
def cumR (n d : ℕ) : ℝ := ∑ u ∈ Finset.range n, a u d

/-- The state before time `n`. -/
def stR (n d e : ℕ) : ℝ := ∑ s ∈ Finset.range n, k s d * Real.exp (cumR a n d - cumR a (s + 1) d) * v s e

/-- The score of the key of time `s` at the query of time `t`. -/
def wR (t s : ℕ) : ℝ :=
  ∑ d ∈ Finset.range 256, q t d * (1 / 16) * (k s d * Real.exp (cumR a (t + 1) d - cumR a (s + 1) d))

/-- The attention at time `t`, column `e`. -/
def oR (t e : ℕ) : ℝ := ∑ s ∈ Finset.range (t + 1), wR q k a t s * v s e

theorem cumR_add (n m d : ℕ) : cumR a (n + m) d = cumR a n d + ∑ u ∈ Finset.range m, a (n + u) d :=
  Finset.sum_range_add _ _ _

/-- The state after a block of `N` times from the state before it. -/
theorem stR_add (n N d e : ℕ) :
    stR k v a (n + N) d e = stR k v a n d e * Real.exp (cumR a (n + N) d - cumR a n d) +
      ∑ s ∈ Finset.range N, k (n + s) d * Real.exp (cumR a (n + N) d - cumR a (n + s + 1) d) * v (n + s) e := by
  unfold stR
  rw [Finset.sum_range_add, Finset.sum_mul]
  congr 1
  refine Finset.sum_congr rfl fun s _ => ?_
  have e1 : cumR a (n + N) d - cumR a (s + 1) d = (cumR a n d - cumR a (s + 1) d) + (cumR a (n + N) d - cumR a n d) := by ring
  rw [e1, Real.exp_add]
  ring

/-- The attention at a time of a block from the block's own scores and the state before it. -/
theorem oR_add (n t e : ℕ) :
    oR q k v a (n + t) e = ∑ s ∈ Finset.range (t + 1), wR q k a (n + t) (n + s) * v (n + s) e +
      ∑ d ∈ Finset.range 256, q (n + t) d * (1 / 16) * Real.exp (cumR a (n + t + 1) d - cumR a n d) * stR k v a n d e := by
  unfold oR
  rw [show n + t + 1 = n + (t + 1) from rfl, Finset.sum_range_add, add_comm]
  congr 1
  unfold wR stR
  simp only [Finset.sum_mul, Finset.mul_sum]
  rw [Finset.sum_comm]
  refine Finset.sum_congr rfl fun d _ => Finset.sum_congr rfl fun s _ => ?_
  have e1 : cumR a (n + t + 1) d - cumR a (s + 1) d = (cumR a (n + t + 1) d - cumR a n d) + (cumR a n d - cumR a (s + 1) d) := by ring
  rw [e1, Real.exp_add, show n + (t + 1) = n + t + 1 from rfl]
  ring

/-- A real function of two numbers among the extended reals. -/
def C2 (f : ℕ → ℕ → ℝ) : ℕ → ℕ → EReal := fun t d => (f t d : EReal)

theorem coe_sum {ι : Type} (s : Finset ι) (f : ι → ℝ) : ((∑ x ∈ s, f x : ℝ) : EReal) = ∑ x ∈ s, (f x : EReal) := by
  classical
  induction s using Finset.induction_on with
  | empty => simp
  | insert x s hx ih => rw [Finset.sum_insert hx, Finset.sum_insert hx, EReal.coe_add, ih]

theorem coe_sum_fin {n : ℕ} (f : ℕ → ℝ) : ∑ x : Fin n, (f x : EReal) = ((∑ x ∈ Finset.range n, f x : ℝ) : EReal) := by
  rw [Finset.sum_range, coe_sum]

theorem ofBits_sixteenth : Ideal.ofBits FTy.f32 1031798784#32 = ((1 / 16 : ℝ) : EReal) := by
  simp [Ideal.ofBits, Ideal.ieee]
  rw [← EReal.coe_mul]
  norm_num

/-! ## The body's formulas over the reals -/

open Cert.KernelIdeal.Body

/-- The running sum inside a group of 64, of the block from time `n` on. -/
def bR (n t d : ℕ) : ℝ := cumR a (n + t + 1) d - cumR a (n + 64 * (t / 64)) d

theorem tri_sum (f : ℕ → ℝ) (t : ℕ) (ht : t < 256) :
    ∑ x ∈ Finset.range 256, (if x ≤ t ∧ x / 64 = t / 64 then (1 : ℝ) else 0) * f x =
      ∑ x ∈ Finset.range (t + 1), f x - ∑ x ∈ Finset.range (64 * (t / 64)), f x := by
  rw [← Finset.sum_Ico_eq_sub _ (by omega : 64 * (t / 64) ≤ t + 1)]
  simp only [ite_mul, one_mul, zero_mul]
  rw [← Finset.sum_filter]
  refine Finset.sum_congr ?_ fun _ _ => rfl
  ext x
  simp only [Finset.mem_filter, Finset.mem_range, Finset.mem_Ico]
  omega

theorem bN_coe (n : ℕ) : bN (C2 fun t d => a (n + t) d) = C2 (bR a n) := by
  funext t d
  unfold bN C2 bR
  have h1 : ∀ x : Fin 256, triN (t % 256) x * ((a (n + (t / 256 * 256 + x)) d : ℝ) : EReal) =
      (((if (x : ℕ) ≤ t % 256 ∧ (x : ℕ) / 64 = t % 256 / 64 then (1 : ℝ) else 0) * a (n + (t / 256 * 256 + x)) d : ℝ) : EReal) := by
    intro x
    unfold triN
    split_ifs <;> simp
  have h2 : ∀ r : ℝ, (r : EReal) - (r : EReal) = 0 := fun r => by rw [← EReal.coe_sub, sub_self, EReal.coe_zero]
  simp only [h2, h1, sub_zero, mul_zero, Finset.sum_const_zero, add_zero]
  rw [coe_sum_fin fun x => (if x ≤ t % 256 ∧ x / 64 = t % 256 / 64 then (1 : ℝ) else 0) * a (n + (t / 256 * 256 + x)) d,
    tri_sum (fun x => a (n + (t / 256 * 256 + x)) d) _ (Nat.mod_lt _ (by decide))]
  have e1 := cumR_add a (n + t / 256 * 256) (t % 256 + 1) d
  have e2 := cumR_add a (n + t / 256 * 256) (64 * (t % 256 / 64)) d
  rw [show n + t / 256 * 256 + (t % 256 + 1) = n + t + 1 by omega] at e1
  rw [show n + t / 256 * 256 + 64 * (t % 256 / 64) = n + 64 * (t / 64) by omega] at e2
  simp only [Nat.add_assoc] at e1 e2 ⊢
  rw [e1, e2]
  congr 1
  ring

theorem hN_coe (n c d : ℕ) : hN (C2 (bR a n)) c d = ((cumR a (n + 64 * c) d - cumR a n d : ℝ) : EReal) := by
  induction c with
  | zero => simp [hN]
  | succ c ih =>
    rw [hN, ih]
    unfold C2 bR
    rw [← EReal.coe_add, show n + (64 * c + 63) + 1 = n + 64 * (c + 1) by ring, show (64 * c + 63) / 64 = c by omega]
    congr 1
    ring

theorem qdN_coe (n t d : ℕ) : qdN (C2 fun t d => q (n + t) d) (C2 (bR a n)) t d =
    ((q (n + t) d * (1 / 16) * Real.exp (cumR a (n + t + 1) d - cumR a (n + 64 * (t / 64)) d) : ℝ) : EReal) := by
  unfold qdN C2 bR
  rw [Ideal.exp_coe, ofBits_sixteenth, ← EReal.coe_mul, ← EReal.coe_mul]
  congr 1
  ring

theorem qlN_coe (n c t d : ℕ) : qlN (C2 fun t d => q (n + t) d) (C2 (bR a n)) c t d =
    ((q (n + t) d * (1 / 16) * Real.exp (cumR a (n + t + 1) d - cumR a (n + 64 * c) d) : ℝ) : EReal) := by
  unfold qlN
  rw [qdN_coe, hN_coe, hN_coe, ← EReal.coe_sub, Ideal.exp_coe, ← EReal.coe_mul, mul_assoc, ← Real.exp_add]
  congr 3
  ring

theorem qhN_coe (n t d : ℕ) : qhN (C2 fun t d => q (n + t) d) (C2 (bR a n)) t d =
    ((q (n + t) d * (1 / 16) * Real.exp (cumR a (n + t + 1) d - cumR a n d) : ℝ) : EReal) := by
  unfold qhN
  rw [qdN_coe, hN_coe, Ideal.exp_coe, ← EReal.coe_mul, mul_assoc, ← Real.exp_add]
  congr 3
  ring

theorem kiN_coe (n t d : ℕ) : kiN (C2 fun t d => k (n + t) d) (C2 (bR a n)) t d =
    ((k (n + t) d * Real.exp (cumR a (n + 64 * (t / 64)) d - cumR a (n + t + 1) d) : ℝ) : EReal) := by
  unfold kiN C2 bR
  rw [zero_sub, ← EReal.coe_neg, Ideal.exp_coe, ← EReal.coe_mul, neg_sub]

theorem keN_coe (n t d : ℕ) : keN (C2 fun t d => k (n + t) d) (C2 (bR a n)) t d =
    ((k (n + t) d * Real.exp (cumR a (n + 64 * (t / 64 + 1)) d - cumR a (n + t + 1) d) : ℝ) : EReal) := by
  unfold keN C2 bR
  rw [← EReal.coe_sub, Ideal.exp_coe, ← EReal.coe_mul, show n + (t / 64 * 64 + 63) + 1 = n + 64 * (t / 64 + 1) by ring,
    show (t / 64 * 64 + 63) / 64 = t / 64 by omega]
  congr 3
  ring

theorem kpN_coe (n t d : ℕ) : kpN (C2 fun t d => k (n + t) d) (C2 (bR a n)) t d =
    ((k (n + t) d * Real.exp (cumR a (n + 64 * (2 * (t / 128) + 2)) d - cumR a (n + t + 1) d) : ℝ) : EReal) := by
  unfold kpN
  rw [keN_coe]
  by_cases h : t / 64 % 2 = 0
  · rw [if_pos h]
    unfold C2 bR
    rw [Ideal.exp_coe, ← EReal.coe_mul, mul_assoc, ← Real.exp_add,
      show n + (t / 64 * 64 + 127) + 1 = n + 64 * (2 * (t / 128) + 2) by omega,
      show (t / 64 * 64 + 127) / 64 = t / 64 + 1 by omega]
    congr 3
    ring
  · rw [if_neg h, show 64 * (t / 64 + 1) = 64 * (2 * (t / 128) + 2) by omega]

theorem khN_coe (n t d : ℕ) : khN (C2 fun t d => k (n + t) d) (C2 (bR a n)) t d =
    ((k (n + t) d * Real.exp (cumR a (n + 1024) d - cumR a (n + t + 1) d) : ℝ) : EReal) := by
  unfold khN
  rw [keN_coe, hN_coe, hN_coe, ← EReal.coe_sub, Ideal.exp_coe, ← EReal.coe_mul, mul_assoc, ← Real.exp_add]
  congr 3
  ring

/-- A score as a sum of products of a decayed query and a decayed key, split at any time `m`. -/
theorem dot_coe (t s m : ℕ) :
    ∑ d : Fin 256, ((q t d * (1 / 16) * Real.exp (cumR a (t + 1) d - cumR a m d) : ℝ) : EReal) *
      ((k s d * Real.exp (cumR a m d - cumR a (s + 1) d) : ℝ) : EReal) = ((wR q k a t s : ℝ) : EReal) := by
  simp only [← EReal.coe_mul]
  rw [coe_sum_fin fun d => q t d * (1 / 16) * Real.exp (cumR a (t + 1) d - cumR a m d) * (k s d * Real.exp (cumR a m d - cumR a (s + 1) d))]
  unfold wR
  congr 1
  refine Finset.sum_congr rfl fun d _ => ?_
  have e1 : cumR a (t + 1) d - cumR a (s + 1) d = (cumR a (t + 1) d - cumR a m d) + (cumR a m d - cumR a (s + 1) d) := by ring
  rw [e1, Real.exp_add]
  ring

theorem aN_coe (n t s : ℕ) : aN (C2 fun t d => q (n + t) d) (C2 fun t d => k (n + t) d) (C2 (bR a n)) t s =
    (((if s ≤ t then wR q k a (n + t) (n + s) else 0 : ℝ)) : EReal) := by
  unfold aN
  simp only [qdN_coe, qlN_coe, kiN_coe, keN_coe, kpN_coe]
  by_cases h1 : t / 128 = s / 128
  · rw [if_pos h1]
    by_cases h2 : s ≤ t ∧ s / 64 = t / 64
    · rw [if_pos h2, if_pos h2.1, h2.2]
      exact dot_coe q k a _ _ _
    · rw [if_neg h2]
      by_cases h3 : 64 ≤ t % 128 ∧ s % 128 < 64
      · rw [if_pos h3, if_pos (by omega), show t / 64 = s / 64 + 1 by omega]
        exact dot_coe q k a _ _ _
      · rw [if_neg h3, if_neg (by omega), EReal.coe_zero]
  · rw [if_neg h1]
    by_cases h2 : s / 128 < t / 128
    · rw [if_pos h2, if_pos (by omega)]
      exact dot_coe q k a _ _ _
    · rw [if_neg h2, if_neg (by omega), EReal.coe_zero]

/-- The body's state after a tile is the state at the tile's end. -/
theorem stN_coe (n d e : ℕ) : stN (C2 fun t d => k (n + t) d) (C2 fun t e => v (n + t) e) (C2 (bR a n)) (C2 (stR k v a n)) d e =
    ((stR k v a (n + 1024) d e : ℝ) : EReal) := by
  unfold stN
  simp only [khN_coe, hN_coe]
  unfold C2
  rw [Ideal.exp_coe, stR_add, EReal.coe_add, EReal.coe_mul, coe_sum]
  simp only [EReal.coe_mul]

/-- The body's attention of a tile is the attention at the tile's times. -/
theorem oN_coe (n t e : ℕ) :
    oN (C2 fun t d => q (n + t) d) (C2 fun t d => k (n + t) d) (C2 fun t e => v (n + t) e) (C2 (bR a n)) (C2 (stR k v a n)) t e =
      ((oR q k v a (n + t) e : ℝ) : EReal) := by
  unfold oN
  simp only [aN_coe, qhN_coe]
  unfold C2
  simp only [← EReal.coe_mul, ← EReal.coe_add, ← coe_sum]
  rw [oR_add]
  congr 2
  simp only [ite_mul, zero_mul]
  rw [← Finset.sum_filter]
  refine Finset.sum_congr ?_ fun _ _ => rfl
  ext x
  simp only [Finset.mem_filter, Finset.mem_range]
  omega

end Cert.Gla
-- ==== Proof.Blocks.lean ====
module

public import proofs.«01_k».proof.Proof.Recur
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.Gla

open Cert.KernelIdeal Cert.KernelIdeal.Gen Cert.KernelIdeal.Body

variable (m : (ℓ : Loc nD τ sig) → Buf (Elt Ideal) ℓ)

/-- Every window's block index at a grid point: the point's batch element, head and tile. -/
theorem idx : ∀ t : Fin cfg0.N, win0_0.index t = ![t.val / 32, t.val % 8, t.val / 8 % 4] ∧
    win0_1.index t = ![t.val / 32, t.val % 8, 4 + t.val / 8 % 4] ∧
    win0_2.index t = ![t.val / 32, t.val % 8, 4 + t.val / 8 % 4] ∧
    win0_3.index t = ![t.val / 32, t.val % 8, 8 + t.val / 8 % 4] ∧
    win0_4.index t = ![t.val / 32, t.val % 8, 0] ∧
    win0_5.index t = ![0, t.val / 8 % 4] ∧
    win0_6.index t = ![0, t.val / 8 % 4] ∧
    win0_7.index t = ![t.val / 8 % 4, 0, 0] ∧
    win0_8.index t = ![t.val / 32, t.val % 8, t.val / 8 % 4] :=
  (by decide +kernel : ∀ t : Fin grid0.N, _)

/-- The padded low-rank factor the launch finds. -/
theorem V_wa (c : Dev nD) (x : Fin 128) (j : Fin 1024) :
    (V m c main_v2 (ix2 x j) : EReal) = if h : x.val < 16 then (m ((c : Thread nD τ).loc main_arg2) (ix3 0 ⟨x.val, h⟩ j) : EReal) else (0 : EReal) := by
  unfold V
  simp only [hostOps0, hostOps0_1, hostOps0_2, List.flatten_cons, List.flatten_nil, List.append_nil, List.cons_append, List.nil_append]
  after_reads_at
  split_ifs
  · rfl
  · show ((_ : ℝ) : EReal) = 0
    simp

theorem V_ba (c : Dev nD) (j : Fin 1024) :
    V m c main_v4 (ix2 0 j) = m ((c : Thread nD τ).loc main_arg3) (ix2 0 j) := by
  unfold V
  simp only [hostOps0, hostOps0_1, hostOps0_2, List.flatten_cons, List.flatten_nil, List.append_nil, List.cons_append, List.nil_append]
  after_reads_at

theorem V_ng (c : Dev nD) (h : Fin 4) (j : Fin 512) :
    V m c main_v6 (ix3 h 0 j) = m ((c : Thread nD τ).loc main_arg4) (ix3 0 h j) := by
  unfold V
  simp only [hostOps0, hostOps0_1, hostOps0_2, List.flatten_cons, List.flatten_nil, List.append_nil, List.cons_append, List.nil_append]
  after_reads_at

/-! The arguments' elements at natural indices. -/

def pE (p : S4x8192x10240.Idx → EReal) (b t j : ℕ) : EReal := p (ix3 (Fin.ofNat 4 b) (Fin.ofNat 8192 t) (Fin.ofNat 10240 j))
def lrE (lr : S4x8192x128.Idx → EReal) (b t j : ℕ) : EReal := lr (ix3 (Fin.ofNat 4 b) (Fin.ofNat 8192 t) (Fin.ofNat 128 j))
def waE (wa : S1x16x1024.Idx → EReal) (x j : ℕ) : EReal := wa (ix3 0 (Fin.ofNat 16 x) (Fin.ofNat 1024 j))
def baE (ba : S1x1024.Idx → EReal) (j : ℕ) : EReal := ba (ix2 0 (Fin.ofNat 1024 j))
def ngE (ng : S1x4x512.Idx → EReal) (h j : ℕ) : EReal := ng (ix3 0 (Fin.ofNat 4 h) (Fin.ofNat 512 j))

theorem blk_q (c : Dev nD) (t : Fin cfg0.N) (x d : ℕ) : at256 (iblk m c 0 t) x d =
    pE (m ((c : Thread nD τ).loc main_arg0)) (t.val / 32) (1024 * (t.val % 8) + x % 1024) (256 * (t.val / 8 % 4) + d % 256) := by
  have hN := lt_of_lt_of_eq t.isLt (show cfg0.N = 128 from N_0)
  unfold at256 pE
  blk_ext [iblk, V, (idx t).1] <;> (simp only [Fin.val_ofNat]; omega)

theorem blk_k (c : Dev nD) (t : Fin cfg0.N) (x d : ℕ) : at256 (iblk m c 1 t) x d =
    pE (m ((c : Thread nD τ).loc main_arg0)) (t.val / 32) (1024 * (t.val % 8) + x % 1024) (1024 + 256 * (t.val / 8 % 4) + d % 256) := by
  have hN := lt_of_lt_of_eq t.isLt (show cfg0.N = 128 from N_0)
  unfold at256 pE
  blk_ext [iblk, V, (idx t).2.1] <;> (simp only [Fin.val_ofNat]; omega)

theorem blk_v (c : Dev nD) (t : Fin cfg0.N) (x d : ℕ) : at512 (iblk m c 2 t) x d =
    pE (m ((c : Thread nD τ).loc main_arg0)) (t.val / 32) (1024 * (t.val % 8) + x % 1024) (2048 + 512 * (t.val / 8 % 4) + d % 512) := by
  have hN := lt_of_lt_of_eq t.isLt (show cfg0.N = 128 from N_0)
  unfold at512 pE
  blk_ext [iblk, V, (idx t).2.2.1] <;> (simp only [Fin.val_ofNat]; omega)

theorem blk_r (c : Dev nD) (t : Fin cfg0.N) (x d : ℕ) : at512 (iblk m c 3 t) x d =
    pE (m ((c : Thread nD τ).loc main_arg0)) (t.val / 32) (1024 * (t.val % 8) + x % 1024) (4096 + 512 * (t.val / 8 % 4) + d % 512) := by
  have hN := lt_of_lt_of_eq t.isLt (show cfg0.N = 128 from N_0)
  unfold at512 pE
  blk_ext [iblk, V, (idx t).2.2.2.1] <;> (simp only [Fin.val_ofNat]; omega)

theorem blk_lr (c : Dev nD) (t : Fin cfg0.N) (x d : ℕ) : at128 (iblk m c 4 t) x d =
    lrE (m ((c : Thread nD τ).loc main_arg1)) (t.val / 32) (1024 * (t.val % 8) + x % 1024) d := by
  have hN := lt_of_lt_of_eq t.isLt (show cfg0.N = 128 from N_0)
  unfold at128 lrE
  blk_ext [iblk, V, (idx t).2.2.2.2.1] <;> (simp only [Fin.val_ofNat]; omega)

theorem blk_wa (c : Dev nD) (t : Fin cfg0.N) (x : Fin 128) (d : ℕ) : (iblk m c 5 t (ix2 x (Fin.ofNat 256 d)) : EReal) =
    if x.val < 16 then waE (m ((c : Thread nD τ).loc main_arg2)) x.val (256 * (t.val / 8 % 4) + d % 256) else 0 := by
  have hN := lt_of_lt_of_eq t.isLt (show cfg0.N = 128 from N_0)
  have e : iblk m c 5 t (ix2 x (Fin.ofNat 256 d)) = V m c main_v2 (ix2 x (Fin.ofNat 1024 (256 * (t.val / 8 % 4) + d % 256))) := by
    unfold iblk
    generalize hV : V m c = W
    blk_ext [(idx t).2.2.2.2.2.1] <;> (simp only [Fin.val_ofNat]; omega)
  rw [e, V_wa]
  unfold waE
  split_ifs with h
  · congr 2
    apply Fin.ext
    simp only [Fin.val_ofNat]
    omega
  · rfl

theorem blk_ba (c : Dev nD) (t : Fin cfg0.N) (d : ℕ) : (iblk m c 6 t (ix2 0 (Fin.ofNat 256 d)) : EReal) =
    baE (m ((c : Thread nD τ).loc main_arg3)) (256 * (t.val / 8 % 4) + d % 256) := by
  have hN := lt_of_lt_of_eq t.isLt (show cfg0.N = 128 from N_0)
  have e : iblk m c 6 t (ix2 0 (Fin.ofNat 256 d)) = V m c main_v4 (ix2 0 (Fin.ofNat 1024 (256 * (t.val / 8 % 4) + d % 256))) := by
    unfold iblk
    generalize hV : V m c = W
    blk_ext [(idx t).2.2.2.2.2.2.1] <;> (simp only [Fin.val_ofNat]; omega)
  rw [e, V_ba]
  rfl

theorem blk_ng (c : Dev nD) (t : Fin cfg0.N) (d : ℕ) : atg (iblk m c 7 t) d =
    ngE (m ((c : Thread nD τ).loc main_arg4)) (t.val / 8 % 4) d := by
  have hN := lt_of_lt_of_eq t.isLt (show cfg0.N = 128 from N_0)
  have e : iblk m c 7 t (ix3 0 0 (Fin.ofNat 512 d)) = V m c main_v6 (ix3 (Fin.ofNat 4 (t.val / 8 % 4)) 0 (Fin.ofNat 512 d)) := by
    unfold iblk
    generalize hV : V m c = W
    blk_ext [(idx t).2.2.2.2.2.2.2.1] <;> (simp only [Fin.val_ofNat]; omega)
  unfold atg
  rw [e, V_ng]
  rfl

end Cert.Gla
-- ==== Proof.Tile.lean ====
module

public import proofs.«01_k».proof.Proof.Blocks

@[expose] public section

set_option maxRecDepth 16384

noncomputable section

open Idealize.ShloMosaic Idealize.ShloMosaic.TcCoe Idealize.SL.Sem

namespace Cert.Gla

open Cert.KernelIdeal Cert.KernelIdeal.Gen Cert.KernelIdeal.Body

/-! ## The specification: the arguments' real values and the result -/

section Spec

variable (p : S4x8192x10240.Idx → EReal) (lr : S4x8192x128.Idx → EReal) (wa : S1x16x1024.Idx → EReal) (ba : S1x1024.Idx → EReal)

/-- The query of batch element `b`, head `h` at time `t`, channel `d`. -/
def qG (b h t d : ℕ) : ℝ := (pE p b t (256 * h + d % 256)).toReal
/-- The key. -/
def kG (b h t d : ℕ) : ℝ := (pE p b t (1024 + 256 * h + d % 256)).toReal
/-- The value. -/
def vG (b h t e : ℕ) : ℝ := (pE p b t (2048 + 512 * h + e % 512)).toReal
/-- The gate's logit. -/
def xG (b h t d : ℕ) : ℝ := ∑ j ∈ Finset.range 16, (lrE lr b t j).toReal * (waE wa j (256 * h + d % 256)).toReal +
  (baE ba (256 * h + d % 256)).toReal
/-- The logarithm of the decay: the logit's log-sigmoid, over 16. -/
def aG (b h t d : ℕ) : ℝ := (min (xG lr wa ba b h t d) 0 - Real.log (1 + Real.exp (-|xG lr wa ba b h t d|))) * (1 / 16)

/-- The attention of batch element `b`, head `h`. -/
def attG (b h : ℕ) : ℕ → ℕ → EReal := C2 (oR (qG p b h) (kG p b h) (vG p b h) (aG lr wa ba b h))

/-- The result: the attention normalised by its root mean square, times the gain and the swish of `r`. -/
def SPEC (ng : S1x4x512.Idx → EReal) : S4x8192x2048.Idx → EReal := fun y =>
  outN (attG p lr wa ba (y 0).val ((y 2).val / 512)) (fun t e => pE p (y 0).val t (4096 + 512 * ((y 2).val / 512) + e % 512))
    (ngE ng ((y 2).val / 512)) (y 1).val ((y 2).val % 512)

/-- The arguments' parts that the attention is computed from are finite. -/
structure Fins : Prop where
  hp : ∀ b t j, j < 4096 → ∃ r : ℝ, pE p b t j = r
  hl : ∀ b t j, j < 16 → ∃ r : ℝ, lrE lr b t j = r
  hw : ∀ x j, ∃ r : ℝ, waE wa x j = r
  hb : ∀ j, ∃ r : ℝ, baE ba j = r

end Spec

theorem toReal_of {x : EReal} (h : ∃ r : ℝ, x = r) : x = (x.toReal : EReal) := by
  obtain ⟨r, rfl⟩ := h
  rfl

/-! ## Values after the tile do not matter -/

/-- `f` up to the end of the tile at `n`, and the tile's rows over again after it. -/
def wrap (n : ℕ) (f : ℕ → ℕ → ℝ) (u d : ℕ) : ℝ := if u < n + 1024 then f u d else f (n + (u - n) % 1024) d

theorem wrap_of_lt {n u : ℕ} (h : u < n + 1024) (f : ℕ → ℕ → ℝ) : wrap n f u = f u := by
  funext d
  exact if_pos h

theorem wrap_add (n t : ℕ) (f : ℕ → ℕ → ℝ) (d : ℕ) : wrap n f (n + t) d = f (n + t % 1024) d := by
  unfold wrap
  split_ifs with h
  · rw [Nat.mod_eq_of_lt (by omega)]
  · rw [Nat.add_sub_cancel_left]

section Congr

variable {q k v a q' k' v' a' : ℕ → ℕ → ℝ}

theorem cumR_congr {n : ℕ} (ha : ∀ u < n, a u = a' u) (d : ℕ) : cumR a n d = cumR a' n d :=
  Finset.sum_congr rfl fun u hu => by rw [ha u (Finset.mem_range.mp hu)]

theorem stR_congr {n : ℕ} (hk : ∀ u < n, k u = k' u) (hv : ∀ u < n, v u = v' u) (ha : ∀ u < n, a u = a' u) :
    ∀ d e, stR k v a n d e = stR k' v' a' n d e := fun d e =>
  Finset.sum_congr rfl fun u hu => by
    have h := Finset.mem_range.mp hu
    rw [hk u h, hv u h, cumR_congr ha, cumR_congr fun w hw => ha w (by omega)]

theorem oR_congr {t : ℕ} (hq : q t = q' t) (hk : ∀ u ≤ t, k u = k' u) (hv : ∀ u ≤ t, v u = v' u) (ha : ∀ u ≤ t, a u = a' u) (e : ℕ) :
    oR q k v a t e = oR q' k' v' a' t e :=
  Finset.sum_congr rfl fun u hu => by
    have h : u ≤ t := Nat.lt_succ_iff.mp (Finset.mem_range.mp hu)
    unfold wR
    rw [hq, hk u h, hv u h]
    congr 1
    refine Finset.sum_congr rfl fun d _ => ?_
    rw [cumR_congr fun w hw => ha w (by omega), cumR_congr fun w hw => ha w (by omega)]

end Congr

variable (q k v a : ℕ → ℕ → ℝ) {Q K V P : ℕ → ℕ → EReal}

/-- The body's state after a tile whose rows are those of `k`, `v` and `a` from time `n` on. -/
theorem tile_st (n : ℕ) (hK : ∀ t d, K t d = (k (n + t % 1024) d : EReal)) (hV : ∀ t d, V t d = (v (n + t % 1024) d : EReal))
    (hP : ∀ t d, P t d = (a (n + t % 1024) d : EReal)) (d e : ℕ) :
    stN K V (bN P) (C2 (stR k v a n)) d e = ((stR k v a (n + 1024) d e : ℝ) : EReal) := by
  have eK : K = C2 fun t d => wrap n k (n + t) d := by funext t d; rw [hK, C2, wrap_add]
  have eV : V = C2 fun t d => wrap n v (n + t) d := by funext t d; rw [hV, C2, wrap_add]
  have eP : P = C2 fun t d => wrap n a (n + t) d := by funext t d; rw [hP, C2, wrap_add]
  have eS : stR k v a n = stR (wrap n k) (wrap n v) (wrap n a) n := by
    funext d e
    exact stR_congr (fun u hu => (wrap_of_lt (by omega) _).symm) (fun u hu => (wrap_of_lt (by omega) _).symm)
      (fun u hu => (wrap_of_lt (by omega) _).symm) d e
  rw [eK, eV, eP, eS, bN_coe, stN_coe]
  congr 1
  exact stR_congr (fun u hu => wrap_of_lt hu _) (fun u hu => wrap_of_lt hu _) (fun u hu => wrap_of_lt hu _) d e

/-- The body's attention in such a tile. -/
theorem tile_o (n : ℕ) (hQ : ∀ t d, Q t d = (q (n + t % 1024) d : EReal)) (hK : ∀ t d, K t d = (k (n + t % 1024) d : EReal))
    (hV : ∀ t d, V t d = (v (n + t % 1024) d : EReal)) (hP : ∀ t d, P t d = (a (n + t % 1024) d : EReal))
    (t e : ℕ) (ht : t < 1024) :
    oN Q K V (bN P) (C2 (stR k v a n)) t e = ((oR q k v a (n + t) e : ℝ) : EReal) := by
  have eQ : Q = C2 fun t d => wrap n q (n + t) d := by funext t d; rw [hQ, C2, wrap_add]
  have eK : K = C2 fun t d => wrap n k (n + t) d := by funext t d; rw [hK, C2, wrap_add]
  have eV : V = C2 fun t d => wrap n v (n + t) d := by funext t d; rw [hV, C2, wrap_add]
  have eP : P = C2 fun t d => wrap n a (n + t) d := by funext t d; rw [hP, C2, wrap_add]
  have eS : stR k v a n = stR (wrap n k) (wrap n v) (wrap n a) n := by
    funext d e
    exact stR_congr (fun u hu => (wrap_of_lt (by omega) _).symm) (fun u hu => (wrap_of_lt (by omega) _).symm)
      (fun u hu => (wrap_of_lt (by omega) _).symm) d e
  rw [eQ, eK, eV, eP, eS, bN_coe, oN_coe]
  congr 1
  exact oR_congr (wrap_of_lt (by omega) _) (fun u hu => wrap_of_lt (by omega) _) (fun u hu => wrap_of_lt (by omega) _)
    (fun u hu => wrap_of_lt (by omega) _) e

/-! ## The gate -/

theorem ofBits_16 : Ideal.ofBits FTy.f32 1098907648#32 = ((16 : ℝ) : EReal) := by
  simp [Ideal.ofBits, Ideal.ieee]
  rw [← EReal.coe_mul]
  norm_num

/-- The body's log-sigmoid over 16 of a real logit. -/
theorem gate_coe (x : ℝ) :
    Ideal.div (min (x : EReal) 0 - Ideal.log (1 + Ideal.exp (0 - FloatOps.absf (F := Ideal) (φ := .f32) (x : EReal))))
      (Ideal.ofBits FTy.f32 1098907648#32) = (((min x 0 - Real.log (1 + Real.exp (-|x|))) * (1 / 16) : ℝ) : EReal) := by
  have e1 : FloatOps.absf (F := Ideal) (φ := .f32) (x : EReal) = ((|x| : ℝ) : EReal) := by
    show max (x : EReal) (-(x : EReal)) = _
    rw [← EReal.coe_neg]
    exact (EReal.coe_strictMono.monotone.map_max).symm
  have h : ¬ (1 + Real.exp (-|x|) ≤ 0) := not_le.mpr (by positivity)
  rw [ofBits_16, Ideal.div_coe (by norm_num), e1, zero_sub, ← EReal.coe_neg, Ideal.exp_coe, ← EReal.coe_one, ← EReal.coe_add,
    Ideal.log_coe, if_neg h, ← EReal.coe_zero, ← EReal.coe_strictMono.monotone.map_min, ← EReal.coe_sub, ← EReal.coe_mul]

section Blk

variable (m : (ℓ : Loc nD τ sig) → Buf (Elt Ideal) ℓ) (c : Dev nD)

/-- The arguments as the launch finds them. -/
def a0 : S4x8192x10240.Idx → EReal := m ((c : Thread nD τ).loc main_arg0)
def a1 : S4x8192x128.Idx → EReal := m ((c : Thread nD τ).loc main_arg1)
def a2 : S1x16x1024.Idx → EReal := m ((c : Thread nD τ).loc main_arg2)
def a3 : S1x1024.Idx → EReal := m ((c : Thread nD τ).loc main_arg3)
def a4 : S1x4x512.Idx → EReal := m ((c : Thread nD τ).loc main_arg4)

variable {m c} (F : Fins (a0 m c) (a1 m c) (a2 m c) (a3 m c)) (t : Fin cfg0.N)
include F

theorem q_coe (x d : ℕ) : at256 (iblk m c 0 t) x d =
    ((qG (a0 m c) (t.val / 32) (t.val / 8 % 4) (1024 * (t.val % 8) + x % 1024) d : ℝ) : EReal) :=
  (blk_q m c t x d).trans (toReal_of (F.hp _ _ _ (by omega)))

theorem k_coe (x d : ℕ) : at256 (iblk m c 1 t) x d =
    ((kG (a0 m c) (t.val / 32) (t.val / 8 % 4) (1024 * (t.val % 8) + x % 1024) d : ℝ) : EReal) :=
  (blk_k m c t x d).trans (toReal_of (F.hp _ _ _ (by omega)))

theorem v_coe (x d : ℕ) : at512 (iblk m c 2 t) x d =
    ((vG (a0 m c) (t.val / 32) (t.val / 8 % 4) (1024 * (t.val % 8) + x % 1024) d : ℝ) : EReal) :=
  (blk_v m c t x d).trans (toReal_of (F.hp _ _ _ (by omega)))

theorem logit_coe (x d : ℕ) : (∑ j : Fin 128, at128 (iblk m c 4 t) x j * (iblk m c 5 t (ix2 j (Fin.ofNat 256 d)) : EReal)) +
    (iblk m c 6 t (ix2 0 (Fin.ofNat 256 d)) : EReal) =
      ((xG (a1 m c) (a2 m c) (a3 m c) (t.val / 32) (t.val / 8 % 4) (1024 * (t.val % 8) + x % 1024) d : ℝ) : EReal) := by
  unfold xG
  rw [EReal.coe_add]
  congr 1
  · have e : ∀ j : Fin 128, at128 (iblk m c 4 t) x j * (iblk m c 5 t (ix2 j (Fin.ofNat 256 d)) : EReal) =
        ((if j.val < 16 then (lrE (a1 m c) (t.val / 32) (1024 * (t.val % 8) + x % 1024) j).toReal *
          (waE (a2 m c) j (256 * (t.val / 8 % 4) + d % 256)).toReal else 0 : ℝ) : EReal) := by
      intro j
      rw [blk_wa, blk_lr]
      split_ifs with h
      · rw [EReal.coe_mul]
        exact congrArg₂ (· * ·) (toReal_of (F.hl _ _ _ h)) (toReal_of (F.hw _ _))
      · rw [mul_zero, EReal.coe_zero]
    rw [Finset.sum_congr rfl fun j _ => e j, coe_sum_fin fun j => if j < 16 then (lrE (a1 m c) (t.val / 32) (1024 * (t.val % 8) + x % 1024) j).toReal *
          (waE (a2 m c) j (256 * (t.val / 8 % 4) + d % 256)).toReal else 0, ← Finset.sum_filter]
    congr 1
  · rw [blk_ba]
    exact toReal_of (F.hb _)

theorem a_coe (x d : ℕ) : lgN (iblk m c 4 t) (iblk m c 5 t) (iblk m c 6 t) x d =
    ((aG (a1 m c) (a2 m c) (a3 m c) (t.val / 32) (t.val / 8 % 4) (1024 * (t.val % 8) + x % 1024) d : ℝ) : EReal) := by
  unfold lgN aG
  rw [logit_coe F t x d]
  exact gate_coe _

end Blk

end Cert.Gla
-- ==== Proof.KernelValue.lean ====
module

public import proofs.«01_k».proof.Proof.Tile

@[expose] public section

set_option maxRecDepth 16384

noncomputable section

open Idealize.ShloMosaic Idealize.ShloMosaic.TcCoe Idealize.SL.Sem

namespace Cert.Gla

open Cert.KernelIdeal Cert.KernelIdeal.Gen Cert.KernelIdeal.Body

variable {m : (ℓ : Loc nD τ sig) → Buf (Elt Ideal) ℓ} {c : Dev nD}

/-- The state of batch element `b`, head `h` before time `n`. -/
def stG (p : S4x8192x10240.Idx → EReal) (lr : S4x8192x128.Idx → EReal) (wa : S1x16x1024.Idx → EReal) (ba : S1x1024.Idx → EReal)
    (b h n d e : ℕ) : ℝ := stR (kG p b h) (vG p b h) (aG lr wa ba b h) n d e

theorem aG_mod (lr : S4x8192x128.Idx → EReal) (wa : S1x16x1024.Idx → EReal) (ba : S1x1024.Idx → EReal) (b h t d : ℕ) :
    aG lr wa ba b h t (d % 256) = aG lr wa ba b h t d := by
  unfold aG xG
  simp only [Nat.mod_mod]

theorem cumG_mod (lr : S4x8192x128.Idx → EReal) (wa : S1x16x1024.Idx → EReal) (ba : S1x1024.Idx → EReal) (b h n d : ℕ) :
    cumR (aG lr wa ba b h) n (d % 256) = cumR (aG lr wa ba b h) n d := by
  unfold cumR
  simp only [aG_mod]

theorem stG_mod (p : S4x8192x10240.Idx → EReal) (lr : S4x8192x128.Idx → EReal) (wa : S1x16x1024.Idx → EReal) (ba : S1x1024.Idx → EReal)
    (b h n d e : ℕ) : stG p lr wa ba b h n (d % 256) (e % 512) = stG p lr wa ba b h n d e := by
  unfold stG stR
  simp only [cumG_mod]
  unfold kG vG
  simp only [Nat.mod_mod]

theorem atS_GS (p : S4x8192x10240.Idx → EReal) (lr : S4x8192x128.Idx → EReal) (wa : S1x16x1024.Idx → EReal) (ba : S1x1024.Idx → EReal)
    (b h n : ℕ) : atS (GS (C2 (stG p lr wa ba b h n))) = C2 (stG p lr wa ba b h n) := by
  funext d e
  unfold atS GS C2
  exact congrArg _ (stG_mod p lr wa ba b h n d e)

theorem st_zero (k v a : ℕ → ℕ → ℝ) : (fun _ _ => 0 : ℕ → ℕ → EReal) = C2 (stR k v a 0) := by
  funext d e
  unfold C2 stR
  rw [Finset.range_zero, Finset.sum_empty, EReal.coe_zero]

variable (F : Fins (a0 m c) (a1 m c) (a2 m c) (a3 m c))
include F

/-- What the carried state holds after a grid point: the state at the end of the point's tile. -/
theorem state_after (t : ℕ) (ht : t < cfg0.N) : (outsAt0 m c t ht).2 =
    GS (C2 (stG (a0 m c) (a1 m c) (a2 m c) (a3 m c) (t / 32) (t / 8 % 4) (1024 * (t % 8) + 1024))) := by
  induction t using Nat.strong_induction_on with
  | _ t ih =>
    have hK := k_coe F ⟨t, ht⟩
    have hV := v_coe F ⟨t, ht⟩
    have hP := a_coe F ⟨t, ht⟩
    by_cases h0 : t % 8 = 0
    · rw [outsAt0_A m c ⟨t, ht⟩ h0]
      dsimp only
      rw [st_A, st_zero (kG (a0 m c) (t / 32) (t / 8 % 4)) (vG (a0 m c) (t / 32) (t / 8 % 4)) (aG (a1 m c) (a2 m c) (a3 m c) (t / 32) (t / 8 % 4)),
        show 0 = 1024 * (t % 8) by omega]
      congr 1
      funext d e
      exact tile_st _ _ _ _ hK hV hP d e
    · rw [outsAt0_B m c ⟨t, ht⟩ h0]
      dsimp only
      rw [st_B, ih (t - 1) (by omega) (by omega), show (t - 1) / 32 = t / 32 by omega, show (t - 1) / 8 = t / 8 by omega,
        show 1024 * ((t - 1) % 8) + 1024 = 1024 * (t % 8) by omega, atS_GS]
      congr 1
      funext d e
      exact tile_st _ _ _ _ hK hV hP d e

/-- What the output's buffer holds after a grid point: the specification's block. -/
theorem out_after (t : ℕ) (ht : t < cfg0.N) (x : Fin 1024) (e : Fin 512) : (outsAt0 m c t ht).1 (ix3 0 x e) =
    SPEC (a0 m c) (a1 m c) (a2 m c) (a3 m c) (a4 m c)
      (ix3 (Fin.ofNat 4 (t / 32)) (Fin.ofNat 8192 (1024 * (t % 8) + x.val)) (Fin.ofNat 2048 (512 * (t / 8 % 4) + e.val))) := by
  have hN := lt_of_lt_of_eq ht (show cfg0.N = 128 from N_0)
  have hx := x.isLt
  have he := e.isLt
  have key : (outsAt0 m c t ht).1 = G8 (outN (oN (at256 (iblk m c 0 ⟨t, ht⟩)) (at256 (iblk m c 1 ⟨t, ht⟩)) (at512 (iblk m c 2 ⟨t, ht⟩))
      (bN (lgN (iblk m c 4 ⟨t, ht⟩) (iblk m c 5 ⟨t, ht⟩) (iblk m c 6 ⟨t, ht⟩)))
      (C2 (stG (a0 m c) (a1 m c) (a2 m c) (a3 m c) (t / 32) (t / 8 % 4) (1024 * (t % 8))))) (at512 (iblk m c 3 ⟨t, ht⟩)) (atg (iblk m c 7 ⟨t, ht⟩))) := by
    by_cases h0 : t % 8 = 0
    · rw [outsAt0_A m c ⟨t, ht⟩ h0]
      dsimp only
      rw [out_A, st_zero (kG (a0 m c) (t / 32) (t / 8 % 4)) (vG (a0 m c) (t / 32) (t / 8 % 4)) (aG (a1 m c) (a2 m c) (a3 m c) (t / 32) (t / 8 % 4)),
        show 0 = 1024 * (t % 8) by omega]
      rfl
    · rw [outsAt0_B m c ⟨t, ht⟩ h0]
      dsimp only
      rw [out_B, state_after F (t - 1) (by omega), show (t - 1) / 32 = t / 32 by omega, show (t - 1) / 8 = t / 8 by omega,
        show 1024 * ((t - 1) % 8) + 1024 = 1024 * (t % 8) by omega, atS_GS]
  have ho := fun e' => tile_o _ _ _ _ (1024 * (t % 8)) (q_coe F ⟨t, ht⟩) (k_coe F ⟨t, ht⟩) (v_coe F ⟨t, ht⟩) (a_coe F ⟨t, ht⟩) x.val e' hx
  rw [key]
  unfold SPEC G8 outN attG
  have e0 : (ix3 (Fin.ofNat 4 (t / 32)) (Fin.ofNat 8192 (1024 * (t % 8) + x.val)) (Fin.ofNat 2048 (512 * (t / 8 % 4) + e.val)) : S4x8192x2048.Idx) 0 =
    Fin.ofNat 4 (t / 32) := rfl
  have e1 : (ix3 (Fin.ofNat 4 (t / 32)) (Fin.ofNat 8192 (1024 * (t % 8) + x.val)) (Fin.ofNat 2048 (512 * (t / 8 % 4) + e.val)) : S4x8192x2048.Idx) 1 =
    Fin.ofNat 8192 (1024 * (t % 8) + x.val) := rfl
  have e2 : (ix3 (Fin.ofNat 4 (t / 32)) (Fin.ofNat 8192 (1024 * (t % 8) + x.val)) (Fin.ofNat 2048 (512 * (t / 8 % 4) + e.val)) : S4x8192x2048.Idx) 2 =
    Fin.ofNat 2048 (512 * (t / 8 % 4) + e.val) := rfl
  have f0 : (ix3 0 x e : S1x1024x512.Idx) 1 = x := rfl
  have f1 : (ix3 0 x e : S1x1024x512.Idx) 2 = e := rfl
  rw [e0, e1, e2, f0, f1]
  simp only [Fin.val_ofNat]
  rw [show t / 32 % 4 = t / 32 by omega, show (1024 * (t % 8) + x.val) % 8192 = 1024 * (t % 8) + x.val by omega,
    show (512 * (t / 8 % 4) + e.val) % 2048 / 512 = t / 8 % 4 by omega, show (512 * (t / 8 % 4) + e.val) % 2048 % 512 = e.val by omega,
    blk_r, blk_ng, show x.val % 1024 = x.val by omega]
  have ho' : ∀ e', oN (at256 (iblk m c 0 ⟨t, ht⟩)) (at256 (iblk m c 1 ⟨t, ht⟩)) (at512 (iblk m c 2 ⟨t, ht⟩))
      (bN (lgN (iblk m c 4 ⟨t, ht⟩) (iblk m c 5 ⟨t, ht⟩) (iblk m c 6 ⟨t, ht⟩)))
      (C2 (stG (a0 m c) (a1 m c) (a2 m c) (a3 m c) (t / 32) (t / 8 % 4) (1024 * (t % 8)))) x.val e' = _ := ho
  simp only [ho']
  rfl

/-- The result array after the run. -/
theorem kernel_array : (dats m 0 c).arrAt 8 cfg0.N = SPEC (a0 m c) (a1 m c) (a2 m c) (a3 m c) (a4 m c) := by
  refine (dats m 0 c).arrAt_eq_of_covers 8 _ (by decide +kernel) fun t hf y => ?_
  have hN := lt_of_lt_of_eq t.isLt (show cfg0.N = 128 from N_0)
  rw [after0_8]
  rw [cast_eq]
  have hz : ∀ z : S1x1024x512.Idx, z = ix3 0 (z 1) (z 2) := fun z => by
    funext a
    match a with
    | ⟨0, _⟩ => exact Subsingleton.elim (α := Fin 1) _ _
    | ⟨1, _⟩ => rfl
    | ⟨2, _⟩ => rfl
  refine (congrArg (outsAt0 m c t.val t.isLt).1 (hz _)).trans ((out_after F t.val t.isLt _ _).trans (congrArg _ ?_))
  blk_ext [(idx t).2.2.2.2.2.2.2.2] <;> (simp only [Fin.val_ofNat]; omega)

end Cert.Gla
-- ==== Proof.RefEntry.lean ====
module

public import proofs.«01_k».proof.Proof.Gen.ReferenceIdeal.Run
public import proofs.«01_k».proof.Proof.Gen.ReferenceIdeal.Step
public import Idealize.ShloMosaic.Lib.StableHlo.ReadAt
public import Idealize.ShloMosaic.Lib.Pointwise
public import Idealize.ShloMosaic.Lib.DynamicIndex
public import Idealize.ShloMosaic.Lib.Pipeline.Value

@[expose] public section

set_option maxRecDepth 16384

noncomputable section

open Idealize.ShloMosaic Idealize.ShloMosaic.TcCoe Idealize.SL.Sem

namespace Cert.ReferenceIdeal.Entry

open Cert.ReferenceIdeal Cert.ReferenceIdeal.Gen Cert.ReferenceIdeal.Value
open Idealize.ShloMosaic.StableHlo

variable (m : (ℓ : Loc nD τ sig) → Buf (Elt Ideal) ℓ) (c : Dev nD)

/-- The arguments as the launch finds them. -/
abbrev r0 := m ((c.tc : Thread nD τ).loc main_arg0)
abbrev r1 := m ((c.tc : Thread nD τ).loc main_arg1)
abbrev r2 := m ((c.tc : Thread nD τ).loc main_arg2)
abbrev r3 := m ((c.tc : Thread nD τ).loc main_arg3)

/-- The values the loop is entered with, of the arguments. -/
structure Entered (V : Valuation τ sig (Elt Ideal)) : Prop where
  q : V (Proc.devRef .tc main_v64_0) = Step.A_main_v47 (r0 m c) (r1 m c) (r2 m c) (r3 m c)
  k : V (Proc.devRef .tc main_v64_1) = Step.A_main_v54 (r0 m c) (r1 m c) (r2 m c) (r3 m c)
  v : V (Proc.devRef .tc main_v64_2) = Step.A_main_v39 (r0 m c) (r1 m c) (r2 m c) (r3 m c)
  d : V (Proc.devRef .tc main_v64_3) = Step.A_main_v61 (r0 m c) (r1 m c) (r2 m c) (r3 m c)
  o : V (Proc.devRef .tc main_v64_4) = Step.A_main_v59 (r0 m c) (r1 m c) (r2 m c) (r3 m c)

theorem entered : Entered m c (entryContents preI m c) := by
  simp only [entryContents, preI, afterL_cons, afterL_nil, hostOps0, hostOps0_1, hostOps0_2, hostOps0_3, hostOps0_4, hostOps0_5, hostOps0_6]
  constructor <;> (after_reads_simp; rfl)

theorem entered_state : entryContents preI m c (Proc.devRef .tc main_v64_5) = constantI S_ 32 0#32 ∧
    entryContents preI m c (Proc.devRef .tc main_v64_6) = Step.K_main_v62 := by
  simp only [entryContents, preI, afterL_cons, afterL_nil, hostOps0, hostOps0_1, hostOps0_2, hostOps0_3, hostOps0_4, hostOps0_5, hostOps0_6]
  constructor <;> (after_reads_simp; rfl)

/-- The buffers after `n` trips. -/
abbrev VN (n : ℕ) : Valuation τ sig (Elt Ideal) := STEP^[n] (entryContents preI m c)

theorem entered_trips (n : ℕ) : Entered m c (VN m c n) := by
  induction n with
  | zero => exact entered m c
  | succ n ih =>
    unfold VN
    rw [Function.iterate_succ_apply']
    exact ⟨(STEP_main_v64_0 _).trans ih.q, (STEP_main_v64_1 _).trans ih.k, (STEP_main_v64_2 _).trans ih.v,
      (STEP_main_v64_3 _).trans ih.d, (STEP_main_v64_4 _).trans ih.o⟩

/-- The counter counts the trips. -/
theorem counter (n : ℕ) : VN m c n (Proc.devRef .tc main_v64_5) = constantI S_ 32 (BitVec.ofNat 32 n) := by
  induction n with
  | zero => exact (entered_state m c).1
  | succ n ih =>
    unfold VN
    rw [Function.iterate_succ_apply', STEP_main_v64_5]
    unfold step_main_v64_5
    rw [show (STEP^[n] (entryContents preI m c)) (Proc.devRef .tc main_v64_5) = _ from ih]
    funext x
    show BitVec.ofNat 32 n + 1#32 = BitVec.ofNat 32 (n + 1)
    rw [BitVec.ofNat_add]

theorem toInt_trip (n : ℕ) (hn : n < 128) : (BitVec.ofNat 32 n).toInt = n := by
  rw [BitVec.toInt_eq_toNat_of_lt (by rw [BitVec.toNat_ofNat]; omega), BitVec.toNat_ofNat]
  omega

/-- A chunk's slot at trip `n`, read out of an array of 128 chunks of 64 rows. -/
theorem slot256 (n : ℕ) (hn : n < 128) (x : S128x4x4x64x256.Idx → EReal) (st : Fin 5 → Int) (hst : ∀ a, st a = ((![n, 0, 0, 0, 0] : Fin 5 → ℕ) a : Int))
    (b h : Fin 4) (r : Fin 64) (d : Fin 256) :
    shapeCast S4x4x64x256 (Host.dynamicSlice S1x4x4x64x256 x st sliceFits_S128x4x4x64x256_S1x4x4x64x256) shapeCasts_S1x4x4x64x256_S4x4x64x256
      (ix4 b h r d) = x (ix5 ⟨n, hn⟩ b h r d) := by
  have hs : S128x4x4x64x256.Slices ![n, 0, 0, 0, 0] S1x4x4x64x256 := ⟨rfl, fun a => by fin_cases a <;> simp <;> omega⟩
  have hd : Host.dynamicSlice S1x4x4x64x256 x st sliceFits_S128x4x4x64x256_S1x4x4x64x256 = extractStridedSlice S1x4x4x64x256 ![n, 0, 0, 0, 0] x hs :=
    Host.dynamicSlice_eq_extractStridedSlice S1x4x4x64x256 x st ![n, 0, 0, 0, 0] sliceFits_S128x4x4x64x256_S1x4x4x64x256 hs hst
  rw [hd]
  pointwise

theorem slot512 (n : ℕ) (hn : n < 128) (x : S128x4x4x64x512.Idx → EReal) (st : Fin 5 → Int) (hst : ∀ a, st a = ((![n, 0, 0, 0, 0] : Fin 5 → ℕ) a : Int))
    (b h : Fin 4) (r : Fin 64) (d : Fin 512) :
    shapeCast S4x4x64x512 (Host.dynamicSlice S1x4x4x64x512 x st sliceFits_S128x4x4x64x512_S1x4x4x64x512) shapeCasts_S1x4x4x64x512_S4x4x64x512
      (ix4 b h r d) = x (ix5 ⟨n, hn⟩ b h r d) := by
  have hs : S128x4x4x64x512.Slices ![n, 0, 0, 0, 0] S1x4x4x64x512 := ⟨rfl, fun a => by fin_cases a <;> simp <;> omega⟩
  have hd : Host.dynamicSlice S1x4x4x64x512 x st sliceFits_S128x4x4x64x512_S1x4x4x64x512 = extractStridedSlice S1x4x4x64x512 ![n, 0, 0, 0, 0] x hs :=
    Host.dynamicSlice_eq_extractStridedSlice S1x4x4x64x512 x st ![n, 0, 0, 0, 0] sliceFits_S128x4x4x64x512_S1x4x4x64x512 hs hst
  rw [hd]
  pointwise

theorem slotd (n : ℕ) (hn : n < 128) (x : S128x4x4x256.Idx → EReal) (st : Fin 4 → Int) (hst : ∀ a, st a = ((![n, 0, 0, 0] : Fin 4 → ℕ) a : Int))
    (b h : Fin 4) (d : Fin 256) :
    shapeCast S4x4x256 (Host.dynamicSlice S1x4x4x256 x st sliceFits_S128x4x4x256_S1x4x4x256) shapeCasts_S1x4x4x256_S4x4x256
      (ix3 b h d) = x (ix4 ⟨n, hn⟩ b h d) := by
  have hs : S128x4x4x256.Slices ![n, 0, 0, 0] S1x4x4x256 := ⟨rfl, fun a => by fin_cases a <;> simp <;> omega⟩
  have hd : Host.dynamicSlice S1x4x4x256 x st sliceFits_S128x4x4x256_S1x4x4x256 = extractStridedSlice S1x4x4x256 ![n, 0, 0, 0] x hs :=
    Host.dynamicSlice_eq_extractStridedSlice S1x4x4x256 x st ![n, 0, 0, 0] sliceFits_S128x4x4x256_S1x4x4x256 hs hst
  rw [hd]
  pointwise

/-- The starts of trip `n`'s slices. -/
theorem start5 (n : ℕ) (hn : n < 128) : ∀ a : Fin 5, (fun k => (((![(constantI S_ 32 (BitVec.ofNat 32 n) : (⟨S_, .i32⟩ : BufTy).Contents (Elt Ideal)),
    constantI S_ 32 0#32, constantI S_ 32 0#32, constantI S_ 32 0#32, constantI S_ 32 0#32] : Fin 5 → (⟨S_, .i32⟩ : BufTy).Contents (Elt Ideal))) k
      (Shape.Idx.first h_S_)).toInt) a = ((![n, 0, 0, 0, 0] : Fin 5 → ℕ) a : Int) := by
  intro a
  fin_cases a
  · exact toInt_trip n hn
  all_goals rfl

theorem start4 (n : ℕ) (hn : n < 128) : ∀ a : Fin 4, (fun k => (((![(constantI S_ 32 (BitVec.ofNat 32 n) : (⟨S_, .i32⟩ : BufTy).Contents (Elt Ideal)),
    constantI S_ 32 0#32, constantI S_ 32 0#32, constantI S_ 32 0#32] : Fin 4 → (⟨S_, .i32⟩ : BufTy).Contents (Elt Ideal))) k
      (Shape.Idx.first h_S_)).toInt) a = ((![n, 0, 0, 0] : Fin 4 → ℕ) a : Int) := by
  intro a
  fin_cases a
  · exact toInt_trip n hn
  all_goals rfl

/-- One trip's state at an index. -/
theorem b35_at (n : ℕ) (hn : n < 128) (s : Step.State Ideal) (b h : Fin 4) (d : Fin 256) (e : Fin 512) :
    (Step.b35 n s (ix4 b h d e) : EReal) = (s.main_v64_3 (ix4 ⟨n, hn⟩ b h d) : EReal) * s.main_v64_6 (ix4 b h d e) +
      ∑ r : Fin 64, (s.main_v64_1 (ix5 ⟨n, hn⟩ b h r d) : EReal) * s.main_v64_2 (ix5 ⟨n, hn⟩ b h r e) := by
  have h11 : ∀ r, Step.b11 n s (ix4 b h r d) = s.main_v64_1 (ix5 ⟨n, hn⟩ b h r d) := fun r => slot256 n hn _ _ (start5 n hn) b h r d
  have h17 : ∀ r, Step.b17 n s (ix4 b h r e) = s.main_v64_2 (ix5 ⟨n, hn⟩ b h r e) := fun r => slot512 n hn _ _ (start5 n hn) b h r e
  have h22 : Step.b22 n s (ix3 b h d) = s.main_v64_3 (ix4 ⟨n, hn⟩ b h d) := slotd n hn _ _ (start4 n hn) b h d
  unfold Step.b35 Step.b34 Step.b33 Step.b32 Step.b31
  simp only [← h11, ← h17, ← h22]
  generalize Step.b11 n s = A
  generalize Step.b17 n s = B
  generalize Step.b22 n s = C
  pointwise

/-- One trip's outputs at an index. -/
theorem b41_at (n : ℕ) (hn : n < 128) (s : Step.State Ideal) (j : Fin 128) (b h : Fin 4) (r : Fin 64) (e : Fin 512) :
    (Step.b41 n s (ix5 j b h r e) : EReal) = if j.val = n then (s.main_v64_4 (ix5 ⟨n, hn⟩ b h r e) : EReal) +
      ∑ d : Fin 256, (s.main_v64_0 (ix5 ⟨n, hn⟩ b h r d) : EReal) * s.main_v64_6 (ix4 b h d e)
      else s.main_v64_7 (ix5 j b h r e) := by
  have h5 : ∀ d, Step.b5 n s (ix4 b h r d) = s.main_v64_0 (ix5 ⟨n, hn⟩ b h r d) := fun d => slot256 n hn _ _ (start5 n hn) b h r d
  have h28 : Step.b28 n s (ix4 b h r e) = s.main_v64_4 (ix5 ⟨n, hn⟩ b h r e) := slot512 n hn _ _ (start5 n hn) b h r e
  unfold Step.b41
  have hu := Host.dynamicUpdateSlice_eq_updateSlice s.main_v64_7 (Step.b36 n s) _ updateFits_S128x4x4x64x512_S1x4x4x64x512 ![n, 0, 0, 0, 0]
    (fun a => (congrArg (fun z : Int => (min (max z 0) _).toNat) (start5 n hn a)).trans (by fin_cases a <;> simp <;> omega)) ⟨rfl, fun a => by fin_cases a <;> simp <;> omega⟩
  refine (congrFun hu _).trans ?_
  unfold Step.b36 Step.b30 Step.b29
  simp only [← h5, ← h28]
  generalize Step.b5 n s = A
  generalize Step.b28 n s = B
  pointwise
  by_cases hj : j.val = n
  · rw [dif_pos (by omega), if_pos hj]
  · rw [dif_neg (by omega), if_neg hj]

/-- The buffers a trip reads, as one record. -/
def st (V : Valuation τ sig (Elt Ideal)) : Step.State Ideal where
  main_v64_6 := V (Proc.devRef .tc main_v64_6)
  main_v64_7 := V (Proc.devRef .tc main_v64_7)
  main_v64_0 := V (Proc.devRef .tc main_v64_0)
  main_v64_1 := V (Proc.devRef .tc main_v64_1)
  main_v64_2 := V (Proc.devRef .tc main_v64_2)
  main_v64_3 := V (Proc.devRef .tc main_v64_3)
  main_v64_4 := V (Proc.devRef .tc main_v64_4)

/-- A trip writes the state that the loop's body computes. -/
theorem step_state (V : Valuation τ sig (Elt Ideal)) (n : ℕ) (hV : V (Proc.devRef .tc main_v64_5) = constantI S_ 32 (BitVec.ofNat 32 n)) :
    step_main_v64_6 V = Step.b35 n (st V) := by
  unfold step_main_v64_6
  rw [hV]
  rfl

/-- A trip writes the outputs that the loop's body computes. -/
theorem step_out (V : Valuation τ sig (Elt Ideal)) (n : ℕ) (hV : V (Proc.devRef .tc main_v64_5) = constantI S_ 32 (BitVec.ofNat 32 n)) :
    step_main_v64_7 V = Step.b41 n (st V) := by
  unfold step_main_v64_7
  rw [hV]
  rfl

end Cert.ReferenceIdeal.Entry
-- ==== Proof.RefArrays.lean ====
module

public import proofs.«01_k».proof.Proof.KernelValue
public import proofs.«01_k».proof.Proof.RefEntry
@[expose] public section

set_option maxRecDepth 16384

noncomputable section

open Idealize.ShloMosaic Idealize.ShloMosaic.TcCoe Idealize.SL.Sem

namespace Cert.Gla.Ref

open Cert.ReferenceIdeal Cert.ReferenceIdeal.Gen Cert.ReferenceIdeal.Value

/-! ## The reference's arrays before the loop, at an index -/

variable (p : S4x8192x10240.Idx → EReal) (lr : S4x8192x128.Idx → EReal) (wa : S1x16x1024.Idx → EReal) (ba : S1x1024.Idx → EReal)

/-- The queries in chunks. -/
theorem q_at (n : Fin 128) (b h : Fin 4) (r : Fin 64) (d : Fin 256) :
    Step.A_main_v33 (F := Ideal) p lr wa ba (ix5 n b h r d) = pE p b (64 * n + r) (256 * h + d) := by
  unfold Step.A_main_v33 Step.A_main_v32 Step.A_main_v31 Step.A_main_v27 Step.A_main_v0
  pointwise
  refine congrArg p ?_
  congr 1 <;> refine Fin.ext ?_ <;> simp only [Fin.val_ofNat] <;> omega

/-- The keys in chunks. -/
theorem k_at (n : Fin 128) (b h : Fin 4) (r : Fin 64) (d : Fin 256) :
    Step.A_main_v36 (F := Ideal) p lr wa ba (ix5 n b h r d) = pE p b (64 * n + r) (1024 + 256 * h + d) := by
  unfold Step.A_main_v36 Step.A_main_v35 Step.A_main_v34 Step.A_main_v28 Step.A_main_v1
  pointwise
  refine congrArg p ?_
  congr 1 <;> refine Fin.ext ?_ <;> simp only [Fin.val_ofNat] <;> omega

/-- The values in chunks. -/
theorem v_at (n : Fin 128) (b h : Fin 4) (r : Fin 64) (e : Fin 512) :
    Step.A_main_v39 (F := Ideal) p lr wa ba (ix5 n b h r e) = pE p b (64 * n + r) (2048 + 512 * h + e) := by
  unfold Step.A_main_v39 Step.A_main_v38 Step.A_main_v37 Step.A_main_v29 Step.A_main_v2
  pointwise
  refine congrArg p ?_
  congr 1 <;> refine Fin.ext ?_ <;> simp only [Fin.val_ofNat] <;> omega

/-- The gate's logit. -/
theorem logit_at (b : Fin 4) (t : Fin 8192) (j : Fin 1024) :
    Step.A_main_v9 (F := Ideal) p lr wa ba (ix3 b t j) = ∑ x : Fin 16, lrE lr b t x * waE wa x j + baE ba j := by
  unfold Step.A_main_v9 Step.A_main_v8 Step.A_main_v7 Step.A_main_v6 Step.A_main_v5 Step.A_main_v4 Step.A_main_v3
  pointwise
  unfold lrE waE baE
  congr 1
  · refine Finset.sum_congr rfl fun x _ => congrArg₂ (· * ·) (congrArg lr ?_) (congrArg wa ?_) <;>
      congr 1 <;> refine Fin.ext ?_ <;> simp only [Fin.val_ofNat] <;> omega
  · refine congrArg ba ?_
    congr 1
    refine Fin.ext ?_
    simp only [Fin.val_ofNat]
    omega

/-- The negated softplus of a negated logit, over 16, is its log-sigmoid over 16. -/
theorem softplus_coe (x : ℝ) :
    Ideal.div (-(max (-(x : EReal)) 0 + Ideal.log1p (Ideal.exp (-FloatOps.absf (F := Ideal) (φ := .f32) (-(x : EReal))))))
      (Ideal.ofBits FTy.f32 1098907648#32) = (((min x 0 - Real.log (1 + Real.exp (-|x|))) * (1 / 16) : ℝ) : EReal) := by
  have e1 : FloatOps.absf (F := Ideal) (φ := .f32) (-(x : EReal)) = ((|x| : ℝ) : EReal) := by
    show max (-(x : EReal)) (-(-(x : EReal))) = _
    rw [← EReal.coe_neg, ← EReal.coe_neg, ← abs_neg x]
    exact (EReal.coe_strictMono.monotone.map_max).symm
  have h : ¬ (1 + Real.exp (-|x|) ≤ 0) := not_le.mpr (by positivity)
  have hm : -max (-x) 0 = min x 0 := by rcases le_total x 0 with hx | hx <;> simp [hx]
  rw [ofBits_16, Ideal.div_coe (by norm_num), e1, ← EReal.coe_neg, ← EReal.coe_neg, Ideal.exp_coe, Ideal.log1p, ← EReal.coe_one, ← EReal.coe_add,
    Ideal.log_coe, if_neg h, ← EReal.coe_zero, ← EReal.coe_strictMono.monotone.map_max, ← EReal.coe_add, ← EReal.coe_neg, ← EReal.coe_mul,
    ← hm, neg_add]
  rfl

/-- The logarithm of the decay. -/
theorem decay_at (b : Fin 4) (t : Fin 8192) (j : Fin 1024) (x : ℝ) (hx : Step.A_main_v9 (F := Ideal) p lr wa ba (ix3 b t j) = (x : EReal)) :
    Step.A_main_v26 (F := Ideal) p lr wa ba (ix3 b t j) = (((min x 0 - Real.log (1 + Real.exp (-|x|))) * (1 / 16) : ℝ) : EReal) := by
  unfold Step.A_main_v26 Step.A_main_v24 Step.A_main_v23 Step.A_main_v22 Step.A_main_v21 Step.A_main_v20 Step.A_main_v19 Step.A_main_v18
    Step.A_main_v17 Step.A_main_v15 Step.A_main_v14 Step.A_main_v12 Step.A_main_v10
  generalize Step.A_main_v9 (F := Ideal) p lr wa ba = L at hx
  unfold Step.K_main_v25 Step.K_main_v16 Step.K_main_v13 Step.K_main_v11 Step.K_main_cst Step.K_main_cst_0
  pointwise
  rw [hx, if_neg (not_not.mpr rfl)]
  exact softplus_coe x

/-- The decays in chunks. -/
theorem split_at (n : Fin 128) (b h : Fin 4) (r : Fin 64) (d : Fin 256) :
    Step.A_main_v41 (F := Ideal) p lr wa ba (ix5 n b h r d) = Step.A_main_v26 (F := Ideal) p lr wa ba (ix3 b ⟨64 * n + r, by omega⟩ ⟨256 * h + d, by omega⟩) := by
  unfold Step.A_main_v41 Step.A_main_v40 Step.A_main_v30
  generalize Step.A_main_v26 (F := Ideal) p lr wa ba = L
  pointwise
  refine congrArg L ?_
  congr 1 <;> refine Fin.ext ?_ <;> simp only <;> omega

/-- The causal mask. -/
theorem mask_at (n : Fin 128) (b h : Fin 4) (r s : Fin 64) (x y : S128x4x4x64x64.Idx → EReal) :
    select (Step.K_main_call2_v1 (F := Ideal)) x y (ix5 n b h r s) = if s.val ≤ r.val then x (ix5 n b h r s) else y (ix5 n b h r s) := by
  unfold Step.K_main_call2_v1 Step.K_main_v56 Step.K_main_call1_v4 Step.K_main_call1_v2 Step.K_main_call1_v0 Step.K_main_call1_v1 Step.K_main_call1_c
    Step.K_main_call1_v3 Step.K_main_v55 Step.K_main_c Step.K_main_call1_v5 Step.K_main_call1_c_0
  pointwise
  have e : ∀ r s : Fin 64, IntOp.cmpi CmpIPredicate.sge (IntOp.addi (BitVec.ofNat 32 r.val) 0#32) (BitVec.ofNat 32 s.val) =
      if s.val ≤ r.val then 1#1 else 0#1 := by decide +kernel
  rw [e r s]
  split_ifs <;> rfl

/-- The chunk's rows' query, decayed from the chunk's start and scaled. -/
theorem qd_at (n : Fin 128) (b h : Fin 4) (r : Fin 64) (d : Fin 256) :
    (Step.A_main_v47 (F := Ideal) p lr wa ba (ix5 n b h r d) : EReal) = pE p b (64 * n + r) (256 * h + d) *
      Ideal.exp (Step.A_main_v42 (F := Ideal) p lr wa ba (ix5 n b h r d)) * Ideal.ofBits FTy.f32 1031798784#32 := by
  rw [← q_at p lr wa ba]
  unfold Step.A_main_v47 Step.A_main_v45 Step.A_main_v44 Step.K_main_v46 Step.K_main_cst_1
  generalize Step.A_main_v42 (F := Ideal) p lr wa ba = L
  generalize Step.A_main_v33 (F := Ideal) p lr wa ba = A
  pointwise

/-- The key, divided by the decay from the chunk's start. -/
theorem ki_at (n : Fin 128) (b h : Fin 4) (r : Fin 64) (d : Fin 256) :
    (Step.A_main_v50 (F := Ideal) p lr wa ba (ix5 n b h r d) : EReal) = pE p b (64 * n + r) (1024 + 256 * h + d) *
      Ideal.exp (-(Step.A_main_v42 (F := Ideal) p lr wa ba (ix5 n b h r d) : EReal)) := by
  rw [← k_at p lr wa ba]
  unfold Step.A_main_v50 Step.A_main_v49 Step.A_main_v48
  generalize Step.A_main_v42 (F := Ideal) p lr wa ba = L
  generalize Step.A_main_v36 (F := Ideal) p lr wa ba = A
  pointwise

/-- The key, decayed to the chunk's end. -/
theorem ke_at (n : Fin 128) (b h : Fin 4) (r : Fin 64) (d : Fin 256) :
    (Step.A_main_v54 (F := Ideal) p lr wa ba (ix5 n b h r d) : EReal) = pE p b (64 * n + r) (1024 + 256 * h + d) *
      Ideal.exp ((Step.A_main_v42 (F := Ideal) p lr wa ba (ix5 n b h 63 d) : EReal) - Step.A_main_v42 (F := Ideal) p lr wa ba (ix5 n b h r d)) := by
  rw [← k_at p lr wa ba]
  unfold Step.A_main_v54 Step.A_main_v53 Step.A_main_v52 Step.A_main_v51 Step.A_main_v43
  generalize Step.A_main_v42 (F := Ideal) p lr wa ba = L
  generalize Step.A_main_v36 (F := Ideal) p lr wa ba = A
  pointwise
  try rfl

/-- The chunk's whole decay. -/
theorem dec_at (n : Fin 128) (b h : Fin 4) (d : Fin 256) :
    (Step.A_main_v61 (F := Ideal) p lr wa ba (ix4 n b h d) : EReal) = Ideal.exp (Step.A_main_v42 (F := Ideal) p lr wa ba (ix5 n b h 63 d)) := by
  unfold Step.A_main_v61 Step.A_main_v60 Step.A_main_v43
  generalize Step.A_main_v42 (F := Ideal) p lr wa ba = L
  pointwise
  try rfl

/-- The attention within the chunk. -/
theorem intra_at (n : Fin 128) (b h : Fin 4) (r : Fin 64) (e : Fin 512) :
    (Step.A_main_v59 (F := Ideal) p lr wa ba (ix5 n b h r e) : EReal) = ∑ s : Fin 64,
      (if s.val ≤ r.val then ∑ d : Fin 256, (Step.A_main_v47 (F := Ideal) p lr wa ba (ix5 n b h r d) : EReal) *
        Step.A_main_v50 (F := Ideal) p lr wa ba (ix5 n b h s d) else 0) * pE p b (64 * n + s) (2048 + 512 * h + e) := by
  have hv := fun s => v_at p lr wa ba n b h s e
  have hm : ∀ s, (Step.A_main_v58 (F := Ideal) p lr wa ba (ix5 n b h r s) : EReal) = if s.val ≤ r.val then
      ∑ d : Fin 256, (Step.A_main_v47 (F := Ideal) p lr wa ba (ix5 n b h r d) : EReal) *
        Step.A_main_v50 (F := Ideal) p lr wa ba (ix5 n b h s d) else 0 := by
    intro s
    refine (mask_at n b h r s _ _).trans ?_
    unfold Step.A_main_v57 Step.K_main_call2_v2 Step.K_main_call2_v0 Step.K_main_cst_2
    generalize Step.A_main_v47 (F := Ideal) p lr wa ba = A
    generalize Step.A_main_v50 (F := Ideal) p lr wa ba = B
    have h0 : (constant (F := Ideal) S_ .f32 0x00000000#32 ix0 : EReal) = 0 := by pointwise
    pointwise
    exact congrArg (fun z : EReal => if s.val ≤ r.val then (∑ x : Fin 256, (A (ix5 n b h r x) : EReal) * B (ix5 n b h s x)) else z) h0
  simp only [← hm, ← hv]
  unfold Step.A_main_v59
  generalize Step.A_main_v58 (F := Ideal) p lr wa ba = A
  generalize Step.A_main_v39 (F := Ideal) p lr wa ba = B
  pointwise

end Cert.Gla.Ref
-- ==== Proof.RefCum.lean ====
module

public import Idealize.ShloMosaic.Lib.Pointwise
@[expose] public section

set_option maxRecDepth 16384

noncomputable section

open Idealize.ShloMosaic Idealize.ShloMosaic.TcCoe Idealize.SL.Sem

namespace Cert.Gla.Ref

/-! ## The reference's running sum over a chunk's rows -/

/-- The window's positions are its 64 rows. -/
def winEquiv : (⟨5, ![1, 1, 1, 64, 1]⟩ : Shape).Idx ≃ Fin 64 where
  toFun i := i 3
  invFun w := ix5 (0 : Fin 1) (0 : Fin 1) (0 : Fin 1) w (0 : Fin 1)
  left_inv i := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _
  right_inv w := rfl

/-- A left fold of additions from zero is the sum. -/
theorem foldl_add (N : ℕ) (f : Fin N → EReal) : (List.finRange N).foldl (fun s n => s + f n) 0 = ∑ n, f n := by
  rw [Fin.sum_univ_def, List.sum_eq_foldl, List.foldl_map]

/-- The window ending at row `j` sums the rows up to it. -/
theorem sum_window (g : ℕ → EReal) (j : ℕ) (hj : j < 64) :
    ∑ w : Fin 64, (if 63 ≤ j + w.val then g (j + w - 63) else 0) = ∑ i ∈ Finset.range (j + 1), g i := by
  rw [Fin.sum_univ_eq_sum_range (fun w => if 63 ≤ j + w then g (j + w - 63) else 0) 64, ← Finset.sum_filter]
  refine Finset.sum_nbij' (fun w => j + w - 63) (fun i => i + 63 - j) ?_ ?_ ?_ ?_ ?_
  · intro w hw
    simp only [Finset.mem_filter, Finset.mem_range] at *
    omega
  · intro w hw
    simp only [Finset.mem_filter, Finset.mem_range] at *
    omega
  · intro w hw
    simp only [Finset.mem_filter, Finset.mem_range] at *
    omega
  · intro w hw
    simp only [Finset.mem_filter, Finset.mem_range] at *
    omega
  · intro w hw
    rfl

/-- The running sum at an index: the sum of the chunk's rows up to it. -/
theorem cum_at {N B H D : ℕ} (x : (⟨5, ![N, B, H, 64, D]⟩ : Shape).Idx → EReal) (init : (⟨0, ![]⟩ : Shape).Idx → EReal)
    (h : (⟨5, ![N, B, H, 64, D]⟩ : Shape).ReduceWindows ![1, 1, 1, 64, 1] ![1, 1, 1, 1, 1] ![0, 0, 0, 63, 0] ![0, 0, 0, 0, 0] ⟨5, ![N, B, H, 64, D]⟩)
    (hu : 0 < (⟨0, ![]⟩ : Shape).numel) (hinit : init (Shape.Idx.first hu) = 0)
    (n : Fin N) (b : Fin B) (k : Fin H) (j : Fin 64) (d : Fin D) :
    Host.reduceWindow (· + ·) ![1, 1, 1, 64, 1] ![1, 1, 1, 1, 1] ![0, 0, 0, 63, 0] ![0, 0, 0, 0, 0] x init h hu (ix5 n b k j d) =
      ∑ i ∈ Finset.range (j + 1), x (ix5 n b k (Fin.ofNat 64 i) d) := by
  unfold Host.reduceWindow
  rw [hinit]
  refine (foldl_add _ _).trans ?_
  rw [← Equiv.sum_comp ((⟨5, ![1, 1, 1, 64, 1]⟩ : Shape).rowMajor), ← Equiv.sum_comp winEquiv.symm, ← sum_window _ _ j.isLt]
  refine Finset.sum_congr rfl fun w _ => ?_
  simp only [Equiv.symm_apply_apply]
  by_cases hw : 63 ≤ j.val + w.val
  · rw [if_pos hw, dif_pos]
    · congr 1
      funext a
      fin_cases a
      · exact Fin.ext (by show n.val * 1 + 0 - 0 = n.val; omega)
      · exact Fin.ext (by show b.val * 1 + 0 - 0 = b.val; omega)
      · exact Fin.ext (by show k.val * 1 + 0 - 0 = k.val; omega)
      · exact Fin.ext (by show j.val * 1 + w.val - 63 = (j.val + w.val - 63) % 64; omega)
      · exact Fin.ext (by show d.val * 1 + 0 - 0 = d.val; omega)
    · intro a
      fin_cases a
      · show 0 ≤ n.val * 1 + 0 ∧ n.val * 1 + 0 - 0 < N; omega
      · show 0 ≤ b.val * 1 + 0 ∧ b.val * 1 + 0 - 0 < B; omega
      · show 0 ≤ k.val * 1 + 0 ∧ k.val * 1 + 0 - 0 < H; omega
      · show 63 ≤ j.val * 1 + w.val ∧ j.val * 1 + w.val - 63 < 64; omega
      · show 0 ≤ d.val * 1 + 0 ∧ d.val * 1 + 0 - 0 < D; omega
  · rw [if_neg hw, dif_neg]
    intro hin
    have := (hin 3).1
    change 63 ≤ j.val * 1 + w.val at this
    omega

end Cert.Gla.Ref
-- ==== Proof.RefValue.lean ====
module

public import proofs.«01_k».proof.Proof.RefArrays
public import proofs.«01_k».proof.Proof.RefCum
@[expose] public section

set_option maxRecDepth 16384

noncomputable section

open Idealize.ShloMosaic Idealize.ShloMosaic.TcCoe Idealize.SL.Sem

namespace Cert.Gla.Ref

open Cert.ReferenceIdeal Cert.ReferenceIdeal.Gen Cert.ReferenceIdeal.Value Cert.ReferenceIdeal.Entry

/-! ## The reference's arrays before the loop, of finite arguments -/

section Arrays

variable {p : S4x8192x10240.Idx → EReal} {lr : S4x8192x128.Idx → EReal} {wa : S1x16x1024.Idx → EReal} {ba : S1x1024.Idx → EReal}
  (F : Fins p lr wa ba) (n : Fin 128) (b h : Fin 4) (r : Fin 64) (d : Fin 256) (e : Fin 512)
include F

theorem q_real : pE p b (64 * n + r) (256 * h + d) = ((qG p b h (64 * n + r) d : ℝ) : EReal) := by
  unfold qG
  rw [Nat.mod_eq_of_lt d.isLt]
  exact toReal_of (F.hp _ _ _ (by omega))

theorem k_real : pE p b (64 * n + r) (1024 + 256 * h + d) = ((kG p b h (64 * n + r) d : ℝ) : EReal) := by
  unfold kG
  rw [Nat.mod_eq_of_lt d.isLt]
  exact toReal_of (F.hp _ _ _ (by omega))

theorem v_real : pE p b (64 * n + r) (2048 + 512 * h + e) = ((vG p b h (64 * n + r) e : ℝ) : EReal) := by
  unfold vG
  rw [Nat.mod_eq_of_lt e.isLt]
  exact toReal_of (F.hp _ _ _ (by omega))

/-- The logarithm of the decay. -/
theorem a_real : Step.A_main_v41 (F := Ideal) p lr wa ba (ix5 n b h r d) = ((aG lr wa ba b h (64 * n + r) d : ℝ) : EReal) := by
  rw [split_at]
  refine decay_at p lr wa ba _ _ _ (xG lr wa ba b h (64 * n + r) d) ?_
  rw [logit_at]
  unfold xG
  rw [Nat.mod_eq_of_lt d.isLt, EReal.coe_add,
    ← coe_sum_fin fun j => (lrE lr b (64 * n + r) j).toReal * (waE wa j (256 * h + d)).toReal]
  refine congrArg₂ (· + ·) (Finset.sum_congr rfl fun x _ => ?_) (toReal_of (F.hb _))
  rw [EReal.coe_mul]
  exact congrArg₂ (· * ·) (toReal_of (F.hl _ _ _ x.isLt)) (toReal_of (F.hw _ _))

/-- The running sum of a chunk's decays. -/
theorem cum_real : Step.A_main_v42 (F := Ideal) p lr wa ba (ix5 n b h r d) =
    ((cumR (aG lr wa ba b h) (64 * n + r + 1) d - cumR (aG lr wa ba b h) (64 * n) d : ℝ) : EReal) := by
  have hi : Step.K_main_call0_call0_v0 (F := Ideal) (Shape.Idx.first h_S_) = (0 : EReal) := by
    unfold Step.K_main_call0_call0_v0 Step.K_main_call0_call0_cst
    rw [show Shape.Idx.first h_S_ = ix0 from funext fun a => a.elim0]
    pointwise
  unfold Step.A_main_v42
  refine (cum_at (N := 128) (B := 4) (H := 4) (D := 256) (Step.A_main_v41 (F := Ideal) p lr wa ba) (fun _ => Step.K_main_call0_call0_v0 (F := Ideal) (Shape.Idx.first h_S_))
    reduceWindows_S128x4x4x64x256_S128x4x4x64x256_w1s1p0_0_w1s1p0_0_w1s1p0_0_w64s1p63_0_w1s1p0_0 (by decide) hi n b h r d).trans ?_
  rw [add_assoc, cumR_add, add_sub_cancel_left, coe_sum]
  refine Finset.sum_congr rfl fun i hi => ?_
  have hr : (Fin.ofNat 64 i).val = i := Nat.mod_eq_of_lt (by have := Finset.mem_range.mp hi; omega)
  rw [a_real F, hr]

/-- The decayed and scaled query. -/
theorem qd_real : Step.A_main_v47 (F := Ideal) p lr wa ba (ix5 n b h r d) =
    ((qG p b h (64 * n + r) d * (1 / 16) * Real.exp (cumR (aG lr wa ba b h) (64 * n + r + 1) d - cumR (aG lr wa ba b h) (64 * n) d) : ℝ) : EReal) := by
  refine (qd_at p lr wa ba n b h r d).trans ?_
  rw [q_real F, cum_real F, Ideal.exp_coe, ofBits_sixteenth, ← EReal.coe_mul, ← EReal.coe_mul, mul_right_comm]

/-- The key over its decay. -/
theorem ki_real : Step.A_main_v50 (F := Ideal) p lr wa ba (ix5 n b h r d) =
    ((kG p b h (64 * n + r) d * Real.exp (cumR (aG lr wa ba b h) (64 * n) d - cumR (aG lr wa ba b h) (64 * n + r + 1) d) : ℝ) : EReal) := by
  refine (ki_at p lr wa ba n b h r d).trans ?_
  rw [k_real F, cum_real F, ← EReal.coe_neg, Ideal.exp_coe, ← EReal.coe_mul, neg_sub]

/-- The key decayed to the chunk's end. -/
theorem ke_real : Step.A_main_v54 (F := Ideal) p lr wa ba (ix5 n b h r d) =
    ((kG p b h (64 * n + r) d * Real.exp (cumR (aG lr wa ba b h) (64 * n + 64) d - cumR (aG lr wa ba b h) (64 * n + r + 1) d) : ℝ) : EReal) := by
  refine (ke_at p lr wa ba n b h r d).trans ?_
  rw [k_real F, cum_real F, cum_real F, ← EReal.coe_sub, Ideal.exp_coe, ← EReal.coe_mul]
  have e63 : 64 * n.val + (63 : Fin 64).val + 1 = 64 * n.val + 64 := rfl
  rw [e63, sub_sub_sub_cancel_right]

/-- The chunk's whole decay. -/
theorem dec_real : Step.A_main_v61 (F := Ideal) p lr wa ba (ix4 n b h d) =
    ((Real.exp (cumR (aG lr wa ba b h) (64 * n + 64) d - cumR (aG lr wa ba b h) (64 * n) d) : ℝ) : EReal) := by
  refine (dec_at p lr wa ba n b h d).trans ?_
  rw [cum_real F, Ideal.exp_coe]
  rfl

/-- The attention within the chunk. -/
theorem intra_real : Step.A_main_v59 (F := Ideal) p lr wa ba (ix5 n b h r e) =
    ((∑ s ∈ Finset.range (r + 1), wR (qG p b h) (kG p b h) (aG lr wa ba b h) (64 * n + r) (64 * n + s) * vG p b h (64 * n + s) e : ℝ) : EReal) := by
  refine (intra_at p lr wa ba n b h r e).trans ?_
  have hs : ∀ s : Fin 64, (if s.val ≤ r.val then ∑ d : Fin 256, (Step.A_main_v47 (F := Ideal) p lr wa ba (ix5 n b h r d) : EReal) *
      Step.A_main_v50 (F := Ideal) p lr wa ba (ix5 n b h s d) else 0) * pE p b (64 * n + s) (2048 + 512 * h + e) =
      ((if s.val ≤ r.val then wR (qG p b h) (kG p b h) (aG lr wa ba b h) (64 * n + r) (64 * n + s) * vG p b h (64 * n + s) e else 0 : ℝ) : EReal) := by
    intro s
    split_ifs with hle
    · rw [v_real F, EReal.coe_mul, ← dot_coe _ _ _ (64 * n + r) (64 * n + s) (64 * n)]
      refine congrArg (· * _) (Finset.sum_congr rfl fun d _ => congrArg₂ (· * ·) (qd_real F n b h r d) (ki_real F n b h s d))
    · rw [zero_mul, EReal.coe_zero]
  rw [Finset.sum_congr rfl fun s _ => hs s,
    coe_sum_fin fun s => if s ≤ r.val then wR (qG p b h) (kG p b h) (aG lr wa ba b h) (64 * n + r) (64 * n + s) * vG p b h (64 * n + s) e else 0,
    ← Finset.sum_filter]
  congr 1
  refine Finset.sum_congr (Finset.ext fun s => ?_) fun _ _ => rfl
  simp only [Finset.mem_filter, Finset.mem_range]
  omega

end Arrays

/-! ## The loop -/

section Loop

variable {m : (ℓ : Loc nD τ sig) → Buf (Elt Ideal) ℓ} {c : Dev nD} (F : Fins (r0 m c) (r1 m c) (r2 m c) (r3 m c))
include F

/-- The state after `n` trips is the state before time `64 n`. -/
theorem state_trips (n : ℕ) (hn : n ≤ 128) (b h : Fin 4) (d : Fin 256) (e : Fin 512) :
    (st (VN m c n)).main_v64_6 (ix4 b h d e) =
      ((stR (kG (r0 m c) b h) (vG (r0 m c) b h) (aG (r1 m c) (r2 m c) (r3 m c) b h) (64 * n) d e : ℝ) : EReal) := by
  induction n with
  | zero =>
    refine (congrFun (entered_state m c).2 _).trans ?_
    unfold Step.K_main_v62 Step.K_main_cst_3
    pointwise
    simp [stR]
  | succ n ih =>
    have hn' : n < 128 := by omega
    have hs : (st (VN m c (n + 1))).main_v64_6 = Step.b35 n (st (VN m c n)) := by
      unfold VN
      rw [Function.iterate_succ_apply']
      exact (STEP_main_v64_6 _).trans (step_state _ n (counter m c n))
    have ht := entered_trips m c n
    refine (congrFun hs _).trans ((b35_at n hn' _ b h d e).trans ?_)
    have e3 : ((st (VN m c n)).main_v64_3 (ix4 ⟨n, hn'⟩ b h d) : EReal) = _ := (congrFun ht.d _).trans (dec_real F ⟨n, hn'⟩ b h d)
    have e1 : ∀ r, ((st (VN m c n)).main_v64_1 (ix5 ⟨n, hn'⟩ b h r d) : EReal) = _ := fun r => (congrFun ht.k _).trans (ke_real F ⟨n, hn'⟩ b h r d)
    have e2 : ∀ r, ((st (VN m c n)).main_v64_2 (ix5 ⟨n, hn'⟩ b h r e) : EReal) = _ := fun r => (congrFun ht.v _).trans
      ((v_at _ _ _ _ ⟨n, hn'⟩ b h r e).trans (v_real F ⟨n, hn'⟩ b h r e))
    have e6 : ((st (VN m c n)).main_v64_6 (ix4 b h d e) : EReal) = _ := ih (by omega)
    rw [e3, e6, Finset.sum_congr rfl fun r _ => congrArg₂ (· * ·) (e1 r) (e2 r)]
    simp only [← EReal.coe_mul]
    rw [coe_sum_fin fun r => kG (r0 m c) b h (64 * n + r) d *
      Real.exp (cumR (aG (r1 m c) (r2 m c) (r3 m c) b h) (64 * n + 64) d - cumR (aG (r1 m c) (r2 m c) (r3 m c) b h) (64 * n + r + 1) d) *
      vG (r0 m c) b h (64 * n + r) e, ← EReal.coe_add, Nat.mul_add, Nat.mul_one, stR_add]
    congr 2
    exact mul_comm _ _

/-- The outputs after `n` trips are the attention of the chunks before `n`. -/
theorem out_trips (n : ℕ) (hn : n ≤ 128) (j : Fin 128) (hj : j.val < n) (b h : Fin 4) (r : Fin 64) (e : Fin 512) :
    (st (VN m c n)).main_v64_7 (ix5 j b h r e) =
      ((oR (qG (r0 m c) b h) (kG (r0 m c) b h) (vG (r0 m c) b h) (aG (r1 m c) (r2 m c) (r3 m c) b h) (64 * j + r) e : ℝ) : EReal) := by
  induction n with
  | zero => omega
  | succ n ih =>
    have hn' : n < 128 := by omega
    have hs : (st (VN m c (n + 1))).main_v64_7 = Step.b41 n (st (VN m c n)) := by
      unfold VN
      rw [Function.iterate_succ_apply']
      exact (STEP_main_v64_7 _).trans (step_out _ n (counter m c n))
    have ht := entered_trips m c n
    refine (congrFun hs _).trans ((b41_at n hn' _ j b h r e).trans ?_)
    by_cases hjn : j.val = n
    · rw [if_pos hjn]
      have e4 : ((st (VN m c n)).main_v64_4 (ix5 ⟨n, hn'⟩ b h r e) : EReal) = _ := (congrFun ht.o _).trans (intra_real F ⟨n, hn'⟩ b h r e)
      have e0 : ∀ d, ((st (VN m c n)).main_v64_0 (ix5 ⟨n, hn'⟩ b h r d) : EReal) = _ := fun d => (congrFun ht.q _).trans (qd_real F ⟨n, hn'⟩ b h r d)
      have e6 : ∀ d, ((st (VN m c n)).main_v64_6 (ix4 b h d e) : EReal) = _ := fun d => state_trips F n (by omega) b h d e
      rw [e4, Finset.sum_congr rfl fun d _ => congrArg₂ (· * ·) (e0 d) (e6 d)]
      simp only [← EReal.coe_mul]
      rw [coe_sum_fin fun d => qG (r0 m c) b h (64 * n + r) d * (1 / 16) *
        Real.exp (cumR (aG (r1 m c) (r2 m c) (r3 m c) b h) (64 * n + r + 1) d - cumR (aG (r1 m c) (r2 m c) (r3 m c) b h) (64 * n) d) *
        stR (kG (r0 m c) b h) (vG (r0 m c) b h) (aG (r1 m c) (r2 m c) (r3 m c) b h) (64 * n) d e, ← EReal.coe_add, hjn, oR_add]
    · rw [if_neg hjn]
      exact ih (by omega) (by omega)

end Loop

/-! ## What follows the loop -/

/-- The reference's result of the loop's outputs, at an index. -/
theorem tail_at (V : Valuation τ sig (Elt Ideal)) (O : S128x4x4x64x512.Idx → EReal) (p : S4x8192x10240.Idx → EReal) (ng : S1x4x512.Idx → EReal)
    (hO : V (Proc.devRef .tc main_v64_7) = O) (hp : V (Proc.devRef .tc main_arg0) = p) (hg : V (Proc.devRef .tc main_arg4) = ng)
    (A : ℕ → ℕ → EReal) (b : Fin 4) (t : Fin 8192) (j : Fin 2048)
    (hA : ∀ e : Fin 512, O (ix5 ⟨t / 64, by omega⟩ b ⟨j / 512, by omega⟩ ⟨t % 64, by omega⟩ e) = A t e) :
    out_main_v86 (F := Ideal) V (ix3 b t j) =
      Cert.KernelIdeal.Body.outN A (fun t e => pE p b t (4096 + 512 * (j.val / 512) + e % 512)) (ngE ng (j.val / 512)) t (j.val % 512) := by
  unfold out_main_v86
  rw [hO, hp, hg]
  pointwise
  have ep : p (ix3 b t ⟨4096 + j, by omega⟩) = pE p b t (4096 + 512 * (j.val / 512) + j.val % 512 % 512) := by
    unfold pE
    refine congrArg p ?_
    congr 1 <;> refine Fin.ext ?_ <;> simp only [Fin.val_ofNat] <;> omega
  have eg : ng (ix3 0 ⟨j / 512, by omega⟩ ⟨j % 512, by omega⟩) = ngE ng (j.val / 512) (j.val % 512) := by
    unfold ngE
    refine congrArg ng ?_
    congr 1 <;> refine Fin.ext ?_ <;> simp only [Fin.val_ofNat] <;> omega
  have eo := hA ⟨j % 512, by omega⟩
  unfold Cert.KernelIdeal.Body.outN
  refine congrArg₂ (· * ·) (congrArg₂ (· * ·) (congrArg₂ (· * ·) eo (congrArg Ideal.rsqrt (congrArg (· + _) (congrArg (Ideal.div · _) ?_)))) eg)
    (congrArg₂ (· * ·) ep (congrArg (Ideal.div 1) (congrArg (1 + ·) (congrArg Ideal.exp ((congrArg Neg.neg ep).trans (zero_sub _).symm)))))
  exact (Finset.sum_congr rfl fun x _ => congrArg₂ (· * ·) (hA x) (hA x)).trans (Finset.sum_range fun x => A t x * A t x).symm

/-- The reference's result at an index, of finite arguments. -/
theorem reference_at {m : (ℓ : Loc nD τ sig) → Buf (Elt Ideal) ℓ} {c : Dev nD} (F : Fins (r0 m c) (r1 m c) (r2 m c) (r3 m c))
    (N : ℕ) (hN : N = 128) (b : Fin 4) (t : Fin 8192) (j : Fin 2048) :
    out_main_v86 (F := Ideal) (VN m c N) (ix3 b t j) =
      Cert.KernelIdeal.Body.outN (attG (r0 m c) (r1 m c) (r2 m c) (r3 m c) b (j.val / 512))
        (fun t e => pE (r0 m c) b t (4096 + 512 * (j.val / 512) + e % 512)) (ngE (m ((c.tc : Thread nD τ).loc main_arg4)) (j.val / 512)) t (j.val % 512) := by
  refine tail_at (VN m c N) (st (VN m c N)).main_v64_7 (r0 m c) (m ((c.tc : Thread nD τ).loc main_arg4)) rfl
    (iter_main_arg0 m c N) (iter_main_arg4 m c N) _ b t j fun e => ?_
  have ht : 64 * (t.val / 64) + t.val % 64 = t.val := by omega
  refine (out_trips F N hN.le ⟨t.val / 64, by omega⟩ (by simp only; omega) b ⟨j.val / 512, by omega⟩ ⟨t.val % 64, by omega⟩ e).trans ?_
  unfold attG C2
  simp only [ht]

/-- The reference's result is the specification, of finite arguments. -/
theorem reference_array {m : (ℓ : Loc nD τ sig) → Buf (Elt Ideal) ℓ} {c : Dev nD} (F : Fins (r0 m c) (r1 m c) (r2 m c) (r3 m c))
    (N : ℕ) (hN : N = 128) :
    out_main_v86 (F := Ideal) (VN m c N) =
      SPEC (r0 m c) (r1 m c) (r2 m c) (r3 m c) (m ((c.tc : Thread nD τ).loc main_arg4)) := by
  funext y
  obtain ⟨b, t, j, rfl⟩ : ∃ (b : Fin 4) (t : Fin 8192) (j : Fin 2048), y = ix3 b t j := ⟨y 0, y 1, y 2, eq_ix3 y⟩
  exact reference_at F N hN b t j

end Cert.Gla.Ref
-- ==== Proof.Fin.lean ====
module

public import proofs.«01_k».proof.Proof.RefValue
public import proofs.«01_k».proof.Defs
@[expose] public section

set_option maxRecDepth 16384

noncomputable section

open Idealize.ShloMosaic Idealize.ShloMosaic.TcCoe Idealize.SL.Sem

namespace Cert.Gla

open Cert.Pre_finite

/-- The relations between shapes that the precondition's operations need. -/
theorem pre_facts : Cert.Pre_finite.Facts := ⟨by decide, by decide, by decide, by decide, by decide, by decide⟩

/-- Below infinity in absolute value is real. -/
theorem real_of_lt (x : EReal) (h : max x (-x) < ⊤) : ∃ r : ℝ, x = r := by
  induction x with
  | bot => simp at h
  | top => simp at h
  | coe r => exact ⟨r, rfl⟩

theorem inf_bf16 : Ideal.ofBits FTy.bf16 32640#16 = ⊤ := by simp [Ideal.ofBits, Ideal.ieee]
theorem inf_f32 : Ideal.ofBits FTy.f32 2139095040#32 = ⊤ := by simp [Ideal.ofBits, Ideal.ieee]

/-- A comparison word that says so. -/
theorem real_of_word (x y : EReal) (hy : y = ⊤) (h : BitVec.ofBool (decide (max x (-x) < y)) = 1#1) : ∃ r : ℝ, x = r := by
  subst hy
  by_cases hx : max x (-x) < ⊤
  · exact real_of_lt x hx
  · simp [hx] at h

variable (p : S4x8192x10240.Idx → EReal) (lr : S4x8192x128.Idx → EReal) (wa : S1x16x1024.Idx → EReal) (ba : S1x1024.Idx → EReal) (ng : S1x4x512.Idx → EReal)

/-- The precondition gives what the proof needs of the arguments. -/
theorem fins_of [Cert.Pre_finite.Facts]
    (h : (fn (F := Ideal) p lr wa ba ng).1 = (fun _ => 1#1) ∧ (fn (F := Ideal) p lr wa ba ng).2.1 = (fun _ => 1#1) ∧
      (fn (F := Ideal) p lr wa ba ng).2.2.1 = (fun _ => 1#1) ∧ (fn (F := Ideal) p lr wa ba ng).2.2.2 = (fun _ => 1#1)) : Fins p lr wa ba := by
  obtain ⟨h0, h1, h2, h3⟩ := h
  constructor
  · intro b t j hj
    have e := congrFun h0 (ix3 (Fin.ofNat 4 b) (Fin.ofNat 8192 t) (⟨j, hj⟩ : Fin 4096))
    revert e
    unfold fn
    simp only
    pointwise
    intro e
    obtain ⟨r, hr⟩ := real_of_word _ _ inf_bf16 e
    refine ⟨r, Eq.trans (congrArg p ?_) hr⟩
    congr 1
    refine Fin.ext ?_
    simp only [Fin.val_ofNat]
    omega
  · intro b t j hj
    have e := congrFun h1 (ix3 (Fin.ofNat 4 b) (Fin.ofNat 8192 t) (⟨j, hj⟩ : Fin 16))
    revert e
    unfold fn
    simp only
    pointwise
    intro e
    obtain ⟨r, hr⟩ := real_of_word _ _ inf_f32 e
    refine ⟨r, Eq.trans (congrArg lr ?_) hr⟩
    congr 1
    refine Fin.ext ?_
    simp only [Fin.val_ofNat]
    omega
  · intro x j
    have e := congrFun h2 (ix3 (0 : Fin 1) (Fin.ofNat 16 x) (Fin.ofNat 1024 j))
    revert e
    unfold fn
    simp only
    pointwise
    exact real_of_word _ _ inf_f32
  · intro j
    have e := congrFun h3 (ix2 (0 : Fin 1) (Fin.ofNat 1024 j))
    revert e
    unfold fn
    simp only
    pointwise
    exact real_of_word _ _ inf_f32

end Cert.Gla
-- ==== Proof.Ffn1.lean ====
module

public import proofs.«01_k».proof.Proof.Gen.Kernel2Ideal.Value
public import Idealize.ShloMosaic.Lib.Pointwise
public import Idealize.ShloMosaic.Lib.Pipeline.Value
public import Idealize.ShloMosaic.Lib.Tactic

@[expose] public section

set_option maxRecDepth 16384

noncomputable section
open Idealize.ShloMosaic Idealize.ShloMosaic.TcCoe Idealize.SL.Sem

namespace Cert.Kernel2Ideal.Body

open Cert.Kernel2Ideal Cert.Kernel2Ideal.Gen

/-! ## The formulas of the body -/

/-- The gated activation: `g / (1 + exp (-g)) * u`, in the body's order of operations. -/
def actE (g u : EReal) : EReal := g * Ideal.div 1 (1 + Ideal.exp (0 - g)) * u

/-- The modulated block: row times one plus scale, plus shift. -/
def hE (x : S1024x2048.Idx → EReal) (sh sc : S1x1x2048.Idx → EReal) : S1024x2048.Idx → EReal := fun y =>
  x y * (1 + sc (ix3 0 0 (y 1))) + sh (ix3 0 0 (y 1))

/-- One block of 512 hidden columns added to what the output's block holds. -/
def accE (H : S1024x2048.Idx → EReal) (wg wu : S2048x512.Idx → EReal) (wd : S512x2048.Idx → EReal) (o : S1024x2048.Idx → EReal) :
    S1024x2048.Idx → EReal := fun y =>
  o y + ∑ f : Fin 512, actE (∑ k : Fin 2048, H (ix2 (y 0) k) * wg (ix2 k f)) (∑ k : Fin 2048, H (ix2 (y 0) k) * wu (ix2 k f)) * wd (ix2 f (y 1))

/-- A row scaled and shifted to mean 0 and variance 1 (plus `eps`), then by `g` and `b`: layer normalisation of the row `Y` at `e`. -/
def lnE (Y : Fin 2048 → EReal) (eps g b : EReal) (e : Fin 2048) : EReal :=
  (Y e - Ideal.div (∑ x : Fin 2048, Y x) (Ideal.ofBits .f32 1157627904#32)) *
    Ideal.rsqrt (Ideal.div (∑ x : Fin 2048, (Y x - Ideal.div (∑ x : Fin 2048, Y x) (Ideal.ofBits .f32 1157627904#32)) *
      (Y x - Ideal.div (∑ x : Fin 2048, Y x) (Ideal.ofBits .f32 1157627904#32))) (Ideal.ofBits .f32 1157627904#32) + eps) * g + b

/-- The last point's result: the residual sum of a row, normalised. -/
def dnE (x : S1024x2048.Idx → EReal) (g : S1x1x2048.Idx → EReal) (o : S1024x2048.Idx → EReal) (lg lb : S1x2048.Idx → EReal) :
    S1024x2048.Idx → EReal := fun y =>
  lnE (fun k => x (ix2 (y 0) k) + (Named.named κ "half_inv_alpha" 1054295293#32 : Ideal .f32) * g (ix3 0 0 k) * o (ix2 (y 0) k))
    (Named.named κ "eps_inv_alpha_sq" 921519107#32 : Ideal .f32) (lg (ix2 0 (y 1))) (lb (ix2 0 (y 1))) (y 1)

theorem pay5_at (h : Vec Ideal S512x2048 .bf16) (wg wu : Vec Ideal S2048x512 .bf16) (o : Vec Ideal S512x2048 .f32) (wd : Vec Ideal S512x2048 .bf16)
    (a : Fin 512) (e : Fin 2048) : (k0_pay5 h wg wu o wd (ix2 a e) : EReal) =
      o (ix2 a e) + ∑ f : Fin 512, actE (∑ k : Fin 2048, h (ix2 a k) * wg (ix2 k f)) (∑ k : Fin 2048, h (ix2 a k) * wu (ix2 k f)) * wd (ix2 f e) := by
  unfold k0_pay5 actE
  pointwise

theorem pay1_eq (h : Vec Ideal S512x2048 .bf16) (wg wu : Vec Ideal S2048x512 .bf16) (o : Vec Ideal S512x2048 .f32) (wd : Vec Ideal S512x2048 .bf16) :
    k0_pay1 h (k0_pay6 h wg) wu o wd = k0_pay5 h wg wu o wd := rfl

theorem pay3_at (x : Vec Ideal S1024x2048 .f32) (sc sh : Vec Ideal S1x1x2048 .f32) (y : S1024x2048.Idx) :
    (k0_pay3 x sc sh y : EReal) = hE x sh sc y := by
  obtain ⟨a, e, rfl⟩ : ∃ a e, y = ix2 a e := ⟨y 0, y 1, eq_ix2 y⟩
  unfold k0_pay3 hE
  pointwise

theorem pay4_at (y : S1024x2048.Idx) : (k0_pay4 (F := Ideal) y : EReal) = 0 := by
  obtain ⟨a, e, rfl⟩ : ∃ a e, y = ix2 a e := ⟨y 0, y 1, eq_ix2 y⟩
  unfold k0_pay4
  pointwise

theorem pay2_at (x : Vec Ideal S1024x2048 .f32) (g : Vec Ideal S1x1x2048 .f32) (o : Vec Ideal S1024x2048 .f32) (lg lb : Vec Ideal S1x2048 .f32)
    (y : S1024x2048.Idx) : (k0_pay2 x g o lg lb y : EReal) = dnE x g o lg lb y := by
  obtain ⟨a, e, rfl⟩ : ∃ a e, y = ix2 a e := ⟨y 0, y 1, eq_ix2 y⟩
  unfold k0_pay2 dnE lnE
  pointwise

/-! ## Loads and stores -/

theorem hz2 : (![0, 0] : Fin 2 → ℕ) = fun _ => 0 := by funext a; fin_cases a <;> rfl

theorem hz3 : (![0, 0, 0] : Fin 3 → ℕ) = fun _ => 0 := by funext a; fin_cases a <;> rfl

/-- A load of a whole two-dimensional buffer. -/
theorem ldW {n k : ℕ} {e : EltTy} (arg : Memref sig .tc .vmem (⟨2, ![n, k]⟩ : Shape) e) (h : arg.IsWhole) (x : Vec Ideal (⟨2, ![n, k]⟩ : Shape) e) (inb) :
    View.readAt (Elt Ideal) arg.view (Rect.toLoadRect (Rect.unit ![0, 0] ![n, k] inb)) (h.unread x) = x := by
  simp only [View.readAt_eq_ld, h.read_unread]
  exact View.ld_unit_zero (S := (⟨2, ![n, k]⟩ : Shape)) hz2 _ _

/-- A load of a whole three-dimensional buffer. -/
theorem ldV (arg : Memref sig .tc .vmem S1x1x2048 .f32) (h : arg.IsWhole) (x : Vec Ideal S1x1x2048 .f32) (inb) :
    View.readAt (Elt Ideal) arg.view (Rect.toLoadRect (Rect.unit ![0, 0, 0] ![1, 1, 2048] inb)) (h.unread x) = x := by
  simp only [View.readAt_eq_ld, h.read_unread]
  exact View.ld_unit_zero (S := S1x1x2048) hz3 _ _

/-- Row `o + a` of an array of 1024 rows. -/
def rowE (x : S1024x2048.Idx → EReal) (o : ℕ) (a : Fin 512) (k : Fin 2048) : EReal := x (ix2 (Fin.ofNat 1024 (o + a.val)) k)

theorem emb_row (o : ℕ) (ho : o + 512 ≤ 1024) (inb) (a : Fin 512) (k : Fin 2048) :
    (Rect.unit (s := S1024x2048) ![o, 0] ![512, 2048] inb).emb (ix2 a k) = ix2 (Fin.ofNat 1024 (o + a.val)) k := by
  have ha := a.isLt
  funext b; apply Fin.ext; fin_cases b
  · show o + 1 * a.val = (o + a.val) % 1024; omega
  · show 0 + 1 * k.val = k.val; omega

theorem ldR {e : EltTy} (arg : Memref sig .tc .vmem S1024x2048 e) (h : arg.IsWhole) (x : Vec Ideal S1024x2048 e)
    (o : ℕ) (ho : o + 512 ≤ 1024) (inb) (a : Fin 512) (k : Fin 2048) :
    View.readAt (Elt Ideal) arg.view (Rect.toLoadRect (Rect.unit ![o, 0] ![512, 2048] inb)) (h.unread x) (ix2 a k)
      = x (ix2 (Fin.ofNat 1024 (o + a.val)) k) := by
  simp only [View.readAt_eq_ld, h.read_unread, View.ld]
  exact congrArg x (emb_row o ho inb a k)

theorem rdR {e : EltTy} (v : View sig .tc .vmem S1024x2048 e) (L : List (View.Piece (Elt Ideal) S1024x2048 e))
    (o : ℕ) (ho : o + 512 ≤ 1024) (inb) (a : Fin 512) (k : Fin 2048) :
    View.readCov v L (Rect.toLoadRect (Rect.unit ![o, 0] ![512, 2048] inb)) (ix2 a k)
      = View.canon L (ix2 (Fin.ofNat 1024 (o + a.val)) k) := by
  rw [View.readCov_eq_canon']
  exact congrArg (View.canon L) (emb_row o ho inb a k)

/-- The contents two stores of 512 rows leave, whatever was stored before them. -/
theorem canon_two (G : S1024x2048.Idx → EReal) (L : List (View.Piece (Elt Ideal) S1024x2048 .f32)) (inb inb') (P Q : Vec Ideal S512x2048 .f32)
    (hP : ∀ (a : Fin 512) (k : Fin 2048), P (ix2 a k) = rowE G 512 a k) (hQ : ∀ (a : Fin 512) (k : Fin 2048), Q (ix2 a k) = rowE G 0 a k) :
    View.canon ((⟨Rect.unit (s := S1024x2048) ![512, 0] ![512, 2048] inb, P⟩ : View.Piece (Elt Ideal) S1024x2048 .f32) ::
      ⟨Rect.unit (s := S1024x2048) ![0, 0] ![512, 2048] inb', Q⟩ :: L) = G := by
  funext y
  obtain ⟨a, k, rfl⟩ : ∃ a k, y = ix2 a k := ⟨y 0, y 1, eq_ix2 y⟩
  have ha : a.val < 1024 := a.isLt
  by_cases h : 512 ≤ a.val
  · have e : (ix2 a k : S1024x2048.Idx) = (Rect.unit (s := S1024x2048) ![512, 0] ![512, 2048] inb).emb (ix2 (⟨a.val - 512, by omega⟩ : Fin 512) k) := by
      rw [emb_row 512 (by decide)]
      congr 1
      apply Fin.ext; show a.val = (512 + (a.val - 512)) % 1024; omega
    rw [e]
    refine (View.canon_cons_emb (Val := Elt Ideal) _ _ _ _).trans ((hP _ _).trans ?_)
    unfold rowE
    rw [emb_row 512 (by decide)]
  · rw [View.canon_cons_of_not_mem]
    · have e : (ix2 a k : S1024x2048.Idx) = (Rect.unit (s := S1024x2048) ![0, 0] ![512, 2048] inb').emb (ix2 (⟨a.val, by omega⟩ : Fin 512) k) := by
        rw [emb_row 0 (by decide)]
        congr 1
        apply Fin.ext; show a.val = (0 + a.val) % 1024; omega
      rw [e]
      refine (View.canon_cons_emb (Val := Elt Ideal) _ _ _ _).trans ((hQ _ _).trans ?_)
      unfold rowE
      rw [emb_row 0 (by decide)]
    · rw [Rect.mem_set_unit]
      intro hh
      exact h (hh 0).1

/-- A store of the first 512 rows leaves the later rows. -/
theorem canon_skip (L : List (View.Piece (Elt Ideal) S1024x2048 .f32)) (inb) (Q : Vec Ideal S512x2048 .f32) (a : Fin 512) (k : Fin 2048) :
    View.canon ((⟨Rect.unit (s := S1024x2048) ![0, 0] ![512, 2048] inb, Q⟩ : View.Piece (Elt Ideal) S1024x2048 .f32) :: L)
      (ix2 (Fin.ofNat 1024 (512 + a.val)) k) = View.canon L (ix2 (Fin.ofNat 1024 (512 + a.val)) k) := by
  have ha := a.isLt
  rw [View.canon_cons_of_not_mem]
  rw [Rect.mem_set_unit]
  intro hh
  have h1 : (512 + a.val) % 1024 < 0 + 512 := (hh 0).2
  omega

/-- A block of 512 rows as one store leaves it. -/
theorem row_acc (H : S1024x2048.Idx → EReal) (wg wu : Vec Ideal S2048x512 .bf16) (wd : Vec Ideal S512x2048 .bf16) (O : S1024x2048.Idx → EReal)
    (o : ℕ) (h : Vec Ideal S512x2048 .bf16) (o' : Vec Ideal S512x2048 .f32) (wg' wu' : Vec Ideal S2048x512 .bf16) (wd' : Vec Ideal S512x2048 .bf16)
    (hg : wg' = wg) (hu : wu' = wu) (hd : wd' = wd)
    (hh : ∀ (a : Fin 512) (k : Fin 2048), h (ix2 a k) = rowE H o a k) (ho : ∀ (a : Fin 512) (k : Fin 2048), o' (ix2 a k) = rowE O o a k)
    (a : Fin 512) (e : Fin 2048) : (k0_pay5 h wg' wu' o' wd' (ix2 a e) : EReal) = rowE (accE H wg wu wd O) o a e := by
  subst hg hu hd
  rw [pay5_at]
  simp only [hh, ho]
  rfl

section Body

variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole)
    (x0 : Vec Ideal S1024x2048 .f32) (x1 : Vec Ideal S1x1x2048 .f32) (x2 : Vec Ideal S1x1x2048 .f32) (x3 : Vec Ideal S1x1x2048 .f32) (x4 : Vec Ideal S2048x512 .bf16) (x5 : Vec Ideal S2048x512 .bf16) (x6 : Vec Ideal S512x2048 .bf16) (x7 : Vec Ideal S1x2048 .f32) (x8 : Vec Ideal S1x2048 .f32) (xo9 : Vec Ideal S1024x2048 .f32) (xs0 : Vec Ideal S1024x2048 .bf16)

theorem out_B (hc0 : ¬cond0_0 i) (hc1 : ¬cond0_1 i) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 = accE xs0 x4 x5 x6 xo9 := by
  unfold out0_B_9
  rw [View.read_writes_junk_eq_canon]
  unfold kernelRun0_B
  refine canon_two _ _ _ _ _ _ (row_acc xs0 x4 x5 x6 xo9 512 _ _ _ _ _ (ldW arg6 harg6 x4 _) (ldW arg7 harg7 x5 _) (ldW arg8 harg8 x6 _) ?_ ?_)
    (row_acc xs0 x4 x5 x6 xo9 0 _ _ _ _ _ (ldW arg6 harg6 x4 _) (ldW arg7 harg7 x5 _) (ldW arg8 harg8 x6 _) ?_ ?_)
  · exact ldR arg12 harg12 xs0 512 (by decide) _
  · exact ldR arg11 harg11 xo9 512 (by decide) _
  · exact ldR arg12 harg12 xs0 0 (by decide) _
  · exact ldR arg11 harg11 xo9 0 (by decide) _

/-- The output's block as the last point's own sum leaves it, before the normalisation. -/
theorem acc_C : View.canon (kernelRun0_C.sl.H9_2 (F := Ideal) c arg6 harg6 arg7 harg7 arg8 harg8 arg11 harg11 arg12 harg12 x4 x5 x6 xo9 xs0) = accE xs0 x4 x5 x6 xo9 := by
  unfold kernelRun0_C.sl.H9_2
  refine canon_two _ _ _ _ _ _ (row_acc xs0 x4 x5 x6 xo9 512 _ _ _ _ _ (ldW arg6 harg6 x4 _) (ldW arg7 harg7 x5 _) (ldW arg8 harg8 x6 _) ?_ ?_)
    (row_acc xs0 x4 x5 x6 xo9 0 _ _ _ _ _ (ldW arg6 harg6 x4 _) (ldW arg7 harg7 x5 _) (ldW arg8 harg8 x6 _) ?_ ?_)
  · exact ldR arg12 harg12 xs0 512 (by decide) _
  · exact ldR arg11 harg11 xo9 512 (by decide) _
  · exact ldR arg12 harg12 xs0 0 (by decide) _
  · exact ldR arg11 harg11 xo9 0 (by decide) _

theorem out_C (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 =
      dnE x0 x3 (accE xs0 x4 x5 x6 xo9) x7 x8 := by
  unfold out0_C_9
  rw [View.read_writes_junk_eq_canon]
  unfold kernelRun0_C
  refine (View.canon_cons_unit_zero (Val := Elt Ideal) (S := S1024x2048) hz2 _ _ _).trans ?_
  have e : kernelRun0_C.sl.v60 (F := Ideal) c arg6 harg6 arg7 harg7 arg8 harg8 arg11 harg11 arg12 harg12 x4 x5 x6 xo9 xs0 = accE xs0 x4 x5 x6 xo9 := by
    unfold kernelRun0_C.sl.v60
    rw [View.readCov_eq_canon', acc_C]
    exact View.ld_unit_zero (Val := Elt Ideal) (S := S1024x2048) (e := .f32) hz2 inb_S1024x2048_S1024x2048_0_0 (accE xs0 x4 x5 x6 xo9)
  rw [e]
  have h0 := ldW arg2 harg2 x0
  have h3 := ldV arg5 harg5 x3
  have h7 := ldW arg9 harg9 x7
  have h8 := ldW arg10 harg10 x8
  funext y
  refine (pay2_at _ _ _ _ _ y).trans ?_
  rw [h0, h3, h7, h8]

/-- The modulated block as the first point's store leaves it in the scratch array. -/
theorem scr_A : View.canon (kernelRun0_A.sl.HS0_1 (F := Ideal) c arg2 harg2 arg3 harg3 arg4 harg4 x0 x1 x2) = hE x0 x1 x2 := by
  unfold kernelRun0_A.sl.HS0_1
  refine (View.canon_cons_unit_zero (Val := Elt Ideal) (S := S1024x2048) hz2 _ _ _).trans ?_
  have h0 := ldW arg2 harg2 x0
  have h1 := ldV arg3 harg3 x1
  have h2 := ldV arg4 harg4 x2
  funext y
  refine (pay3_at _ _ _ y).trans ?_
  rw [h0, h1, h2]

theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = hE x0 x1 x2 := by
  unfold sout0_A_0
  rw [View.read_writes_junk_eq_canon]
  unfold kernelRun0_A
  exact scr_A c arg2 harg2 arg3 harg3 arg4 harg4 x0 x1 x2

/-- The zeros the first point stores in the output's block. -/
theorem zero_A : View.canon (kernelRun0_A.sl.H9_1 (F := Ideal)) = fun _ => (0 : EReal) := by
  unfold kernelRun0_A.sl.H9_1
  refine (View.canon_cons_unit_zero (Val := Elt Ideal) (S := S1024x2048) hz2 _ _ _).trans ?_
  funext y
  exact pay4_at y

theorem out_A (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = accE (hE x0 x1 x2) x4 x5 x6 (fun _ => 0) := by
  unfold out0_A_9
  rw [View.read_writes_junk_eq_canon]
  unfold kernelRun0_A
  unfold kernelRun0_A.sl.H9_2
  have hs := scr_A c arg2 harg2 arg3 harg3 arg4 harg4 x0 x1 x2
  refine canon_two _ _ _ _ _ _ (row_acc (hE x0 x1 x2) x4 x5 x6 (fun _ => 0) 512 _ _ _ _ _ (ldW arg6 harg6 x4 _) (ldW arg7 harg7 x5 _) (ldW arg8 harg8 x6 _) ?_ ?_)
    (row_acc (hE x0 x1 x2) x4 x5 x6 (fun _ => 0) 0 _ _ _ _ _ (ldW arg6 harg6 x4 _) (ldW arg7 harg7 x5 _) (ldW arg8 harg8 x6 _) ?_ ?_)
  · intro a k
    refine (rdR arg12.view _ 512 (by decide) _ a k).trans ?_
    rw [hs]; rfl
  · intro a k
    refine (rdR arg11.view _ 512 (by decide) _ a k).trans ?_
    unfold kernelRun0_A.sl.H9_2
    refine (canon_skip _ _ _ a k).trans ?_
    rw [zero_A]; rfl
  · intro a k
    refine (rdR arg12.view _ 0 (by decide) _ a k).trans ?_
    rw [hs]; rfl
  · intro a k
    refine (rdR arg11.view _ 0 (by decide) _ a k).trans ?_
    rw [zero_A]; rfl

end Body

end Cert.Kernel2Ideal.Body
-- ==== Proof.Ffn2.lean ====
module

public import proofs.«01_k».proof.Proof.Ffn1
public import Idealize.ShloMosaic.Lib.Pipeline.ValueKit
public import Idealize.ShloMosaic.Lib.Claim
public import Idealize.ShloMosaic.Lib.StableHlo.ReadAt

@[expose] public section

set_option maxRecDepth 16384

noncomputable section
open Idealize.ShloMosaic Idealize.ShloMosaic.TcCoe Idealize.SL.Sem

namespace Cert.Ffn

open Cert.Kernel2Ideal Cert.Kernel2Ideal.Gen Cert.Kernel2Ideal.Body

/-! ## The arguments' elements at natural indices, and the specification -/

/-- Row `r` of the flattened activations. -/
def xE (x : S4x8192x2048.Idx → EReal) (r k : ℕ) : EReal := x (ix3 (Fin.ofNat 4 (r / 8192)) (Fin.ofNat 8192 (r % 8192)) (Fin.ofNat 2048 k))
/-- Modulation vector `i` of the batch element that row `r` belongs to. -/
def mE (md : S4x18432.Idx → EReal) (r i k : ℕ) : EReal := md (ix2 (Fin.ofNat 4 (r / 8192)) (Fin.ofNat 18432 (2048 * i + k)))
def wE (w : S1x2048x11264.Idx → EReal) (k f : ℕ) : EReal := w (ix3 0 (Fin.ofNat 2048 k) (Fin.ofNat 11264 f))
def dE (w : S1x5632x2048.Idx → EReal) (f e : ℕ) : EReal := w (ix3 0 (Fin.ofNat 5632 f) (Fin.ofNat 2048 e))
def vE (v : S1x2048.Idx → EReal) (e : ℕ) : EReal := v (ix2 0 (Fin.ofNat 2048 e))

section Spec
variable (s : ℕ) (x : S4x8192x2048.Idx → EReal) (md : S4x18432.Idx → EReal) (w : S1x2048x11264.Idx → EReal) (wd : S1x5632x2048.Idx → EReal)

/-- The row modulated by the scale `s + 1` and the shift `s`. -/
def hR (r k : ℕ) : EReal := xE x r k * (1 + mE md r (s + 1) k) + mE md r s k

/-- What hidden column `f` adds to output column `e` of row `r`. -/
def term (r f e : ℕ) : EReal :=
  actE (∑ k : Fin 2048, hR s x md r k.val * wE w k.val f) (∑ k : Fin 2048, hR s x md r k.val * wE w k.val (5632 + f)) * dE wd f e

/-- The feed-forward row: the sum over the 5632 hidden columns. -/
def fR (r e : ℕ) : EReal := ∑ f ∈ Finset.range 5632, term s x md w wd r f e

/-- The kernel's result, where it reads the modulation vectors `s` to `s + 2`: the residual row divided by alpha, normalised. -/
def SPEC (lg lb : S1x2048.Idx → EReal) : S32768x2048.Idx → EReal := fun y =>
  lnE (fun k => xE x (y 0).val k.val + (Named.named κ "half_inv_alpha" 1054295293#32 : Ideal .f32) * mE md (y 0).val (s + 2) k.val * fR s x md w wd (y 0).val k.val)
    (Named.named κ "eps_inv_alpha_sq" 921519107#32 : Ideal .f32) (vE lg (y 1).val) (vE lb (y 1).val) (y 1)

/-- The modulated row tile `i`. -/
def tileH (i : ℕ) : S1024x2048.Idx → EReal := fun y => hR s x md (1024 * i + (y 0).val) (y 1).val

/-- The sum over the first `n` hidden columns, on row tile `i`. -/
def tileF (i n : ℕ) : S1024x2048.Idx → EReal := fun y =>
  ∑ f ∈ Finset.range n, term s x md w wd (1024 * i + (y 0).val) f (y 1).val

theorem tileF_zero (i : ℕ) : tileF s x md w wd i 0 = fun _ => 0 := by
  funext y
  unfold tileF
  rw [Finset.range_zero, Finset.sum_empty]

end Spec

/-! ## The grid's run, from what its points read and what they leave -/

/-- The blocks that the points of a grid read. -/
structure Blks (N : ℕ) where
  X : Fin N → S1024x2048.Idx → EReal
  SH : Fin N → S1x1x2048.Idx → EReal
  SC : Fin N → S1x1x2048.Idx → EReal
  GA : Fin N → S1x1x2048.Idx → EReal
  WG : Fin N → S2048x512.Idx → EReal
  WU : Fin N → S2048x512.Idx → EReal
  WD : Fin N → S512x2048.Idx → EReal
  LG : Fin N → S1x2048.Idx → EReal
  LB : Fin N → S1x2048.Idx → EReal

/-- Point `t` reads row tile `t / 11` and hidden block `t % 11` of the arguments, and the modulation vectors `s` to `s + 2`. -/
structure Reads (s : ℕ) (x : S4x8192x2048.Idx → EReal) (md : S4x18432.Idx → EReal) (w : S1x2048x11264.Idx → EReal) (wd : S1x5632x2048.Idx → EReal)
    (lg lb : S1x2048.Idx → EReal) {N : ℕ} (B : Blks N) : Prop where
  x : ∀ (t : Fin N) (a : Fin 1024) (k : Fin 2048), B.X t (ix2 a k) = xE x (1024 * (t.val / 11) + a.val) k.val
  sh : ∀ (t : Fin N) (a : Fin 1024) (k : Fin 2048), B.SH t (ix3 0 0 k) = mE md (1024 * (t.val / 11) + a.val) s k.val
  sc : ∀ (t : Fin N) (a : Fin 1024) (k : Fin 2048), B.SC t (ix3 0 0 k) = mE md (1024 * (t.val / 11) + a.val) (s + 1) k.val
  ga : ∀ (t : Fin N) (a : Fin 1024) (k : Fin 2048), B.GA t (ix3 0 0 k) = mE md (1024 * (t.val / 11) + a.val) (s + 2) k.val
  wg : ∀ (t : Fin N) (k : Fin 2048) (f : Fin 512), B.WG t (ix2 k f) = wE w k.val (512 * (t.val % 11) + f.val)
  wu : ∀ (t : Fin N) (k : Fin 2048) (f : Fin 512), B.WU t (ix2 k f) = wE w k.val (5632 + (512 * (t.val % 11) + f.val))
  wd : ∀ (t : Fin N) (f : Fin 512) (k : Fin 2048), B.WD t (ix2 f k) = dE wd (512 * (t.val % 11) + f.val) k.val
  lg : ∀ (t : Fin N) (k : Fin 2048), B.LG t (ix2 0 k) = vE lg k.val
  lb : ∀ (t : Fin N) (k : Fin 2048), B.LB t (ix2 0 k) = vE lb k.val

/-- What point `t` leaves in the output's block and in the scratch array: the first point of a row tile starts from zeros and
the modulated tile, every point adds its hidden block, the last one normalises. -/
structure Steps {N : ℕ} (B : Blks N) (O : (n : ℕ) → n < N → (S1024x2048.Idx → EReal) × (S1024x2048.Idx → EReal)) : Prop where
  first : ∀ t : Fin N, t.val % 11 = 0 → O t.val t.isLt =
    (accE (hE (B.X t) (B.SH t) (B.SC t)) (B.WG t) (B.WU t) (B.WD t) (fun _ => 0), hE (B.X t) (B.SH t) (B.SC t))
  next : ∀ t : Fin N, ¬t.val % 11 = 0 → ¬t.val % 11 = 10 → ∀ h : t.val - 1 < N, O t.val t.isLt =
    (accE (O (t.val - 1) h).2 (B.WG t) (B.WU t) (B.WD t) (O (t.val - 1) h).1, (O (t.val - 1) h).2)
  last : ∀ t : Fin N, t.val % 11 = 10 → ∀ h : t.val - 1 < N, O t.val t.isLt =
    (dnE (B.X t) (B.GA t) (accE (O (t.val - 1) h).2 (B.WG t) (B.WU t) (B.WD t) (O (t.val - 1) h).1) (B.LG t) (B.LB t), (O (t.val - 1) h).2)

section Run
variable {s : ℕ} {x : S4x8192x2048.Idx → EReal} {md : S4x18432.Idx → EReal} {w : S1x2048x11264.Idx → EReal} {wd : S1x5632x2048.Idx → EReal}
  {lg lb : S1x2048.Idx → EReal} {N : ℕ} {B : Blks N} (R : Reads s x md w wd lg lb B)
  {O : (n : ℕ) → n < N → (S1024x2048.Idx → EReal) × (S1024x2048.Idx → EReal)} (T : Steps B O)
include R

theorem hE_blk (t : Fin N) : hE (B.X t) (B.SH t) (B.SC t) = tileH s x md (t.val / 11) := by
  funext y
  obtain ⟨a, k, rfl⟩ : ∃ a k, y = ix2 a k := ⟨y 0, y 1, eq_ix2 y⟩
  refine congrArg₂ (fun p q : EReal => p + q) (congrArg₂ (fun p q : EReal => p * (1 + q)) (R.x t a k) (R.sc t a k)) (R.sh t a k)

/-- One grid point adds its 512 hidden columns to the sum. -/
theorem accE_blk (t : Fin N) : accE (tileH s x md (t.val / 11)) (B.WG t) (B.WU t) (B.WD t) (tileF s x md w wd (t.val / 11) (512 * (t.val % 11))) =
    tileF s x md w wd (t.val / 11) (512 * (t.val % 11) + 512) := by
  funext y
  obtain ⟨a, k, rfl⟩ : ∃ a k, y = ix2 a k := ⟨y 0, y 1, eq_ix2 y⟩
  unfold accE
  have hd : ∀ f : Fin 512, B.WD t (ix2 f ((ix2 a k : S1024x2048.Idx) 1)) = dE wd (512 * (t.val % 11) + f.val) ((ix2 a k : S1024x2048.Idx) 1).val :=
    fun f => R.wd t f k
  simp only [R.wg, R.wu, hd]
  unfold tileF
  rw [Finset.sum_range_add, ← Fin.sum_univ_eq_sum_range (fun f => term s x md w wd (1024 * (t.val / 11) + ((ix2 a k : S1024x2048.Idx) 0).val)
    (512 * (t.val % 11) + f) ((ix2 a k : S1024x2048.Idx) 1).val) 512]
  rfl

include T

/-- What the scratch array and the output's block hold after a grid point that is not the last of its row tile. -/
theorem state_after (n : ℕ) (hn : n < N) : (O n hn).2 = tileH s x md (n / 11) ∧
    (n % 11 ≠ 10 → (O n hn).1 = tileF s x md w wd (n / 11) (512 * (n % 11) + 512)) := by
  induction n using Nat.strong_induction_on with
  | _ n ih =>
    have hacc := accE_blk R ⟨n, hn⟩
    by_cases h0 : n % 11 = 0
    · rw [T.first ⟨n, hn⟩ h0]
      dsimp only
      rw [hE_blk R]
      refine ⟨rfl, fun _ => ?_⟩
      dsimp only at hacc ⊢
      rw [← hacc, show 512 * (n % 11) = 0 by omega, tileF_zero]
    · obtain ⟨i1, i2⟩ := ih (n - 1) (by omega) (by omega)
      have i3 := i2 (by omega)
      rw [show (n - 1) / 11 = n / 11 by omega] at i1 i3
      rw [show 512 * ((n - 1) % 11) + 512 = 512 * (n % 11) by omega] at i3
      by_cases h1 : n % 11 = 10
      · rw [T.last ⟨n, hn⟩ h1 (by dsimp only; omega)]
        exact ⟨i1, fun h => absurd h1 h⟩
      · rw [T.next ⟨n, hn⟩ h0 h1 (by dsimp only; omega)]
        refine ⟨i1, fun _ => ?_⟩
        dsimp only
        rw [i1, i3]
        exact hacc

/-- What the output's block holds after the last grid point of a row tile: the specification's rows. -/
theorem out_last (hN : N = 352) (n : ℕ) (hn : n < N) (h1 : n % 11 = 10) (a : Fin 1024) (e : Fin 2048) : (O n hn).1 (ix2 a e) =
    SPEC s x md w wd lg lb (ix2 (Fin.ofNat 32768 (1024 * (n / 11) + a.val)) e) := by
  have hacc := accE_blk R ⟨n, hn⟩
  obtain ⟨i1, i2⟩ := state_after R T (n - 1) (by omega)
  have i3 := i2 (by omega)
  rw [show (n - 1) / 11 = n / 11 by omega] at i1 i3
  rw [show 512 * ((n - 1) % 11) + 512 = 512 * (n % 11) by omega] at i3
  rw [T.last ⟨n, hn⟩ h1 (by dsimp only; omega)]
  dsimp only
  rw [i1, i3, hacc]
  have hr : 1024 * (n / 11) + a.val < 32768 := by omega
  unfold dnE SPEC
  have e0 : ((ix2 (Fin.ofNat 32768 (1024 * (n / 11) + a.val)) e : S32768x2048.Idx) 0).val = 1024 * (n / 11) + a.val := by
    show (1024 * (n / 11) + a.val) % 32768 = _; omega
  rw [e0]
  have f0 : (ix2 a e : S1024x2048.Idx) 0 = a := rfl
  have f1 : (ix2 a e : S1024x2048.Idx) 1 = e := rfl
  have f2 : (ix2 (Fin.ofNat 32768 (1024 * (n / 11) + a.val)) e : S32768x2048.Idx) 1 = e := rfl
  rw [f0, f1, f2, R.lg, R.lb]
  congr 1
  funext k
  rw [R.x, R.ga ⟨n, hn⟩ a]
  unfold tileF fR
  dsimp only
  rw [h1]
  rfl

end Run

variable (m : (ℓ : Loc nD τ sig) → Buf (Elt Ideal) ℓ) (c : Dev nD)

abbrev a0 : S4x8192x2048.Idx → EReal := m ((c : Thread nD τ).loc main_arg0)
abbrev a1 : S4x18432.Idx → EReal := m ((c : Thread nD τ).loc main_arg1)
abbrev a2 : S1x2048x11264.Idx → EReal := m ((c : Thread nD τ).loc main_arg2)
abbrev a3 : S1x5632x2048.Idx → EReal := m ((c : Thread nD τ).loc main_arg3)
abbrev a4 : S1x2048.Idx → EReal := m ((c : Thread nD τ).loc main_arg4)
abbrev a5 : S1x2048.Idx → EReal := m ((c : Thread nD τ).loc main_arg5)

/-! ## What the launch finds in its operands -/

theorem V_x (r : Fin 32768) (k : Fin 2048) : (V m c main_v0 (ix2 r k) : EReal) = xE (a0 m c) r.val k.val := by
  unfold V xE
  simp only [hostOps0, List.flatten_cons, List.flatten_nil, List.append_nil, List.cons_append, List.nil_append]
  after_reads_at
  refine congrArg (a0 m c) ?_
  congr 1 <;> refine Fin.ext ?_ <;> simp only [Fin.val_ofNat] <;> omega

theorem V_m (i : Fin 36) (k : Fin 2048) : (V m c main_v1 (ix3 i 0 k) : EReal) = a1 m c (ix2 (Fin.ofNat 4 (i.val / 9)) (Fin.ofNat 18432 (2048 * (i.val % 9) + k.val))) := by
  unfold V
  simp only [hostOps0, List.flatten_cons, List.flatten_nil, List.append_nil, List.cons_append, List.nil_append]
  after_reads_at
  refine congrArg (a1 m c) ?_
  congr 1 <;> refine Fin.ext ?_ <;> simp only [Fin.val_ofNat] <;> omega

theorem V_w (k : Fin 2048) (f : Fin 11264) : (V m c main_v3 (ix2 k f) : EReal) = wE (a2 m c) k.val f.val := by
  unfold V wE
  simp only [hostOps0, List.flatten_cons, List.flatten_nil, List.append_nil, List.cons_append, List.nil_append]
  after_reads_at
  refine congrArg (a2 m c) ?_
  congr 1 <;> refine Fin.ext ?_ <;> simp only [Fin.val_ofNat] <;> omega

theorem V_d (f : Fin 5632) (k : Fin 2048) : (V m c main_v5 (ix2 f k) : EReal) = dE (a3 m c) f.val k.val := by
  unfold V dE
  simp only [hostOps0, List.flatten_cons, List.flatten_nil, List.append_nil, List.cons_append, List.nil_append]
  after_reads_at
  refine congrArg (a3 m c) ?_
  congr 1 <;> refine Fin.ext ?_ <;> simp only [Fin.val_ofNat] <;> omega

theorem V_g (k : Fin 2048) : (V m c main_v7 (ix2 0 k) : EReal) = vE (a4 m c) k.val := by
  unfold V vE
  simp only [hostOps0, List.flatten_cons, List.flatten_nil, List.append_nil, List.cons_append, List.nil_append]
  after_reads_at
  refine congrArg (a4 m c) ?_
  congr 1 <;> refine Fin.ext ?_ <;> simp only [Fin.val_ofNat] <;> omega

theorem V_b (k : Fin 2048) : (V m c main_v9 (ix2 0 k) : EReal) = vE (a5 m c) k.val := by
  unfold V vE
  simp only [hostOps0, List.flatten_cons, List.flatten_nil, List.append_nil, List.cons_append, List.nil_append]
  after_reads_at
  refine congrArg (a5 m c) ?_
  congr 1 <;> refine Fin.ext ?_ <;> simp only [Fin.val_ofNat] <;> omega

/-! ## The blocks a grid point reads -/

/-- Every window's block index at a grid point `t`: row tile `t / 11`, hidden block `t % 11`. -/
theorem idx : ∀ t : Fin cfg0.N, win0_0.index t = ![t.val / 11, 0] ∧
    win0_1.index t = ![t.val / 88 * 9, 0, 0] ∧
    win0_2.index t = ![t.val / 88 * 9 + 1, 0, 0] ∧
    win0_3.index t = ![t.val / 88 * 9 + 2, 0, 0] ∧
    win0_4.index t = ![0, t.val % 11] ∧
    win0_5.index t = ![0, t.val % 11 + 11] ∧
    win0_6.index t = ![t.val % 11, 0] ∧
    win0_7.index t = ![0, 0] ∧
    win0_8.index t = ![0, 0] ∧
    win0_9.index t = ![t.val / 11, 0] :=
  (by decide +kernel : ∀ t : Fin grid0.N, _)

variable (t : Fin cfg0.N)

theorem blk_x (a : Fin 1024) (k : Fin 2048) : (iblk m c 0 t (ix2 a k) : EReal) = xE (a0 m c) (1024 * (t.val / 11) + a.val) k.val := by
  have hN := lt_of_lt_of_eq t.isLt (show cfg0.N = 352 from N_0)
  have e : iblk m c 0 t (ix2 a k) = V m c main_v0 (ix2 (Fin.ofNat 32768 (1024 * (t.val / 11) + a.val)) k) := by
    unfold iblk
    generalize hV : V m c = W
    blk_ext [(idx t).1] <;> (simp only [Fin.val_ofNat]; omega)
  rw [e, V_x]
  congr 1
  simp only [Fin.val_ofNat]; omega

/-- A row's modulation vectors, read from the operand that holds nine of them for each batch element. -/
theorem V_mod (r i : ℕ) (hr : r < 32768) (hi : i < 9) (k : Fin 2048) (j : Fin 36) (hj : j.val = r / 8192 * 9 + i) :
    (V m c main_v1 (ix3 j 0 k) : EReal) = mE (a1 m c) r i k.val := by
  rw [V_m]
  unfold mE
  refine congrArg (a1 m c) ?_
  congr 1 <;> refine Fin.ext ?_ <;> simp only [Fin.val_ofNat] <;> omega

theorem blk_sh (a : Fin 1024) (k : Fin 2048) : (iblk m c 1 t (ix3 0 0 k) : EReal) = mE (a1 m c) (1024 * (t.val / 11) + a.val) 0 k.val := by
  have hN := lt_of_lt_of_eq t.isLt (show cfg0.N = 352 from N_0)
  have e : iblk m c 1 t (ix3 0 0 k) = V m c main_v1 (ix3 (Fin.ofNat 36 (t.val / 88 * 9)) 0 k) := by
    unfold iblk
    generalize hV : V m c = W
    blk_ext [(idx t).2.1] <;> (simp only [Fin.val_ofNat]; omega)
  rw [e]
  refine V_mod m c _ 0 (by omega) (by decide) k _ ?_
  simp only [Fin.val_ofNat]; omega

theorem blk_sc (a : Fin 1024) (k : Fin 2048) : (iblk m c 2 t (ix3 0 0 k) : EReal) = mE (a1 m c) (1024 * (t.val / 11) + a.val) 1 k.val := by
  have hN := lt_of_lt_of_eq t.isLt (show cfg0.N = 352 from N_0)
  have e : iblk m c 2 t (ix3 0 0 k) = V m c main_v1 (ix3 (Fin.ofNat 36 (t.val / 88 * 9 + 1)) 0 k) := by
    unfold iblk
    generalize hV : V m c = W
    blk_ext [(idx t).2.2.1] <;> (simp only [Fin.val_ofNat]; omega)
  rw [e]
  refine V_mod m c _ 1 (by omega) (by decide) k _ ?_
  simp only [Fin.val_ofNat]; omega

theorem blk_ga (a : Fin 1024) (k : Fin 2048) : (iblk m c 3 t (ix3 0 0 k) : EReal) = mE (a1 m c) (1024 * (t.val / 11) + a.val) 2 k.val := by
  have hN := lt_of_lt_of_eq t.isLt (show cfg0.N = 352 from N_0)
  have e : iblk m c 3 t (ix3 0 0 k) = V m c main_v1 (ix3 (Fin.ofNat 36 (t.val / 88 * 9 + 2)) 0 k) := by
    unfold iblk
    generalize hV : V m c = W
    blk_ext [(idx t).2.2.2.1] <;> (simp only [Fin.val_ofNat]; omega)
  rw [e]
  refine V_mod m c _ 2 (by omega) (by decide) k _ ?_
  simp only [Fin.val_ofNat]; omega

theorem blk_wg (k : Fin 2048) (f : Fin 512) : (iblk m c 4 t (ix2 k f) : EReal) = wE (a2 m c) k.val (512 * (t.val % 11) + f.val) := by
  have hf := f.isLt
  have e : iblk m c 4 t (ix2 k f) = V m c main_v3 (ix2 k (Fin.ofNat 11264 (512 * (t.val % 11) + f.val))) := by
    unfold iblk
    generalize hV : V m c = W
    blk_ext [(idx t).2.2.2.2.1] <;> (simp only [Fin.val_ofNat]; omega)
  rw [e, V_w]
  congr 1
  simp only [Fin.val_ofNat]; omega

theorem blk_wu (k : Fin 2048) (f : Fin 512) : (iblk m c 5 t (ix2 k f) : EReal) = wE (a2 m c) k.val (5632 + (512 * (t.val % 11) + f.val)) := by
  have hf := f.isLt
  have e : iblk m c 5 t (ix2 k f) = V m c main_v3 (ix2 k (Fin.ofNat 11264 (5632 + (512 * (t.val % 11) + f.val)))) := by
    unfold iblk
    generalize hV : V m c = W
    blk_ext [(idx t).2.2.2.2.2.1] <;> (simp only [Fin.val_ofNat]; omega)
  rw [e, V_w]
  congr 1
  simp only [Fin.val_ofNat]; omega

theorem blk_wd (f : Fin 512) (k : Fin 2048) : (iblk m c 6 t (ix2 f k) : EReal) = dE (a3 m c) (512 * (t.val % 11) + f.val) k.val := by
  have hf := f.isLt
  have e : iblk m c 6 t (ix2 f k) = V m c main_v5 (ix2 (Fin.ofNat 5632 (512 * (t.val % 11) + f.val)) k) := by
    unfold iblk
    generalize hV : V m c = W
    blk_ext [(idx t).2.2.2.2.2.2.1] <;> (simp only [Fin.val_ofNat]; omega)
  rw [e, V_d]
  congr 1
  simp only [Fin.val_ofNat]; omega

theorem blk_lg (k : Fin 2048) : (iblk m c 7 t (ix2 0 k) : EReal) = vE (a4 m c) k.val := by
  have e : iblk m c 7 t (ix2 0 k) = V m c main_v7 (ix2 0 k) := by
    unfold iblk
    generalize hV : V m c = W
    blk_ext [(idx t).2.2.2.2.2.2.2.1] <;> (simp only [Fin.val_ofNat]; omega)
  rw [e, V_g]

theorem blk_lb (k : Fin 2048) : (iblk m c 8 t (ix2 0 k) : EReal) = vE (a5 m c) k.val := by
  have e : iblk m c 8 t (ix2 0 k) = V m c main_v9 (ix2 0 k) := by
    unfold iblk
    generalize hV : V m c = W
    blk_ext [(idx t).2.2.2.2.2.2.2.2.1] <;> (simp only [Fin.val_ofNat]; omega)
  rw [e, V_b]

/-! ## The run -/

/-- The blocks the points read. -/
abbrev blks : Blks cfg0.N := ⟨fun t => iblk m c 0 t, fun t => iblk m c 1 t, fun t => iblk m c 2 t, fun t => iblk m c 3 t, fun t => iblk m c 4 t,
  fun t => iblk m c 5 t, fun t => iblk m c 6 t, fun t => iblk m c 7 t, fun t => iblk m c 8 t⟩

theorem reads : Reads 0 (a0 m c) (a1 m c) (a2 m c) (a3 m c) (a4 m c) (a5 m c) (blks m c) :=
  ⟨blk_x m c, blk_sh m c, blk_sc m c, blk_ga m c, blk_wg m c, blk_wu m c, blk_wd m c, blk_lg m c, blk_lb m c⟩

theorem steps : Steps (blks m c) (fun n hn => outsAt0 m c n hn) where
  first t h0 := by
    dsimp only
    rw [outsAt0_A m c t h0 (by omega), sout_A, out_A]
  next t h0 h1 h := by
    dsimp only
    rw [outsAt0_B m c t h0 h1, out_B]
    rfl
  last t h1 h := by
    dsimp only
    rw [outsAt0_C m c t (by omega) h1, out_C]
    rfl

/-- The result array after the run. -/
theorem kernel_array : (dats m 0 c).arrAt 9 cfg0.N = SPEC 0 (a0 m c) (a1 m c) (a2 m c) (a3 m c) (a4 m c) (a5 m c) := by
  refine (dats m 0 c).arrAt_eq_of_covers 9 _ (by decide +kernel) fun t hf y => ?_
  have hN := lt_of_lt_of_eq t.isLt (show cfg0.N = 352 from N_0)
  have hl : t.val % 11 = 10 := (by decide +kernel : ∀ t : Fin cfg0.N, (cfg0.win 9).flush t = true → t.val % 11 = 10) t hf
  rw [after0_9]
  rw [cast_eq]
  have hz : ∀ z : S1024x2048.Idx, z = ix2 (z 0) (z 1) := fun z => eq_ix2 z
  refine (congrArg (outsAt0 m c t.val t.isLt).1 (hz _)).trans ((out_last (reads m c) (steps m c) N_0 t.val t.isLt hl _ _).trans (congrArg _ ?_))
  blk_ext [(idx t).2.2.2.2.2.2.2.2.2] <;> (simp only [Fin.val_ofNat]; omega)

end Cert.Ffn
-- ==== Proof.Ffn3.lean ====
module

public import proofs.«01_k».proof.Proof.Ffn1

@[expose] public section

set_option maxRecDepth 16384

noncomputable section
open Idealize.ShloMosaic Idealize.ShloMosaic.TcCoe Idealize.SL.Sem

namespace Cert.Ffn

open Cert.Kernel2Ideal.Body

/-! ## Layer normalisation of a scaled row -/

section Scale
variable (a : ℝ) (ha : 0 < a)
include ha

theorem mul_add_pos (x y : EReal) : (a : EReal) * (x + y) = a * x + a * y :=
  EReal.left_distrib_of_nonneg_of_ne_top (EReal.coe_nonneg.2 ha.le) (EReal.coe_ne_top a) x y

theorem mul_sub_pos (x y : EReal) : (a : EReal) * x - a * y = a * (x - y) := by
  rw [sub_eq_add_neg, sub_eq_add_neg, mul_add_pos a ha, mul_neg]

theorem mul_sum_pos {n : ℕ} (f : Fin n → EReal) : ∑ k : Fin n, (a : EReal) * f k = a * ∑ k : Fin n, f k := by
  have h : ∀ s : Finset (Fin n), ∑ k ∈ s, (a : EReal) * f k = a * ∑ k ∈ s, f k := fun s => by
    induction s using Finset.induction_on with
    | empty => simp
    | insert k s hk ih => rw [Finset.sum_insert hk, Finset.sum_insert hk, mul_add_pos a ha, ih]
  exact h _

/-- The reciprocal root of a value that is a positive number or infinite, scaled by the square of `a`. -/
theorem rsqrt_scale (v : EReal) (hv : v = ⊤ ∨ ∃ r : ℝ, 0 < r ∧ v = r) :
    (a : EReal) * Ideal.rsqrt ((a : EReal) * a * v) = Ideal.rsqrt v := by
  rcases hv with rfl | ⟨r, hr, rfl⟩
  · rw [← EReal.coe_mul, EReal.coe_mul_top_of_pos (mul_pos ha ha), Ideal.rsqrt_top, mul_zero]
  · have h2 : 0 < a * a * r := mul_pos (mul_pos ha ha) hr
    rw [← EReal.coe_mul, ← EReal.coe_mul, Ideal.rsqrt_coe, Ideal.rsqrt_coe, if_neg (not_lt.2 h2.le), if_neg h2.ne', if_neg (not_lt.2 hr.le), if_neg hr.ne',
      ← EReal.coe_mul]
    congr 1
    rw [Real.sqrt_mul (mul_pos ha ha).le, Real.sqrt_mul_self ha.le, mul_inv, ← mul_assoc, mul_inv_cancel₀ ha.ne', one_mul]

end Scale

theorem c2048 : Ideal.ofBits .f32 1157627904#32 = ((2048 : ℝ) : EReal) := by
  simp [Ideal.ofBits, Ideal.ieee]
  rw [← EReal.coe_mul]; norm_num

theorem div2048 (x : EReal) : Ideal.div x (Ideal.ofBits .f32 1157627904#32) = x * ((1 / 2048 : ℝ) : EReal) := by
  rw [c2048, Ideal.div_coe (by norm_num)]

theorem sq_nonneg' (d : EReal) : 0 ≤ d * d := by
  rcases le_total 0 d with h | h
  · exact mul_nonneg h h
  · have := mul_nonneg (EReal.neg_nonneg.2 h) (EReal.neg_nonneg.2 h)
    rwa [neg_mul_neg] at this

/-- A nonnegative value plus a positive number is a positive number or infinite. -/
theorem pos_or_top (v : EReal) (hv : 0 ≤ v) (e : ℝ) (he : 0 < e) : v + (e : EReal) = ⊤ ∨ ∃ r : ℝ, 0 < r ∧ v + (e : EReal) = r := by
  induction v with
  | bot => exact absurd hv (by simp)
  | top => exact Or.inl (EReal.top_add_coe e)
  | coe v => exact Or.inr ⟨v + e, add_pos_of_nonneg_of_pos (EReal.coe_nonneg.1 hv) he, (EReal.coe_add v e).symm⟩

/-- Layer normalisation of a row `a` times `Y`, with the square of `a` times the small constant, is that of `Y`. -/
theorem lnE_scale (a : ℝ) (ha : 0 < a) (e : ℝ) (he : 0 < e) (Y Y' : Fin 2048 → EReal) (hY : ∀ k, Y' k = (a : EReal) * Y k) (g b : EReal) (k : Fin 2048) :
    lnE Y' ((a * a * e : ℝ) : EReal) g b k = lnE Y (e : EReal) g b k := by
  unfold lnE
  simp only [div2048]
  have hd : ∀ k, Y' k - (∑ x : Fin 2048, Y' x) * ((1 / 2048 : ℝ) : EReal) = (a : EReal) * (Y k - (∑ x : Fin 2048, Y x) * ((1 / 2048 : ℝ) : EReal)) := fun k => by
    simp only [hY]
    rw [mul_sum_pos a ha, mul_assoc, mul_sub_pos a ha]
  generalize hD : (fun k => Y k - (∑ x : Fin 2048, Y x) * ((1 / 2048 : ℝ) : EReal)) = D
  have hD' : ∀ k, Y k - (∑ x : Fin 2048, Y x) * ((1 / 2048 : ℝ) : EReal) = D k := fun k => congrFun hD k
  simp only [hd, hD']
  have hs : ∀ x, (a : EReal) * D x * ((a : EReal) * D x) = ((a * a : ℝ) : EReal) * (D x * D x) := fun x => by
    rw [mul_mul_mul_comm, EReal.coe_mul]
  simp only [hs]
  rw [mul_sum_pos (a * a) (mul_pos ha ha), mul_assoc ((a * a : ℝ) : EReal), EReal.coe_mul (a * a) e, ← mul_add_pos (a * a) (mul_pos ha ha)]
  have hv : 0 ≤ (∑ x : Fin 2048, D x * D x) * ((1 / 2048 : ℝ) : EReal) :=
    mul_nonneg (Finset.sum_nonneg fun x _ => sq_nonneg' (D x)) (EReal.coe_nonneg.2 (by norm_num))
  rw [EReal.coe_mul a a, mul_comm (a : EReal) (D k), mul_assoc (D k), rsqrt_scale a ha _ (pos_or_top _ hv e he)]

/-! ## The two named constants of the kernel, and the reference's constants -/

theorem named_h : (Named.named Cert.Kernel2Ideal.κ "half_inv_alpha" 1054295293#32 : Ideal .f32) = ((262144 / 623487 : ℝ) : EReal) := rfl

theorem named_e : (Named.named Cert.Kernel2Ideal.κ "eps_inv_alpha_sq" 921519107#32 : Ideal .f32) = ((2748779 / 388736039169 : ℝ) : EReal) := rfl

theorem c_alpha : Ideal.ofBits .f32 1066940400#32 = ((623487 / 524288 : ℝ) : EReal) := by
  simp [Ideal.ofBits, Ideal.ieee]
  rw [← EReal.coe_mul]; norm_num

theorem c_half : Ideal.ofBits .f32 1056964608#32 = ((1 / 2 : ℝ) : EReal) := by
  simp [Ideal.ofBits, Ideal.ieee]
  rw [← EReal.coe_mul]; norm_num

theorem c_eps : Ideal.ofBits .f32 925353388#32 = ((2748779 / 274877906944 : ℝ) : EReal) := by
  simp [Ideal.ofBits, Ideal.ieee]
  rw [← EReal.coe_mul]; norm_num

/-- The kernel's normalised residual row is the reference's: the reference's row is alpha times the kernel's. -/
theorem deepnorm (x g f : Fin 2048 → EReal) (lg lb : EReal) (k : Fin 2048) :
    lnE (fun k => Ideal.ofBits .f32 1066940400#32 * x k + Ideal.ofBits .f32 1056964608#32 * g k * f k) (Ideal.ofBits .f32 925353388#32) lg lb k =
      lnE (fun k => x k + (Named.named Cert.Kernel2Ideal.κ "half_inv_alpha" 1054295293#32 : Ideal .f32) * g k * f k)
        (Named.named Cert.Kernel2Ideal.κ "eps_inv_alpha_sq" 921519107#32 : Ideal .f32) lg lb k := by
  rw [named_h, named_e, c_alpha, c_half, c_eps,
    show (2748779 / 274877906944 : ℝ) = 623487 / 524288 * (623487 / 524288) * (2748779 / 388736039169) by norm_num]
  refine lnE_scale (623487 / 524288) (by norm_num) _ (by norm_num) _ _ (fun k => ?_) lg lb k
  rw [mul_add_pos _ (by norm_num), mul_assoc ((262144 / 623487 : ℝ) : EReal), ← mul_assoc ((623487 / 524288 : ℝ) : EReal), ← EReal.coe_mul,
    show (623487 / 524288 * (262144 / 623487) : ℝ) = 1 / 2 by norm_num, mul_assoc]

end Cert.Ffn
-- ==== Proof.Ffn4.lean ====
module

public import proofs.«01_k».proof.Proof.Gen.Reference2Ideal.Run
public import proofs.«01_k».proof.Proof.Ffn2
public import proofs.«01_k».proof.Proof.Ffn3
public import Idealize.ShloMosaic.Lib.Pointwise

@[expose] public section

set_option maxRecDepth 16384

noncomputable section
open Idealize.ShloMosaic Idealize.ShloMosaic.TcCoe Idealize.SL.Sem

namespace Cert.Ffn.Ref

open Cert.Reference2Ideal Cert.Reference2Ideal.Gen Cert.Reference2Ideal.Value

/-! ## The reference's stages -/

/-- The modulated input. -/
def hA (x : FVec Ideal S4x8192x2048 .f32) (sh sc : FVec Ideal S4x2048 .f32) : FVec Ideal S4x8192x2048 .f32 :=
  addf (mulf x (broadcastInDim S4x8192x2048 ![0, 1, 2] bcast_S4x1x2048_S4x8192x2048_0_1_2 (addf (broadcastInDim S4x1x2048 ![] bcast_S_S4x1x2048 (constant S_ .f32 0x3F800000#32)) (broadcastInDim S4x1x2048 ![0, 2] bcast_S4x2048_S4x1x2048_0_2 sc)))) (broadcastInDim S4x8192x2048 ![0, 1, 2] bcast_S4x1x2048_S4x8192x2048_0_1_2 (broadcastInDim S4x1x2048 ![0, 2] bcast_S4x2048_S4x1x2048_0_2 sh))

/-- Its product with the gate and up weights. -/
def guA (h : FVec Ideal S4x8192x2048 .f32) (w : FVec Ideal S1x2048x11264 .f32) : FVec Ideal S4x8192x11264 .f32 :=
  Host.dotGeneral dot_S4x8192x2048_S2048x11264_S4x8192x11264_2_0_01_1_n_n none h (shapeCast _ w shapeCasts_S1x2048x11264_S2048x11264)

/-- The gated activation. -/
def gA (gu : FVec Ideal S4x8192x11264 .f32) : FVec Ideal S4x8192x5632 .f32 :=
  mulf (mulf (extractStridedSlice S4x8192x5632 ![0, 0, 0] gu slices_S4x8192x11264_S4x8192x5632_0_0_0) (Host.divf (broadcastInDim S4x8192x5632 ![] bcast_S_S4x8192x5632 (constant S_ .f32 0x3F800000#32)) (addf (broadcastInDim S4x8192x5632 ![] bcast_S_S4x8192x5632 (constant S_ .f32 0x3F800000#32)) (Host.exp (Host.negf (extractStridedSlice S4x8192x5632 ![0, 0, 0] gu slices_S4x8192x11264_S4x8192x5632_0_0_0)))))) (extractStridedSlice S4x8192x5632 ![0, 0, 5632] gu slices_S4x8192x11264_S4x8192x5632_0_0_5632)

/-- Its product with the down weights. -/
def fA (g : FVec Ideal S4x8192x5632 .f32) (wd : FVec Ideal S1x5632x2048 .f32) : FVec Ideal S4x8192x2048 .f32 :=
  Host.dotGeneral dot_S4x8192x5632_S5632x2048_S4x8192x2048_2_0_01_1_n_n none g (shapeCast _ wd shapeCasts_S1x5632x2048_S5632x2048)

/-- The residual sum. -/
def yA (x : FVec Ideal S4x8192x2048 .f32) (ga : FVec Ideal S4x2048 .f32) (f : FVec Ideal S4x8192x2048 .f32) : FVec Ideal S4x8192x2048 .f32 :=
  addf (mulf (broadcastInDim S4x8192x2048 ![] bcast_S_S4x8192x2048 (constant S_ .f32 0x3F9837F0#32)) x) (mulf (broadcastInDim S4x8192x2048 ![0, 1, 2] bcast_S4x1x2048_S4x8192x2048_0_1_2 (mulf (broadcastInDim S4x1x2048 ![] bcast_S_S4x1x2048 (constant S_ .f32 0x3F000000#32)) (broadcastInDim S4x1x2048 ![0, 2] bcast_S4x2048_S4x1x2048_0_2 ga))) f)

/-- The mean over the last axis. -/
def meanA (y : FVec Ideal S4x8192x2048 .f32) : FVec Ideal S4x8192x1 .f32 :=
  Host.divf (broadcastInDim S4x8192x1 ![0, 1] bcast_S4x8192_S4x8192x1_0_1 (Host.reduceAdd y (constant S_ .f32 0x00000000#32) reducesTo_S4x8192x2048_S4x8192_d2 h_S_)) (broadcastInDim S4x8192x1 ![] bcast_S_S4x8192x1 (constant S_ .f32 0x45000000#32))

/-- What remains of it after the mean. -/
def devA (y : FVec Ideal S4x8192x2048 .f32) : FVec Ideal S4x8192x2048 .f32 :=
  subf y (broadcastInDim S4x8192x2048 ![0, 1, 2] bcast_S4x8192x1_S4x8192x2048_0_1_2 (meanA y))

/-- The layer normalisation. -/
def lnA (y : FVec Ideal S4x8192x2048 .f32) (g b : FVec Ideal S1x2048 .f32) : FVec Ideal S32768x2048 .f32 :=
  shapeCast _ (addf (mulf (mulf (devA y) (broadcastInDim S4x8192x2048 ![0, 1, 2] bcast_S4x8192x1_S4x8192x2048_0_1_2 (Host.rsqrt (addf (meanA (mulf (devA y) (devA y))) (broadcastInDim S4x8192x1 ![] bcast_S_S4x8192x1 (constant S_ .f32 0x3727C5AC#32)))))) (broadcastInDim S4x8192x2048 ![0, 1, 2] bcast_S1x1x2048_S4x8192x2048_0_1_2 (broadcastInDim S1x1x2048 ![2] bcast_S2048_S1x1x2048_2 (shapeCast _ g shapeCasts_S1x2048_S2048)))) (broadcastInDim S4x8192x2048 ![0, 1, 2] bcast_S1x1x2048_S4x8192x2048_0_1_2 (broadcastInDim S1x1x2048 ![2] bcast_S2048_S1x1x2048_2 (shapeCast _ b shapeCasts_S1x2048_S2048)))) shapeCasts_S4x8192x2048_S32768x2048

/-- A part of the modulation vectors is vector `i` of each batch element. -/
def IsMod (md : S4x18432.Idx → EReal) (i : ℕ) (v : FVec Ideal S4x2048 .f32) : Prop :=
  ∀ (b : Fin 4) (k : Fin 2048), (v (ix2 b k) : EReal) = md (ix2 b (Fin.ofNat 18432 (2048 * i + k.val)))

theorem IsMod.row {md : S4x18432.Idx → EReal} {i : ℕ} {v : FVec Ideal S4x2048 .f32} (h : IsMod md i v) (r : ℕ) (b : Fin 4) (hb : b.val = r / 8192)
    (k : Fin 2048) : (v (ix2 b k) : EReal) = mE md r i k.val := by
  rw [h]
  unfold mE
  refine congrArg md ?_
  congr 1
  refine Fin.ext ?_
  simp only [Fin.val_ofNat]; omega

/-- The 2048 columns from `2048 * i` on are vector `i`. -/
theorem part (i o : ℕ) (md : FVec Ideal S4x18432 .f32) (h : S4x18432.Slices ![0, o] S4x2048) (ho : o = 2048 * i) (hi : i < 9) :
    IsMod md i (extractStridedSlice S4x2048 ![0, o] md h) := fun b k => by
  subst ho
  refine congrArg md (funext fun a => Fin.ext ?_)
  have hk := k.isLt
  fin_cases a
  · show 0 + b.val = b.val; omega
  · show 2048 * i + k.val = (2048 * i + k.val) % 18432; omega

theorem hA_at (s : ℕ) (x : FVec Ideal S4x8192x2048 .f32) (md : S4x18432.Idx → EReal) (sh sc : FVec Ideal S4x2048 .f32) (hsh : IsMod md s sh) (hsc : IsMod md (s + 1) sc)
    (r : ℕ) (b : Fin 4) (t : Fin 8192) (hb : b.val = r / 8192) (ht : t.val = r % 8192) (k : Fin 2048) : (hA x sh sc (ix3 b t k) : EReal) = hR s x md r k.val := by
  have e : (hA x sh sc (ix3 b t k) : EReal) = x (ix3 b t k) * (1 + sc (ix2 b k)) + sh (ix2 b k) := by
    unfold hA
    pointwise
  rw [e]
  unfold hR xE
  refine congrArg₂ (fun p q : EReal => p + q) (congrArg₂ (fun p q : EReal => p * (1 + q)) (congrArg x ?_) (hsc.row r b hb k)) (hsh.row r b hb k)
  congr 1 <;> refine Fin.ext ?_ <;> simp only [Fin.val_ofNat] <;> omega

theorem guA_at (h : FVec Ideal S4x8192x2048 .f32) (w : FVec Ideal S1x2048x11264 .f32) (b : Fin 4) (t : Fin 8192) (f : Fin 11264) :
    (guA h w (ix3 b t f) : EReal) = ∑ k : Fin 2048, h (ix3 b t k) * w (ix3 0 k f) := by
  unfold guA
  pointwise

theorem gA_at (gu : FVec Ideal S4x8192x11264 .f32) (b : Fin 4) (t : Fin 8192) (f : Fin 5632) :
    (gA gu (ix3 b t f) : EReal) = Cert.Kernel2Ideal.Body.actE (gu (ix3 b t (Fin.ofNat 11264 f.val))) (gu (ix3 b t (Fin.ofNat 11264 (5632 + f.val)))) := by
  have e : (gA gu (ix3 b t f) : EReal) = gu (ix3 b t ⟨f.val, by omega⟩) * Ideal.div 1 (1 + Ideal.exp (-gu (ix3 b t ⟨f.val, by omega⟩))) * gu (ix3 b t ⟨5632 + f.val, by omega⟩) := by
    unfold gA
    pointwise
  have e1 : (Fin.ofNat 11264 f.val) = ⟨f.val, by omega⟩ := Fin.ext (by simp only [Fin.val_ofNat]; omega)
  have e2 : (Fin.ofNat 11264 (5632 + f.val)) = ⟨5632 + f.val, by omega⟩ := Fin.ext (by simp only [Fin.val_ofNat]; omega)
  rw [e, e1, e2]
  unfold Cert.Kernel2Ideal.Body.actE
  rw [zero_sub]

theorem fA_at (g : FVec Ideal S4x8192x5632 .f32) (wd : FVec Ideal S1x5632x2048 .f32) (b : Fin 4) (t : Fin 8192) (k : Fin 2048) :
    (fA g wd (ix3 b t k) : EReal) = ∑ f : Fin 5632, g (ix3 b t f) * wd (ix3 0 f k) := by
  unfold fA
  pointwise

theorem yA_at (s : ℕ) (x : FVec Ideal S4x8192x2048 .f32) (md : S4x18432.Idx → EReal) (ga : FVec Ideal S4x2048 .f32) (hga : IsMod md (s + 2) ga)
    (f : FVec Ideal S4x8192x2048 .f32) (r : ℕ) (b : Fin 4) (t : Fin 8192)
    (hb : b.val = r / 8192) (ht : t.val = r % 8192) (k : Fin 2048) : (yA x ga f (ix3 b t k) : EReal) =
      Ideal.ofBits .f32 1066940400#32 * xE x r k.val + Ideal.ofBits .f32 1056964608#32 * mE md r (s + 2) k.val * f (ix3 b t k) := by
  have e : (yA x ga f (ix3 b t k) : EReal) = Ideal.ofBits .f32 1066940400#32 * x (ix3 b t k) +
      Ideal.ofBits .f32 1056964608#32 * ga (ix2 b k) * f (ix3 b t k) := by
    unfold yA
    pointwise
  rw [e]
  unfold xE
  refine congrArg₂ (fun p q : EReal => Ideal.ofBits .f32 1066940400#32 * p + Ideal.ofBits .f32 1056964608#32 * q * f (ix3 b t k)) (congrArg x ?_) (hga.row r b hb k)
  congr 1 <;> refine Fin.ext ?_ <;> simp only [Fin.val_ofNat] <;> omega

theorem meanA_at (y : FVec Ideal S4x8192x2048 .f32) (b : Fin 4) (t : Fin 8192) :
    (meanA y (ix3 b t 0) : EReal) = Ideal.div (∑ k : Fin 2048, y (ix3 b t k)) (Ideal.ofBits .f32 1157627904#32) := by
  unfold meanA
  pointwise

theorem devA_at (y : FVec Ideal S4x8192x2048 .f32) (b : Fin 4) (t : Fin 8192) (k : Fin 2048) :
    (devA y (ix3 b t k) : EReal) = y (ix3 b t k) - Ideal.div (∑ k : Fin 2048, y (ix3 b t k)) (Ideal.ofBits .f32 1157627904#32) := by
  rw [← meanA_at]
  unfold devA
  pointwise

theorem lnA_at (y : FVec Ideal S4x8192x2048 .f32) (g b : FVec Ideal S1x2048 .f32) (r : Fin 32768) (k : Fin 2048) :
    (lnA y g b (ix2 r k) : EReal) = Cert.Kernel2Ideal.Body.lnE (fun k => y (ix3 (⟨r.val / 8192, by omega⟩ : Fin 4) (⟨r.val % 8192, by omega⟩ : Fin 8192) k))
      (Ideal.ofBits .f32 925353388#32) (g (ix2 0 k)) (b (ix2 0 k)) k := by
  have e : (lnA y g b (ix2 r k) : EReal) = devA y (ix3 (⟨r.val / 8192, by omega⟩ : Fin 4) (⟨r.val % 8192, by omega⟩ : Fin 8192) k) *
      Ideal.rsqrt (meanA (mulf (devA y) (devA y)) (ix3 (⟨r.val / 8192, by omega⟩ : Fin 4) (⟨r.val % 8192, by omega⟩ : Fin 8192) 0) + Ideal.ofBits .f32 925353388#32) *
        g (ix2 0 k) + b (ix2 0 k) := by
    unfold lnA
    pointwise
  have hm : ∀ (b : Fin 4) (t : Fin 8192) (k : Fin 2048), (mulf (devA y) (devA y) (ix3 b t k) : EReal) = devA y (ix3 b t k) * devA y (ix3 b t k) := fun b t k => by
    pointwise
  rw [e, meanA_at]
  simp only [hm, devA_at]
  rfl

/-- The stages composed, where the modulation vectors are `s` to `s + 2`, are the specification. -/
theorem stages (s : ℕ) (x : FVec Ideal S4x8192x2048 .f32) (md : S4x18432.Idx → EReal) (w : FVec Ideal S1x2048x11264 .f32) (wd : FVec Ideal S1x5632x2048 .f32)
    (lg lb : FVec Ideal S1x2048 .f32) (sh sc ga : FVec Ideal S4x2048 .f32) (hsh : IsMod md s sh) (hsc : IsMod md (s + 1) sc) (hga : IsMod md (s + 2) ga) :
    lnA (yA x ga (fA (gA (guA (hA x sh sc) w)) wd)) lg lb = SPEC s x md w wd lg lb := by
  funext y
  obtain ⟨r, e, rfl⟩ : ∃ (r : Fin 32768) (e : Fin 2048), y = ix2 r e := ⟨y 0, y 1, eq_ix2 y⟩
  refine (lnA_at _ lg lb r e).trans ?_
  have hb : r.val / 8192 < 4 := by omega
  have ht : r.val % 8192 < 8192 := by omega
  have hf : ∀ k : Fin 2048, (fA (gA (guA (hA x sh sc) w)) wd (ix3 (⟨r.val / 8192, hb⟩ : Fin 4) (⟨r.val % 8192, ht⟩ : Fin 8192) k) : EReal) = fR s x md w wd r.val k.val := fun k => by
    rw [fA_at]
    unfold fR
    rw [← Fin.sum_univ_eq_sum_range (fun f => term s x md w wd r.val f k.val) 5632]
    refine Finset.sum_congr rfl fun f _ => ?_
    rw [gA_at, guA_at, guA_at]
    simp only [hA_at s x md sh sc hsh hsc r.val ⟨r.val / 8192, hb⟩ ⟨r.val % 8192, ht⟩ rfl rfl]
    unfold term wE dE
    simp only [Fin.ofNat_val_eq_self]
  have hy := fun k => (yA_at s x md ga hga (fA (gA (guA (hA x sh sc) w)) wd) r.val ⟨r.val / 8192, hb⟩ ⟨r.val % 8192, ht⟩ rfl rfl k).trans
    (congrArg (fun q : EReal => Ideal.ofBits .f32 1066940400#32 * xE x r.val k.val + Ideal.ofBits .f32 1056964608#32 * mE md r.val (s + 2) k.val * q) (hf k))
  simp only [hy]
  refine (deepnorm _ _ _ _ _ e).trans ?_
  unfold SPEC vE
  have e0 : (ix2 r e : S32768x2048.Idx) 0 = r := rfl
  have e1 : (ix2 r e : S32768x2048.Idx) 1 = e := rfl
  rw [e0, e1, Fin.ofNat_val_eq_self]

/-- The reference's result is its stages, composed. -/
theorem res_eq (m : (ℓ : Loc nD τ sig) → Buf (Elt Ideal) ℓ) (c : Dev nD) : res_main_v59 m c =
    lnA (yA (m ((c.tc : Thread nD τ).loc main_arg0))
        (extractStridedSlice S4x2048 ![0, 4096] (m ((c.tc : Thread nD τ).loc main_arg1)) slices_S4x18432_S4x2048_0_4096)
      (fA (gA (guA (hA (m ((c.tc : Thread nD τ).loc main_arg0))
        (extractStridedSlice S4x2048 ![0, 0] (m ((c.tc : Thread nD τ).loc main_arg1)) slices_S4x18432_S4x2048_0_0)
        (extractStridedSlice S4x2048 ![0, 2048] (m ((c.tc : Thread nD τ).loc main_arg1)) slices_S4x18432_S4x2048_0_2048)) (m ((c.tc : Thread nD τ).loc main_arg2)))) (m ((c.tc : Thread nD τ).loc main_arg3)))) (m ((c.tc : Thread nD τ).loc main_arg4)) (m ((c.tc : Thread nD τ).loc main_arg5)) := rfl

/-- The first feed-forward reference's result array is the specification of its arguments. -/
theorem reference_array (m : (ℓ : Loc nD τ sig) → Buf (Elt Ideal) ℓ) (c : Dev nD) : res_main_v59 m c =
    SPEC 0 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [res_eq]
  exact stages 0 _ _ _ _ _ _ _ _ _ (part 0 _ _ _ (by decide) (by decide)) (part 1 _ _ _ (by decide) (by decide)) (part 2 _ _ _ (by decide) (by decide))

end Cert.Ffn.Ref
-- ==== Proof.Ffn5.lean ====
module

public import proofs.«01_k».proof.Proof.Ffn4
public import proofs.«01_k».proof.Proof.Gen.Kernel3Ideal.Value
public import proofs.«01_k».proof.Proof.Gen.Reference3Ideal.Run

@[expose] public section

set_option maxRecDepth 16384

noncomputable section
open Idealize.ShloMosaic Idealize.ShloMosaic.TcCoe Idealize.SL.Sem

namespace Cert.Ffn.Second

/-! # The second feed-forward call

Its kernel differs from the first call's in the modulation vectors it reads (6 to 8 instead of 0 to 2) and in nothing else, so what
the first call's lemmas say of a body or of an operand holds of this call as it stands. -/

open Cert.Kernel3Ideal Cert.Kernel3Ideal.Gen
open Cert.Kernel2Ideal.Body (accE hE dnE)

section Body

variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1024x2048 .f32) (harg11 : arg11.IsWhole) (arg12 : Memref sig .tc .vmem S1024x2048 .bf16) (harg12 : arg12.IsWhole)
    (x0 : Vec Ideal S1024x2048 .f32) (x1 : Vec Ideal S1x1x2048 .f32) (x2 : Vec Ideal S1x1x2048 .f32) (x3 : Vec Ideal S1x1x2048 .f32) (x4 : Vec Ideal S2048x512 .bf16) (x5 : Vec Ideal S2048x512 .bf16) (x6 : Vec Ideal S512x2048 .bf16) (x7 : Vec Ideal S1x2048 .f32) (x8 : Vec Ideal S1x2048 .f32) (xo9 : Vec Ideal S1024x2048 .f32) (xs0 : Vec Ideal S1024x2048 .bf16)

theorem out_A (hc0 : cond0_0 i) (hc1 : ¬cond0_1 i) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = accE (hE x0 x1 x2) x4 x5 x6 (fun _ => 0) :=
  Cert.Kernel2Ideal.Body.out_A c i arg2 harg2 arg3 harg3 arg4 harg4 arg5 harg5 arg6 harg6 arg7 harg7 arg8 harg8 arg9 harg9 arg10 harg10 arg11 harg11 arg12 harg12 x0 x1 x2 x3 x4 x5 x6 x7 x8 hc0 hc1

theorem sout_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = hE x0 x1 x2 :=
  Cert.Kernel2Ideal.Body.sout_A c i arg2 harg2 arg3 harg3 arg4 harg4 arg5 harg5 arg6 harg6 arg7 harg7 arg8 harg8 arg9 harg9 arg10 harg10 arg11 harg11 arg12 harg12 x0 x1 x2 x3 x4 x5 x6 x7 x8 hc0 hc1

theorem out_B (hc0 : ¬cond0_0 i) (hc1 : ¬cond0_1 i) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 = accE xs0 x4 x5 x6 xo9 :=
  Cert.Kernel2Ideal.Body.out_B c i arg2 harg2 arg3 harg3 arg4 harg4 arg5 harg5 arg6 harg6 arg7 harg7 arg8 harg8 arg9 harg9 arg10 harg10 arg11 harg11 arg12 harg12 x0 x1 x2 x3 x4 x5 x6 x7 x8 xo9 xs0 hc0 hc1

theorem out_C (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo9 xs0 =
      dnE x0 x3 (accE xs0 x4 x5 x6 xo9) x7 x8 :=
  Cert.Kernel2Ideal.Body.out_C c i arg2 harg2 arg3 harg3 arg4 harg4 arg5 harg5 arg6 harg6 arg7 harg7 arg8 harg8 arg9 harg9 arg10 harg10 arg11 harg11 arg12 harg12 x0 x1 x2 x3 x4 x5 x6 x7 x8 xo9 xs0 hc0 hc1

end Body

variable (m : (ℓ : Loc nD τ sig) → Buf (Elt Ideal) ℓ) (c : Dev nD)

abbrev a0 : S4x8192x2048.Idx → EReal := m ((c : Thread nD τ).loc main_arg0)
abbrev a1 : S4x18432.Idx → EReal := m ((c : Thread nD τ).loc main_arg1)
abbrev a2 : S1x2048x11264.Idx → EReal := m ((c : Thread nD τ).loc main_arg2)
abbrev a3 : S1x5632x2048.Idx → EReal := m ((c : Thread nD τ).loc main_arg3)
abbrev a4 : S1x2048.Idx → EReal := m ((c : Thread nD τ).loc main_arg4)
abbrev a5 : S1x2048.Idx → EReal := m ((c : Thread nD τ).loc main_arg5)

/-- The block indices of the modulation windows and of the result's window at a grid point `t`. -/
theorem idx : ∀ t : Fin cfg0.N, win0_1.index t = ![t.val / 88 * 9 + 6, 0, 0] ∧
    win0_2.index t = ![t.val / 88 * 9 + 7, 0, 0] ∧
    win0_3.index t = ![t.val / 88 * 9 + 8, 0, 0] ∧
    win0_9.index t = ![t.val / 11, 0] :=
  (by decide +kernel : ∀ t : Fin grid0.N, _)

theorem V_mod (r i : ℕ) (hr : r < 32768) (hi : i < 9) (k : Fin 2048) (j : Fin 36) (hj : j.val = r / 8192 * 9 + i) :
    (V m c main_v1 (ix3 j 0 k) : EReal) = mE (a1 m c) r i k.val :=
  Cert.Ffn.V_mod m c r i hr hi k j hj

variable (t : Fin cfg0.N)

theorem blk_sh (a : Fin 1024) (k : Fin 2048) : (iblk m c 1 t (ix3 0 0 k) : EReal) = mE (a1 m c) (1024 * (t.val / 11) + a.val) 6 k.val := by
  have hN := lt_of_lt_of_eq t.isLt (show cfg0.N = 352 from N_0)
  have e : iblk m c 1 t (ix3 0 0 k) = V m c main_v1 (ix3 (Fin.ofNat 36 (t.val / 88 * 9 + 6)) 0 k) := by
    unfold iblk
    generalize hV : V m c = W
    blk_ext [(idx t).1] <;> (simp only [Fin.val_ofNat]; omega)
  exact e.trans (V_mod m c _ 6 (by omega) (by decide) k _ (by simp only [Fin.val_ofNat]; omega))

theorem blk_sc (a : Fin 1024) (k : Fin 2048) : (iblk m c 2 t (ix3 0 0 k) : EReal) = mE (a1 m c) (1024 * (t.val / 11) + a.val) 7 k.val := by
  have hN := lt_of_lt_of_eq t.isLt (show cfg0.N = 352 from N_0)
  have e : iblk m c 2 t (ix3 0 0 k) = V m c main_v1 (ix3 (Fin.ofNat 36 (t.val / 88 * 9 + 7)) 0 k) := by
    unfold iblk
    generalize hV : V m c = W
    blk_ext [(idx t).2.1] <;> (simp only [Fin.val_ofNat]; omega)
  exact e.trans (V_mod m c _ 7 (by omega) (by decide) k _ (by simp only [Fin.val_ofNat]; omega))

theorem blk_ga (a : Fin 1024) (k : Fin 2048) : (iblk m c 3 t (ix3 0 0 k) : EReal) = mE (a1 m c) (1024 * (t.val / 11) + a.val) 8 k.val := by
  have hN := lt_of_lt_of_eq t.isLt (show cfg0.N = 352 from N_0)
  have e : iblk m c 3 t (ix3 0 0 k) = V m c main_v1 (ix3 (Fin.ofNat 36 (t.val / 88 * 9 + 8)) 0 k) := by
    unfold iblk
    generalize hV : V m c = W
    blk_ext [(idx t).2.2.1] <;> (simp only [Fin.val_ofNat]; omega)
  exact e.trans (V_mod m c _ 8 (by omega) (by decide) k _ (by simp only [Fin.val_ofNat]; omega))

/-- The blocks the points read. -/
abbrev blks : Blks cfg0.N := ⟨fun t => iblk m c 0 t, fun t => iblk m c 1 t, fun t => iblk m c 2 t, fun t => iblk m c 3 t, fun t => iblk m c 4 t,
  fun t => iblk m c 5 t, fun t => iblk m c 6 t, fun t => iblk m c 7 t, fun t => iblk m c 8 t⟩

/-- The windows other than the modulation vectors' are the first call's. -/
theorem reads : Reads 6 (a0 m c) (a1 m c) (a2 m c) (a3 m c) (a4 m c) (a5 m c) (blks m c) where
  x := Cert.Ffn.blk_x m c
  sh := blk_sh m c
  sc := blk_sc m c
  ga := blk_ga m c
  wg := Cert.Ffn.blk_wg m c
  wu := Cert.Ffn.blk_wu m c
  wd := Cert.Ffn.blk_wd m c
  lg := Cert.Ffn.blk_lg m c
  lb := Cert.Ffn.blk_lb m c

theorem steps : Steps (blks m c) (fun n hn => outsAt0 m c n hn) where
  first t h0 := by
    dsimp only
    rw [outsAt0_A m c t h0 (by omega), sout_A, out_A]
  next t h0 h1 h := by
    dsimp only
    rw [outsAt0_B m c t h0 h1, out_B]
    rfl
  last t h1 h := by
    dsimp only
    rw [outsAt0_C m c t (by omega) h1, out_C]
    rfl

/-- The result array after the run. -/
theorem kernel_array : (dats m 0 c).arrAt 9 cfg0.N = SPEC 6 (a0 m c) (a1 m c) (a2 m c) (a3 m c) (a4 m c) (a5 m c) := by
  refine (dats m 0 c).arrAt_eq_of_covers 9 _ (by decide +kernel) fun t hf y => ?_
  have hN := lt_of_lt_of_eq t.isLt (show cfg0.N = 352 from N_0)
  have hl : t.val % 11 = 10 := (by decide +kernel : ∀ t : Fin cfg0.N, (cfg0.win 9).flush t = true → t.val % 11 = 10) t hf
  rw [after0_9]
  rw [cast_eq]
  have hz : ∀ z : S1024x2048.Idx, z = ix2 (z 0) (z 1) := fun z => eq_ix2 z
  refine (congrArg (outsAt0 m c t.val t.isLt).1 (hz _)).trans ((out_last (reads m c) (steps m c) N_0 t.val t.isLt hl _ _).trans (congrArg _ ?_))
  blk_ext [(idx t).2.2.2] <;> (simp only [Fin.val_ofNat]; omega)

end Cert.Ffn.Second

namespace Cert.Ffn.SecondRef

open Cert.Reference3Ideal Cert.Reference3Ideal.Gen Cert.Reference3Ideal.Value

/-- The reference's result is its stages, composed. -/
theorem res_eq (m : (ℓ : Loc nD τ sig) → Buf (Elt Ideal) ℓ) (c : Dev nD) : res_main_v59 m c =
    Ref.lnA (Ref.yA (m ((c.tc : Thread nD τ).loc main_arg0))
        (extractStridedSlice S4x2048 ![0, 16384] (m ((c.tc : Thread nD τ).loc main_arg1)) slices_S4x18432_S4x2048_0_16384)
      (Ref.fA (Ref.gA (Ref.guA (Ref.hA (m ((c.tc : Thread nD τ).loc main_arg0))
        (extractStridedSlice S4x2048 ![0, 12288] (m ((c.tc : Thread nD τ).loc main_arg1)) slices_S4x18432_S4x2048_0_12288)
        (extractStridedSlice S4x2048 ![0, 14336] (m ((c.tc : Thread nD τ).loc main_arg1)) slices_S4x18432_S4x2048_0_14336)) (m ((c.tc : Thread nD τ).loc main_arg2)))) (m ((c.tc : Thread nD τ).loc main_arg3)))) (m ((c.tc : Thread nD τ).loc main_arg4)) (m ((c.tc : Thread nD τ).loc main_arg5)) := rfl

/-- The second feed-forward reference's result array is the specification of its arguments. -/
theorem reference_array (m : (ℓ : Loc nD τ sig) → Buf (Elt Ideal) ℓ) (c : Dev nD) : res_main_v59 m c =
    SPEC 6 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [res_eq]
  exact Ref.stages 6 _ _ _ _ _ _ _ _ _ (Ref.part 6 _ _ _ (by decide) (by decide)) (Ref.part 7 _ _ _ (by decide) (by decide)) (Ref.part 8 _ _ _ (by decide) (by decide))

end Cert.Ffn.SecondRef
-- ==== Proof.Proj1.lean ====
module

public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import Idealize.ShloMosaic.Lib.Exec
public import Idealize.ShloMosaic.Lib.VecWindow
public import Idealize.ShloMosaic.Lib.Pipeline.Value
public import Idealize.ShloMosaic.Lib.Tactic

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

theorem hz3 : (![0, 0, 0] : Fin 3 → ℕ) = fun _ => 0 := by funext a; fin_cases a <;> rfl

/-- A load of a whole buffer of two axes. -/
theorem ld2 {n k : ℕ} {e : EltTy} (arg : Memref sig .tc .vmem (⟨2, ![n, k]⟩ : Shape) e) (h : arg.IsWhole) (x : Vec F (⟨2, ![n, k]⟩ : Shape) e) (inb) :
    View.readAt (Elt F) arg.view (Rect.toLoadRect (Rect.unit ![0, 0] ![n, k] inb)) (h.unread x) = x := by
  simp only [View.readAt_eq_ld, h.read_unread]
  exact View.ld_unit_zero (S := (⟨2, ![n, k]⟩ : Shape)) hz2 _ _

/-- A load of a whole buffer of three axes. -/
theorem ld3 (arg : Memref sig .tc .vmem S1x1x2048 .f32) (h : arg.IsWhole) (x : Vec F S1x1x2048 .f32) (inb) :
    View.readAt (Elt F) arg.view (Rect.toLoadRect (Rect.unit ![0, 0, 0] ![1, 1, 2048] inb)) (h.unread x) = x := by
  simp only [View.readAt_eq_ld, h.read_unread]
  exact View.ld_unit_zero (S := S1x1x2048) hz3 _ _

/-- After a store of the whole buffer it holds what was stored. -/
theorem st2 {n k : ℕ} {e : EltTy} (v : View sig .tc .vmem (⟨2, ![n, k]⟩ : Shape) e) (f) (inb) (w : Vec F (⟨2, ![n, k]⟩ : Shape) e)
    (L : List (View.Piece (Elt F) (⟨2, ![n, k]⟩ : Shape) e)) :
    v.read (Elt F) (v.writes (Elt F) f (⟨Rect.unit (s := (⟨2, ![n, k]⟩ : Shape)) ![0, 0] ![n, k] inb, w⟩ :: L)) = w := by
  funext y
  have h := View.read_writes_cons_emb v f (Rect.unit (s := (⟨2, ![n, k]⟩ : Shape)) ![0, 0] ![n, k] inb) w L y
  exact (congrArg _ (Rect.emb_unit_full (s := (⟨2, ![n, k]⟩ : Shape)) inb y).symm).trans h

/-! ## One point of the body -/

section Run

variable (c : Dev nD) (i : grid0.Coords)
  (a2 : Memref sig .tc .vmem S1024x2048 .f32) (h2 : a2.IsWhole)
  (a3 : Memref sig .tc .vmem S1x1x2048 .f32) (h3 : a3.IsWhole)
  (a4 : Memref sig .tc .vmem S1x1x2048 .f32) (h4 : a4.IsWhole)
  (a5 : Memref sig .tc .vmem S2048x2048 .bf16) (h5 : a5.IsWhole)
  (a6 : Memref sig .tc .vmem S2048x128 .bf16) (h6 : a6.IsWhole)
  (a7 : Memref sig .tc .vmem S1024x2048 .bf16) (h7 : a7.IsWhole)
  (a8 : Memref sig .tc .vmem S1024x128 .f32) (h8 : a8.IsWhole)
  (a9 : Memref sig .tc .vmem S1024x2048 .bf16) (h9 : a9.IsWhole)
  (x0 : Vec F S1024x2048 .f32) (x1 x2 : Vec F S1x1x2048 .f32) (x3 : Vec F S2048x2048 .bf16) (x4 : Vec F S2048x128 .bf16)
  (l : Vec F S1024x128 .f32) (H : Vec F S1024x2048 .bf16)

/-- The five inputs' buffers at their contents. -/
def ins : sProp 𝕄 :=
  iprop(owns (c : Thread nD τ) a2 fullShare x0 ∗ owns (c : Thread nD τ) a3 fullShare x1 ∗ owns (c : Thread nD τ) a4 fullShare x2
    ∗ owns (c : Thread nD τ) a5 fullShare x3 ∗ owns (c : Thread nD τ) a6 fullShare x4)

set_option maxHeartbeats 1000000 in
/-- A point that is not the first of its row tile: the scratch holds `H`; the product of `H` with the weights' block is stored. -/
theorem run_later (hc : ¬k0_cond1 i = 1#1) (E : Set ℕ) (K : PUnit → sProp 𝕄) :
    iprop(ins c a2 a3 a4 a5 a6 x0 x1 x2 x3 x4 ∗ (∃ d, owns (c : Thread nD τ) a7 fullShare d) ∗ owns (c : Thread nD τ) a8 fullShare l
        ∗ owns (c : Thread nD τ) a9 fullShare H
        ∗ (iprop(ins c a2 a3 a4 a5 a6 x0 x1 x2 x3 x4 ∗ owns (c : Thread nD τ) a7 fullShare (k0_pay4 H x3) ∗ owns (c : Thread nD τ) a8 fullShare l
            ∗ owns (c : Thread nD τ) a9 fullShare H) -∗ K ⟨⟩))
      ⊢ wp frame (wpE (defs₀ (F := F)) Variants.none c none) E (cc0_proj i a2 h2 a3 h3 a4 h4 a5 h5 a6 h6 a7 h7 a8 h8 a9 h9) K := by
  simp only [cc0_proj_eq_skeleton]; unfold cc0_proj_skel ins
  unfold owns
  iintro ⟨⟨⟨%f0, %hf0, H0⟩, ⟨%f1, %hf1, H1⟩, ⟨%f2, %hf2, H2⟩, ⟨%f3, %hf3, H3⟩, ⟨%f4, %hf4, H4⟩⟩, ⟨%d5, %f5, %hf5, H5⟩, ⟨%f6, %hf6, H6⟩, ⟨%f7, %hf7, H7⟩, Hk⟩
  obtain rfl := h2.eq_unread hf0; obtain rfl := h3.eq_unread hf1; obtain rfl := h4.eq_unread hf2; obtain rfl := h5.eq_unread hf3
  obtain rfl := h6.eq_unread hf4; obtain rfl := h8.eq_unread hf6; obtain rfl := h9.eq_unread hf7
  sl_exec (disch := first | sl_exact hc)
  sl_step
  iapply Hk
  isplitl [H0 H1 H2 H3 H4]
  · isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; isplitr; · ipureintro; exact h6.read_unread _
    iexact H4
  isplitl [H5]
  · iexists _; isplitr
    swap; · iexact H5
    ipureintro
    refine (st2 _ _ _ _ _).trans ?_
    exact congrArg₂ k0_pay4 (ld2 _ _ _ _) (ld2 _ _ _ _)
  isplitl [H6]
  · iexists _; isplitr; · ipureintro; exact h8.read_unread _
    iexact H6
  iexists _; isplitr; · ipureintro; exact h9.read_unread _
  iexact H7

set_option maxHeartbeats 1000000 in
/-- The first point of a row tile: the scratch takes the modulated block, the second output its product with the last 128 columns, and the
    product of the modulated block with the weights' block is stored. -/
theorem run_first (hc : k0_cond1 i = 1#1) (E : Set ℕ) (K : PUnit → sProp 𝕄) :
    iprop(ins c a2 a3 a4 a5 a6 x0 x1 x2 x3 x4 ∗ (∃ d, owns (c : Thread nD τ) a7 fullShare d) ∗ (∃ d, owns (c : Thread nD τ) a8 fullShare d)
        ∗ (∃ d, owns (c : Thread nD τ) a9 fullShare d)
        ∗ (iprop(ins c a2 a3 a4 a5 a6 x0 x1 x2 x3 x4 ∗ owns (c : Thread nD τ) a7 fullShare (k0_pay4 (k0_pay2 x0 x2 x1) x3)
            ∗ owns (c : Thread nD τ) a8 fullShare (k0_pay3 x0 x2 x1 x4) ∗ owns (c : Thread nD τ) a9 fullShare (k0_pay2 x0 x2 x1)) -∗ K ⟨⟩))
      ⊢ wp frame (wpE (defs₀ (F := F)) Variants.none c none) E (cc0_proj i a2 h2 a3 h3 a4 h4 a5 h5 a6 h6 a7 h7 a8 h8 a9 h9) K := by
  simp only [cc0_proj_eq_skeleton]; unfold cc0_proj_skel ins
  unfold owns
  iintro ⟨⟨⟨%f0, %hf0, H0⟩, ⟨%f1, %hf1, H1⟩, ⟨%f2, %hf2, H2⟩, ⟨%f3, %hf3, H3⟩, ⟨%f4, %hf4, H4⟩⟩, ⟨%d5, %f5, %hf5, H5⟩, ⟨%d6, %f6, %hf6, H6⟩, ⟨%d7, %f7, %hf7, H7⟩, Hk⟩
  obtain rfl := h2.eq_unread hf0; obtain rfl := h3.eq_unread hf1; obtain rfl := h4.eq_unread hf2; obtain rfl := h5.eq_unread hf3
  obtain rfl := h6.eq_unread hf4
  sl_exec (disch := first | sl_exact hc)
  sl_step
  have e0 := ld2 a2 h2 x0 inb_S1024x2048_S1024x2048_0_0
  have e1 := ld3 a4 h4 x2 inb_S1x1x2048_S1x1x2048_0_0_0
  have e2 := ld3 a3 h3 x1 inb_S1x1x2048_S1x1x2048_0_0_0
  iapply Hk
  isplitl [H0 H1 H2 H3 H4]
  · isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; isplitr; · ipureintro; exact h6.read_unread _
    iexact H4
  isplitl [H5]
  · iexists _; isplitr
    swap; · iexact H5
    ipureintro
    refine (st2 _ _ _ _ _).trans ?_
    refine congrArg₂ k0_pay4 ?_ (ld2 _ _ _ _)
    unfold run_first.sl.v3 run_first.sl.H7_1
    refine (View.readCov_full _ _ _ _ _).trans ?_
    rw [e0, e1, e2]
  isplitl [H6]
  · iexists _; isplitr
    swap; · iexact H6
    ipureintro
    refine (st2 _ _ _ _ _).trans ?_
    rw [e0, e1, e2]
    exact congrArg _ (ld2 _ _ _ _)
  iexists _; isplitr
  swap; · iexact H7
  ipureintro
  unfold run_first.sl.H7_1
  refine (st2 _ _ _ _ _).trans ?_
  rw [e0, e1, e2]

end Run

end Cert.Kernel4Ideal.Body

end
-- ==== Proof.Proj2.lean ====
module

public import proofs.«01_k».proof.Proof.Proj1
public import Idealize.ShloMosaic.Lib.Claim
public import Idealize.ShloMosaic.Lib.Pipeline.TableIdle

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The first point of a row tile is the one at the multiples of five. -/
theorem cond_iff : ∀ t : Fin cfg0.N, k0_cond1 (grid0.coords t) = 1#1 ↔ t.val % 5 = 0 :=
  (fun t => by
    have ht : t.val < 160 := Nat.lt_of_lt_of_eq t.isLt N_0
    have e1 : (grid0.coords t 1).val = t.val / 1 % 5 := Pipeline.Grid.coords_val t 1 (by decide) rfl
    simp only [k0_cond1, e1]
    word_cmp
   : ∀ t : Fin grid0.N, k0_cond1 (grid0.coords t) = 1#1 ↔ t.val % 5 = 0)

/-- The first point of the row tile of the point `n`. -/
def first (n : ℕ) (h : n < cfg0.N) : Fin cfg0.N := ⟨n / 5 * 5, Nat.lt_of_le_of_lt (Nat.div_mul_le_self n 5) h⟩

theorem first_eq (t : Fin cfg0.N) (h : t.val % 5 = 0) : first t.val t.isLt = t := Fin.ext (by show t.val / 5 * 5 = t.val; omega)

theorem first_pred (t : Fin cfg0.N) (h : ¬t.val % 5 = 0) (h') : first (t.val - 1) h' = first t.val t.isLt :=
  Fin.ext (by show (t.val - 1) / 5 * 5 = t.val / 5 * 5; omega)

/-- The modulated block the row tile beginning at the point `a` works on. -/
def blkH (c : Dev nD) (a : Fin cfg0.N) : Vec F S1024x2048 .bf16 := k0_pay2 (iblk m c 0 a) (iblk m c 2 a) (iblk m c 1 a)

/-- The second output's block of that row tile. -/
def blkL (c : Dev nD) (a : Fin cfg0.N) : Vec F S1024x128 .f32 := k0_pay3 (iblk m c 0 a) (iblk m c 2 a) (iblk m c 1 a) (iblk m c 4 a)

/-- The first output's block of the point `t`. -/
def blkO (c : Dev nD) (t : Fin cfg0.N) : Vec F S1024x2048 .bf16 := k0_pay4 (blkH m c (first t.val t.isLt)) (iblk m c 3 t)

abbrev scr : Memref sig .tc .vmem S1024x2048 .bf16 := Memref.whole cc0_scratch0

/-- What the launch hands over: the scratch at anything and the generator's register. -/
theorem start_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before point `n`: at the start what the launch hands over, later the scratch at the row tile's modulated block. -/
def Inv (c : Dev nD) : (n : ℕ) → n ≤ cfg0.N → sProp 𝕄
  | 0, _ => Pipeline.ΦA spec0 c
  | n + 1, hn => iprop(iprop(owns (c : Thread nD τ) scr fullShare (blkH m c (first n hn))) ∗ (∃ r, prngReg c r))

theorem Inv_pos (c : Dev nD) (n : ℕ) (h : n ≤ cfg0.N) (hz : n ≠ 0) :
    Inv m c n h = iprop(iprop(owns (c : Thread nD τ) scr fullShare (blkH m c (first (n - 1) (by omega)))) ∗ (∃ r, prngReg c r)) := by
  cases n with
  | zero => exact absurd rfl hz
  | succ n => rfl

/-- Any of the invariants gives back what the launch handed over. -/
theorem Inv_start (c : Dev nD) (n : ℕ) (h : n ≤ cfg0.N) : Inv m c n h ⊢ Pipeline.ΦA spec0 c := by
  by_cases hz : n = 0
  · subst hz; exact Idealize.SL.BI.Entails.refl _
  · rw [Inv_pos m c n h hz, start_eq]
    iintro ⟨HS, Hg⟩
    isplitl [HS]
    · iexists _; iexact HS
    iexact Hg

/-- The proof data: the arrays as the call finds them, an input's buffer at its block, the outputs' at the blocks above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkO m c t
    | ⟨6, _⟩ => blkL m c (first t.val t.isLt)
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_before (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = blkO m c t := by dsimp only [dats]
theorem after_6 (c : Dev nD) (t : Fin cfg0.N) : (dats m 0 c).after 6 t = blkL m c (first t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The second output's window is left alone at the later points of a row tile, -/
theorem idle_6 (t : Fin cfg0.N) : cfg0.idle 6 (cfg0.grid.coords t) = !decide (t.val % 5 = 0) := by
  show (!(k0_cond1 (grid0.coords t) == 1#1)) = _
  congr 1
  rw [Bool.eq_iff_iff, beq_iff_eq, decide_eq_true_iff]
  exact cond_iff t

/-- and its buffer holds a stored block at exactly these. -/
theorem fresh_6 : ∀ (n : ℕ) (h : n < cfg0.N), cfg0.fresh 6 n = decide (n % 5 = 0)
  | 0, _ => rfl
  | n + 1, h => by
    have hn : n < cfg0.N := Nat.lt_of_succ_lt h
    rw [Pipeline.Cfg.fresh_succ cfg0 6 n hn, idle_6, fresh_6 n hn]
    by_cases hf : n % 5 = 4
    · rw [(flush0_6 ⟨n, hn⟩).mpr hf, Bool.true_or]
      exact (decide_eq_true (by omega)).symm
    · rw [Bool.eq_false_iff.mpr fun h' => hf ((flush0_6 ⟨n, hn⟩).mp h'), Bool.false_or]
      show (!decide (n % 5 = 0) && decide (n % 5 = 0)) = _
      rw [Bool.not_and_self]
      exact (decide_eq_false (by omega)).symm

/-- At a later point of a row tile the second output's buffer still holds the tile's block. -/
theorem before_6 (c : Dev nD) (t : Fin cfg0.N) (h : ¬t.val % 5 = 0) (d) : (dats m 0 c).before 6 t d = blkL m c (first t.val t.isLt) := by
  rw [Dat.before_out_traj (dats m 0 c) 6 rfl (fun _ _ => rfl) (fun t' hz hi _ => ?_) t.val t rfl d, fresh_6 t.val t.isLt, decide_eq_false h,
    if_neg Bool.false_ne_true, after_6, first_pred t h]
  have h' : ¬t'.val % 5 = 0 := by
    rw [idle_6, Bool.not_eq_true', decide_eq_false_iff_not] at hi
    exact hi
  rw [after_6, after_6, first_pred t' h']

/-! ## The body's obligation -/

abbrev stg0 (t : Fin cfg0.N) : Memref sig .tc .vmem S1024x2048 .f32 := win0_0.stage (cfg0.slots t 0)
abbrev stg1 (t : Fin cfg0.N) : Memref sig .tc .vmem S1x1x2048 .f32 := win0_1.stage (cfg0.slots t 1)
abbrev stg2 (t : Fin cfg0.N) : Memref sig .tc .vmem S1x1x2048 .f32 := win0_2.stage (cfg0.slots t 2)
abbrev stg3 (t : Fin cfg0.N) : Memref sig .tc .vmem S2048x2048 .bf16 := win0_3.stage (cfg0.slots t 3)
abbrev stg4 (t : Fin cfg0.N) : Memref sig .tc .vmem S2048x128 .bf16 := win0_4.stage (cfg0.slots t 4)
abbrev stg5 (t : Fin cfg0.N) : Memref sig .tc .vmem S1024x2048 .bf16 := win0_5.stage (cfg0.slots t 5)
abbrev stg6 (t : Fin cfg0.N) : Memref sig .tc .vmem S1024x128 .f32 := win0_6.stage (cfg0.slots t 6)

/-- What the body is handed at point `t`. -/
def Pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What it gives back. -/
def Post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ (dats m 0 c).leavesExact 6 t)

set_option maxHeartbeats 4000000 in
/-- The body runs at every point and leaves what the proof data say. -/
theorem body_at (c : Dev nD) (t : Fin cfg0.N) :
    Pre m c t ⊢ wp frame (wpE (defs₀ (F := F)) Variants.none c none) Set.univ (bodyAt0 t) (fun _ => Post m c t) := by
  unfold Pre Post bodyAt0
  simp only [before_0, before_1, before_2, before_3, before_4]
  rw [show (dats m 0 c).owesAt () t.succ = (dats m 0 c).owesAt () t.castSucc from rfl,
    after_0, after_1, after_2, after_3, after_4, after_5, inv_before m c t]
  rw [show (dats m 0 c).Φ t.succ = iprop(iprop(owns (c : Thread nD τ) scr fullShare (blkH m c (first t.val t.isLt))) ∗ (∃ r, prngReg c r)) from rfl]
  by_cases h : t.val % 5 = 0
  · have h6 : (dats m 0 c).leavesExact 6 t = owns (c : Thread nD τ) (stg6 t) fullShare (blkL m c t) := by
      unfold Dat.leavesExact
      rw [idle_6, decide_eq_true h, after_6, first_eq t h]; rfl
    refine (Laws.sep_mono_left (Inv_start m c _ _)).trans ?_
    rw [start_eq, h6]
    unfold blkO
    rw [first_eq t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ (iblk m c 0 t) (iblk m c 1 t) (iblk m c 2 t) (iblk m c 3 t) (iblk m c 4 t)
      ((cond_iff t).mpr h) Set.univ _)
    unfold ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [HS]; · iexact HS
    iintro ⟨⟨H0, H1, H2, H3, H4⟩, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h (by rw [e])
    rw [Inv_pos m c _ _ hz, first_pred t h]
    have h6 : owns (c : Thread nD τ) (stg6 t) fullShare (blkL m c (first t.val t.isLt)) ⊢ (dats m 0 c).leavesExact 6 t := by
      by_cases hf : t.val % 5 = 4
      · unfold Dat.leavesExact
        rw [idle_6, decide_eq_false h, (flush0_6 t).mpr hf, after_6]
        exact Idealize.SL.BI.Entails.refl _
      · rw [Dat.leavesExact_idle _ 6 t (by rw [idle_6, decide_eq_false h]; rfl) (Bool.eq_false_iff.mpr fun h' => hf ((flush0_6 t).mp h'))]
        simp only [before_6 m c t h]
        iintro H
        iexists (blkL m c (first t.val t.isLt)); iexact H
    simp only [before_6 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (iblk m c 0 t) (iblk m c 1 t) (iblk m c 2 t) (iblk m c 3 t) (iblk m c 4 t)
      _ _ (fun e => h ((cond_iff t).mp e)) Set.univ _)
    unfold ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [HS]; · iexact HS
    iintro ⟨⟨H0, H1, H2, H3, H4⟩, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply h6; iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl]
  exact Inv_start m c _ _

/-! ## The call -/

set_option backward.isDefEq.respectTransparency.types false in
/-- The call ends, with every array at what the proof data say and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The frame: the call ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel4Ideal.Body

end
-- ==== Proof.Proj3.lean ====
module

public import proofs.«01_k».proof.Proof.Proj2
public import proofs.«01_k».proof.Proof.Ffn2
public import Idealize.ShloMosaic.Lib.Pointwise

@[expose] public section

set_option maxRecDepth 16384

noncomputable section
open Idealize.ShloMosaic Idealize.ShloMosaic.TcCoe Idealize.SL.Sem

namespace Cert.Proj

open Cert.Kernel4Ideal Cert.Kernel4Ideal.Gen Cert.Kernel4Ideal.Body
open Cert.Ffn (xE mE hR)

/-! ## The specification -/

/-- The packed weights' element at natural indices. -/
def pE (w : S2048x22528.Idx → EReal) (k f : ℕ) : EReal := w (ix2 (Fin.ofNat 2048 k) (Fin.ofNat 22528 f))

/-- The product of row `r`, modulated by vectors 3 (shift) and 4 (scale), with column `f` of the packed weights. -/
def pR (x : S4x8192x2048.Idx → EReal) (md : S4x18432.Idx → EReal) (w : S2048x22528.Idx → EReal) (r f : ℕ) : EReal :=
  ∑ k : Fin 2048, hR 3 x md r k.val * pE w k.val f

/-- The first result: the columns 0 to 10239 of that product. -/
def SPEC_P (x : S4x8192x2048.Idx → EReal) (md : S4x18432.Idx → EReal) (w : S2048x22528.Idx → EReal) : S32768x10240.Idx → EReal :=
  fun y => pR x md w (y 0).val (y 1).val

/-- The second result: the columns from 21504 to 21631. -/
def SPEC_L (x : S4x8192x2048.Idx → EReal) (md : S4x18432.Idx → EReal) (w : S2048x22528.Idx → EReal) : S32768x128.Idx → EReal :=
  fun y => pR x md w (y 0).val (21504 + (y 1).val)

/-- An element scaled and shifted. -/
def modE (x sc sh : EReal) : EReal := x * (1 + sc) + sh

/-! ## The payloads at an element -/

/-- The modulated block. -/
theorem pay2_at (x : Vec Ideal S1024x2048 .f32) (sc sh : Vec Ideal S1x1x2048 .f32) (a : Fin 1024) (k : Fin 2048) :
    (k0_pay2 x sc sh (ix2 a k) : EReal) = modE (x (ix2 a k)) (sc (ix3 0 0 k)) (sh (ix3 0 0 k)) := by
  unfold modE k0_pay2 k0_pay1
  pointwise

/-- The narrow product is a sum of the modulated block's row. -/
theorem pay3_at (x : Vec Ideal S1024x2048 .f32) (sc sh : Vec Ideal S1x1x2048 .f32) (w : Vec Ideal S2048x128 .bf16) (a : Fin 1024) (f : Fin 128) :
    (k0_pay3 x sc sh w (ix2 a f) : EReal) = ∑ k : Fin 2048, modE (x (ix2 a k)) (sc (ix3 0 0 k)) (sh (ix3 0 0 k)) * w (ix2 k f) := by
  unfold modE k0_pay3 k0_pay1
  pointwise

/-- The wide product is a sum of the scratch's row. -/
theorem pay4_at (h : Vec Ideal S1024x2048 .bf16) (w : Vec Ideal S2048x2048 .bf16) (a : Fin 1024) (f : Fin 2048) :
    (k0_pay4 h w (ix2 a f) : EReal) = ∑ k : Fin 2048, h (ix2 a k) * w (ix2 k f) := by
  unfold k0_pay4
  pointwise

/-! ## What the launch finds in its operands -/

variable (m : (ℓ : Loc nD τ sig) → Buf (Elt Ideal) ℓ) (c : Dev nD)

abbrev a0 : S4x8192x2048.Idx → EReal := m ((c : Thread nD τ).loc main_arg0)
abbrev a1 : S4x18432.Idx → EReal := m ((c : Thread nD τ).loc main_arg1)
abbrev a2 : S2048x22528.Idx → EReal := m ((c : Thread nD τ).loc main_arg2)

theorem V_x (r : Fin 32768) (k : Fin 2048) : (V m c main_v0 (ix2 r k) : EReal) = xE (a0 m c) r.val k.val := by
  unfold V xE
  simp only [hostOps0, List.flatten_cons, List.flatten_nil, List.append_nil, List.cons_append, List.nil_append]
  after_reads_at
  refine congrArg (a0 m c) ?_
  congr 1 <;> refine Fin.ext ?_ <;> simp only [Fin.val_ofNat] <;> omega

/-- A row's modulation vector, read from the operand that holds nine of them for each batch element. -/
theorem V_m (r i : ℕ) (hr : r < 32768) (hi : i < 9) (k : Fin 2048) (j : Fin 36) (hj : j.val = r / 8192 * 9 + i) :
    (V m c main_v1 (ix3 j 0 k) : EReal) = mE (a1 m c) r i k.val := by
  unfold V mE
  simp only [hostOps0, List.flatten_cons, List.flatten_nil, List.append_nil, List.cons_append, List.nil_append]
  after_reads_at
  refine congrArg (a1 m c) ?_
  congr 1 <;> refine Fin.ext ?_ <;> simp only [Fin.val_ofNat] <;> omega

/-! ## The blocks a grid point reads -/

/-- Every window's block index at a grid point `t`: row tile `t / 5`, column block `t % 5`. -/
theorem idx : ∀ t : Fin cfg0.N, win0_0.index t = ![t.val / 5, 0] ∧
    win0_1.index t = ![t.val / 40 * 9 + 3, 0, 0] ∧
    win0_2.index t = ![t.val / 40 * 9 + 4, 0, 0] ∧
    win0_3.index t = ![0, t.val % 5] ∧
    win0_4.index t = ![0, 168] ∧
    win0_5.index t = ![t.val / 5, t.val % 5] ∧
    win0_6.index t = ![t.val / 5, 0] :=
  (by decide +kernel : ∀ t : Fin grid0.N, _)

variable (t : Fin cfg0.N)

theorem blk_x (a : Fin 1024) (k : Fin 2048) : (iblk m c 0 t (ix2 a k) : EReal) = xE (a0 m c) (1024 * (t.val / 5) + a.val) k.val := by
  have hN := lt_of_lt_of_eq t.isLt (show cfg0.N = 160 from N_0)
  have e : iblk m c 0 t (ix2 a k) = V m c main_v0 (ix2 (Fin.ofNat 32768 (1024 * (t.val / 5) + a.val)) k) := by
    unfold iblk
    generalize hV : V m c = W
    blk_ext [(idx t).1] <;> (simp only [Fin.val_ofNat]; omega)
  rw [e, V_x]
  congr 1
  simp only [Fin.val_ofNat]; omega

theorem blk_sh (a : Fin 1024) (k : Fin 2048) : (iblk m c 1 t (ix3 0 0 k) : EReal) = mE (a1 m c) (1024 * (t.val / 5) + a.val) 3 k.val := by
  have hN := lt_of_lt_of_eq t.isLt (show cfg0.N = 160 from N_0)
  have e : iblk m c 1 t (ix3 0 0 k) = V m c main_v1 (ix3 (Fin.ofNat 36 (t.val / 40 * 9 + 3)) 0 k) := by
    unfold iblk
    generalize hV : V m c = W
    blk_ext [(idx t).2.1] <;> (simp only [Fin.val_ofNat]; omega)
  rw [e]
  refine V_m m c _ 3 (by omega) (by decide) k _ ?_
  simp only [Fin.val_ofNat]; omega

theorem blk_sc (a : Fin 1024) (k : Fin 2048) : (iblk m c 2 t (ix3 0 0 k) : EReal) = mE (a1 m c) (1024 * (t.val / 5) + a.val) 4 k.val := by
  have hN := lt_of_lt_of_eq t.isLt (show cfg0.N = 160 from N_0)
  have e : iblk m c 2 t (ix3 0 0 k) = V m c main_v1 (ix3 (Fin.ofNat 36 (t.val / 40 * 9 + 4)) 0 k) := by
    unfold iblk
    generalize hV : V m c = W
    blk_ext [(idx t).2.2.1] <;> (simp only [Fin.val_ofNat]; omega)
  rw [e]
  refine V_m m c _ 4 (by omega) (by decide) k _ ?_
  simp only [Fin.val_ofNat]; omega

theorem blk_w (k f : Fin 2048) : (iblk m c 3 t (ix2 k f) : EReal) = pE (a2 m c) k.val (2048 * (t.val % 5) + f.val) := by
  have e : iblk m c 3 t (ix2 k f) = V m c main_arg2 (ix2 k (Fin.ofNat 22528 (2048 * (t.val % 5) + f.val))) := by
    unfold iblk
    generalize hV : V m c = W
    blk_ext [(idx t).2.2.2.1] <;> (simp only [Fin.val_ofNat]; omega)
  rw [e, V_main_arg2]
  unfold pE
  rw [Fin.ofNat_val_eq_self]

theorem blk_wl (k : Fin 2048) (f : Fin 128) : (iblk m c 4 t (ix2 k f) : EReal) = pE (a2 m c) k.val (21504 + f.val) := by
  have e : iblk m c 4 t (ix2 k f) = V m c main_arg2 (ix2 k (Fin.ofNat 22528 (21504 + f.val))) := by
    unfold iblk
    generalize hV : V m c = W
    blk_ext [(idx t).2.2.2.2.1] <;> (simp only [Fin.val_ofNat]; omega)
  rw [e, V_main_arg2]
  unfold pE
  rw [Fin.ofNat_val_eq_self]

/-! ## The blocks the points leave -/

theorem first_div : (first t.val t.isLt).val / 5 = t.val / 5 := by
  show t.val / 5 * 5 / 5 = t.val / 5
  omega

/-- The modulated input at a row tile's element, from the blocks of any point of that tile. -/
theorem mod_at (a : Fin 1024) (k : Fin 2048) :
    modE (iblk m c 0 t (ix2 a k)) (iblk m c 2 t (ix3 0 0 k)) (iblk m c 1 t (ix3 0 0 k)) =
      hR 3 (a0 m c) (a1 m c) (1024 * (t.val / 5) + a.val) k.val := by
  rw [blk_x, blk_sh m c t a, blk_sc m c t a]
  unfold modE hR
  rfl

/-- The scratch holds the row tile's modulated block. -/
theorem blkH_at (a : Fin 1024) (k : Fin 2048) : (blkH m c t (ix2 a k) : EReal) = hR 3 (a0 m c) (a1 m c) (1024 * (t.val / 5) + a.val) k.val := by
  unfold blkH
  rw [pay2_at, mod_at]

/-- The first output's block holds the row tile's product with the point's column block. -/
theorem blkO_at (a : Fin 1024) (f : Fin 2048) : (blkO m c t (ix2 a f) : EReal) =
    pR (a0 m c) (a1 m c) (a2 m c) (1024 * (t.val / 5) + a.val) (2048 * (t.val % 5) + f.val) := by
  unfold blkO pR
  rw [pay4_at]
  refine Finset.sum_congr rfl fun k _ => ?_
  rw [blkH_at, blk_w, first_div]

/-- The second output's block holds the row tile's product with the narrow column block. -/
theorem blkL_at (a : Fin 1024) (f : Fin 128) : (blkL m c t (ix2 a f) : EReal) =
    pR (a0 m c) (a1 m c) (a2 m c) (1024 * (t.val / 5) + a.val) (21504 + f.val) := by
  unfold blkL pR
  rw [pay3_at]
  refine Finset.sum_congr rfl fun k _ => ?_
  rw [mod_at, blk_wl]

/-! ## The result arrays -/

/-- The same blocks as tiles of the specification. -/
theorem tile_p (a : Fin 1024) (f : Fin 2048) : (blkO m c t (ix2 a f) : EReal) =
    SPEC_P (a0 m c) (a1 m c) (a2 m c) (ix2 (Fin.ofNat 32768 (1024 * (t.val / 5) + a.val)) (Fin.ofNat 10240 (2048 * (t.val % 5) + f.val))) := by
  have hN := lt_of_lt_of_eq t.isLt (show cfg0.N = 160 from N_0)
  rw [blkO_at]
  unfold SPEC_P
  refine congrArg₂ (pR (a0 m c) (a1 m c) (a2 m c)) ?_ ?_
  · show _ = (1024 * (t.val / 5) + a.val) % 32768
    omega
  · show _ = (2048 * (t.val % 5) + f.val) % 10240
    omega

theorem tile_l (a : Fin 1024) (f : Fin 128) : (blkL m c t (ix2 a f) : EReal) =
    SPEC_L (a0 m c) (a1 m c) (a2 m c) (ix2 (Fin.ofNat 32768 (1024 * (t.val / 5) + a.val)) f) := by
  have hN := lt_of_lt_of_eq t.isLt (show cfg0.N = 160 from N_0)
  rw [blkL_at]
  unfold SPEC_L
  refine congrArg₂ (pR (a0 m c) (a1 m c) (a2 m c)) ?_ rfl
  show _ = (1024 * (t.val / 5) + a.val) % 32768
  omega

/-- The first result array after the run. -/
theorem kernel_array_p : (dats m 0 c).arrAt 5 cfg0.N = SPEC_P (a0 m c) (a1 m c) (a2 m c) := by
  refine (dats m 0 c).arrAt_eq_of_covers 5 _ (by decide +kernel) fun t hf y => ?_
  have hN := lt_of_lt_of_eq t.isLt (show cfg0.N = 160 from N_0)
  rw [after_5]
  rw [cast_eq]
  have hz : ∀ z : S1024x2048.Idx, z = ix2 (z 0) (z 1) := fun z => eq_ix2 z
  refine (congrArg (blkO m c t) (hz _)).trans ((tile_p m c t _ _).trans (congrArg _ ?_))
  blk_ext [(idx t).2.2.2.2.2.1] <;> (simp only [Fin.val_ofNat]; omega)

/-- The second result array after the run. -/
theorem kernel_array_l : (dats m 0 c).arrAt 6 cfg0.N = SPEC_L (a0 m c) (a1 m c) (a2 m c) := by
  refine (dats m 0 c).arrAt_eq_of_covers 6 _ (by decide +kernel) fun t hf y => ?_
  have hN := lt_of_lt_of_eq t.isLt (show cfg0.N = 160 from N_0)
  rw [after_6]
  rw [cast_eq]
  have hz : ∀ z : S1024x128.Idx, z = ix2 (z 0) (z 1) := fun z => eq_ix2 z
  refine (congrArg (blkL m c (first t.val t.isLt)) (hz _)).trans ((tile_l m c (first t.val t.isLt) _ _).trans (congrArg _ ?_))
  rw [first_div]
  blk_ext [(idx t).2.2.2.2.2.2] <;> (simp only [Fin.val_ofNat]; omega)

/-- The kernel's run with both result arrays named, its arguments unchanged. -/
theorem run_arrays (ρ : Dev nD → PrngReg) : θ_run defs (onTc (τ := τ) (main (F := Ideal))) ⟨m, fun _ => 0, ρ⟩ fun r => ∀ c : Dev nD,
      r.2.mem ((c.tc : Thread nD τ).loc main_v2_0) = SPEC_P (a0 m c) (a1 m c) (a2 m c)
      ∧ r.2.mem ((c.tc : Thread nD τ).loc main_v2_1) = SPEC_L (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 5).trans (kernel_array_p m c), ((h.1 c).1 6).trans (kernel_array_l m c), h.2.1 c⟩)
    (θ_run_and (run m ρ) (frame m ρ))

end Cert.Proj
-- ==== Proof.Proj4.lean ====
module

public import proofs.«01_k».proof.Proof.Gen.Reference4Ideal.Run
public import proofs.«01_k».proof.Proof.Proj3
public import proofs.«01_k».proof.Proof.Ffn4
public import Idealize.ShloMosaic.Lib.Pointwise

@[expose] public section

set_option maxRecDepth 16384

noncomputable section
open Idealize.ShloMosaic Idealize.ShloMosaic.TcCoe Idealize.SL.Sem

namespace Cert.Proj.Ref

open Cert.Reference4Ideal Cert.Reference4Ideal.Gen Cert.Reference4Ideal.Value
open Cert.Ffn.Ref (hA hA_at IsMod part)
open Cert.Ffn (xE mE hR)

/-! ## The reference's stages -/

/-- The product of the modulated input with the packed weights. -/
def pA (h : FVec Ideal S4x8192x2048 .f32) (w : FVec Ideal S2048x22528 .bf16) : FVec Ideal S4x8192x22528 .f32 :=
  Host.dotGeneral dot_S4x8192x2048_S2048x22528_S4x8192x22528_2_0_01_1_n_n none h w

/-- Its first 10240 columns, narrowed and with the batch and token axes joined. -/
def headA (p : FVec Ideal S4x8192x22528 .f32) : FVec Ideal S32768x10240 .bf16 :=
  shapeCast _ (truncf .bf16 (extractStridedSlice S4x8192x10240 ![0, 0, 0] p slices_S4x8192x22528_S4x8192x10240_0_0_0) bitsLt_bf16_f32) shapeCasts_S4x8192x10240_S32768x10240

/-- Its columns from 21504 to 21631, with the batch and token axes joined. -/
def tailA (p : FVec Ideal S4x8192x22528 .f32) : FVec Ideal S32768x128 .f32 :=
  shapeCast _ (extractStridedSlice S4x8192x128 ![0, 0, 21504] p slices_S4x8192x22528_S4x8192x128_0_0_21504) shapeCasts_S4x8192x128_S32768x128

theorem pA_at (h : FVec Ideal S4x8192x2048 .f32) (w : FVec Ideal S2048x22528 .bf16) (b : Fin 4) (t : Fin 8192) (f : Fin 22528) :
    (pA h w (ix3 b t f) : EReal) = ∑ k : Fin 2048, h (ix3 b t k) * w (ix2 k f) := by
  unfold pA
  pointwise

theorem headA_at (p : FVec Ideal S4x8192x22528 .f32) (r : Fin 32768) (f : Fin 10240) :
    (headA p (ix2 r f) : EReal) = p (ix3 (⟨r.val / 8192, by omega⟩ : Fin 4) (⟨r.val % 8192, by omega⟩ : Fin 8192) (⟨f.val, by omega⟩ : Fin 22528)) := by
  unfold headA
  pointwise

theorem tailA_at (p : FVec Ideal S4x8192x22528 .f32) (r : Fin 32768) (f : Fin 128) :
    (tailA p (ix2 r f) : EReal) = p (ix3 (⟨r.val / 8192, by omega⟩ : Fin 4) (⟨r.val % 8192, by omega⟩ : Fin 8192) (⟨21504 + f.val, by omega⟩ : Fin 22528)) := by
  unfold tailA
  pointwise

section
variable (x : FVec Ideal S4x8192x2048 .f32) (md : S4x18432.Idx → EReal) (w : FVec Ideal S2048x22528 .bf16) (sh sc : FVec Ideal S4x2048 .f32)
  (hsh : IsMod md 3 sh) (hsc : IsMod md 4 sc)

include hsh hsc in
/-- The product at a row, where the shift and the scale are vectors 3 and 4. -/
theorem prod_at (r : Fin 32768) (f : Fin 22528) :
    (pA (hA x sh sc) w (ix3 (⟨r.val / 8192, by omega⟩ : Fin 4) (⟨r.val % 8192, by omega⟩ : Fin 8192) f) : EReal) = pR x md w r.val f.val := by
  rw [pA_at]
  unfold pR pE
  refine Finset.sum_congr rfl fun k _ => ?_
  rw [hA_at 3 x md sh sc hsh hsc r.val ⟨r.val / 8192, by omega⟩ ⟨r.val % 8192, by omega⟩ rfl rfl, Fin.ofNat_val_eq_self, Fin.ofNat_val_eq_self]

include hsh hsc in
theorem head_eq : headA (pA (hA x sh sc) w) = SPEC_P x md w := by
  funext y
  obtain ⟨r, f, rfl⟩ : ∃ (r : Fin 32768) (f : Fin 10240), y = ix2 r f := ⟨y 0, y 1, eq_ix2 y⟩
  exact (headA_at _ r f).trans (prod_at x md w sh sc hsh hsc r _)

include hsh hsc in
theorem tail_eq : tailA (pA (hA x sh sc) w) = SPEC_L x md w := by
  funext y
  obtain ⟨r, f, rfl⟩ : ∃ (r : Fin 32768) (f : Fin 128), y = ix2 r f := ⟨y 0, y 1, eq_ix2 y⟩
  exact (tailA_at _ r f).trans (prod_at x md w sh sc hsh hsc r _)

end

/-- The reference's product, from the arguments. -/
def prodA (m : (ℓ : Loc nD τ sig) → Buf (Elt Ideal) ℓ) (c : Dev nD) : FVec Ideal S4x8192x22528 .f32 :=
  pA (hA (m ((c.tc : Thread nD τ).loc main_arg0))
      (extractStridedSlice S4x2048 ![0, 6144] (m ((c.tc : Thread nD τ).loc main_arg1)) slices_S4x18432_S4x2048_0_6144)
      (extractStridedSlice S4x2048 ![0, 8192] (m ((c.tc : Thread nD τ).loc main_arg1)) slices_S4x18432_S4x2048_0_8192))
    (m ((c.tc : Thread nD τ).loc main_arg2))

/-- The reference's run with both results named by the specification, its arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = SPEC_P (m ((c.tc : Thread nD τ).loc main_arg0)) (m ((c.tc : Thread nD τ).loc main_arg1)) (m ((c.tc : Thread nD τ).loc main_arg2))
      ∧ r.2.mem ((c.tc : Thread nD τ).loc main_v22) = SPEC_L (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
      obtain ⟨hp, hl, hk⟩ := h c
      have ep : r.2.mem ((c.tc : Thread nD τ).loc main_v20) = headA (prodA m c) := hp
      have el : r.2.mem ((c.tc : Thread nD τ).loc main_v22) = tailA (prodA m c) := hl
      exact ⟨ep.trans (head_eq _ _ _ _ _ (part 3 _ _ _ (by decide) (by decide)) (part 4 _ _ _ (by decide) (by decide))),
        el.trans (tail_eq _ _ _ _ _ (part 3 _ _ _ (by decide) (by decide)) (part 4 _ _ _ (by decide) (by decide))), hk⟩)
    (Cert.Reference4Ideal.Value.run (F := Ideal) m ρ)

end Cert.Proj.Ref
-- ==== Proof.Proj5.lean ====
module

public import proofs.«01_k».proof.Proof.Proj2
public import proofs.«01_k».proof.Proof.Gen.Kernel4.Frame

@[expose] public section

set_option maxRecDepth 16384

noncomputable section
open Idealize.ShloMosaic Idealize.ShloMosaic.TcCoe Idealize.SL.Sem

namespace Cert.Kernel4.Body

open Cert.Kernel4

variable {F : FTy → Type} [FloatOps F]

/-- The program has the same body table as its idealization: the one label runs the same body. -/
theorem table_eq : defs₀ (F := F) = Cert.Kernel4Ideal.defs₀ (F := F) := by
  unfold defs₀ Cert.Kernel4Ideal.defs₀
  refine congrArg Defs.onTc ?_
  funext l a
  match l, a with
  | ⟨0, _⟩, (t, s) => rfl

/-- So it has the same table of calls, -/
theorem defs_eq : defs (F := F) = Cert.Kernel4Ideal.defs (F := F) :=
  congrArg (Pipeline.defs (pcfgs (F := F))) table_eq

/-- and its frame is the idealization's: the call ends with its arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Kernel4Ideal.Body.frame m ρ

end Cert.Kernel4.Body

end
-- ==== Proof.Dil1.lean ====
module

public import proofs.«01_k».proof.Proof.Gen.Kernel5Ideal.Value
public import Idealize.ShloMosaic.Lib.Pointwise

@[expose] public section

set_option maxRecDepth 16384

noncomputable section
open Idealize.ShloMosaic Idealize.ShloMosaic.TcCoe Idealize.SL.Sem

namespace Cert.Dil

open Cert.Kernel5Ideal Cert.Kernel5Ideal.Gen

/-! ## The block's specification -/

/-- The column of the same head half a head further. -/
def rol (e : ℕ) : ℕ := e / 128 * 128 + (e % 128 + 64) % 128

/-- The factor of a column: the query scale for queries, one for keys. -/
def fac (e : ℕ) : EReal := if e < 1024 then Ideal.ofBits .f32 0x3DB504F3#32 else Ideal.ofBits .f32 0x3F800000#32

/-- Two elements combined by the two rotary factors. -/
def rotE (t u c s : EReal) : EReal := t * c + u * s

/-- A product element of a row block and a weights' block. -/
def tB (h : ℕ → ℕ → EReal) (w : ℕ → ℕ → EReal) (a e : ℕ) : EReal := ∑ k : Fin 2048, h a k.val * w k.val e

/-- An element of the stored block: queries and keys rotated, values as they are. -/
def outE (h w C S : ℕ → ℕ → EReal) (a e : ℕ) : EReal :=
  if e < 2048 then rotE (tB h w a e) (tB h w a (rol e)) (C a (e % 128) * fac e) (S a (e % 128) * fac e) else tB h w a e

/-- The stored block. -/
def GO (g : ℕ → ℕ → EReal) : S1x1x1024x3072.Idx → EReal := fun y => g (y 2).val (y 3).val

/-! ## Payloads -/

/-- One head of 128 columns from column `o` of a product, rotated. -/
def headV (o : ℕ) (h : S1024x1024.Slices ![0, o] S1024x128) (t : FVec Ideal S1024x1024 .f32) (c s : FVec Ideal S1024x128 .f32) :
    FVec Ideal S1x1x1024x128 .bf16 :=
  shapeCast S1x1x1024x128 (truncf .bf16 (addf (mulf (extractStridedSlice S1024x128 ![0, o] t h) c)
    (mulf (dynamicRotate 1 64#32 none (extractStridedSlice S1024x128 ![0, o] t h) rotates_S1024x128_d1) s)) bitsLt_bf16_f32)
    shapeCasts_S1024x128_S1x1x1024x128

theorem headV_at (o : ℕ) (ho : o + 128 ≤ 1024) (h : S1024x1024.Slices ![0, o] S1024x128) (t : FVec Ideal S1024x1024 .f32) (c s : FVec Ideal S1024x128 .f32)
    (a : Fin 1024) (d : Fin 128) :
    (headV o h t c s (ix4 0 0 a d) : EReal) =
      rotE (t (ix2 a ⟨o + d.val, by omega⟩)) (t (ix2 a ⟨o + (d.val + 64) % 128, by omega⟩)) (c (ix2 a d)) (s (ix2 a d)) := by
  unfold headV rotE
  pointwise
  simp only [show d.val + 128 - 64 = d.val + 64 from rfl]

/-- The modulated block. -/
theorem pay3_at (x : Vec Ideal S1024x2048 .f32) (sc sh : Vec Ideal S1x1x2048 .f32) (a : Fin 1024) (k : Fin 2048) :
    (k0_pay3 x sc sh (ix2 a k) : EReal) = x (ix2 a k) * (1 + sc (ix3 0 0 k)) + sh (ix3 0 0 k) := by
  unfold k0_pay3
  pointwise

theorem pay4_at (h : Vec Ideal S1024x2048 .bf16) (w : Vec Ideal S2048x1024 .bf16) (a : Fin 1024) (f : Fin 1024) :
    (k0_pay4 h w (ix2 a f) : EReal) = ∑ k : Fin 2048, h (ix2 a k) * w (ix2 k f) := by
  unfold k0_pay4
  pointwise

theorem pay2_at (h : Vec Ideal S1024x2048 .bf16) (w : Vec Ideal S2048x1024 .bf16) (a : Fin 1024) (f : Fin 1024) :
    (k0_pay2 h w (ix4 0 0 a f) : EReal) = ∑ k : Fin 2048, h (ix2 a k) * w (ix2 k f) := by
  unfold k0_pay2
  pointwise

theorem pay5_at (x : Vec Ideal S1024x128 .f32) (a : Fin 1024) (d : Fin 128) :
    (k0_pay5 x (ix2 a d) : EReal) = x (ix2 a d) * Ideal.ofBits .f32 0x3DB504F3#32 := by
  unfold k0_pay5
  pointwise

theorem pay18_at (x : Vec Ideal S1024x128 .f32) (a : Fin 1024) (d : Fin 128) :
    (k0_pay18 x (ix2 a d) : EReal) = x (ix2 a d) * Ideal.ofBits .f32 0x3F800000#32 := by
  unfold k0_pay18
  pointwise

end Cert.Dil
-- ==== Proof.Dil2.lean ====
module

public import proofs.«01_k».proof.Proof.Dil1

@[expose] public section

set_option maxRecDepth 16384

noncomputable section
open Idealize.ShloMosaic Idealize.ShloMosaic.TcCoe Idealize.SL.Sem

namespace Cert.Dil

open Cert.Kernel5Ideal Cert.Kernel5Ideal.Gen

/-! ## A stored piece is a part of the specified block -/

/-- One rotated head, stored from column `n`. -/
theorem piece_head (n p o : ℕ) (hn : n = 1024 * p + o) (hp : p < 2) (ho : o % 128 = 0) (ho' : o + 128 ≤ 1024) (inb)
    (hs : S1024x1024.Slices ![0, o] S1024x128)
    (t : FVec Ideal S1024x1024 .f32) (c s : FVec Ideal S1024x128 .f32) (h w C S : ℕ → ℕ → EReal)
    (ht : ∀ a f : Fin 1024, t (ix2 a f) = tB h w a.val (1024 * p + f.val))
    (hc : ∀ (a : Fin 1024) (d : Fin 128), c (ix2 a d) = C a.val d.val * fac (1024 * p))
    (hS : ∀ (a : Fin 1024) (d : Fin 128), s (ix2 a d) = S a.val d.val * fac (1024 * p)) (x : S1x1x1024x128.Idx) :
    headV o hs t c s x = GO (outE h w C S) ((Rect.unit (s := S1x1x1024x3072) ![0, 0, 0, n] (Shape.size S1x1x1024x128) inb).emb x) := by
  obtain ⟨a, d, rfl⟩ : ∃ (a : Fin 1024) (d : Fin 128), x = ix4 0 0 a d :=
    ⟨x 2, x 3, (eq_ix4 x).trans (congrArg₂ (fun p q => ix4 p q (x 2) (x 3)) (Subsingleton.elim (α := Fin 1) _ _) (Subsingleton.elim (α := Fin 1) _ _))⟩
  have hd := d.isLt
  rw [headV_at o ho', ht, ht, hc, hS]
  show _ = outE h w C S (0 + 1 * a.val) (n + 1 * d.val)
  rw [zero_add, one_mul, one_mul]
  unfold outE rol
  have e1 : n + d.val < 2048 := by omega
  have e2 : (n + d.val) % 128 = d.val := by omega
  have e3 : (n + d.val) / 128 * 128 = n := by omega
  have e4 : fac (n + d.val) = fac (1024 * p) := by
    unfold fac
    have : (n + d.val < 1024) ↔ (1024 * p < 1024) := by omega
    simp only [this]
  rw [if_pos e1, e2, e3, e4, hn]
  simp only [Nat.add_assoc]

/-- The values' columns. -/
theorem piece_v (inb) (h : Vec Ideal S1024x2048 .bf16) (w : Vec Ideal S2048x1024 .bf16) (H W C S : ℕ → ℕ → EReal)
    (hh : ∀ (a : Fin 1024) (k : Fin 2048), h (ix2 a k) = H a.val k.val)
    (hw : ∀ (k : Fin 2048) (f : Fin 1024), w (ix2 k f) = W k.val (2048 + f.val)) (x : S1x1x1024x1024.Idx) :
    k0_pay2 h w x = GO (outE H W C S) ((Rect.unit (s := S1x1x1024x3072) ![0, 0, 0, 2048] (Shape.size S1x1x1024x1024) inb).emb x) := by
  obtain ⟨a, f, rfl⟩ : ∃ (a : Fin 1024) (f : Fin 1024), x = ix4 0 0 a f :=
    ⟨x 2, x 3, (eq_ix4 x).trans (congrArg₂ (fun p q => ix4 p q (x 2) (x 3)) (Subsingleton.elim (α := Fin 1) _ _) (Subsingleton.elim (α := Fin 1) _ _))⟩
  rw [pay2_at]
  show _ = outE H W C S (0 + 1 * a.val) (2048 + 1 * f.val)
  rw [zero_add, one_mul, one_mul]
  unfold outE tB
  rw [if_neg (by omega)]
  exact Finset.sum_congr rfl fun k _ => by rw [hh, hw]

/-- A product of the row block with 1024 of the weights' columns. -/
theorem prod_at (n : ℕ) (h : Vec Ideal S1024x2048 .bf16) (w : Vec Ideal S2048x1024 .bf16) (H W : ℕ → ℕ → EReal)
    (hh : ∀ (a : Fin 1024) (k : Fin 2048), h (ix2 a k) = H a.val k.val)
    (hw : ∀ (k : Fin 2048) (f : Fin 1024), w (ix2 k f) = W k.val (n + f.val)) (a f : Fin 1024) :
    (k0_pay4 h w (ix2 a f) : EReal) = tB H W a.val (n + f.val) := by
  rw [pay4_at]
  unfold tB
  exact Finset.sum_congr rfl fun k _ => by rw [hh, hw]

/-! ## The loads -/

/-- A block's element at natural indices. -/
def at2 {A B : ℕ} [NeZero A] [NeZero B] (x : (⟨2, ![A, B]⟩ : Shape).Idx → EReal) (a b : ℕ) : EReal := x (ix2 (Fin.ofNat A a) (Fin.ofNat B b))

/-- The modulated row block. -/
def modN (x : S1024x2048.Idx → EReal) (sc sh : S1x1x2048.Idx → EReal) (a k : ℕ) : EReal :=
  at2 x a k * (1 + sc (ix3 0 0 (Fin.ofNat 2048 k))) + sh (ix3 0 0 (Fin.ofNat 2048 k))

theorem ldw (arg : Memref sig .tc .vmem S2048x3072 .bf16) (h : arg.IsWhole) (x : Vec Ideal S2048x3072 .bf16)
    (o : ℕ) (inb) (hs : o + 1024 ≤ 3072) (k : Fin 2048) (f : Fin 1024) :
    View.readAt (Elt Ideal) arg.view (Rect.toLoadRect (Rect.unit ![0, o] (Shape.size S2048x1024) inb)) (h.unread x) (ix2 k f)
      = at2 (A := 2048) (B := 3072) x k.val (o + f.val) := by
  simp only [View.readAt_eq_ld, h.read_unread, View.ld]
  unfold at2
  congr 1
  funext a; apply Fin.ext; fin_cases a
  · show 0 + 1 * k.val = k.val % 2048; omega
  · show o + 1 * f.val = (o + f.val) % 3072; omega

theorem ldc (arg : Memref sig .tc .vmem S1024x128 .f32) (h : arg.IsWhole) (x : Vec Ideal S1024x128 .f32)
    (inb) (a : Fin 1024) (d : Fin 128) :
    View.readAt (Elt Ideal) arg.view (Rect.toLoadRect (Rect.unit ![0, 0] (Shape.size S1024x128) inb)) (h.unread x) (ix2 a d)
      = at2 (A := 1024) (B := 128) x a.val d.val := by
  simp only [View.readAt_eq_ld, h.read_unread, View.ld]
  unfold at2
  congr 1
  funext i; apply Fin.ext; fin_cases i
  · show 0 + 1 * a.val = a.val % 1024; omega
  · show 0 + 1 * d.val = d.val % 128; omega

/-- What the scratch holds where the products read it: the modulated row block. -/
theorem ldh (arg1 : Memref sig .tc .vmem S1024x2048 .f32) (h1 : arg1.IsWhole) (arg2 arg3 : Memref sig .tc .vmem S1x1x2048 .f32)
    (h2 : arg2.IsWhole) (h3 : arg3.IsWhole) (v : View sig .tc .vmem S1024x2048 .bf16)
    (x : Vec Ideal S1024x2048 .f32) (sh sc : Vec Ideal S1x1x2048 .f32) (i0 i1 i2 i3 i4) (a : Fin 1024) (k : Fin 2048) :
    View.readCov v [(⟨Rect.unit (s := S1024x2048) ![0, 0] (Shape.size S1024x2048) i0,
        k0_pay3 (View.readAt (Elt Ideal) arg1.view (Rect.toLoadRect (Rect.unit ![0, 0] (Shape.size S1024x2048) i1)) (h1.unread x))
          (View.readAt (Elt Ideal) arg3.view (Rect.toLoadRect (Rect.unit ![0, 0, 0] (Shape.size S1x1x2048) i2)) (h3.unread sc))
          (View.readAt (Elt Ideal) arg2.view (Rect.toLoadRect (Rect.unit ![0, 0, 0] (Shape.size S1x1x2048) i3)) (h2.unread sh))⟩ :
        View.Piece (Elt Ideal) S1024x2048 .bf16)]
      (Rect.toLoadRect (Rect.unit ![0, 0] (Shape.size S1024x2048) i4)) (ix2 a k) = modN x sc sh a.val k.val := by
  have hz : (![0, 0] : Fin 2 → ℕ) = fun _ => 0 := by funext i; fin_cases i <;> rfl
  rw [View.readCov_eq_canon', View.canon_cons_unit_zero (Val := Elt Ideal) (S := S1024x2048) hz]
  have e : (Rect.toLoadRect (Rect.unit (s := S1024x2048) ![0, 0] (Shape.size S1024x2048) i4)).idx (ix2 a k) = ix2 a k := by
    funext i; apply Fin.ext; fin_cases i
    · show 0 + 1 * a.val = a.val; omega
    · show 0 + 1 * k.val = k.val; omega
  refine (congrArg _ e).trans ((pay3_at _ _ _ a k).trans ?_)
  simp only [View.readAt_eq_ld, h1.read_unread, h2.read_unread, h3.read_unread, View.ld]
  unfold modN at2
  congr 1
  · congr 1
    · refine congrArg x ?_
      funext j; apply Fin.ext; fin_cases j
      · show 0 + 1 * a.val = a.val % 1024; omega
      · show 0 + 1 * k.val = k.val % 2048; omega
    · refine congrArg (fun z => 1 + sc z) ?_
      funext j; apply Fin.ext; fin_cases j
      · rfl
      · rfl
      · show 0 + 1 * k.val = k.val % 2048; omega
  · refine congrArg sh ?_
    funext j; apply Fin.ext; fin_cases j
    · rfl
    · rfl
    · show 0 + 1 * k.val = k.val % 2048; omega

variable (c : Dev nD) (i : grid0.Coords) (arg1 : Memref sig .tc .vmem S1024x2048 .f32) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S2048x3072 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x1x1024x3072 .bf16) (harg7 : arg7.IsWhole) (arg8 : Memref sig .tc .vmem S1024x2048 .bf16) (harg8 : arg8.IsWhole) (arg9 : Memref sig .tc .vmem S1x8x128 .f32) (harg9 : arg9.IsWhole)
    (x0 : Vec Ideal S1024x2048 .f32) (x1 : Vec Ideal S1x1x2048 .f32) (x2 : Vec Ideal S1x1x2048 .f32) (x3 : Vec Ideal S2048x3072 .bf16) (x4 : Vec Ideal S1024x128 .f32) (x5 : Vec Ideal S1024x128 .f32)

/-- What the body leaves in the output's block. -/
theorem out_eq : out0_A_6 c i arg1 harg1 arg2 harg2 arg3 harg3 arg4 harg4 arg5 harg5 arg6 harg6 arg7 harg7 arg8 harg8 arg9 harg9 x0 x1 x2 x3 x4 x5 =
    GO (outE (modN x0 x2 x1) (at2 (A := 2048) (B := 3072) x3) (at2 (A := 1024) (B := 128) x4) (at2 (A := 1024) (B := 128) x5)) := by
  funext y
  unfold out0_A_6
  rw [View.read_writes_junk_eq_canon]
  refine View.canon_apply_of_pieces (Val := Elt Ideal) (e := .bf16) (GO _) _ ?_ y (cover0_A_6 c i arg1 harg1 arg2 harg2 arg3 harg3 arg4 harg4 arg5 harg5 arg6 harg6 arg7 harg7 arg8 harg8 arg9 harg9 x0 x1 x2 x3 x4 x5 y)
  have hh := fun i4 => ldh arg1 harg1 arg2 arg3 harg2 harg3 arg8.view x0 x1 x2 inb_S1024x2048_S1024x2048_0_0 inb_S1024x2048_S1024x2048_0_0
    inb_S1x1x2048_S1x1x2048_0_0_0 inb_S1x1x2048_S1x1x2048_0_0_0 i4
  have tq : ∀ a f : Fin 1024, kernelRun0_A.sl.r c arg1 harg1 arg2 harg2 arg3 harg3 arg4 harg4 arg8 x0 x1 x2 x3 (ix2 a f) =
      tB (modN x0 x2 x1) (at2 (A := 2048) (B := 3072) x3) a.val (1024 * 0 + f.val) :=
    prod_at (1024 * 0) _ _ _ _ (hh _) (ldw arg4 harg4 x3 0 _ (by decide))
  have tk : ∀ a f : Fin 1024, kernelRun0_A.sl.r_5 c arg1 harg1 arg2 harg2 arg3 harg3 arg4 harg4 arg8 x0 x1 x2 x3 (ix2 a f) =
      tB (modN x0 x2 x1) (at2 (A := 2048) (B := 3072) x3) a.val (1024 * 1 + f.val) :=
    prod_at (1024 * 1) _ _ _ _ (hh _) (ldw arg4 harg4 x3 1024 _ (by decide))
  have f0 : fac (1024 * 0) = Ideal.ofBits .f32 0x3DB504F3#32 := if_pos (by decide)
  have f1 : fac (1024 * 1) = Ideal.ofBits .f32 0x3F800000#32 := if_neg (by decide)
  have cq : ∀ (a : Fin 1024) (d : Fin 128), kernelRun0_A.sl.r_1 c arg5 harg5 x4 (ix2 a d) = at2 (A := 1024) (B := 128) x4 a.val d.val * fac (1024 * 0) :=
    fun a d => (pay5_at _ a d).trans (by rw [f0, ldc])
  have sq : ∀ (a : Fin 1024) (d : Fin 128), kernelRun0_A.sl.r_2 c arg6 harg6 x5 (ix2 a d) = at2 (A := 1024) (B := 128) x5 a.val d.val * fac (1024 * 0) :=
    fun a d => (pay5_at _ a d).trans (by rw [f0, ldc])
  have ck : ∀ (a : Fin 1024) (d : Fin 128), kernelRun0_A.sl.r_6 c arg5 harg5 x4 (ix2 a d) = at2 (A := 1024) (B := 128) x4 a.val d.val * fac (1024 * 1) :=
    fun a d => (pay18_at _ a d).trans (by rw [f1, ldc])
  have sk : ∀ (a : Fin 1024) (d : Fin 128), kernelRun0_A.sl.r_7 c arg6 harg6 x5 (ix2 a d) = at2 (A := 1024) (B := 128) x5 a.val d.val * fac (1024 * 1) :=
    fun a d => (pay18_at _ a d).trans (by rw [f1, ldc])
  unfold kernelRun0_A
  intro p hp x
  simp only [List.mem_cons, List.not_mem_nil, or_false] at hp
  rcases hp with rfl | rfl | rfl | rfl | rfl | rfl | rfl | rfl | rfl | rfl | rfl | rfl | rfl | rfl | rfl | rfl | rfl
  · exact piece_v inb_S1x1x1024x3072_S1x1x1024x1024_0_0_0_2048 _ _ _ _ _ _ (hh _) (ldw arg4 harg4 x3 2048 _ (by decide)) x
  · exact piece_head 1920 1 896 rfl (by decide) rfl (by decide) inb_S1x1x1024x3072_S1x1x1024x128_0_0_0_1920 slices_S1024x1024_o0_896_S1024x128 _ _ _ _ _ _ _ tk ck sk x
  · exact piece_head 1792 1 768 rfl (by decide) rfl (by decide) inb_S1x1x1024x3072_S1x1x1024x128_0_0_0_1792 slices_S1024x1024_o0_768_S1024x128 _ _ _ _ _ _ _ tk ck sk x
  · exact piece_head 1664 1 640 rfl (by decide) rfl (by decide) inb_S1x1x1024x3072_S1x1x1024x128_0_0_0_1664 slices_S1024x1024_o0_640_S1024x128 _ _ _ _ _ _ _ tk ck sk x
  · exact piece_head 1536 1 512 rfl (by decide) rfl (by decide) inb_S1x1x1024x3072_S1x1x1024x128_0_0_0_1536 slices_S1024x1024_o0_512_S1024x128 _ _ _ _ _ _ _ tk ck sk x
  · exact piece_head 1408 1 384 rfl (by decide) rfl (by decide) inb_S1x1x1024x3072_S1x1x1024x128_0_0_0_1408 slices_S1024x1024_o0_384_S1024x128 _ _ _ _ _ _ _ tk ck sk x
  · exact piece_head 1280 1 256 rfl (by decide) rfl (by decide) inb_S1x1x1024x3072_S1x1x1024x128_0_0_0_1280 slices_S1024x1024_o0_256_S1024x128 _ _ _ _ _ _ _ tk ck sk x
  · exact piece_head 1152 1 128 rfl (by decide) rfl (by decide) inb_S1x1x1024x3072_S1x1x1024x128_0_0_0_1152 slices_S1024x1024_o0_128_S1024x128 _ _ _ _ _ _ _ tk ck sk x
  · exact piece_head 1024 1 0 rfl (by decide) rfl (by decide) inb_S1x1x1024x3072_S1x1x1024x128_0_0_0_1024 slices_S1024x1024_o0_0_S1024x128 _ _ _ _ _ _ _ tk ck sk x
  · exact piece_head 896 0 896 rfl (by decide) rfl (by decide) inb_S1x1x1024x3072_S1x1x1024x128_0_0_0_896 slices_S1024x1024_o0_896_S1024x128 _ _ _ _ _ _ _ tq cq sq x
  · exact piece_head 768 0 768 rfl (by decide) rfl (by decide) inb_S1x1x1024x3072_S1x1x1024x128_0_0_0_768 slices_S1024x1024_o0_768_S1024x128 _ _ _ _ _ _ _ tq cq sq x
  · exact piece_head 640 0 640 rfl (by decide) rfl (by decide) inb_S1x1x1024x3072_S1x1x1024x128_0_0_0_640 slices_S1024x1024_o0_640_S1024x128 _ _ _ _ _ _ _ tq cq sq x
  · exact piece_head 512 0 512 rfl (by decide) rfl (by decide) inb_S1x1x1024x3072_S1x1x1024x128_0_0_0_512 slices_S1024x1024_o0_512_S1024x128 _ _ _ _ _ _ _ tq cq sq x
  · exact piece_head 384 0 384 rfl (by decide) rfl (by decide) inb_S1x1x1024x3072_S1x1x1024x128_0_0_0_384 slices_S1024x1024_o0_384_S1024x128 _ _ _ _ _ _ _ tq cq sq x
  · exact piece_head 256 0 256 rfl (by decide) rfl (by decide) inb_S1x1x1024x3072_S1x1x1024x128_0_0_0_256 slices_S1024x1024_o0_256_S1024x128 _ _ _ _ _ _ _ tq cq sq x
  · exact piece_head 128 0 128 rfl (by decide) rfl (by decide) inb_S1x1x1024x3072_S1x1x1024x128_0_0_0_128 slices_S1024x1024_o0_128_S1024x128 _ _ _ _ _ _ _ tq cq sq x
  · exact piece_head 0 0 0 rfl (by decide) rfl (by decide) inb_S1x1x1024x3072_S1x1x1024x128_0_0_0_0 slices_S1024x1024_o0_0_S1024x128 _ _ _ _ _ _ _ tq cq sq x

end Cert.Dil
-- ==== Proof.Dil3.lean ====
module

public import proofs.«01_k».proof.Proof.Dil2
public import proofs.«01_k».proof.Proof.Proj3

@[expose] public section

set_option maxRecDepth 16384

noncomputable section
open Idealize.ShloMosaic Idealize.ShloMosaic.TcCoe Idealize.SL.Sem

namespace Cert.Dil

open Cert.Kernel5Ideal Cert.Kernel5Ideal.Gen
open Cert.Ffn (xE mE hR)
open Cert.Proj (pE pR)

/-! ## The specification -/

/-- A rotary table's element at a row. -/
def rE (cs : S4x8192x64.Idx → EReal) (r d : ℕ) : EReal := cs (ix3 (Fin.ofNat 4 (r / 8192)) (Fin.ofNat 8192 (r % 8192)) (Fin.ofNat 64 d))

/-- A column of the product, its head's other half and the rotary factors combined: the first half of a head is
    `t cos - u sin`, the second `t cos + u sin`. -/
def rotR (P : ℕ → EReal) (co si : ℕ → EReal) (e : ℕ) : EReal :=
  if e % 128 < 64 then P e * co (e % 128) - P (e + 64) * si (e % 128)
  else P e * co (e % 128 - 64) + P (e - 64) * si (e % 128 - 64)

/-- An element of the result at a row: scaled rotated queries, rotated keys, values. -/
def dE (P : ℕ → EReal) (co si : ℕ → EReal) (e : ℕ) : EReal :=
  if e < 1024 then rotR P co si e * Ideal.ofBits .f32 0x3DB504F3#32
  else if e < 2048 then rotR P co si e else P e

/-- The same at a row of the arrays, for the 3072 columns of the product from column `o` on. -/
def rowD (o : ℕ) (x : S4x8192x2048.Idx → EReal) (md : S4x18432.Idx → EReal) (w : S2048x22528.Idx → EReal) (co si : S4x8192x64.Idx → EReal) (r e : ℕ) : EReal :=
  dE (fun e => pR x md w r (o + e)) (rE co r) (rE si r) e

/-- The result: the columns from 12288 to 15359 of the product, so treated. -/
def SPEC_D (x : S4x8192x2048.Idx → EReal) (md : S4x18432.Idx → EReal) (w : S2048x22528.Idx → EReal) (co si : S4x8192x64.Idx → EReal) :
    S4x1x8192x3072.Idx → EReal :=
  fun y => rowD 12288 x md w co si (8192 * (y 0).val + (y 2).val) (y 3).val

/-! ## The kernel's rotation is the specification's -/

theorem c_scale : ∃ s : ℝ, 0 ≤ s ∧ Ideal.ofBits .f32 0x3DB504F3#32 = (s : EReal) := by
  refine ⟨(11863283 / 134217728 : ℝ), by norm_num, ?_⟩
  simp [Ideal.ofBits, Ideal.ieee]
  rw [← EReal.coe_mul]; norm_num

/-- A nonnegative real factor of both rotary factors is a factor of the rotated element. -/
theorem rot_mul (t u c s f : EReal) (h0 : 0 ≤ f) (h1 : f ≠ ⊤) : rotE t u (c * f) (s * f) = (t * c + u * s) * f := by
  unfold rotE
  rw [EReal.right_distrib_of_nonneg_of_ne_top h0 h1, mul_assoc, mul_assoc]

theorem fac_ok (e : ℕ) : 0 ≤ fac e ∧ fac e ≠ ⊤ := by
  unfold fac
  obtain ⟨s, hs, h⟩ := c_scale
  split
  · rw [h]
    exact ⟨EReal.coe_nonneg.2 hs, EReal.coe_ne_top s⟩
  · rw [Ideal.ofBits_one_f32]
    exact ⟨zero_le_one, EReal.coe_ne_top 1⟩

/-- The kernel's element, from tables that repeat the cosines and negate the sines of a head's first half. -/
theorem out_dE (h w C S : ℕ → ℕ → EReal) (P co si : ℕ → EReal) (a e : ℕ) (he : e < 3072) (hP : ∀ e, e < 3072 → tB h w a e = P e)
    (hC : ∀ d, d < 128 → C a d = co (d % 64)) (hS : ∀ d, d < 128 → S a d = if d < 64 then - si d else si (d - 64)) :
    outE h w C S a e = dE P co si e := by
  have hr : e < 2048 → (P e * C a (e % 128) + P (rol e) * S a (e % 128)) = rotR P co si e := by
    intro h2
    have hm : e % 128 < 128 := by omega
    unfold rotR rol
    rw [hC _ hm, hS _ hm]
    by_cases h3 : e % 128 < 64
    · have e1 : e / 128 * 128 + (e % 128 + 64) % 128 = e + 64 := by omega
      rw [if_pos h3, if_pos h3, e1, mul_neg, sub_eq_add_neg, Nat.mod_eq_of_lt h3]
    · have e1 : e / 128 * 128 + (e % 128 + 64) % 128 = e - 64 := by omega
      have e2 : e % 128 % 64 = e % 128 - 64 := by omega
      rw [if_neg h3, if_neg h3, e1, e2]
  unfold outE dE
  rw [hP e he]
  by_cases h1 : e < 1024
  · rw [if_pos (by omega : e < 2048), if_pos h1, hP _ (by unfold rol; omega), rot_mul _ _ _ _ _ (fac_ok e).1 (fac_ok e).2, hr (by omega)]
    unfold fac
    rw [if_pos h1]
  · by_cases h2 : e < 2048
    · rw [if_pos h2, if_neg h1, if_pos h2, hP _ (by unfold rol; omega), rot_mul _ _ _ _ _ (fac_ok e).1 (fac_ok e).2, hr h2]
      unfold fac
      rw [if_neg h1, Ideal.ofBits_one_f32, mul_one]
    · rw [if_neg h2, if_neg h1, if_neg h2]

/-! ## What the launch finds in its operands -/

variable (m : (ℓ : Loc nD τ sig) → Buf (Elt Ideal) ℓ) (c : Dev nD)

abbrev a0 : S4x8192x2048.Idx → EReal := m ((c : Thread nD τ).loc main_arg0)
abbrev a1 : S4x18432.Idx → EReal := m ((c : Thread nD τ).loc main_arg1)
abbrev a2 : S2048x22528.Idx → EReal := m ((c : Thread nD τ).loc main_arg2)
abbrev a3 : S4x8192x64.Idx → EReal := m ((c : Thread nD τ).loc main_arg3)
abbrev a4 : S4x8192x64.Idx → EReal := m ((c : Thread nD τ).loc main_arg4)

theorem V_x (r : Fin 32768) (k : Fin 2048) : (V m c main_v0 (ix2 r k) : EReal) = xE (a0 m c) r.val k.val := by
  unfold V xE
  simp only [hostOps0, List.flatten_cons, List.flatten_nil, List.append_nil, List.cons_append, List.nil_append]
  after_reads_at
  refine congrArg (a0 m c) ?_
  congr 1 <;> refine Fin.ext ?_ <;> simp only [Fin.val_ofNat] <;> omega

/-- A row's modulation vector, read from the operand that holds nine of them for each batch element. -/
theorem V_m (r i : ℕ) (hr : r < 32768) (hi : i < 9) (k : Fin 2048) (j : Fin 36) (hj : j.val = r / 8192 * 9 + i) :
    (V m c main_v1 (ix3 j 0 k) : EReal) = mE (a1 m c) r i k.val := by
  unfold V mE
  simp only [hostOps0, List.flatten_cons, List.flatten_nil, List.append_nil, List.cons_append, List.nil_append]
  after_reads_at
  refine congrArg (a1 m c) ?_
  congr 1 <;> refine Fin.ext ?_ <;> simp only [Fin.val_ofNat] <;> omega

theorem V_c (r : Fin 32768) (d : Fin 128) : (V m c main_v3 (ix2 r d) : EReal) = rE (a3 m c) r.val (d.val % 64) := by
  unfold V rE
  simp only [hostOps0, List.flatten_cons, List.flatten_nil, List.append_nil, List.cons_append, List.nil_append]
  after_reads_at
  split
  all_goals
    after_reads_at
    refine congrArg (a3 m c) ?_
    congr 1 <;> refine Fin.ext ?_ <;> simp only [Fin.val_ofNat] <;> omega

theorem V_s (r : Fin 32768) (d : Fin 128) : (V m c main_v6 (ix2 r d) : EReal) =
    if d.val < 64 then - rE (a4 m c) r.val d.val else rE (a4 m c) r.val (d.val - 64) := by
  unfold V rE
  simp only [hostOps0, List.flatten_cons, List.flatten_nil, List.append_nil, List.cons_append, List.nil_append]
  after_reads_at
  split
  · after_reads_at
    refine congrArg (fun z => - a4 m c z) ?_
    congr 1 <;> refine Fin.ext ?_ <;> simp only [Fin.val_ofNat] <;> omega
  · after_reads_at
    refine congrArg (a4 m c) ?_
    congr 1 <;> refine Fin.ext ?_ <;> simp only [Fin.val_ofNat] <;> omega

/-! ## The blocks a grid point reads -/

/-- Every window's block index at a grid point `t`. -/
theorem idx : ∀ t : Fin cfg0.N, win0_0.index t = ![t.val, 0] ∧
    win0_1.index t = ![t.val / 8 * 9 + 3, 0, 0] ∧
    win0_2.index t = ![t.val / 8 * 9 + 4, 0, 0] ∧
    win0_3.index t = ![0, 4] ∧
    win0_4.index t = ![t.val, 0] ∧
    win0_5.index t = ![t.val, 0] ∧
    win0_6.index t = ![t.val / 8, 0, t.val % 8, 0] :=
  (by decide +kernel : ∀ t : Fin grid0.N, _)

variable (t : Fin cfg0.N)

theorem blk_x (a : Fin 1024) (k : Fin 2048) : (iblk m c 0 t (ix2 a k) : EReal) = xE (a0 m c) (1024 * t.val + a.val) k.val := by
  have hN := lt_of_lt_of_eq t.isLt (show cfg0.N = 32 from N_0)
  have e : iblk m c 0 t (ix2 a k) = V m c main_v0 (ix2 (Fin.ofNat 32768 (1024 * t.val + a.val)) k) := by
    unfold iblk
    generalize hV : V m c = W
    blk_ext [(idx t).1] <;> (simp only [Fin.val_ofNat]; omega)
  rw [e, V_x]
  congr 1
  simp only [Fin.val_ofNat]; omega

theorem blk_sh (a : Fin 1024) (k : Fin 2048) : (iblk m c 1 t (ix3 0 0 k) : EReal) = mE (a1 m c) (1024 * t.val + a.val) 3 k.val := by
  have hN := lt_of_lt_of_eq t.isLt (show cfg0.N = 32 from N_0)
  have e : iblk m c 1 t (ix3 0 0 k) = V m c main_v1 (ix3 (Fin.ofNat 36 (t.val / 8 * 9 + 3)) 0 k) := by
    unfold iblk
    generalize hV : V m c = W
    blk_ext [(idx t).2.1] <;> (simp only [Fin.val_ofNat]; omega)
  rw [e]
  refine V_m m c _ 3 (by omega) (by decide) k _ ?_
  simp only [Fin.val_ofNat]; omega

theorem blk_sc (a : Fin 1024) (k : Fin 2048) : (iblk m c 2 t (ix3 0 0 k) : EReal) = mE (a1 m c) (1024 * t.val + a.val) 4 k.val := by
  have hN := lt_of_lt_of_eq t.isLt (show cfg0.N = 32 from N_0)
  have e : iblk m c 2 t (ix3 0 0 k) = V m c main_v1 (ix3 (Fin.ofNat 36 (t.val / 8 * 9 + 4)) 0 k) := by
    unfold iblk
    generalize hV : V m c = W
    blk_ext [(idx t).2.2.1] <;> (simp only [Fin.val_ofNat]; omega)
  rw [e]
  refine V_m m c _ 4 (by omega) (by decide) k _ ?_
  simp only [Fin.val_ofNat]; omega

theorem blk_w (k : Fin 2048) (f : Fin 3072) : (X0_3 m c t (ix2 k f) : EReal) = pE (a2 m c) k.val (12288 + f.val) := by
  have e : X0_3 m c t (ix2 k f) = V m c main_arg2 (ix2 k (Fin.ofNat 22528 (12288 + f.val))) := by
    unfold X0_3 Pipeline.Window.fill
    rw [dif_pos (moved0_3 t _)]
    unfold iblk
    generalize hV : V m c = W
    blk_ext [(idx t).2.2.2.1] <;> (simp only [Fin.val_ofNat]; omega)
  rw [e, V_main_arg2]
  unfold pE
  rw [Fin.ofNat_val_eq_self]

theorem blk_c (a : Fin 1024) (d : Fin 128) : (iblk m c 4 t (ix2 a d) : EReal) = rE (a3 m c) (1024 * t.val + a.val) (d.val % 64) := by
  have hN := lt_of_lt_of_eq t.isLt (show cfg0.N = 32 from N_0)
  have e : iblk m c 4 t (ix2 a d) = V m c main_v3 (ix2 (Fin.ofNat 32768 (1024 * t.val + a.val)) d) := by
    unfold iblk
    generalize hV : V m c = W
    blk_ext [(idx t).2.2.2.2.1] <;> (simp only [Fin.val_ofNat]; omega)
  rw [e, V_c]
  congr 1
  simp only [Fin.val_ofNat]; omega

theorem blk_s (a : Fin 1024) (d : Fin 128) : (iblk m c 5 t (ix2 a d) : EReal) =
    if d.val < 64 then - rE (a4 m c) (1024 * t.val + a.val) d.val else rE (a4 m c) (1024 * t.val + a.val) (d.val - 64) := by
  have hN := lt_of_lt_of_eq t.isLt (show cfg0.N = 32 from N_0)
  have e : iblk m c 5 t (ix2 a d) = V m c main_v6 (ix2 (Fin.ofNat 32768 (1024 * t.val + a.val)) d) := by
    unfold iblk
    generalize hV : V m c = W
    blk_ext [(idx t).2.2.2.2.2.1] <;> (simp only [Fin.val_ofNat]; omega)
  have er : (Fin.ofNat 32768 (1024 * t.val + a.val)).val = 1024 * t.val + a.val := by
    simp only [Fin.val_ofNat]; omega
  rw [e, V_s, er]

/-! ## The result array -/

/-- The block a point leaves, element by element. -/
theorem blkO_at (a : Fin 1024) (e : Fin 3072) : (outsAt0 m c t (ix4 0 0 a e) : EReal) =
    dE (fun e => pR (a0 m c) (a1 m c) (a2 m c) (1024 * t.val + a.val) (12288 + e)) (rE (a3 m c) (1024 * t.val + a.val)) (rE (a4 m c) (1024 * t.val + a.val)) e.val := by
  unfold outsAt0
  rw [out_eq]
  refine out_dE _ _ _ _ _ _ _ a.val e.val e.isLt ?_ ?_ ?_
  · intro f hf
    unfold tB pR
    refine Finset.sum_congr rfl fun k _ => ?_
    refine congrArg₂ (· * ·) ?_ ?_
    · unfold modN at2 hR
      rw [Fin.ofNat_val_eq_self, Fin.ofNat_val_eq_self, blk_x, blk_sc m c t a, blk_sh m c t a]
    · unfold at2
      rw [Fin.ofNat_val_eq_self]
      refine (blk_w m c t k _).trans ?_
      congr 2
      exact Nat.mod_eq_of_lt hf
  · intro d hd
    unfold at2
    rw [Fin.ofNat_val_eq_self]
    refine (blk_c m c t a _).trans ?_
    congr 2
    exact Nat.mod_eq_of_lt hd
  · intro d hd
    unfold at2
    rw [Fin.ofNat_val_eq_self]
    refine (blk_s m c t a _).trans ?_
    have : (Fin.ofNat 128 d).val = d := Nat.mod_eq_of_lt hd
    rw [this]

/-- The same block as a tile of the specification. -/
theorem tile (a : Fin 1024) (e : Fin 3072) : (outsAt0 m c t (ix4 0 0 a e) : EReal) =
    SPEC_D (a0 m c) (a1 m c) (a2 m c) (a3 m c) (a4 m c) (ix4 (Fin.ofNat 4 (t.val / 8)) 0 (Fin.ofNat 8192 (1024 * (t.val % 8) + a.val)) e) := by
  have hN := lt_of_lt_of_eq t.isLt (show cfg0.N = 32 from N_0)
  rw [blkO_at]
  unfold SPEC_D
  have er : 8192 * (t.val / 8 % 4) + (1024 * (t.val % 8) + a.val) % 8192 = 1024 * t.val + a.val := by omega
  show _ = dE (fun e => pR (a0 m c) (a1 m c) (a2 m c) (8192 * (t.val / 8 % 4) + (1024 * (t.val % 8) + a.val) % 8192) (12288 + e))
    (rE (a3 m c) (8192 * (t.val / 8 % 4) + (1024 * (t.val % 8) + a.val) % 8192)) (rE (a4 m c) (8192 * (t.val / 8 % 4) + (1024 * (t.val % 8) + a.val) % 8192)) e.val
  rw [er]

/-- The result array after the run. -/
theorem kernel_array : (dats m 0 c).arrAt 6 cfg0.N = SPEC_D (a0 m c) (a1 m c) (a2 m c) (a3 m c) (a4 m c) := by
  refine (dats m 0 c).arrAt_eq_of_covers 6 _ (by decide +kernel) fun t hf y => ?_
  have hN := lt_of_lt_of_eq t.isLt (show cfg0.N = 32 from N_0)
  rw [after0_6]
  rw [cast_eq]
  have hz : ∀ z : S1x1x1024x3072.Idx, z = ix4 0 0 (z 2) (z 3) := fun z =>
    (eq_ix4 z).trans (congrArg₂ (fun p q => ix4 p q (z 2) (z 3)) (Subsingleton.elim (α := Fin 1) _ _) (Subsingleton.elim (α := Fin 1) _ _))
  refine (congrArg (outsAt0 m c t) (hz _)).trans ((tile m c t _ _).trans (congrArg _ ?_))
  blk_ext [(idx t).2.2.2.2.2.2] <;> (simp only [Fin.val_ofNat]; omega)

/-- The kernel's run with its result array named, its arguments unchanged. -/
theorem run_arrays (ρ : Dev nD → PrngReg) : θ_run defs (onTc (τ := τ) (main (F := Ideal))) ⟨m, fun _ => 0, ρ⟩ fun r => ∀ c : Dev nD,
      r.2.mem ((c.tc : Thread nD τ).loc main_v7) = SPEC_D (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (kernel_array m c), (h c).2⟩) (Cert.Kernel5Ideal.Value.run_blocks m ρ)

end Cert.Dil
-- ==== Proof.Dil4.lean ====
module

public import proofs.«01_k».proof.Proof.Gen.Reference5Ideal.Run
public import proofs.«01_k».proof.Proof.Dil3
public import proofs.«01_k».proof.Proof.Ffn4
public import Idealize.ShloMosaic.Lib.Pointwise

@[expose] public section

set_option maxRecDepth 16384

noncomputable section
open Idealize.ShloMosaic Idealize.ShloMosaic.TcCoe Idealize.SL.Sem

namespace Cert.Dil.Ref

open Cert.Reference5Ideal Cert.Reference5Ideal.Gen Cert.Reference5Ideal.Value
open Cert.Ffn.Ref (hA hA_at IsMod part)
open Cert.Ffn (xE mE hR)
open Cert.Proj (pE pR)

/-! ## The reference's stages -/

/-- The product of the modulated input with 3072 columns of the packed weights. -/
def pA (o : ℕ) (hs : S2048x22528.Slices ![0, o] S2048x3072) (h : FVec Ideal S4x8192x2048 .f32) (w : FVec Ideal S2048x22528 .bf16) : FVec Ideal S4x8192x3072 .f32 :=
  Host.dotGeneral dot_S4x8192x2048_S2048x3072_S4x8192x3072_2_0_01_1_n_n none h (extractStridedSlice S2048x3072 ![0, o] w hs)

/-- Eight heads of 128 columns, from column `o` on. -/
def hdA (o : ℕ) (hs : S4x8192x3072.Slices ![0, 0, o] S4x8192x1024) (p : FVec Ideal S4x8192x3072 .f32) : FVec Ideal S4x8192x8x128 .f32 :=
  shapeCast _ (extractStridedSlice S4x8192x1024 ![0, 0, o] p hs) shapeCasts_S4x8192x1024_S4x8192x8x128

/-- A rotary table laid out over the heads. -/
def tabA (t : FVec Ideal S4x8192x64 .f32) : FVec Ideal S4x8192x8x64 .f32 :=
  broadcastInDim S4x8192x8x64 ![0, 1, 2, 3] bcast_S4x8192x1x64_S4x8192x8x64_0_1_2_3 (broadcastInDim S4x8192x1x64 ![0, 1, 3] bcast_S4x8192x64_S4x8192x1x64_0_1_3 t)

/-- The first and the second half of every head. -/
def fstA (t : FVec Ideal S4x8192x8x128 .f32) : FVec Ideal S4x8192x8x64 .f32 :=
  extractStridedSlice S4x8192x8x64 ![0, 0, 0, 0] t slices_S4x8192x8x128_S4x8192x8x64_0_0_0_0
def sndA (t : FVec Ideal S4x8192x8x128 .f32) : FVec Ideal S4x8192x8x64 .f32 :=
  extractStridedSlice S4x8192x8x64 ![0, 0, 0, 64] t slices_S4x8192x8x128_S4x8192x8x64_0_0_0_64

/-- The rotated heads. -/
def rotA (t : FVec Ideal S4x8192x8x128 .f32) (co si : FVec Ideal S4x8192x64 .f32) : FVec Ideal S4x8192x8x128 .f32 :=
  concatenate S4x8192x8x128 3 [⟨S4x8192x8x64, subf (mulf (fstA t) (tabA co)) (mulf (sndA t) (tabA si))⟩, ⟨S4x8192x8x64, addf (mulf (sndA t) (tabA co)) (mulf (fstA t) (tabA si))⟩] concatenates_S4x8192x8x64_S4x8192x8x64_S4x8192x8x128_d3

/-- Rotated heads times the query scale. -/
def sclA (t : FVec Ideal S4x8192x8x128 .f32) : FVec Ideal S4x8192x8x128 .f32 :=
  mulf t (broadcastInDim S4x8192x8x128 ![] bcast_S_S4x8192x8x128 (constant S_ .f32 0x3DB504F3#32))

/-- Queries, keys and values side by side. -/
def catA (q k : FVec Ideal S4x8192x8x128 .f32) (p : FVec Ideal S4x8192x3072 .f32) : FVec Ideal S4x8192x3072 .f32 :=
  concatenate S4x8192x3072 2 [⟨S4x8192x1024, shapeCast _ q shapeCasts_S4x8192x8x128_S4x8192x1024⟩, ⟨S4x8192x1024, shapeCast _ k shapeCasts_S4x8192x8x128_S4x8192x1024⟩, ⟨S4x8192x1024, extractStridedSlice S4x8192x1024 ![0, 0, 2048] p slices_S4x8192x3072_S4x8192x1024_0_0_2048⟩] concatenates_S4x8192x1024_S4x8192x1024_S4x8192x1024_S4x8192x3072_d2

/-- All of it from the modulated input: scaled rotated queries, rotated keys, values. -/
def qkvA (p : FVec Ideal S4x8192x3072 .f32) (co si : FVec Ideal S4x8192x64 .f32) : FVec Ideal S4x8192x3072 .f32 :=
  catA (sclA (rotA (hdA 0 slices_S4x8192x3072_S4x8192x1024_0_0_0 p) co si)) (rotA (hdA 1024 slices_S4x8192x3072_S4x8192x1024_0_0_1024 p) co si) p

/-- The result array, narrowed and laid out. -/
def outA (v : FVec Ideal S4x8192x3072 .f32) : FVec Ideal S4x1x8192x3072 .bf16 :=
  shapeCast _ (truncf .bf16 v bitsLt_bf16_f32) shapeCasts_S4x8192x3072_S4x1x8192x3072

theorem pA_at (o : ℕ) (ho : o + 3072 ≤ 22528) (hs : S2048x22528.Slices ![0, o] S2048x3072) (h : FVec Ideal S4x8192x2048 .f32) (w : FVec Ideal S2048x22528 .bf16) (b : Fin 4) (t : Fin 8192) (f : Fin 3072) :
    (pA o hs h w (ix3 b t f) : EReal) = ∑ k : Fin 2048, h (ix3 b t k) * w (ix2 k ⟨o + f.val, by omega⟩) := by
  unfold pA
  pointwise

theorem hdA_at (o : ℕ) (ho : o + 1024 ≤ 3072) (hs : S4x8192x3072.Slices ![0, 0, o] S4x8192x1024) (p : FVec Ideal S4x8192x3072 .f32) (b : Fin 4) (t : Fin 8192) (h : Fin 8) (d : Fin 128) :
    (hdA o hs p (ix4 b t h d) : EReal) = p (ix3 b t ⟨o + (h.val * 128 + d.val), by omega⟩) := by
  unfold hdA
  pointwise

theorem rotA_at (t : FVec Ideal S4x8192x8x128 .f32) (co si : FVec Ideal S4x8192x64 .f32) (b : Fin 4) (n : Fin 8192) (h : Fin 8) (d : Fin 128) :
    (rotA t co si (ix4 b n h d) : EReal) =
      if hd : d.val < 64 then t (ix4 b n h d) * co (ix3 b n ⟨d.val, hd⟩) - t (ix4 b n h ⟨64 + d.val, by omega⟩) * si (ix3 b n ⟨d.val, hd⟩)
      else t (ix4 b n h d) * co (ix3 b n ⟨d.val - 64, by omega⟩) + t (ix4 b n h ⟨d.val - 64, by omega⟩) * si (ix3 b n ⟨d.val - 64, by omega⟩) := by
  unfold rotA tabA fstA sndA
  pointwise
  by_cases h1 : d.val < 64
  · rw [dif_pos h1, dif_pos h1]
  · rw [dif_neg h1, dif_neg h1]
    have e : (⟨64 + (d.val - 64), by omega⟩ : Fin 128) = d := Fin.ext (by show 64 + (d.val - 64) = d.val; omega)
    rw [e]

theorem sclA_at (t : FVec Ideal S4x8192x8x128 .f32) (b : Fin 4) (n : Fin 8192) (h : Fin 8) (d : Fin 128) :
    (sclA t (ix4 b n h d) : EReal) = t (ix4 b n h d) * Ideal.ofBits .f32 0x3DB504F3#32 := by
  unfold sclA
  pointwise

theorem outA_at (v : FVec Ideal S4x8192x3072 .f32) (b : Fin 4) (n : Fin 8192) (e : Fin 3072) : (outA v (ix4 b 0 n e) : EReal) = v (ix3 b n e) := by
  unfold outA
  pointwise

theorem catA_at (q k : FVec Ideal S4x8192x8x128 .f32) (p : FVec Ideal S4x8192x3072 .f32) (b : Fin 4) (n : Fin 8192) (e : Fin 3072) :
    (catA q k p (ix3 b n e) : EReal) =
      if h1 : e.val < 1024 then q (ix4 b n ⟨e.val / 128, by omega⟩ ⟨e.val % 128, by omega⟩)
      else if h2 : e.val < 2048 then k (ix4 b n ⟨(e.val - 1024) / 128, by omega⟩ ⟨(e.val - 1024) % 128, by omega⟩)
      else p (ix3 b n e) := by
  unfold catA
  pointwise
  by_cases h1 : e.val < 1024
  · rw [dif_pos h1, dif_pos h1]
  · rw [dif_neg h1, dif_neg h1]
    by_cases h2 : e.val < 2048
    · rw [dif_pos h2, dif_pos (by omega)]
    · rw [dif_neg h2, dif_neg (by omega)]
      have e' : (⟨2048 + (e.val - 1024 - 1024), by omega⟩ : Fin 3072) = e := Fin.ext (by show 2048 + (e.val - 1024 - 1024) = e.val; omega)
      rw [e']

section
variable (x : FVec Ideal S4x8192x2048 .f32) (md : S4x18432.Idx → EReal) (w : FVec Ideal S2048x22528 .bf16) (sh sc : FVec Ideal S4x2048 .f32)
  (hsh : IsMod md 3 sh) (hsc : IsMod md 4 sc) (co si : FVec Ideal S4x8192x64 .f32)
  (g : ℕ) (hg : g + 3072 ≤ 22528) (hs : S2048x22528.Slices ![0, g] S2048x3072)

include hsh hsc hg in
/-- The product at a row, where the shift and the scale are vectors 3 and 4. -/
theorem prod_at (b : Fin 4) (n : Fin 8192) (f : Fin 3072) :
    (pA g hs (hA x sh sc) w (ix3 b n f) : EReal) = pR x md w (8192 * b.val + n.val) (g + f.val) := by
  rw [pA_at g hg]
  unfold pR pE
  refine Finset.sum_congr rfl fun k _ => ?_
  rw [hA_at 3 x md sh sc hsh hsc (8192 * b.val + n.val) b n (by omega) (by omega), Fin.ofNat_val_eq_self]
  refine congrArg (fun z => _ * w (ix2 k z)) (Fin.ext ?_)
  simp only [Fin.val_ofNat]; omega

/-- A rotary table at a row and a column. -/
theorem tab_at (t : FVec Ideal S4x8192x64 .f32) (b : Fin 4) (n : Fin 8192) (d : Fin 64) :
    (t (ix3 b n d) : EReal) = rE t (8192 * b.val + n.val) d.val := by
  unfold rE
  refine congrArg t ?_
  congr 1 <;> refine Fin.ext ?_ <;> simp only [Fin.val_ofNat] <;> omega

/-- Rotated heads at a column `e`, where the heads before it are columns of `P` from `o` on. -/
theorem rot_at (P : ℕ → EReal) (o : ℕ) (ho : o % 128 = 0) (t : FVec Ideal S4x8192x8x128 .f32) (b : Fin 4) (n : Fin 8192)
    (ht : ∀ (h : Fin 8) (d : Fin 128), (t (ix4 b n h d) : EReal) = P (o + (h.val * 128 + d.val))) (h : Fin 8) (d : Fin 128) (e : ℕ) (he : e = o + (h.val * 128 + d.val)) :
    (rotA t co si (ix4 b n h d) : EReal) = rotR P (rE co (8192 * b.val + n.val)) (rE si (8192 * b.val + n.val)) e := by
  rw [rotA_at]
  unfold rotR
  have em : e % 128 = d.val := by omega
  by_cases h1 : d.val < 64
  · rw [dif_pos h1, if_pos (by omega), ht, ht, tab_at co, tab_at si, em]
    have e1 : o + (h.val * 128 + (64 + d.val)) = e + 64 := by omega
    show P (o + (h.val * 128 + d.val)) * _ - P (o + (h.val * 128 + (64 + d.val))) * _ = _
    rw [e1, ← he]
  · rw [dif_neg h1, if_neg (by omega), ht, ht, tab_at co, tab_at si, em]
    have e1 : o + (h.val * 128 + (d.val - 64)) = e - 64 := by omega
    show P (o + (h.val * 128 + d.val)) * _ + P (o + (h.val * 128 + (d.val - 64))) * _ = _
    rw [e1, ← he]

include hsh hsc hg in
/-- The whole result, element by element. -/
theorem qkv_at (b : Fin 4) (n : Fin 8192) (e : Fin 3072) : (qkvA (pA g hs (hA x sh sc) w) co si (ix3 b n e) : EReal) = rowD g x md w co si (8192 * b.val + n.val) e.val := by
  refine (catA_at _ _ _ b n e).trans ?_
  show _ = dE (fun e => pR x md w (8192 * b.val + n.val) (g + e)) (rE co (8192 * b.val + n.val)) (rE si (8192 * b.val + n.val)) e.val
  have hq : ∀ o (ho : o + 1024 ≤ 3072) (hs') (h : Fin 8) (d : Fin 128), (hdA o hs' (pA g hs (hA x sh sc) w) (ix4 b n h d) : EReal) =
      (fun e => pR x md w (8192 * b.val + n.val) (g + e)) (o + (h.val * 128 + d.val)) := fun o ho hs' h d =>
    (hdA_at o ho hs' _ b n h d).trans (prod_at x md w sh sc hsh hsc g hg hs b n _)
  unfold dE
  by_cases h1 : e.val < 1024
  · rw [dif_pos h1, if_pos h1, sclA_at]
    refine congrArg (· * _) (rot_at co si _ 0 rfl _ b n (hq 0 (by decide) _) _ _ e.val ?_)
    show e.val = 0 + (e.val / 128 * 128 + e.val % 128)
    omega
  · rw [dif_neg h1, if_neg h1]
    by_cases h2 : e.val < 2048
    · rw [dif_pos h2, if_pos h2]
      refine rot_at co si _ 1024 rfl _ b n (hq 1024 (by decide) _) _ _ e.val ?_
      show e.val = 1024 + ((e.val - 1024) / 128 * 128 + (e.val - 1024) % 128)
      omega
    · rw [dif_neg h2, if_neg h2]
      exact prod_at x md w sh sc hsh hsc g hg hs b n e

end

/-- The result array is the specification's, where the product is taken from column 12288 on. -/
theorem out_eq (x : FVec Ideal S4x8192x2048 .f32) (md : S4x18432.Idx → EReal) (w : FVec Ideal S2048x22528 .bf16) (sh sc : FVec Ideal S4x2048 .f32)
    (hsh : IsMod md 3 sh) (hsc : IsMod md 4 sc) (co si : FVec Ideal S4x8192x64 .f32) (hs) :
    outA (qkvA (pA 12288 hs (hA x sh sc) w) co si) = SPEC_D x md w co si := by
  funext y
  obtain ⟨b, n, e, rfl⟩ : ∃ (b : Fin 4) (n : Fin 8192) (e : Fin 3072), y = ix4 b 0 n e :=
    ⟨y 0, y 2, y 3, (eq_ix4 y).trans (congrArg (fun p => ix4 (y 0) p (y 2) (y 3)) (Subsingleton.elim (α := Fin 1) _ _))⟩
  exact (outA_at _ b n e).trans (qkv_at x md w sh sc hsh hsc co si 12288 (by decide) hs b n e)

/-- The reference's product, from the arguments. -/
def prodA (m : (ℓ : Loc nD τ sig) → Buf (Elt Ideal) ℓ) (c : Dev nD) : FVec Ideal S4x8192x3072 .f32 :=
  pA 12288 slices_S2048x22528_S2048x3072_0_12288 (hA (m ((c.tc : Thread nD τ).loc main_arg0))
      (extractStridedSlice S4x2048 ![0, 6144] (m ((c.tc : Thread nD τ).loc main_arg1)) slices_S4x18432_S4x2048_0_6144)
      (extractStridedSlice S4x2048 ![0, 8192] (m ((c.tc : Thread nD τ).loc main_arg1)) slices_S4x18432_S4x2048_0_8192))
    (m ((c.tc : Thread nD τ).loc main_arg2))

/-- The reference's run with its result named by the specification, its arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = SPEC_D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
      obtain ⟨hp, hk⟩ := h c
      have e : r.2.mem ((c.tc : Thread nD τ).loc main_v60) =
        outA (qkvA (prodA m c) (m ((c.tc : Thread nD τ).loc main_arg3)) (m ((c.tc : Thread nD τ).loc main_arg4))) := hp
      exact ⟨e.trans (out_eq _ _ _ _ _ (part 3 _ _ _ (by decide) (by decide)) (part 4 _ _ _ (by decide) (by decide)) _ _ _), hk⟩)
    (Cert.Reference5Ideal.Value.run (F := Ideal) m ρ)

end Cert.Dil.Ref
-- ==== Proof.Dil5.lean ====
module

public import proofs.«01_k».proof.Proof.Gen.Reference6Ideal.Run
public import proofs.«01_k».proof.Proof.Dil4

@[expose] public section

set_option maxRecDepth 16384

noncomputable section
open Idealize.ShloMosaic Idealize.ShloMosaic.TcCoe Idealize.SL.Sem

namespace Cert.Dil4.Ref

open Cert.Reference6Ideal Cert.Reference6Ideal.Gen Cert.Reference6Ideal.Value
open Cert.Ffn.Ref (hA hA_at IsMod part)
open Cert.Dil (rowD)
open Cert.Dil.Ref (pA qkvA qkv_at)

/-- The result of the second dilation pattern: at residue `c` and place `j`, what row `4 j + c` of the sequence gives in the
    3072 columns from 15360 on. -/
def SPEC_E (x : S4x8192x2048.Idx → EReal) (md : S4x18432.Idx → EReal) (w : S2048x22528.Idx → EReal) (co si : S4x8192x64.Idx → EReal) :
    S4x4x2048x3072.Idx → EReal :=
  fun y => rowD 15360 x md w co si (8192 * (y 0).val + (4 * (y 2).val + (y 1).val)) (y 3).val

/-- The result array, narrowed, its rows ordered by their residue. -/
def outA (v : FVec Ideal S4x8192x3072 .f32) : FVec Ideal S4x4x2048x3072 .bf16 :=
  transpose S4x4x2048x3072 [0, 2, 1, 3] (shapeCast _ (truncf .bf16 v bitsLt_bf16_f32) shapeCasts_S4x8192x3072_S4x2048x4x3072)
    transposes_S4x2048x4x3072_S4x4x2048x3072_0_2_1_3

theorem outA_at (v : FVec Ideal S4x8192x3072 .f32) (b r : Fin 4) (n : Fin 2048) (e : Fin 3072) :
    (outA v (ix4 b r n e) : EReal) = v (ix3 b ⟨n.val * 4 + r.val, by omega⟩ e) := by
  unfold outA
  pointwise

/-- The result array is the specification's. -/
theorem out_eq (x : FVec Ideal S4x8192x2048 .f32) (md : S4x18432.Idx → EReal) (w : FVec Ideal S2048x22528 .bf16) (sh sc : FVec Ideal S4x2048 .f32)
    (hsh : IsMod md 3 sh) (hsc : IsMod md 4 sc) (co si : FVec Ideal S4x8192x64 .f32) (hs) :
    outA (qkvA (pA 15360 hs (hA x sh sc) w) co si) = SPEC_E x md w co si := by
  funext y
  obtain ⟨b, r, n, e, rfl⟩ : ∃ (b r : Fin 4) (n : Fin 2048) (e : Fin 3072), y = ix4 b r n e := ⟨y 0, y 1, y 2, y 3, eq_ix4 y⟩
  refine (outA_at _ b r n e).trans ((qkv_at x md w sh sc hsh hsc co si 15360 (by decide) hs b _ e).trans ?_)
  show rowD 15360 x md w co si (8192 * b.val + (n.val * 4 + r.val)) e.val = rowD 15360 x md w co si (8192 * b.val + (4 * n.val + r.val)) e.val
  rw [Nat.mul_comm n.val 4]

/-- The reference's product, from the arguments. -/
def prodA (m : (ℓ : Loc nD τ sig) → Buf (Elt Ideal) ℓ) (c : Dev nD) : FVec Ideal S4x8192x3072 .f32 :=
  pA 15360 slices_S2048x22528_S2048x3072_0_15360 (hA (m ((c.tc : Thread nD τ).loc main_arg0))
      (extractStridedSlice S4x2048 ![0, 6144] (m ((c.tc : Thread nD τ).loc main_arg1)) slices_S4x18432_S4x2048_0_6144)
      (extractStridedSlice S4x2048 ![0, 8192] (m ((c.tc : Thread nD τ).loc main_arg1)) slices_S4x18432_S4x2048_0_8192))
    (m ((c.tc : Thread nD τ).loc main_arg2))

/-- The reference's run with its result named by the specification, its arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = SPEC_E (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
      obtain ⟨hp, hk⟩ := h c
      have e : r.2.mem ((c.tc : Thread nD τ).loc main_v61) =
        outA (qkvA (prodA m c) (m ((c.tc : Thread nD τ).loc main_arg3)) (m ((c.tc : Thread nD τ).loc main_arg4))) := hp
      exact ⟨e.trans (out_eq _ _ _ _ _ (part 3 _ _ _ (by decide) (by decide)) (part 4 _ _ _ (by decide) (by decide)) _ _ _), hk⟩)
    (Cert.Reference6Ideal.Value.run (F := Ideal) m ρ)

end Cert.Dil4.Ref
-- ==== Proof.Dil6.lean ====
module

public import proofs.«01_k».proof.Proof.Gen.Kernel6Ideal.Value
public import proofs.«01_k».proof.Proof.Dil5

@[expose] public section

set_option maxRecDepth 16384

noncomputable section
open Idealize.ShloMosaic Idealize.ShloMosaic.TcCoe Idealize.SL.Sem

namespace Cert.Dil4

open Cert.Kernel6Ideal Cert.Kernel6Ideal.Gen
open Cert.Dil (rol fac rotE tB outE at2 modN)

/-! ## Payloads -/

/-- One head of 128 columns from column `o` of a product, rotated, of which the rows from `q` on are kept. -/
def headV (o q : ℕ) (h : S1024x1024.Slices ![0, o] S1024x128) (hq : S1024x128.Slices ![q, 0] S256x128) (t : FVec Ideal S1024x1024 .f32)
    (c s : FVec Ideal S1024x128 .f32) : FVec Ideal S1x1x256x128 .bf16 :=
  shapeCast S1x1x256x128 (extractStridedSlice S256x128 ![q, 0] (truncf .bf16 (addf (mulf (extractStridedSlice S1024x128 ![0, o] t h) c)
    (mulf (dynamicRotate 1 64#32 none (extractStridedSlice S1024x128 ![0, o] t h) rotates_S1024x128_d1) s)) bitsLt_bf16_f32) hq)
    shapeCasts_S256x128_S1x1x256x128

theorem headV_at (o q : ℕ) (ho : o + 128 ≤ 1024) (hq' : q + 256 ≤ 1024) (h : S1024x1024.Slices ![0, o] S1024x128) (hq : S1024x128.Slices ![q, 0] S256x128)
    (t : FVec Ideal S1024x1024 .f32) (c s : FVec Ideal S1024x128 .f32) (a : Fin 256) (d : Fin 128) :
    (headV o q h hq t c s (ix4 0 0 a d) : EReal) =
      rotE (t (ix2 ⟨q + a.val, by omega⟩ ⟨o + d.val, by omega⟩)) (t (ix2 ⟨q + a.val, by omega⟩ ⟨o + (d.val + 64) % 128, by omega⟩))
        (c (ix2 ⟨q + a.val, by omega⟩ d)) (s (ix2 ⟨q + a.val, by omega⟩ d)) := by
  unfold headV rotE
  pointwise
  simp only [show d.val + 128 - 64 = d.val + 64 from rfl]

/-- The rows from `q` on of a product, narrowed. -/
def valV (q : ℕ) (hq : S1024x1024.Slices ![q, 0] S256x1024) (t : FVec Ideal S1024x1024 .f32) : FVec Ideal S1x1x256x1024 .bf16 :=
  shapeCast S1x1x256x1024 (truncf .bf16 (extractStridedSlice S256x1024 ![q, 0] t hq) bitsLt_bf16_f32) shapeCasts_S256x1024_S1x1x256x1024

theorem valV_at (q : ℕ) (hq' : q + 256 ≤ 1024) (hq : S1024x1024.Slices ![q, 0] S256x1024) (t : FVec Ideal S1024x1024 .f32) (a : Fin 256) (f : Fin 1024) :
    (valV q hq t (ix4 0 0 a f) : EReal) = t (ix2 ⟨q + a.val, by omega⟩ f) := by
  unfold valV
  pointwise

theorem pay3_at (x : Vec Ideal S1024x128 .f32) (sc sh : Vec Ideal S1x1x128 .f32) (a : Fin 1024) (l : Fin 128) :
    (k0_pay3 x sc sh (ix3 0 a l) : EReal) = x (ix2 a l) * (1 + sc (ix3 0 0 l)) + sh (ix3 0 0 l) := by
  unfold k0_pay3
  pointwise

theorem pay27_at (x : Vec Ideal S1x256x128 .f32) (a : Fin 256) (l : Fin 128) : (k0_pay27 x (ix2 a l) : EReal) = x (ix3 0 a l) := by
  unfold k0_pay27
  pointwise

theorem pay104_at (h : Vec Ideal S1024x2048 .bf16) (w : Vec Ideal S2048x1024 .bf16) (a : Fin 1024) (f : Fin 1024) :
    (k0_pay104 h w (ix2 a f) : EReal) = ∑ k : Fin 2048, h (ix2 a k) * w (ix2 k f) := by
  unfold k0_pay104
  pointwise

theorem pay105_at (x : Vec Ideal S1024x128 .f32) (a : Fin 1024) (d : Fin 128) :
    (k0_pay105 x (ix2 a d) : EReal) = x (ix2 a d) * Ideal.ofBits .f32 0x3DB504F3#32 := by
  unfold k0_pay105
  pointwise

theorem pay155_at (x : Vec Ideal S1024x128 .f32) (a : Fin 1024) (d : Fin 128) :
    (k0_pay155 x (ix2 a d) : EReal) = x (ix2 a d) * Ideal.ofBits .f32 0x3F800000#32 := by
  unfold k0_pay155
  pointwise

/-! ## The two scratches -/

/-- The modulated row block in slabs of 128 columns. -/
def GS (x : S1024x2048.Idx → EReal) (sc sh : S1x1x2048.Idx → EReal) : S16x1024x128.Idx → EReal :=
  fun y => modN x sc sh (y 1).val (128 * (y 0).val + (y 2).val)

/-- The row of the block that stands at place `a` after the rows are ordered by their residue by 4. -/
def ord (a : ℕ) : ℕ := 4 * (a % 256) + a / 256

/-- The modulated row block, its rows ordered by their residue. -/
def GH (x : S1024x2048.Idx → EReal) (sc sh : S1x1x2048.Idx → EReal) : S1024x2048.Idx → EReal :=
  fun y => modN x sc sh (ord (y 0).val) (y 1).val

/-- One slab, stored at place `k`: the columns from `n = 128 k` on. -/
theorem piece_slab (k n : ℕ) (arg1 : Memref sig .tc .vmem S1024x2048 .f32) (h1 : arg1.IsWhole) (arg2 arg3 : Memref sig .tc .vmem S1x1x2048 .f32)
    (h2 : arg2.IsWhole) (h3 : arg3.IsWhole) (x0 : Vec Ideal S1024x2048 .f32) (sh sc : Vec Ideal S1x1x2048 .f32) (i1 i2 i3 inb)
    (hn : n = 128 * k ∧ k < 16) (x : S1x1024x128.Idx) :
    k0_pay3 (View.readAt (Elt Ideal) arg1.view (Rect.toLoadRect (Rect.unit ![0, n] (Shape.size S1024x128) i1)) (h1.unread x0))
      (View.readAt (Elt Ideal) arg3.view (Rect.toLoadRect (Rect.unit ![0, 0, n] (Shape.size S1x1x128) i2)) (h3.unread sc))
      (View.readAt (Elt Ideal) arg2.view (Rect.toLoadRect (Rect.unit ![0, 0, n] (Shape.size S1x1x128) i3)) (h2.unread sh)) x =
    GS x0 sc sh ((Rect.unit (s := S16x1024x128) ![k, 0, 0] (Shape.size S1x1024x128) inb).emb x) := by
  obtain ⟨a, l, rfl⟩ : ∃ (a : Fin 1024) (l : Fin 128), x = ix3 0 a l :=
    ⟨x 1, x 2, (eq_ix3 x).trans (congrArg (fun p => ix3 p (x 1) (x 2)) (Subsingleton.elim (α := Fin 1) _ _))⟩
  rw [pay3_at]
  show _ = modN x0 sc sh (0 + 1 * a.val) (128 * (k + 1 * 0) + (0 + 1 * l.val))
  simp only [View.readAt_eq_ld, h1.read_unread, h2.read_unread, h3.read_unread, View.ld]
  unfold modN at2
  congr 1
  · congr 1
    · refine congrArg x0 ?_
      funext j; apply Fin.ext; fin_cases j
      · show 0 + 1 * a.val = (0 + 1 * a.val) % 1024; omega
      · show n + 1 * l.val = (128 * (k + 1 * 0) + (0 + 1 * l.val)) % 2048; omega
    · refine congrArg (fun z => 1 + sc z) ?_
      funext j; apply Fin.ext; fin_cases j
      · rfl
      · rfl
      · show n + 1 * l.val = (128 * (k + 1 * 0) + (0 + 1 * l.val)) % 2048; omega
  · refine congrArg sh ?_
    funext j; apply Fin.ext; fin_cases j
    · rfl
    · rfl
    · show n + 1 * l.val = (128 * (k + 1 * 0) + (0 + 1 * l.val)) % 2048; omega

section
variable (c : Dev nD) (arg1 : Memref sig .tc .vmem S1024x2048 .f32) (harg1 : arg1.IsWhole) (arg2 : Memref sig .tc .vmem S1x1x2048 .f32) (harg2 : arg2.IsWhole) (arg3 : Memref sig .tc .vmem S1x1x2048 .f32) (harg3 : arg3.IsWhole) (arg8 : Memref sig .tc .vmem S1024x2048 .bf16) (arg9 : Memref sig .tc .vmem S16x1024x128 .f32)
    (x0 : Vec Ideal S1024x2048 .f32) (x1 : Vec Ideal S1x1x2048 .f32) (x2 : Vec Ideal S1x1x2048 .f32)

set_option maxHeartbeats 4000000 in
/-- What the sixteen stores leave in the first scratch. -/
theorem slab_at (y : S16x1024x128.Idx) : View.canon (kernelRun0_A.sl.HS1_16 c arg1 harg1 arg2 harg2 arg3 harg3 x0 x1 x2) y = GS x0 x2 x1 y := by
  refine View.canon_apply_of_pieces (Val := Elt Ideal) (e := .f32) (GS x0 x2 x1) _ ?_ y
    (View.cover_of_tiledBy (kernelRun0_A.sl.HS1_16 c arg1 harg1 arg2 harg2 arg3 harg3 x0 x1 x2) ![1, 1024, 128] (by sl_kernel_rfl) y)
  unfold kernelRun0_A.sl.HS1_16
  intro p hp x
  simp only [List.mem_cons, List.not_mem_nil, or_false] at hp
  iterate 15
    rcases hp with rfl | hp
    · exact piece_slab _ _ arg1 harg1 arg2 arg3 harg2 harg3 x0 x1 x2 (by decide) (by decide) (by decide) (by decide) (by decide) x
  subst hp
  exact piece_slab _ _ arg1 harg1 arg2 arg3 harg2 harg3 x0 x1 x2 (by decide) (by decide) (by decide) (by decide) (by decide) x

/-- A strided load of the first scratch: 128 columns of the rows of one residue `r`, stored from row `o = 256 r` and column
    `n = 128 k` on. -/
theorem piece_h (k n r o : ℕ) (i1 inb) (hn : (n = 128 * k ∧ k < 16) ∧ o = 256 * r ∧ r < 4) (x : S256x128.Idx) :
    k0_pay27 (arg9.view.readCov (kernelRun0_A.sl.HS1_16 c arg1 harg1 arg2 harg2 arg3 harg3 x0 x1 x2)
      (⟨![k, r, 0], S1x256x128.size, ![1, 4, 1], i1⟩ : LoadRect S16x1024x128)) x =
    GH x0 x2 x1 ((Rect.unit (s := S1024x2048) ![o, n] (Shape.size S256x128) inb).emb x) := by
  obtain ⟨a, l, rfl⟩ : ∃ (a : Fin 256) (l : Fin 128), x = ix2 a l := ⟨x 0, x 1, eq_ix2 x⟩
  rw [pay27_at, View.readCov_eq_canon']
  refine (slab_at c arg1 harg1 arg2 harg2 arg3 harg3 x0 x1 x2 _).trans ?_
  show modN x0 x2 x1 (r + 4 * a.val) (128 * (k + 1 * 0) + (0 + 1 * l.val)) = modN x0 x2 x1 (ord (o + 1 * a.val)) (n + 1 * l.val)
  have e1 : ord (o + 1 * a.val) = r + 4 * a.val := by unfold ord; omega
  have e2 : n + 1 * l.val = 128 * (k + 1 * 0) + (0 + 1 * l.val) := by omega
  rw [e1, e2]

set_option maxHeartbeats 4000000 in
/-- What the sixty-four stores leave in the second scratch. -/
theorem h_at (y : S1024x2048.Idx) : View.canon (kernelRun0_A.sl.HS0_64 c arg1 harg1 arg2 harg2 arg3 harg3 arg9 x0 x1 x2) y = GH x0 x2 x1 y := by
  refine View.canon_apply_of_pieces (Val := Elt Ideal) (e := .bf16) (GH x0 x2 x1) _ ?_ y
    (View.cover_of_tiledBy (kernelRun0_A.sl.HS0_64 c arg1 harg1 arg2 harg2 arg3 harg3 arg9 x0 x1 x2) ![256, 128] (by sl_kernel_rfl) y)
  unfold kernelRun0_A.sl.HS0_64
  intro p hp x
  simp only [List.mem_cons, List.not_mem_nil, or_false] at hp
  iterate 63
    rcases hp with rfl | hp
    · exact piece_h c arg1 harg1 arg2 harg2 arg3 harg3 arg9 x0 x1 x2 _ _ _ _ (by decide) (by decide) (by decide) x
  subst hp
  exact piece_h c arg1 harg1 arg2 harg2 arg3 harg3 arg9 x0 x1 x2 _ _ _ _ (by decide) (by decide) (by decide) x

/-- What the products read: the modulated rows, ordered by their residue. -/
theorem ldh (i4) (a : Fin 1024) (k : Fin 2048) :
    View.readCov arg8.view (kernelRun0_A.sl.HS0_64 c arg1 harg1 arg2 harg2 arg3 harg3 arg9 x0 x1 x2)
      (Rect.toLoadRect (Rect.unit ![0, 0] (Shape.size S1024x2048) i4)) (ix2 a k) = modN x0 x2 x1 (ord a.val) k.val := by
  rw [View.readCov_eq_canon']
  refine (h_at c arg1 harg1 arg2 harg2 arg3 harg3 arg9 x0 x1 x2 _).trans ?_
  show modN x0 x2 x1 (ord (0 + 1 * a.val)) (0 + 1 * k.val) = _
  rw [zero_add, one_mul, zero_add, one_mul]

end

end Cert.Dil4
-- ==== Proof.Dil7.lean ====
module

public import proofs.«01_k».proof.Proof.Dil6

@[expose] public section

set_option maxRecDepth 16384

noncomputable section
open Idealize.ShloMosaic Idealize.ShloMosaic.TcCoe Idealize.SL.Sem

namespace Cert.Dil4

open Cert.Kernel6Ideal Cert.Kernel6Ideal.Gen
open Cert.Dil (rol fac rotE tB outE at2 modN)

/-- The stored block: at residue `r` and place `j`, row `256 r + j` of the ordered rows. -/
def GO (g : ℕ → ℕ → EReal) : S1x4x256x3072.Idx → EReal := fun y => g (256 * (y 1).val + (y 2).val) (y 3).val

/-! ## A stored piece is a part of the specified block -/

/-- The rows of residue `r` of one rotated head, stored from column `n` on. -/
theorem piece_head (p n o q r : ℕ) (inb) (hs : S1024x1024.Slices ![0, o] S1024x128) (hq : S1024x128.Slices ![q, 0] S256x128)
    (t : FVec Ideal S1024x1024 .f32) (c s : FVec Ideal S1024x128 .f32) (h w C S : ℕ → ℕ → EReal)
    (ht : ∀ a f : Fin 1024, t (ix2 a f) = tB h w a.val (1024 * p + f.val))
    (hc : ∀ (a : Fin 1024) (d : Fin 128), c (ix2 a d) = C a.val d.val * fac (1024 * p))
    (hS : ∀ (a : Fin 1024) (d : Fin 128), s (ix2 a d) = S a.val d.val * fac (1024 * p))
    (hn : (n = 1024 * p + o ∧ p < 2) ∧ (o % 128 = 0 ∧ o + 128 ≤ 1024) ∧ q = 256 * r ∧ r < 4) (x : S1x1x256x128.Idx) :
    headV o q hs hq t c s x = GO (outE h w C S) ((Rect.unit (s := S1x4x256x3072) ![0, r, 0, n] (Shape.size S1x1x256x128) inb).emb x) := by
  obtain ⟨a, d, rfl⟩ : ∃ (a : Fin 256) (d : Fin 128), x = ix4 0 0 a d :=
    ⟨x 2, x 3, (eq_ix4 x).trans (congrArg₂ (fun p q => ix4 p q (x 2) (x 3)) (Subsingleton.elim (α := Fin 1) _ _) (Subsingleton.elim (α := Fin 1) _ _))⟩
  have hd := d.isLt
  rw [headV_at o q (by omega) (by omega), ht, ht, hc, hS]
  show _ = outE h w C S (256 * (r + 1 * 0) + (0 + 1 * a.val)) (n + 1 * d.val)
  have e0 : 256 * (r + 1 * 0) + (0 + 1 * a.val) = q + a.val := by omega
  rw [e0, one_mul]
  unfold outE rol
  have e1 : n + d.val < 2048 := by omega
  have e2 : (n + d.val) % 128 = d.val := by omega
  have e3 : (n + d.val) / 128 * 128 = n := by omega
  have e4 : fac (n + d.val) = fac (1024 * p) := by
    unfold fac
    have : (n + d.val < 1024) ↔ (1024 * p < 1024) := by omega
    simp only [this]
  have e5 : ∀ z, 1024 * p + (o + z) = n + z := fun z => by omega
  simp only [if_pos e1, e2, e3, e4, e5]

/-- The rows of residue `r` of the values' columns. -/
theorem piece_v (q r : ℕ) (inb) (hq : S1024x1024.Slices ![q, 0] S256x1024) (t : FVec Ideal S1024x1024 .f32) (h w C S : ℕ → ℕ → EReal)
    (ht : ∀ a f : Fin 1024, t (ix2 a f) = tB h w a.val (1024 * 2 + f.val)) (hr : q = 256 * r ∧ r < 4) (x : S1x1x256x1024.Idx) :
    valV q hq t x = GO (outE h w C S) ((Rect.unit (s := S1x4x256x3072) ![0, r, 0, 2048] (Shape.size S1x1x256x1024) inb).emb x) := by
  obtain ⟨a, f, rfl⟩ : ∃ (a : Fin 256) (f : Fin 1024), x = ix4 0 0 a f :=
    ⟨x 2, x 3, (eq_ix4 x).trans (congrArg₂ (fun p q => ix4 p q (x 2) (x 3)) (Subsingleton.elim (α := Fin 1) _ _) (Subsingleton.elim (α := Fin 1) _ _))⟩
  rw [valV_at q (by omega), ht]
  show _ = outE h w C S (256 * (r + 1 * 0) + (0 + 1 * a.val)) (2048 + 1 * f.val)
  have e0 : 256 * (r + 1 * 0) + (0 + 1 * a.val) = q + a.val := by omega
  rw [e0, one_mul]
  unfold outE
  rw [if_neg (by omega)]

/-- A product of the row block with 1024 of the weights' columns. -/
theorem prod_at (n : ℕ) (h : Vec Ideal S1024x2048 .bf16) (w : Vec Ideal S2048x1024 .bf16) (H W : ℕ → ℕ → EReal)
    (hh : ∀ (a : Fin 1024) (k : Fin 2048), h (ix2 a k) = H a.val k.val)
    (hw : ∀ (k : Fin 2048) (f : Fin 1024), w (ix2 k f) = W k.val (n + f.val)) (a f : Fin 1024) :
    (k0_pay104 h w (ix2 a f) : EReal) = tB H W a.val (n + f.val) := by
  rw [pay104_at]
  unfold tB
  exact Finset.sum_congr rfl fun k _ => by rw [hh, hw]

variable (c : Dev nD) (i : grid0.Coords) (arg1 : Memref sig .tc .vmem S1024x2048 .f32) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S2048x3072 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x4x256x3072 .bf16) (harg7 : arg7.IsWhole) (arg8 : Memref sig .tc .vmem S1024x2048 .bf16) (harg8 : arg8.IsWhole) (arg9 : Memref sig .tc .vmem S16x1024x128 .f32) (harg9 : arg9.IsWhole)
    (x0 : Vec Ideal S1024x2048 .f32) (x1 : Vec Ideal S1x1x2048 .f32) (x2 : Vec Ideal S1x1x2048 .f32) (x3 : Vec Ideal S2048x3072 .bf16) (x4 : Vec Ideal S1024x128 .f32) (x5 : Vec Ideal S1024x128 .f32)

/-- The second scratch as the products read it. -/
abbrev hV : Vec Ideal S1024x2048 .bf16 :=
  View.readCov arg8.view (kernelRun0_A.sl.HS0_64 c arg1 harg1 arg2 harg2 arg3 harg3 arg9 x0 x1 x2)
    (Rect.toLoadRect (Rect.unit ![0, 0] (Shape.size S1024x2048) inb_S1024x2048_S1024x2048_0_0))

/-- 1024 of the weights' columns, and a rotary table, as the body loads them. -/
abbrev wV (o : ℕ) (inb : ∀ a, ![0, o] a + (Shape.size S2048x1024) a ≤ S2048x3072.size a) : Vec Ideal S2048x1024 .bf16 :=
  View.readAt (Elt Ideal) arg4.view (Rect.toLoadRect (Rect.unit ![0, o] (Shape.size S2048x1024) inb)) (harg4.unread x3)
abbrev cV (arg : Memref sig .tc .vmem S1024x128 .f32) (h : arg.IsWhole) (x : Vec Ideal S1024x128 .f32) : Vec Ideal S1024x128 .f32 :=
  View.readAt (Elt Ideal) arg.view (Rect.toLoadRect (Rect.unit ![0, 0] (Shape.size S1024x128) inb_S1024x128_S1024x128_0_0)) (h.unread x)

/-- What the loads of the weights and of a table hold. -/
theorem wV_at (o : ℕ) (inb) (hs : o + 1024 ≤ 3072) (k : Fin 2048) (f : Fin 1024) :
    wV arg4 harg4 x3 o inb (ix2 k f) = at2 (A := 2048) (B := 3072) x3 k.val (o + f.val) := by
  unfold wV at2
  simp only [View.readAt_eq_ld, harg4.read_unread, View.ld]
  congr 1
  funext a; apply Fin.ext; fin_cases a
  · show 0 + 1 * k.val = k.val % 2048; omega
  · show o + 1 * f.val = (o + f.val) % 3072; omega

theorem cV_at (arg : Memref sig .tc .vmem S1024x128 .f32) (h : arg.IsWhole) (x : Vec Ideal S1024x128 .f32) (a : Fin 1024) (d : Fin 128) :
    cV arg h x (ix2 a d) = at2 (A := 1024) (B := 128) x a.val d.val := by
  unfold cV at2
  simp only [View.readAt_eq_ld, h.read_unread, View.ld]
  congr 1
  funext i; apply Fin.ext; fin_cases i
  · show 0 + 1 * a.val = a.val % 1024; omega
  · show 0 + 1 * d.val = d.val % 128; omega

/-- A table's load, times the factor of the queries or of the keys. -/
theorem tab_q (arg : Memref sig .tc .vmem S1024x128 .f32) (h : arg.IsWhole) (x : Vec Ideal S1024x128 .f32) (a : Fin 1024) (d : Fin 128) :
    k0_pay105 (cV arg h x) (ix2 a d) = at2 (A := 1024) (B := 128) x a.val d.val * fac (1024 * 0) :=
  (pay105_at _ a d).trans (by rw [show fac (1024 * 0) = Ideal.ofBits .f32 0x3DB504F3#32 from if_pos (by decide), cV_at])

theorem tab_k (arg : Memref sig .tc .vmem S1024x128 .f32) (h : arg.IsWhole) (x : Vec Ideal S1024x128 .f32) (a : Fin 1024) (d : Fin 128) :
    k0_pay155 (cV arg h x) (ix2 a d) = at2 (A := 1024) (B := 128) x a.val d.val * fac (1024 * 1) :=
  (pay155_at _ a d).trans (by rw [show fac (1024 * 1) = Ideal.ofBits .f32 0x3F800000#32 from if_neg (by decide), cV_at])

set_option maxHeartbeats 8000000 in
/-- What the body leaves in the output's block. -/
theorem out_eq : out0_A_6 c i arg1 harg1 arg2 harg2 arg3 harg3 arg4 harg4 arg5 harg5 arg6 harg6 arg7 harg7 arg8 harg8 arg9 harg9 x0 x1 x2 x3 x4 x5 =
    GO (outE (fun a => modN x0 x2 x1 (ord a)) (at2 (A := 2048) (B := 3072) x3) (at2 (A := 1024) (B := 128) x4) (at2 (A := 1024) (B := 128) x5)) := by
  funext y
  unfold out0_A_6
  rw [View.read_writes_junk_eq_canon]
  refine View.canon_apply_of_pieces (Val := Elt Ideal) (e := .bf16) (GO _) _ ?_ y (cover0_A_6 c i arg1 harg1 arg2 harg2 arg3 harg3 arg4 harg4 arg5 harg5 arg6 harg6 arg7 harg7 arg8 harg8 arg9 harg9 x0 x1 x2 x3 x4 x5 y)
  have hh : ∀ (a : Fin 1024) (k : Fin 2048), hV c arg1 harg1 arg2 harg2 arg3 harg3 arg8 arg9 x0 x1 x2 (ix2 a k) = (fun a => modN x0 x2 x1 (ord a)) a.val k.val :=
    ldh c arg1 harg1 arg2 harg2 arg3 harg3 arg8 arg9 x0 x1 x2 _
  have tq := prod_at (1024 * 0) (hV c arg1 harg1 arg2 harg2 arg3 harg3 arg8 arg9 x0 x1 x2) (wV arg4 harg4 x3 0 inb_S2048x3072_S2048x1024_0_0) (fun a => modN x0 x2 x1 (ord a)) (at2 (A := 2048) (B := 3072) x3) hh (wV_at arg4 harg4 x3 0 _ (by decide))
  have tk := prod_at (1024 * 1) (hV c arg1 harg1 arg2 harg2 arg3 harg3 arg8 arg9 x0 x1 x2) (wV arg4 harg4 x3 1024 inb_S2048x3072_S2048x1024_0_1024) (fun a => modN x0 x2 x1 (ord a)) (at2 (A := 2048) (B := 3072) x3) hh (wV_at arg4 harg4 x3 1024 _ (by decide))
  have tv := prod_at (1024 * 2) (hV c arg1 harg1 arg2 harg2 arg3 harg3 arg8 arg9 x0 x1 x2) (wV arg4 harg4 x3 2048 inb_S2048x3072_S2048x1024_0_2048) (fun a => modN x0 x2 x1 (ord a)) (at2 (A := 2048) (B := 3072) x3) hh (wV_at arg4 harg4 x3 2048 _ (by decide))
  have cq := tab_q arg5 harg5 x4
  have sq := tab_q arg6 harg6 x5
  have ck := tab_k arg5 harg5 x4
  have sk := tab_k arg6 harg6 x5
  unfold kernelRun0_A
  intro p hp x
  simp only [List.mem_cons, List.not_mem_nil, or_false] at hp
  iterate 4
    rcases hp with rfl | hp
    · exact piece_v _ _ (by decide) (by decide) _ _ _ _ _ tv (by decide) x
  iterate 32
    rcases hp with rfl | hp
    · exact piece_head 1 _ _ _ _ (by decide) (by decide) (by decide) _ _ _ _ _ _ _ tk ck sk (by decide) x
  iterate 31
    rcases hp with rfl | hp
    · exact piece_head 0 _ _ _ _ (by decide) (by decide) (by decide) _ _ _ _ _ _ _ tq cq sq (by decide) x
  subst hp
  exact piece_head 0 _ _ _ _ (by decide) (by decide) (by decide) _ _ _ _ _ _ _ tq cq sq (by decide) x

end Cert.Dil4
-- ==== Proof.Dil8.lean ====
module

public import proofs.«01_k».proof.Proof.Dil3
public import proofs.«01_k».proof.Proof.Dil5
public import proofs.«01_k».proof.Proof.Dil7

@[expose] public section

set_option maxRecDepth 16384

noncomputable section
open Idealize.ShloMosaic Idealize.ShloMosaic.TcCoe Idealize.SL.Sem

namespace Cert.Dil4

open Cert.Kernel6Ideal Cert.Kernel6Ideal.Gen
open Cert.Ffn (xE mE hR)
open Cert.Proj (pE pR)
open Cert.Dil (at2 modN tB outE dE rE rowD out_dE)
open Cert.Dil4.Ref (SPEC_E)

/-! ## What the launch finds in its operands -/

variable (m : (ℓ : Loc nD τ sig) → Buf (Elt Ideal) ℓ) (c : Dev nD)

abbrev a0 : S4x8192x2048.Idx → EReal := m ((c : Thread nD τ).loc main_arg0)
abbrev a1 : S4x18432.Idx → EReal := m ((c : Thread nD τ).loc main_arg1)
abbrev a2 : S2048x22528.Idx → EReal := m ((c : Thread nD τ).loc main_arg2)
abbrev a3 : S4x8192x64.Idx → EReal := m ((c : Thread nD τ).loc main_arg3)
abbrev a4 : S4x8192x64.Idx → EReal := m ((c : Thread nD τ).loc main_arg4)

theorem V_x (r : Fin 32768) (k : Fin 2048) : (V m c main_v0 (ix2 r k) : EReal) = xE (a0 m c) r.val k.val := by
  unfold V xE
  simp only [hostOps0, List.flatten_cons, List.flatten_nil, List.append_nil, List.cons_append, List.nil_append]
  after_reads_at
  refine congrArg (a0 m c) ?_
  congr 1 <;> refine Fin.ext ?_ <;> simp only [Fin.val_ofNat] <;> omega

/-- A row's modulation vector, read from the operand that holds nine of them for each batch element. -/
theorem V_m (r i : ℕ) (hr : r < 32768) (hi : i < 9) (k : Fin 2048) (j : Fin 36) (hj : j.val = r / 8192 * 9 + i) :
    (V m c main_v1 (ix3 j 0 k) : EReal) = mE (a1 m c) r i k.val := by
  unfold V mE
  simp only [hostOps0, List.flatten_cons, List.flatten_nil, List.append_nil, List.cons_append, List.nil_append]
  after_reads_at
  refine congrArg (a1 m c) ?_
  congr 1 <;> refine Fin.ext ?_ <;> simp only [Fin.val_ofNat] <;> omega

/-- The row of the cosines and sines that row `r` of the ordered tables holds: within each tile of 1024 rows, the
    residues one after another. -/
def ordT (r : ℕ) : ℕ := r / 1024 * 1024 + r % 256 * 4 + r / 256 % 4

theorem V_c (r : Fin 32768) (d : Fin 128) : (V m c main_v6 (ix2 r d) : EReal) = rE (a3 m c) (ordT r.val) (d.val % 64) := by
  unfold V rE ordT
  simp only [hostOps0, List.flatten_cons, List.flatten_nil, List.append_nil, List.cons_append, List.nil_append]
  after_reads_at
  split
  all_goals
    after_reads_at
    refine congrArg (a3 m c) ?_
    congr 1 <;> refine Fin.ext ?_ <;> simp only [Fin.val_ofNat] <;> omega

theorem V_s (r : Fin 32768) (d : Fin 128) : (V m c main_v12 (ix2 r d) : EReal) =
    if d.val < 64 then - rE (a4 m c) (ordT r.val) d.val else rE (a4 m c) (ordT r.val) (d.val - 64) := by
  unfold V rE ordT
  simp only [hostOps0, List.flatten_cons, List.flatten_nil, List.append_nil, List.cons_append, List.nil_append]
  after_reads_at
  split
  · after_reads_at
    refine congrArg (fun z => - a4 m c z) ?_
    congr 1 <;> refine Fin.ext ?_ <;> simp only [Fin.val_ofNat] <;> omega
  · after_reads_at
    refine congrArg (a4 m c) ?_
    congr 1 <;> refine Fin.ext ?_ <;> simp only [Fin.val_ofNat] <;> omega

/-! ## The blocks a grid point reads -/

/-- Every window's block index at a grid point `t`. -/
theorem idx : ∀ t : Fin cfg0.N, win0_0.index t = ![t.val, 0] ∧
    win0_1.index t = ![t.val / 8 * 9 + 3, 0, 0] ∧
    win0_2.index t = ![t.val / 8 * 9 + 4, 0, 0] ∧
    win0_3.index t = ![0, 5] ∧
    win0_4.index t = ![t.val, 0] ∧
    win0_5.index t = ![t.val, 0] ∧
    win0_6.index t = ![t.val / 8, 0, t.val % 8, 0] :=
  (by decide +kernel : ∀ t : Fin grid0.N, _)

variable (t : Fin cfg0.N)

theorem blk_x (a : Fin 1024) (k : Fin 2048) : (iblk m c 0 t (ix2 a k) : EReal) = xE (a0 m c) (1024 * t.val + a.val) k.val := by
  have hN := lt_of_lt_of_eq t.isLt (show cfg0.N = 32 from N_0)
  have e : iblk m c 0 t (ix2 a k) = V m c main_v0 (ix2 (Fin.ofNat 32768 (1024 * t.val + a.val)) k) := by
    unfold iblk
    generalize hV : V m c = W
    blk_ext [(idx t).1] <;> (simp only [Fin.val_ofNat]; omega)
  rw [e, V_x]
  congr 1
  simp only [Fin.val_ofNat]; omega

theorem blk_sh (a : Fin 1024) (k : Fin 2048) : (iblk m c 1 t (ix3 0 0 k) : EReal) = mE (a1 m c) (1024 * t.val + a.val) 3 k.val := by
  have hN := lt_of_lt_of_eq t.isLt (show cfg0.N = 32 from N_0)
  have e : iblk m c 1 t (ix3 0 0 k) = V m c main_v1 (ix3 (Fin.ofNat 36 (t.val / 8 * 9 + 3)) 0 k) := by
    unfold iblk
    generalize hV : V m c = W
    blk_ext [(idx t).2.1] <;> (simp only [Fin.val_ofNat]; omega)
  rw [e]
  refine V_m m c _ 3 (by omega) (by decide) k _ ?_
  simp only [Fin.val_ofNat]; omega

theorem blk_sc (a : Fin 1024) (k : Fin 2048) : (iblk m c 2 t (ix3 0 0 k) : EReal) = mE (a1 m c) (1024 * t.val + a.val) 4 k.val := by
  have hN := lt_of_lt_of_eq t.isLt (show cfg0.N = 32 from N_0)
  have e : iblk m c 2 t (ix3 0 0 k) = V m c main_v1 (ix3 (Fin.ofNat 36 (t.val / 8 * 9 + 4)) 0 k) := by
    unfold iblk
    generalize hV : V m c = W
    blk_ext [(idx t).2.2.1] <;> (simp only [Fin.val_ofNat]; omega)
  rw [e]
  refine V_m m c _ 4 (by omega) (by decide) k _ ?_
  simp only [Fin.val_ofNat]; omega

theorem blk_w (k : Fin 2048) (f : Fin 3072) : (X0_3 m c t (ix2 k f) : EReal) = pE (a2 m c) k.val (15360 + f.val) := by
  have e : X0_3 m c t (ix2 k f) = V m c main_arg2 (ix2 k (Fin.ofNat 22528 (15360 + f.val))) := by
    unfold X0_3 Pipeline.Window.fill
    rw [dif_pos (moved0_3 t _)]
    unfold iblk
    generalize hV : V m c = W
    blk_ext [(idx t).2.2.2.1] <;> (simp only [Fin.val_ofNat]; omega)
  rw [e, V_main_arg2]
  unfold pE
  rw [Fin.ofNat_val_eq_self]

theorem ordT_at (a : ℕ) (ha : a < 1024) : ordT (1024 * t.val + a) = 1024 * t.val + ord a := by
  unfold ordT ord
  omega

theorem blk_c (a : Fin 1024) (d : Fin 128) : (iblk m c 4 t (ix2 a d) : EReal) = rE (a3 m c) (1024 * t.val + ord a.val) (d.val % 64) := by
  have hN := lt_of_lt_of_eq t.isLt (show cfg0.N = 32 from N_0)
  have e : iblk m c 4 t (ix2 a d) = V m c main_v6 (ix2 (Fin.ofNat 32768 (1024 * t.val + a.val)) d) := by
    unfold iblk
    generalize hV : V m c = W
    blk_ext [(idx t).2.2.2.2.1] <;> (simp only [Fin.val_ofNat]; omega)
  have er : (Fin.ofNat 32768 (1024 * t.val + a.val)).val = 1024 * t.val + a.val := by
    simp only [Fin.val_ofNat]; omega
  rw [e, V_c, er, ordT_at t _ a.isLt]

theorem blk_s (a : Fin 1024) (d : Fin 128) : (iblk m c 5 t (ix2 a d) : EReal) =
    if d.val < 64 then - rE (a4 m c) (1024 * t.val + ord a.val) d.val else rE (a4 m c) (1024 * t.val + ord a.val) (d.val - 64) := by
  have hN := lt_of_lt_of_eq t.isLt (show cfg0.N = 32 from N_0)
  have e : iblk m c 5 t (ix2 a d) = V m c main_v12 (ix2 (Fin.ofNat 32768 (1024 * t.val + a.val)) d) := by
    unfold iblk
    generalize hV : V m c = W
    blk_ext [(idx t).2.2.2.2.2.1] <;> (simp only [Fin.val_ofNat]; omega)
  have er : (Fin.ofNat 32768 (1024 * t.val + a.val)).val = 1024 * t.val + a.val := by
    simp only [Fin.val_ofNat]; omega
  rw [e, V_s, er, ordT_at t _ a.isLt]

/-! ## The result array -/

/-- The block a point leaves, element by element: place `j` of residue `g` is the point's row `4 j + g`. -/
theorem blkO_at (g : Fin 4) (j : Fin 256) (e : Fin 3072) : (outsAt0 m c t (ix4 0 g j e) : EReal) =
    rowD 15360 (a0 m c) (a1 m c) (a2 m c) (a3 m c) (a4 m c) (1024 * t.val + (4 * j.val + g.val)) e.val := by
  have hg := g.isLt
  have hj := j.isLt
  obtain ⟨a, ha⟩ : ∃ a : Fin 1024, a.val = 256 * g.val + j.val := ⟨⟨256 * g.val + j.val, by omega⟩, rfl⟩
  have ho : ord a.val = 4 * j.val + g.val := by unfold ord; omega
  unfold outsAt0
  rw [out_eq, ← ho]
  show outE _ _ _ _ (256 * g.val + j.val) e.val = _
  rw [← ha]
  unfold rowD
  refine out_dE _ _ _ _ _ _ _ a.val e.val e.isLt ?_ ?_ ?_
  · intro f hf
    unfold tB pR
    refine Finset.sum_congr rfl fun k _ => ?_
    refine congrArg₂ (· * ·) ?_ ?_
    · obtain ⟨b, hb⟩ : ∃ b : Fin 1024, b.val = ord a.val := ⟨⟨ord a.val, by omega⟩, rfl⟩
      unfold modN at2 hR
      beta_reduce
      rw [← hb]
      rw [Fin.ofNat_val_eq_self, Fin.ofNat_val_eq_self, blk_x, blk_sc m c t b, blk_sh m c t b]
    · unfold at2
      rw [Fin.ofNat_val_eq_self]
      refine (blk_w m c t k _).trans ?_
      congr 2
      exact Nat.mod_eq_of_lt hf
  · intro d hd
    unfold at2
    rw [Fin.ofNat_val_eq_self]
    refine (blk_c m c t a _).trans ?_
    congr 2
    exact Nat.mod_eq_of_lt hd
  · intro d hd
    unfold at2
    rw [Fin.ofNat_val_eq_self]
    refine (blk_s m c t a _).trans ?_
    have : (Fin.ofNat 128 d).val = d := Nat.mod_eq_of_lt hd
    rw [this]

/-- The same block as a tile of the specification. -/
theorem tile (g : Fin 4) (j : Fin 256) (e : Fin 3072) : (outsAt0 m c t (ix4 0 g j e) : EReal) =
    SPEC_E (a0 m c) (a1 m c) (a2 m c) (a3 m c) (a4 m c) (ix4 (Fin.ofNat 4 (t.val / 8)) g (Fin.ofNat 2048 (256 * (t.val % 8) + j.val)) e) := by
  have hN := lt_of_lt_of_eq t.isLt (show cfg0.N = 32 from N_0)
  have hj := j.isLt
  rw [blkO_at]
  have er : 1024 * t.val + (4 * j.val + g.val) = 8192 * (t.val / 8 % 4) + (4 * ((256 * (t.val % 8) + j.val) % 2048) + g.val) := by omega
  rw [er]
  rfl

/-- The result array after the run. -/
theorem kernel_array : (dats m 0 c).arrAt 6 cfg0.N = SPEC_E (a0 m c) (a1 m c) (a2 m c) (a3 m c) (a4 m c) := by
  refine (dats m 0 c).arrAt_eq_of_covers 6 _ (by decide +kernel) fun t hf y => ?_
  have hN := lt_of_lt_of_eq t.isLt (show cfg0.N = 32 from N_0)
  rw [after0_6]
  rw [cast_eq]
  have hz : ∀ z : S1x4x256x3072.Idx, z = ix4 0 (z 1) (z 2) (z 3) := fun z =>
    (eq_ix4 z).trans (congrArg (fun p => ix4 p (z 1) (z 2) (z 3)) (Subsingleton.elim (α := Fin 1) _ _))
  refine (congrArg (outsAt0 m c t) (hz _)).trans ((tile m c t _ _ _).trans (congrArg _ ?_))
  blk_ext [(idx t).2.2.2.2.2.2] <;> (simp only [Fin.val_ofNat]; omega)

/-- The kernel's run with its result array named, its arguments unchanged. -/
theorem run_arrays (ρ : Dev nD → PrngReg) : θ_run defs (onTc (τ := τ) (main (F := Ideal))) ⟨m, fun _ => 0, ρ⟩ fun r => ∀ c : Dev nD,
      r.2.mem ((c.tc : Thread nD τ).loc main_v13) = SPEC_E (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (kernel_array m c), (h c).2⟩) (Cert.Kernel6Ideal.Value.run_blocks m ρ)

end Cert.Dil4
-- ==== Proof.Mods.lean ====
module

public import proofs.«01_k».proof.Proof.Gen.Kernel7Ideal.Value
public import proofs.«01_k».proof.Proof.Gen.Reference7Ideal.Run
public import Idealize.ShloMosaic.Lib.Pointwise
public import Idealize.ShloMosaic.Lib.Pipeline.Value
public import Idealize.ShloMosaic.Lib.Tactic
public import Idealize.ShloMosaic.Lib.Pipeline.ValueKit
public import Idealize.ShloMosaic.Lib.StableHlo.ReadAt

@[expose] public section

set_option maxRecDepth 16384

noncomputable section
open Idealize.ShloMosaic Idealize.ShloMosaic.TcCoe Idealize.SL.Sem

namespace Cert.Mods

/-- An element of the conditioning vector through its activation: `z / (1 + exp (-z))`. -/
def silE (z : EReal) : EReal := z * Ideal.div 1 (1 + Ideal.exp (-z))

open Cert.Kernel7Ideal Cert.Kernel7Ideal.Gen

/-- The conditioning vectors with four rows of zeros below them. -/
def padA (x : FVec Ideal S4x2048 .f32) : FVec Ideal S8x2048 .f32 :=
  pad S8x2048 ![0, 0] ![4, 0] ![0, 0] x (sitofp .f32 (constantI S_ 32 0#32)) pads_S4x2048_S8x2048_040_000 h_S_

/-- The modulation vectors: the activated conditioning vectors times the weights, plus the bias. -/
def SPEC_M (x : FVec Ideal S4x2048 .f32) (w : S1x2048x18432.Idx → EReal) (b : S1x18432.Idx → EReal) : S8x18432.Idx → EReal :=
  fun y => (∑ k : Fin 2048, silE (padA x (ix2 (y 0) k)) * w (ix3 0 k (y 1))) + b (ix2 0 (y 1))

/-! ## The kernel -/

/-- What the body stores, element by element. -/
theorem pay1_at (x : Vec Ideal S8x2048 .f32) (w : Vec Ideal S2048x1024 .f32) (b : Vec Ideal S1x1024 .f32) (a : Fin 8) (f : Fin 1024) :
    (k0_pay1 x w b (ix2 a f) : EReal) = (∑ k : Fin 2048, silE (x (ix2 a k)) * w (ix2 k f)) + b (ix2 0 f) := by
  have e : (k0_pay1 x w b (ix2 a f) : EReal)
      = (∑ k : Fin 2048, (x (ix2 a k) * Ideal.div 1 (1 + Ideal.exp (0 - x (ix2 a k)))) * w (ix2 k f)) + b (ix2 0 f) := by
    unfold k0_pay1
    pointwise
  rw [e]
  unfold silE
  simp only [zero_sub]

/-- What a point leaves in the output's block. -/
theorem out_at (x0 : Vec Ideal S8x2048 .f32) (x1 : Vec Ideal S2048x1024 .f32) (x2 : Vec Ideal S1x1024 .f32) (a : Fin 8) (f : Fin 1024) :
    (out0_3 x0 x1 x2 (ix2 a f) : EReal) = (∑ k : Fin 2048, silE (x0 (ix2 a k)) * x1 (ix2 k f)) + x2 (ix2 0 f) := by
  unfold out0_3
  refine View.canon_apply_of_pieces (Val := Elt Ideal) (e := .f32)
    (fun y => (∑ k : Fin 2048, silE (x0 (ix2 (y 0) k)) * x1 (ix2 k (y 1))) + x2 (ix2 0 (y 1))) _ ?_ (ix2 a f) (cover0_3 _ _)
  intro p hp y
  simp only [List.mem_cons, List.not_mem_nil, or_false] at hp
  subst hp
  obtain ⟨a', f', rfl⟩ : ∃ (a : Fin 8) (f : Fin 1024), y = ix2 a f := ⟨y 0, y 1, eq_ix2 y⟩
  have h0 : View.ld x0 r0_0 = x0 := by
    funext z; unfold View.ld; congr 1
    funext i; apply Fin.ext; fin_cases i <;> (show 0 + 1 * _ = _; omega)
  have h1 : View.ld x1 r0_1 = x1 := by
    funext z; unfold View.ld; congr 1
    funext i; apply Fin.ext; fin_cases i <;> (show 0 + 1 * _ = _; omega)
  have h2 : View.ld x2 r0_2 = x2 := by
    funext z; unfold View.ld; congr 1
    funext i; apply Fin.ext; fin_cases i <;> (show 0 + 1 * _ = _; omega)
  refine (pay1_at _ _ _ a' f').trans ?_
  rw [h0, h1, h2]
  have e : r0_3.emb (ix2 a' f') = ix2 a' f' := by
    funext i; apply Fin.ext; fin_cases i <;> (show 0 + 1 * _ = _; omega)
  show _ = (∑ k : Fin 2048, silE (x0 (ix2 (r0_3.emb (ix2 a' f') 0) k)) * x1 (ix2 k (r0_3.emb (ix2 a' f') 1))) + x2 (ix2 0 (r0_3.emb (ix2 a' f') 1))
  rw [e]
  rfl

variable (m : (ℓ : Loc nD τ sig) → Buf (Elt Ideal) ℓ) (c : Dev nD)

abbrev a0 : FVec Ideal S4x2048 .f32 := m ((c : Thread nD τ).loc main_arg0)
abbrev a1 : S1x2048x18432.Idx → EReal := m ((c : Thread nD τ).loc main_arg1)
abbrev a2 : S1x18432.Idx → EReal := m ((c : Thread nD τ).loc main_arg2)

theorem V_c : V m c main_v0 = padA (a0 m c) := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

theorem V_w (k : Fin 2048) (f : Fin 18432) : (V m c main_v1 (ix2 k f) : EReal) = a1 m c (ix3 0 k f) := by
  unfold V
  simp only [hostOps0, hostOps0_1, hostOps0_2, List.flatten_cons, List.flatten_nil, List.append_nil, List.cons_append, List.nil_append]
  after_reads_at
  try rfl

theorem V_b (f : Fin 18432) : (V m c main_v3 (ix2 0 f) : EReal) = a2 m c (ix2 0 f) := by
  unfold V
  simp only [hostOps0, hostOps0_1, hostOps0_2, List.flatten_cons, List.flatten_nil, List.append_nil, List.cons_append, List.nil_append]
  after_reads_at
  try rfl

/-- Every window's block index at a grid point `t`. -/
theorem idx : ∀ t : Fin cfg0.N, win0_0.index t = ![0, 0] ∧ win0_1.index t = ![0, t.val] ∧ win0_2.index t = ![0, t.val] ∧
    win0_3.index t = ![0, t.val] :=
  (by decide +kernel : ∀ t : Fin grid0.N, _)

variable (t : Fin cfg0.N)

theorem blk_c (a : Fin 8) (k : Fin 2048) : (iblk m c 0 t (ix2 a k) : EReal) = padA (a0 m c) (ix2 a k) := by
  have e : iblk m c 0 t (ix2 a k) = V m c main_v0 (ix2 a k) := by
    unfold iblk
    generalize hV : V m c = W
    blk_ext [(idx t).1] <;> (try simp only [Fin.val_ofNat]) <;> omega
  rw [e, V_c]

theorem blk_w (k : Fin 2048) (f : Fin 1024) : (iblk m c 1 t (ix2 k f) : EReal) = a1 m c (ix3 0 k (Fin.ofNat 18432 (1024 * t.val + f.val))) := by
  have hN := lt_of_lt_of_eq t.isLt (show cfg0.N = 18 from N_0)
  have e : iblk m c 1 t (ix2 k f) = V m c main_v1 (ix2 k (Fin.ofNat 18432 (1024 * t.val + f.val))) := by
    unfold iblk
    generalize hV : V m c = W
    blk_ext [(idx t).2.1] <;> (try simp only [Fin.val_ofNat]) <;> omega
  rw [e, V_w]

theorem blk_b (f : Fin 1024) : (iblk m c 2 t (ix2 0 f) : EReal) = a2 m c (ix2 0 (Fin.ofNat 18432 (1024 * t.val + f.val))) := by
  have hN := lt_of_lt_of_eq t.isLt (show cfg0.N = 18 from N_0)
  have e : iblk m c 2 t (ix2 0 f) = V m c main_v3 (ix2 0 (Fin.ofNat 18432 (1024 * t.val + f.val))) := by
    unfold iblk
    generalize hV : V m c = W
    blk_ext [(idx t).2.2.1] <;> (try simp only [Fin.val_ofNat]) <;> omega
  rw [e, V_b]

/-- The block a point leaves, as a tile of the specification. -/
theorem tile (a : Fin 8) (f : Fin 1024) : (out0_3 (iblk m c 0 t) (iblk m c 1 t) (iblk m c 2 t) (ix2 a f) : EReal) =
    SPEC_M (a0 m c) (a1 m c) (a2 m c) (ix2 a (Fin.ofNat 18432 (1024 * t.val + f.val))) := by
  refine (out_at _ _ _ a f).trans ?_
  refine congrArg₂ (· + ·) (Finset.sum_congr rfl fun k _ => ?_) (blk_b m c t f)
  rw [blk_c m c t a k, blk_w m c t k f]
  rfl

/-- The result array after the run. -/
theorem kernel_array : (dats m 0 c).arrAt 3 cfg0.N = SPEC_M (a0 m c) (a1 m c) (a2 m c) := by
  refine (dats m 0 c).arrAt_eq_of_covers 3 _ (by decide +kernel) fun t hf y => ?_
  have hN := lt_of_lt_of_eq t.isLt (show cfg0.N = 18 from N_0)
  rw [after0_3]
  rw [cast_eq]
  have hz : ∀ z : S8x1024.Idx, z = ix2 (z 0) (z 1) := fun z => eq_ix2 z
  refine (congrArg (out0_3 (iblk m c 0 t) (iblk m c 1 t) (iblk m c 2 t)) (hz _)).trans ((tile m c t _ _).trans (congrArg _ ?_))
  blk_ext [(idx t).2.2.2] <;> (try simp only [Fin.val_ofNat]) <;> omega

/-- The kernel's run with its result array named, its arguments unchanged. -/
theorem run_arrays (ρ : Dev nD → PrngReg) : θ_run defs (onTc (τ := τ) (main (F := Ideal))) ⟨m, fun _ => 0, ρ⟩ fun r => ∀ c : Dev nD,
      r.2.mem ((c.tc : Thread nD τ).loc main_v4) = SPEC_M (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (kernel_array m c), (h c).2⟩) (Cert.Kernel7Ideal.Value.run_blocks m ρ)

end Cert.Mods

namespace Cert.Mods.Ref

open Cert.Reference7Ideal Cert.Reference7Ideal.Gen Cert.Reference7Ideal.Value
open Cert.Mods (silE SPEC_M padA)

/-- The reference's result from the padded conditioning vectors. -/
def outA (p : FVec Ideal S8x2048 .f32) (w : FVec Ideal S1x2048x18432 .f32) (b : FVec Ideal S1x18432 .f32) : FVec Ideal S8x18432 .f32 :=
  addf (Host.dotGeneral dot_S8x2048_S2048x18432_S8x18432_1_0_0_1_n_n none (mulf p (Host.divf (broadcastInDim S8x2048 ![] bcast_S_S8x2048 (constant S_ .f32 0x3F800000#32))
      (addf (broadcastInDim S8x2048 ![] bcast_S_S8x2048 (constant S_ .f32 0x3F800000#32)) (Host.exp (Host.negf p))))) (shapeCast _ w shapeCasts_S1x2048x18432_S2048x18432))
    (broadcastInDim S8x18432 ![0, 1] bcast_S1x18432_S8x18432_0_1 (broadcastInDim S1x18432 ![1] bcast_S18432_S1x18432_1 (shapeCast _ b shapeCasts_S1x18432_S18432)))

theorem out_at (p : FVec Ideal S8x2048 .f32) (w : FVec Ideal S1x2048x18432 .f32) (b : FVec Ideal S1x18432 .f32) (a : Fin 8) (f : Fin 18432) :
    (outA p w b (ix2 a f) : EReal) = (∑ k : Fin 2048, silE (p (ix2 a k)) * w (ix3 0 k f)) + b (ix2 0 f) := by
  unfold outA silE
  pointwise

/-- The reference's run with its result named by the specification, its arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = SPEC_M (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
      obtain ⟨hp, hk⟩ := h c
      have e : r.2.mem ((c.tc : Thread nD τ).loc main_v7) =
        outA (padA (m ((c.tc : Thread nD τ).loc main_arg0))) (m ((c.tc : Thread nD τ).loc main_arg1)) (m ((c.tc : Thread nD τ).loc main_arg2)) := hp
      refine ⟨e.trans (funext fun y => ?_), hk⟩
      obtain ⟨a, f, rfl⟩ : ∃ (a : Fin 8) (f : Fin 18432), y = ix2 a f := ⟨y 0, y 1, eq_ix2 y⟩
      exact out_at _ _ _ a f)
    (Cert.Reference7Ideal.Value.run (F := Ideal) m ρ)

end Cert.Mods.Ref
-- ==== Proof.Rope1.lean ====
module

public import proofs.«01_k».proof.Proof.Gen.Kernel8Ideal.Value
public import Idealize.ShloMosaic.Lib.Pointwise
public import Idealize.ShloMosaic.Lib.Pipeline.Value
public import Idealize.ShloMosaic.Lib.Tactic
public import Idealize.ShloMosaic.Lib.Pipeline.ValueKit
public import Idealize.ShloMosaic.Lib.StableHlo.ReadAt

@[expose] public section

set_option maxRecDepth 16384

noncomputable section
open Idealize.ShloMosaic Idealize.ShloMosaic.TcCoe Idealize.SL.Sem

namespace Cert.Rope

open Cert.Kernel8Ideal Cert.Kernel8Ideal.Gen

/-- An entry of the sines' table: negated in the first half of the columns. -/
def sgnE (d : ℕ) (s : EReal) : EReal := if d < 64 then -s else s

/-! ## One pair of row blocks -/

/-- The angles of two blocks of 128 rows: those of block `o` in the first 64 columns, those of block `q` in the others. -/
def angV (o q : ℕ) (ho : S128x8.Slices ![0, o] S128x1) (hq : S128x8.Slices ![0, q] S128x1) (P : FVec Ideal S128x8 .f32) (f : FVec Ideal S1x128 .f32) :
    FVec Ideal S128x128 .f32 :=
  mulf (select k0_pay6 (broadcastTo S128x128 (shapeCast S128x1 (extractStridedSlice S128x1 ![0, o] P ho) shapeCasts_S128x1_S128x1) broadcasts_S128x1_S128x128)
      (broadcastTo S128x128 (shapeCast S128x1 (extractStridedSlice S128x1 ![0, q] P hq) shapeCasts_S128x1_S128x1) broadcasts_S128x1_S128x128))
    (broadcastTo S128x128 (shapeCast S1x128 f shapeCasts_S1x128_S1x128) broadcasts_S1x128_S128x128)

/-- The first half of the columns of one array beside the other half of another one's. -/
def pickV (x y : FVec Ideal S128x128 .f32) : FVec Ideal S128x128 .f32 := select k0_pay6 x y

/-- An array with its columns turned by 64. -/
def rotV (x : FVec Ideal S128x128 .f32) : FVec Ideal S128x128 .f32 := dynamicRotate 1 64#32 none x rotates_S128x128_d1

/-- Zero minus an array. -/
def negV (x : FVec Ideal S128x128 .f32) : FVec Ideal S128x128 .f32 := subf (broadcast S128x128 (Scalar.ofBits .f32 0x00000000#32)) x

/-- The choice between two arrays at an index. -/
theorem pick_at (x y : FVec Ideal S128x128 .f32) (a d : Fin 128) : (pickV x y (ix2 a d) : EReal) = if d.val < 64 then x (ix2 a d) else y (ix2 a d) := by
  unfold pickV k0_pay6
  pointwise
  have h : ∀ e : Fin 128, IntOp.cmpi .slt (BitVec.ofNat 32 e.val) 64#32 = if e.val < 64 then 1#1 else 0#1 := by decide
  rw [h]
  split <;> rfl

/-- The turned array at an index. -/
theorem rot_at (x : FVec Ideal S128x128 .f32) (a d : Fin 128) : (rotV x (ix2 a d) : EReal) = x (ix2 a ⟨(d.val + 64) % 128, by omega⟩) := by
  unfold rotV
  pointwise
  simp only [show d.val + 128 - 64 = d.val + 64 from rfl]

/-- Zero minus an array at an index. -/
theorem neg_at (x : FVec Ideal S128x128 .f32) (a d : Fin 128) : (negV x (ix2 a d) : EReal) = -x (ix2 a d) := by
  have e : (negV x (ix2 a d) : EReal) = 0 - x (ix2 a d) := by
    unfold negV
    pointwise
  rw [e, zero_sub]

/-- An angle is the position of its block times its frequency. -/
theorem ang_at (o q : ℕ) (ho' : o < 8) (hq' : q < 8) (ho : S128x8.Slices ![0, o] S128x1) (hq : S128x8.Slices ![0, q] S128x1) (P : FVec Ideal S128x8 .f32)
    (f : FVec Ideal S1x128 .f32) (a d : Fin 128) :
    (angV o q ho hq P f (ix2 a d) : EReal) = (if d.val < 64 then P (ix2 a ⟨o, ho'⟩) else P (ix2 a ⟨q, hq'⟩)) * f (ix2 0 d) := by
  have e : angV o q ho hq P f (ix2 a d) = (pickV (broadcastTo S128x128 (shapeCast S128x1 (extractStridedSlice S128x1 ![0, o] P ho) shapeCasts_S128x1_S128x1) broadcasts_S128x1_S128x128)
      (broadcastTo S128x128 (shapeCast S128x1 (extractStridedSlice S128x1 ![0, q] P hq) shapeCasts_S128x1_S128x1) broadcasts_S128x1_S128x128) (ix2 a d) : EReal) * f (ix2 0 d) := by
    unfold angV pickV
    pointwise
  rw [e, pick_at]
  congr 1
  split
  · pointwise
  · pointwise

/-- A position as a float, with rows and columns exchanged. -/
theorem pos_at (x : Vec Ideal S1x8x128 .i32) (a : Fin 128) (k : Fin 8) : (k0_pay5 x (ix2 a k) : EReal) = FloatOps.sitofp (F := Ideal) .f32 (x (ix3 0 k a)) := by
  unfold k0_pay5
  pointwise

/-- The cosine at an index. -/
theorem cos_at (x : FVec Ideal S128x128 .f32) (a d : Fin 128) : (cos x (ix2 a d) : EReal) = Ideal.cos (x (ix2 a d)) := by
  pointwise

/-- The sine at an index. -/
theorem sin_at (x : FVec Ideal S128x128 .f32) (a d : Fin 128) : (sin x (ix2 a d) : EReal) = Ideal.sin (x (ix2 a d)) := by
  pointwise

/-! ## A stored piece is a part of the table -/

/-- A block of the cosines' table: row `r` at position `Q r`, column `d` at frequency `F (d % 64)`. -/
def GC (Q F : ℕ → EReal) : S1024x128.Idx → EReal := fun y => Ideal.cos (Q (y 0).val * F ((y 1).val % 64))

/-- A block of the signed sines' table. -/
def GN (Q F : ℕ → EReal) : S1024x128.Idx → EReal := fun y => sgnE (y 1).val (Ideal.sin (Q (y 0).val * F ((y 1).val % 64)))

section
variable (o q : ℕ) (ho : S128x8.Slices ![0, o] S128x1) (hq : S128x8.Slices ![0, q] S128x1) (P : FVec Ideal S128x8 .f32) (f : FVec Ideal S1x128 .f32)
    (Q F : ℕ → EReal) (hP : ∀ (a : Fin 128) (k : Fin 8), P (ix2 a k) = Q (128 * k.val + a.val)) (hf : ∀ d : Fin 128, f (ix2 0 d) = F (d.val % 64))

include hP hf in
/-- The angles of a column of the first half. -/
theorem ang_lo (ho' : o < 8) (hq' : q < 8) (a d : Fin 128) (hd : d.val < 64) : (angV o q ho hq P f (ix2 a d) : EReal) = Q (128 * o + a.val) * F (d.val % 64) := by
  rw [ang_at o q ho' hq', if_pos hd, hP, hf]

include hP hf in
/-- The angles of a column of the other half. -/
theorem ang_hi (ho' : o < 8) (hq' : q < 8) (a d : Fin 128) (hd : ¬ d.val < 64) : (angV o q ho hq P f (ix2 a d) : EReal) = Q (128 * q + a.val) * F (d.val % 64) := by
  rw [ang_at o q ho' hq', if_neg hd, hP, hf]

include hP hf in
/-- The cosines of the first of the two blocks. -/
theorem piece_lc (n : ℕ) (inb) (hn : (n = 128 * o ∧ o < 8) ∧ q < 8) (x : S128x128.Idx) :
    pickV (cos (angV o q ho hq P f)) (rotV (cos (angV o q ho hq P f))) x = GC Q F ((Rect.unit (s := S1024x128) ![n, 0] (Shape.size S128x128) inb).emb x) := by
  obtain ⟨a, d, rfl⟩ : ∃ a d : Fin 128, x = ix2 a d := ⟨x 0, x 1, eq_ix2 x⟩
  have hd := d.isLt
  rw [pick_at, rot_at, cos_at, cos_at]
  show _ = Ideal.cos (Q (n + 1 * a.val) * F ((0 + 1 * d.val) % 64))
  split
  · rw [ang_lo o q ho hq P f Q F hP hf (by omega) (by omega) a d (by omega)]
    congr 3 <;> omega
  · rw [ang_lo o q ho hq P f Q F hP hf (by omega) (by omega) a _ (by show (d.val + 64) % 128 < 64; omega)]
    congr 3 <;> (try simp only) <;> omega

include hP hf in
/-- The cosines of the second of the two blocks. -/
theorem piece_hc (n : ℕ) (inb) (hn : (n = 128 * q ∧ o < 8) ∧ q < 8) (x : S128x128.Idx) :
    pickV (rotV (cos (angV o q ho hq P f))) (cos (angV o q ho hq P f)) x = GC Q F ((Rect.unit (s := S1024x128) ![n, 0] (Shape.size S128x128) inb).emb x) := by
  obtain ⟨a, d, rfl⟩ : ∃ a d : Fin 128, x = ix2 a d := ⟨x 0, x 1, eq_ix2 x⟩
  have hd := d.isLt
  rw [pick_at, rot_at, cos_at, cos_at]
  show _ = Ideal.cos (Q (n + 1 * a.val) * F ((0 + 1 * d.val) % 64))
  split
  · rw [ang_hi o q ho hq P f Q F hP hf (by omega) (by omega) a _ (by show ¬ (d.val + 64) % 128 < 64; omega)]
    congr 3 <;> (try simp only) <;> omega
  · rw [ang_hi o q ho hq P f Q F hP hf (by omega) (by omega) a d (by omega)]
    congr 3 <;> omega

include hP hf in
/-- The signed sines of the first of the two blocks. -/
theorem piece_ls (n : ℕ) (inb) (hn : (n = 128 * o ∧ o < 8) ∧ q < 8) (x : S128x128.Idx) :
    pickV (negV (sin (angV o q ho hq P f))) (rotV (sin (angV o q ho hq P f))) x = GN Q F ((Rect.unit (s := S1024x128) ![n, 0] (Shape.size S128x128) inb).emb x) := by
  obtain ⟨a, d, rfl⟩ : ∃ a d : Fin 128, x = ix2 a d := ⟨x 0, x 1, eq_ix2 x⟩
  have hd := d.isLt
  rw [pick_at, rot_at, neg_at, sin_at, sin_at]
  show _ = sgnE (0 + 1 * d.val) (Ideal.sin (Q (n + 1 * a.val) * F ((0 + 1 * d.val) % 64)))
  unfold sgnE
  split
  · rw [ang_lo o q ho hq P f Q F hP hf (by omega) (by omega) a d (by omega), if_pos (by omega)]
    congr 4 <;> omega
  · rw [ang_lo o q ho hq P f Q F hP hf (by omega) (by omega) a _ (by show (d.val + 64) % 128 < 64; omega), if_neg (by omega)]
    congr 3 <;> (try simp only) <;> omega

include hP hf in
/-- The signed sines of the second of the two blocks. -/
theorem piece_hs (n : ℕ) (inb) (hn : (n = 128 * q ∧ o < 8) ∧ q < 8) (x : S128x128.Idx) :
    pickV (negV (rotV (sin (angV o q ho hq P f)))) (sin (angV o q ho hq P f)) x = GN Q F ((Rect.unit (s := S1024x128) ![n, 0] (Shape.size S128x128) inb).emb x) := by
  obtain ⟨a, d, rfl⟩ : ∃ a d : Fin 128, x = ix2 a d := ⟨x 0, x 1, eq_ix2 x⟩
  have hd := d.isLt
  rw [pick_at, neg_at, rot_at, sin_at, sin_at]
  show _ = sgnE (0 + 1 * d.val) (Ideal.sin (Q (n + 1 * a.val) * F ((0 + 1 * d.val) % 64)))
  unfold sgnE
  split
  · rw [ang_hi o q ho hq P f Q F hP hf (by omega) (by omega) a _ (by show ¬ (d.val + 64) % 128 < 64; omega), if_pos (by omega)]
    congr 4 <;> (try simp only) <;> omega
  · rw [ang_hi o q ho hq P f Q F hP hf (by omega) (by omega) a d (by omega), if_neg (by omega)]
    congr 3 <;> omega

end

/-- A block with its rows ordered by their residue modulo 4. -/
def GT4 (G : S1024x128.Idx → EReal) : S1024x128.Idx → EReal := fun y => G (ix2 (Fin.ofNat 1024 ((y 0).val % 256 * 4 + (y 0).val / 256)) (y 1))

/-- A block with its rows ordered by their residue modulo 16. -/
def GT16 (G : S1024x128.Idx → EReal) : S1024x128.Idx → EReal := fun y => G (ix2 (Fin.ofNat 1024 ((y 0).val % 64 * 16 + (y 0).val / 64)) (y 1))

/-- The rows of residue `r` modulo 4 of a table, read with a stride of 4 rows. -/
theorem piece_4 (G : S1024x128.Idx → EReal) (arg : Memref sig .tc .vmem S1024x128 .f32) (L : List (View.Piece (Elt Ideal) S1024x128 .f32))
    (hL : ∀ y, View.canon L y = G y) (r n : ℕ) (i1 inb) (hn : n = 256 * r ∧ r < 4) (x : S256x128.Idx) :
    shapeCast S256x128 (arg.view.readCov L (⟨![r, 0], S256x128.size, ![4, 1], i1⟩ : LoadRect S1024x128)) shapeCasts_S256x128_S256x128 x =
    GT4 G ((Rect.unit (s := S1024x128) ![n, 0] (Shape.size S256x128) inb).emb x) := by
  obtain ⟨a, d, rfl⟩ : ∃ (a : Fin 256) (d : Fin 128), x = ix2 a d := ⟨x 0, x 1, eq_ix2 x⟩
  have ha := a.isLt
  have e : ∀ z : Vec Ideal S256x128 .f32, (shapeCast S256x128 z shapeCasts_S256x128_S256x128 (ix2 a d) : EReal) = z (ix2 a d) := fun z => by pointwise
  refine (e _).trans ?_
  rw [View.readCov_eq_canon']
  refine (hL _).trans (congrArg G ?_)
  funext j; apply Fin.ext; fin_cases j
  · show r + 4 * a.val = ((n + 1 * a.val) % 256 * 4 + (n + 1 * a.val) / 256) % 1024
    rw [show (n + 1 * a.val) % 256 = a.val by omega, show (n + 1 * a.val) / 256 = r by omega]
    omega
  · rfl

/-- The rows of residue `r` modulo 16 of a table, read with a stride of 16 rows. -/
theorem piece_16 (G : S1024x128.Idx → EReal) (arg : Memref sig .tc .vmem S1024x128 .f32) (L : List (View.Piece (Elt Ideal) S1024x128 .f32))
    (hL : ∀ y, View.canon L y = G y) (r n : ℕ) (i1 inb) (hn : n = 64 * r ∧ r < 16) (x : S64x128.Idx) :
    shapeCast S64x128 (arg.view.readCov L (⟨![r, 0], S64x128.size, ![16, 1], i1⟩ : LoadRect S1024x128)) shapeCasts_S64x128_S64x128 x =
    GT16 G ((Rect.unit (s := S1024x128) ![n, 0] (Shape.size S64x128) inb).emb x) := by
  obtain ⟨a, d, rfl⟩ : ∃ (a : Fin 64) (d : Fin 128), x = ix2 a d := ⟨x 0, x 1, eq_ix2 x⟩
  have ha := a.isLt
  have e : ∀ z : Vec Ideal S64x128 .f32, (shapeCast S64x128 z shapeCasts_S64x128_S64x128 (ix2 a d) : EReal) = z (ix2 a d) := fun z => by pointwise
  refine (e _).trans ?_
  rw [View.readCov_eq_canon']
  refine (hL _).trans (congrArg G ?_)
  funext j; apply Fin.ext; fin_cases j
  · show r + 16 * a.val = ((n + 1 * a.val) % 64 * 16 + (n + 1 * a.val) / 64) % 1024
    rw [show (n + 1 * a.val) % 64 = a.val by omega, show (n + 1 * a.val) / 64 = r by omega]
    omega
  · rfl

/-! ## What the body leaves in the six outputs -/

variable (c : Dev nD) (i : grid0.Coords) (arg1 : Memref sig .tc .vmem S1x8x128 .i32) (harg1 : arg1.IsWhole) (arg2 : Memref sig .tc .vmem S1x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (x0 : Vec Ideal S1x8x128 .i32) (x1 : Vec Ideal S1x128 .f32)

    (Q F : ℕ → EReal) (hQ : ∀ (k : Fin 8) (a : Fin 128), FloatOps.sitofp (F := Ideal) .f32 (x0 (ix3 0 k a)) = Q (128 * k.val + a.val)) (hF : ∀ d : Fin 128, x1 (ix2 0 d) = F (d.val % 64))

/-- The positions and the frequencies as the body loads them. -/
abbrev pV : FVec Ideal S128x8 .f32 := k0_pay5 (View.readAt (Elt Ideal) arg1.view (Rect.toLoadRect (Rect.unit ![0, 0, 0] (Shape.size S1x8x128) inb_S1x8x128_S1x8x128_0_0_0)) (harg1.unread x0))
abbrev fV : FVec Ideal S1x128 .f32 := View.readAt (Elt Ideal) arg2.view (Rect.toLoadRect (Rect.unit ![0, 0] (Shape.size S1x128) inb_S1x128_S1x128_0_0)) (harg2.unread x1)

include hQ in
/-- The positions the body reads. -/
theorem pV_at (a : Fin 128) (k : Fin 8) : pV arg1 harg1 x0 (ix2 a k) = Q (128 * k.val + a.val) := by
  unfold pV
  rw [pos_at, ← hQ]
  simp only [View.readAt_eq_ld, harg1.read_unread, View.ld]
  congr 2
  funext j; apply Fin.ext; fin_cases j
  · rfl
  · show 0 + 1 * k.val = k.val; omega
  · show 0 + 1 * a.val = a.val; omega

include hF in
/-- The frequencies the body reads. -/
theorem fV_at (d : Fin 128) : fV arg2 harg2 x1 (ix2 0 d) = F (d.val % 64) := by
  unfold fV
  rw [← hF]
  simp only [View.readAt_eq_ld, harg2.read_unread, View.ld]
  congr 1
  funext j; apply Fin.ext; fin_cases j
  · rfl
  · show 0 + 1 * d.val = d.val; omega

set_option maxHeartbeats 4000000 in
include hQ hF in
/-- The eight stores of the cosines. -/
theorem cos_tab (y : S1024x128.Idx) : View.canon (kernelRun0_A.sl.H2_8 c arg1 harg1 arg2 harg2 x0 x1) y = GC Q F y := by
  refine View.canon_apply_of_pieces (Val := Elt Ideal) (e := .f32) (GC Q F) _ ?_ y
    (View.cover_of_tiledBy (kernelRun0_A.sl.H2_8 c arg1 harg1 arg2 harg2 x0 x1) ![128, 128] (by sl_kernel_rfl) y)
  have hP := pV_at arg1 harg1 x0 Q hQ
  have hf := fV_at arg2 harg2 x1 F hF
  unfold kernelRun0_A.sl.H2_8
  intro p hp x
  simp only [List.mem_cons, List.not_mem_nil, or_false] at hp
  iterate 3
    rcases hp with rfl | hp
    · exact piece_hc _ _ (by decide) (by decide) _ _ Q F hP hf _ (by decide) (by decide) x
    rcases hp with rfl | hp
    · exact piece_lc _ _ (by decide) (by decide) _ _ Q F hP hf _ (by decide) (by decide) x
  rcases hp with rfl | hp
  · exact piece_hc _ _ (by decide) (by decide) _ _ Q F hP hf _ (by decide) (by decide) x
  subst hp
  exact piece_lc _ _ (by decide) (by decide) _ _ Q F hP hf _ (by decide) (by decide) x

set_option maxHeartbeats 4000000 in
include hQ hF in
/-- The eight stores of the signed sines. -/
theorem sin_tab (y : S1024x128.Idx) : View.canon (kernelRun0_A.sl.H3_8 c arg1 harg1 arg2 harg2 x0 x1) y = GN Q F y := by
  refine View.canon_apply_of_pieces (Val := Elt Ideal) (e := .f32) (GN Q F) _ ?_ y
    (View.cover_of_tiledBy (kernelRun0_A.sl.H3_8 c arg1 harg1 arg2 harg2 x0 x1) ![128, 128] (by sl_kernel_rfl) y)
  have hP := pV_at arg1 harg1 x0 Q hQ
  have hf := fV_at arg2 harg2 x1 F hF
  unfold kernelRun0_A.sl.H3_8
  intro p hp x
  simp only [List.mem_cons, List.not_mem_nil, or_false] at hp
  iterate 3
    rcases hp with rfl | hp
    · exact piece_hs _ _ (by decide) (by decide) _ _ Q F hP hf _ (by decide) (by decide) x
    rcases hp with rfl | hp
    · exact piece_ls _ _ (by decide) (by decide) _ _ Q F hP hf _ (by decide) (by decide) x
  rcases hp with rfl | hp
  · exact piece_hs _ _ (by decide) (by decide) _ _ Q F hP hf _ (by decide) (by decide) x
  subst hp
  exact piece_ls _ _ (by decide) (by decide) _ _ Q F hP hf _ (by decide) (by decide) x

include hQ hF in
/-- The first result's block is the cosines in order. -/
theorem out2 (y : S1024x128.Idx) : out0_A_2 c i arg1 harg1 arg2 harg2 arg3 harg3 arg4 harg4 arg5 harg5 arg6 harg6 arg7 harg7 arg8 harg8 x0 x1 y = GC Q F y := by
  unfold out0_A_2
  rw [View.read_writes_junk_eq_canon]
  exact cos_tab c arg1 harg1 arg2 harg2 x0 x1 Q F hQ hF y

include hQ hF in
/-- The second result's block is the signed sines in order. -/
theorem out3 (y : S1024x128.Idx) : out0_A_3 c i arg1 harg1 arg2 harg2 arg3 harg3 arg4 harg4 arg5 harg5 arg6 harg6 arg7 harg7 arg8 harg8 x0 x1 y = GN Q F y := by
  unfold out0_A_3
  rw [View.read_writes_junk_eq_canon]
  exact sin_tab c arg1 harg1 arg2 harg2 x0 x1 Q F hQ hF y

set_option maxHeartbeats 4000000 in
include hQ hF in
/-- The cosines with the rows ordered by their residue modulo 4. -/
theorem out4 (y : S1024x128.Idx) : out0_A_4 c i arg1 harg1 arg2 harg2 arg3 harg3 arg4 harg4 arg5 harg5 arg6 harg6 arg7 harg7 arg8 harg8 x0 x1 y = GT4 (GC Q F) y := by
  unfold out0_A_4
  rw [View.read_writes_junk_eq_canon]
  refine View.canon_apply_of_pieces (Val := Elt Ideal) (e := .f32) (GT4 (GC Q F)) _ ?_ y (cover0_A_4 c i arg1 harg1 arg2 harg2 arg3 harg3 arg4 harg4 arg5 harg5 arg6 harg6 arg7 harg7 arg8 harg8 x0 x1 y)
  have hL := cos_tab c arg1 harg1 arg2 harg2 x0 x1 Q F hQ hF
  unfold kernelRun0_A
  intro p hp x
  simp only [List.mem_cons, List.not_mem_nil, or_false] at hp
  iterate 3
    rcases hp with rfl | hp
    · exact piece_4 _ arg3 _ hL _ _ (by decide) (by decide) (by decide) x
  subst hp
  exact piece_4 _ arg3 _ hL _ _ (by decide) (by decide) (by decide) x

set_option maxHeartbeats 4000000 in
include hQ hF in
/-- The signed sines with the rows ordered by their residue modulo 4. -/
theorem out5 (y : S1024x128.Idx) : out0_A_5 c i arg1 harg1 arg2 harg2 arg3 harg3 arg4 harg4 arg5 harg5 arg6 harg6 arg7 harg7 arg8 harg8 x0 x1 y = GT4 (GN Q F) y := by
  unfold out0_A_5
  rw [View.read_writes_junk_eq_canon]
  refine View.canon_apply_of_pieces (Val := Elt Ideal) (e := .f32) (GT4 (GN Q F)) _ ?_ y (cover0_A_5 c i arg1 harg1 arg2 harg2 arg3 harg3 arg4 harg4 arg5 harg5 arg6 harg6 arg7 harg7 arg8 harg8 x0 x1 y)
  have hL := sin_tab c arg1 harg1 arg2 harg2 x0 x1 Q F hQ hF
  unfold kernelRun0_A
  intro p hp x
  simp only [List.mem_cons, List.not_mem_nil, or_false] at hp
  iterate 3
    rcases hp with rfl | hp
    · exact piece_4 _ arg4 _ hL _ _ (by decide) (by decide) (by decide) x
  subst hp
  exact piece_4 _ arg4 _ hL _ _ (by decide) (by decide) (by decide) x

set_option maxHeartbeats 4000000 in
include hQ hF in
/-- The cosines with the rows ordered by their residue modulo 16. -/
theorem out6 (y : S1024x128.Idx) : out0_A_6 c i arg1 harg1 arg2 harg2 arg3 harg3 arg4 harg4 arg5 harg5 arg6 harg6 arg7 harg7 arg8 harg8 x0 x1 y = GT16 (GC Q F) y := by
  unfold out0_A_6
  rw [View.read_writes_junk_eq_canon]
  refine View.canon_apply_of_pieces (Val := Elt Ideal) (e := .f32) (GT16 (GC Q F)) _ ?_ y (cover0_A_6 c i arg1 harg1 arg2 harg2 arg3 harg3 arg4 harg4 arg5 harg5 arg6 harg6 arg7 harg7 arg8 harg8 x0 x1 y)
  have hL := cos_tab c arg1 harg1 arg2 harg2 x0 x1 Q F hQ hF
  unfold kernelRun0_A
  intro p hp x
  simp only [List.mem_cons, List.not_mem_nil, or_false] at hp
  iterate 15
    rcases hp with rfl | hp
    · exact piece_16 _ arg3 _ hL _ _ (by decide) (by decide) (by decide) x
  subst hp
  exact piece_16 _ arg3 _ hL _ _ (by decide) (by decide) (by decide) x

set_option maxHeartbeats 4000000 in
include hQ hF in
/-- The signed sines with the rows ordered by their residue modulo 16. -/
theorem out7 (y : S1024x128.Idx) : out0_A_7 c i arg1 harg1 arg2 harg2 arg3 harg3 arg4 harg4 arg5 harg5 arg6 harg6 arg7 harg7 arg8 harg8 x0 x1 y = GT16 (GN Q F) y := by
  unfold out0_A_7
  rw [View.read_writes_junk_eq_canon]
  refine View.canon_apply_of_pieces (Val := Elt Ideal) (e := .f32) (GT16 (GN Q F)) _ ?_ y (cover0_A_7 c i arg1 harg1 arg2 harg2 arg3 harg3 arg4 harg4 arg5 harg5 arg6 harg6 arg7 harg7 arg8 harg8 x0 x1 y)
  have hL := sin_tab c arg1 harg1 arg2 harg2 x0 x1 Q F hQ hF
  unfold kernelRun0_A
  intro p hp x
  simp only [List.mem_cons, List.not_mem_nil, or_false] at hp
  iterate 15
    rcases hp with rfl | hp
    · exact piece_16 _ arg4 _ hL _ _ (by decide) (by decide) (by decide) x
  subst hp
  exact piece_16 _ arg4 _ hL _ _ (by decide) (by decide) (by decide) x

end Cert.Rope
-- ==== Proof.Rope2.lean ====
module

public import proofs.«01_k».proof.Proof.Rope1

@[expose] public section

set_option maxRecDepth 16384

noncomputable section
open Idealize.ShloMosaic Idealize.ShloMosaic.TcCoe Idealize.SL.Sem

namespace Cert.Rope

open Cert.Kernel8Ideal Cert.Kernel8Ideal.Gen

/-! ## The specification -/

/-- The 64 frequencies, as the host computes them. -/
def freqA : FVec Ideal S64 .f32 :=
  Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32)))

/-- Frequency `d`. -/
def frE (d : ℕ) : EReal := freqA (ix1 (Fin.ofNat 64 d))

/-- The position of row `r` of the four sequences, one below the other. -/
def posE (p : IVec S4x8192 32) (r : ℕ) : EReal :=
  FloatOps.sitofp (F := Ideal) .f32 (p (ix2 (Fin.ofNat 4 (r / 8192)) (Fin.ofNat 8192 (r % 8192))))

/-- An entry of the cosines' table. -/
def cosE (p : IVec S4x8192 32) (r d : ℕ) : EReal := Ideal.cos (posE p r * frE (d % 64))
/-- An entry of the signed sines' table: the sine's sign is turned in the first 64 columns. -/
def sinE (p : IVec S4x8192 32) (r d : ℕ) : EReal := sgnE d (Ideal.sin (posE p r * frE (d % 64)))

/-- The row that stands at place `r` after the rows of each tile of 1024 are ordered by their residue modulo 4. -/
def row4 (r : ℕ) : ℕ := r / 1024 * 1024 + r % 256 * 4 + r / 256 % 4
/-- The same for the residue modulo 16. -/
def row16 (r : ℕ) : ℕ := r / 1024 * 1024 + r % 64 * 16 + r / 64 % 16

/-- A table with its rows read at `g`. -/
def SPEC_T (h : ℕ → ℕ → EReal) (g : ℕ → ℕ) : S32768x128.Idx → EReal := fun y => h (g (y 0).val) (y 1).val

/-! ## The blocks a grid point reads -/

variable (m : (ℓ : Loc nD τ sig) → Buf (Elt Ideal) ℓ) (c : Dev nD)

abbrev a0 : IVec S4x8192 32 := m ((c : Thread nD τ).loc main_arg0)

/-- The positions as the call takes them: position `a` of line `k` of tile `t` is that of row `1024 t + 128 k + a`. -/
theorem V_p (t : Fin 32) (k : Fin 8) (a : Fin 128) : FloatOps.sitofp (F := Ideal) .f32 (V m c main_v8 (ix3 t k a)) = posE (a0 m c) (1024 * t.val + (128 * k.val + a.val)) := by
  unfold posE
  refine congrArg (FloatOps.sitofp (F := Ideal) .f32) ?_
  unfold V
  simp only [hostOps0, List.flatten_cons, List.flatten_nil, List.append_nil, List.cons_append, List.nil_append]
  after_reads_at
  refine congrArg (a0 m c) ?_
  congr 1 <;> refine Fin.ext ?_ <;> simp only [Fin.val_ofNat] <;> omega

/-- The frequencies as the call takes them: the 64 frequencies twice. -/
theorem V_f (d : Fin 128) : (V m c main_v7 (ix2 0 d) : EReal) = frE (d.val % 64) := by
  have e : V m c main_v7 = shapeCast S1x128 (concatenate S128 0 [⟨S64, freqA⟩, ⟨S64, freqA⟩] concatenates_S64_S64_S128_d0) shapeCasts_S128_S1x128 := by
    unfold V
    simp only [hostOps0, List.flatten_cons, List.flatten_nil, List.append_nil, List.cons_append, List.nil_append]
    after_results <;> rfl
  rw [e]
  unfold frE
  generalize freqA = z
  pointwise
  split
  all_goals
    refine congrArg z ?_
    congr 1 <;> refine Fin.ext ?_ <;> simp only [Fin.val_ofNat] <;> omega

/-- Every window's block index at a grid point `t`. -/
theorem idx : ∀ t : Fin cfg0.N, win0_0.index t = ![t.val, 0, 0] ∧ win0_1.index t = ![0, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (t : Fin cfg0.N)

/-- The positions a grid point reads are those of its tile. -/
theorem blk_p (k : Fin 8) (a : Fin 128) : FloatOps.sitofp (F := Ideal) .f32 (iblk m c 0 t (ix3 0 k a)) = posE (a0 m c) (1024 * t.val + (128 * k.val + a.val)) := by
  have hN := lt_of_lt_of_eq t.isLt (show cfg0.N = 32 from N_0)
  have e : iblk m c 0 t (ix3 0 k a) = V m c main_v8 (ix3 ⟨t.val, hN⟩ k a) := by
    unfold iblk
    generalize hV : V m c = W
    blk_ext [(idx t).1] <;> (try simp only [Fin.val_ofNat]) <;> omega
  rw [e, V_p]

/-- A grid point reads all frequencies. -/
theorem blk_f (d : Fin 128) : (iblk m c 1 t (ix2 0 d) : EReal) = frE (d.val % 64) := by
  have e : iblk m c 1 t (ix2 0 d) = V m c main_v7 (ix2 0 d) := by
    unfold iblk
    generalize hV : V m c = W
    blk_ext [(idx t).2.1] <;> (try simp only [Fin.val_ofNat]) <;> omega
  rw [e, V_f]

/-! ## A grid point's block is a tile of the table -/

/-- The positions of the rows of tile `t`. -/
abbrev Qt : ℕ → EReal := fun r => posE (a0 m c) (1024 * t.val + r)

/-- A block of cosines in order is its tile of the cosines' table. -/
theorem tile_c (a : Fin 1024) (d : Fin 128) : GC (Qt m c t) frE (ix2 a d) = SPEC_T (cosE (a0 m c)) id (ix2 (Fin.ofNat 32768 (1024 * t.val + a.val)) d) := by
  have hN := lt_of_lt_of_eq t.isLt (show cfg0.N = 32 from N_0)
  show _ = cosE (a0 m c) ((1024 * t.val + a.val) % 32768) d.val
  rw [show (1024 * t.val + a.val) % 32768 = 1024 * t.val + a.val by omega]
  rfl

/-- The same for the signed sines. -/
theorem tile_s (a : Fin 1024) (d : Fin 128) : GN (Qt m c t) frE (ix2 a d) = SPEC_T (sinE (a0 m c)) id (ix2 (Fin.ofNat 32768 (1024 * t.val + a.val)) d) := by
  have hN := lt_of_lt_of_eq t.isLt (show cfg0.N = 32 from N_0)
  show _ = sinE (a0 m c) ((1024 * t.val + a.val) % 32768) d.val
  rw [show (1024 * t.val + a.val) % 32768 = 1024 * t.val + a.val by omega]
  rfl

/-- The same for a tile whose rows are ordered by residue modulo 4: the tile of the ordered table. -/
theorem tile_4 (G : S1024x128.Idx → EReal) (h : ℕ → ℕ → EReal)
    (hG : ∀ (a : Fin 1024) (d : Fin 128), G (ix2 a d) = SPEC_T h id (ix2 (Fin.ofNat 32768 (1024 * t.val + a.val)) d)) (a : Fin 1024) (d : Fin 128) :
    GT4 G (ix2 a d) = SPEC_T h row4 (ix2 (Fin.ofNat 32768 (1024 * t.val + a.val)) d) := by
  have hN := lt_of_lt_of_eq t.isLt (show cfg0.N = 32 from N_0)
  have ha := a.isLt
  refine (hG _ _).trans ?_
  show h ((1024 * t.val + (a.val % 256 * 4 + a.val / 256) % 1024) % 32768) d.val = h (row4 ((1024 * t.val + a.val) % 32768)) d.val
  congr 1
  have hb : a.val % 256 * 4 + a.val / 256 < 1024 := by omega
  rw [Nat.mod_eq_of_lt hb, Nat.mod_eq_of_lt (show 1024 * t.val + (a.val % 256 * 4 + a.val / 256) < 32768 by omega),
    Nat.mod_eq_of_lt (show 1024 * t.val + a.val < 32768 by omega)]
  unfold row4
  rw [show (1024 * t.val + a.val) / 1024 = t.val by omega, show (1024 * t.val + a.val) % 256 = a.val % 256 by omega,
    show (1024 * t.val + a.val) / 256 % 4 = a.val / 256 by omega]
  omega

/-- The same for the residue modulo 16. -/
theorem tile_16 (G : S1024x128.Idx → EReal) (h : ℕ → ℕ → EReal)
    (hG : ∀ (a : Fin 1024) (d : Fin 128), G (ix2 a d) = SPEC_T h id (ix2 (Fin.ofNat 32768 (1024 * t.val + a.val)) d)) (a : Fin 1024) (d : Fin 128) :
    GT16 G (ix2 a d) = SPEC_T h row16 (ix2 (Fin.ofNat 32768 (1024 * t.val + a.val)) d) := by
  have hN := lt_of_lt_of_eq t.isLt (show cfg0.N = 32 from N_0)
  have ha := a.isLt
  refine (hG _ _).trans ?_
  show h ((1024 * t.val + (a.val % 64 * 16 + a.val / 64) % 1024) % 32768) d.val = h (row16 ((1024 * t.val + a.val) % 32768)) d.val
  congr 1
  have hb : a.val % 64 * 16 + a.val / 64 < 1024 := by omega
  rw [Nat.mod_eq_of_lt hb, Nat.mod_eq_of_lt (show 1024 * t.val + (a.val % 64 * 16 + a.val / 64) < 32768 by omega),
    Nat.mod_eq_of_lt (show 1024 * t.val + a.val < 32768 by omega)]
  unfold row16
  rw [show (1024 * t.val + a.val) / 1024 = t.val by omega, show (1024 * t.val + a.val) % 64 = a.val % 64 by omega,
    show (1024 * t.val + a.val) / 64 % 16 = a.val / 64 by omega]
  omega

/-! ## The result arrays after the run -/

/-- An index is the pair of its row and its column. -/
theorem eqz (z : S1024x128.Idx) : z = ix2 (z 0) (z 1) := eq_ix2 z

/-- The first result is the table of cosines. -/
theorem array2 : (dats m 0 c).arrAt 2 cfg0.N = SPEC_T (cosE (a0 m c)) id := by
  refine (dats m 0 c).arrAt_eq_of_covers 2 _ (by decide +kernel) fun t hf y => ?_
  have hN := lt_of_lt_of_eq t.isLt (show cfg0.N = 32 from N_0)
  rw [after0_2, cast_eq]
  refine (out2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (Qt m c t) frE (blk_p m c t) (blk_f m c t) _).trans ?_
  refine (congrArg _ (eqz _)).trans ((tile_c m c t _ _).trans (congrArg _ ?_))
  blk_ext [(idx t).2.2.1] <;> (simp only [Fin.val_ofNat]; omega)

/-- The second result is the table of signed sines. -/
theorem array3 : (dats m 0 c).arrAt 3 cfg0.N = SPEC_T (sinE (a0 m c)) id := by
  refine (dats m 0 c).arrAt_eq_of_covers 3 _ (by decide +kernel) fun t hf y => ?_
  have hN := lt_of_lt_of_eq t.isLt (show cfg0.N = 32 from N_0)
  rw [after0_3, cast_eq]
  refine (out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (Qt m c t) frE (blk_p m c t) (blk_f m c t) _).trans ?_
  refine (congrArg _ (eqz _)).trans ((tile_s m c t _ _).trans (congrArg _ ?_))
  blk_ext [(idx t).2.2.2.1] <;> (simp only [Fin.val_ofNat]; omega)

/-- The third result is the cosines with rows ordered by residue modulo 4. -/
theorem array4 : (dats m 0 c).arrAt 4 cfg0.N = SPEC_T (cosE (a0 m c)) row4 := by
  refine (dats m 0 c).arrAt_eq_of_covers 4 _ (by decide +kernel) fun t hf y => ?_
  have hN := lt_of_lt_of_eq t.isLt (show cfg0.N = 32 from N_0)
  rw [after0_4, cast_eq]
  refine (out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (Qt m c t) frE (blk_p m c t) (blk_f m c t) _).trans ?_
  refine (congrArg _ (eqz _)).trans ((tile_4 t _ _ (tile_c m c t) _ _).trans (congrArg _ ?_))
  blk_ext [(idx t).2.2.2.2.1] <;> (simp only [Fin.val_ofNat]; omega)

/-- The fourth result is the signed sines with rows ordered by residue modulo 4. -/
theorem array5 : (dats m 0 c).arrAt 5 cfg0.N = SPEC_T (sinE (a0 m c)) row4 := by
  refine (dats m 0 c).arrAt_eq_of_covers 5 _ (by decide +kernel) fun t hf y => ?_
  have hN := lt_of_lt_of_eq t.isLt (show cfg0.N = 32 from N_0)
  rw [after0_5, cast_eq]
  refine (out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (Qt m c t) frE (blk_p m c t) (blk_f m c t) _).trans ?_
  refine (congrArg _ (eqz _)).trans ((tile_4 t _ _ (tile_s m c t) _ _).trans (congrArg _ ?_))
  blk_ext [(idx t).2.2.2.2.2.1] <;> (simp only [Fin.val_ofNat]; omega)

/-- The fifth result is the cosines with rows ordered by residue modulo 16. -/
theorem array6 : (dats m 0 c).arrAt 6 cfg0.N = SPEC_T (cosE (a0 m c)) row16 := by
  refine (dats m 0 c).arrAt_eq_of_covers 6 _ (by decide +kernel) fun t hf y => ?_
  have hN := lt_of_lt_of_eq t.isLt (show cfg0.N = 32 from N_0)
  rw [after0_6, cast_eq]
  refine (out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (Qt m c t) frE (blk_p m c t) (blk_f m c t) _).trans ?_
  refine (congrArg _ (eqz _)).trans ((tile_16 t _ _ (tile_c m c t) _ _).trans (congrArg _ ?_))
  blk_ext [(idx t).2.2.2.2.2.2.1] <;> (simp only [Fin.val_ofNat]; omega)

/-- The sixth result is the signed sines with rows ordered by residue modulo 16. -/
theorem array7 : (dats m 0 c).arrAt 7 cfg0.N = SPEC_T (sinE (a0 m c)) row16 := by
  refine (dats m 0 c).arrAt_eq_of_covers 7 _ (by decide +kernel) fun t hf y => ?_
  have hN := lt_of_lt_of_eq t.isLt (show cfg0.N = 32 from N_0)
  rw [after0_7, cast_eq]
  refine (out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (Qt m c t) frE (blk_p m c t) (blk_f m c t) _).trans ?_
  refine (congrArg _ (eqz _)).trans ((tile_16 t _ _ (tile_s m c t) _ _).trans (congrArg _ ?_))
  blk_ext [(idx t).2.2.2.2.2.2.2] <;> (simp only [Fin.val_ofNat]; omega)

/-- The kernel's run with its six result arrays named, its argument unchanged. -/
theorem run_arrays (ρ : Dev nD → PrngReg) : θ_run defs (onTc (τ := τ) (main (F := Ideal))) ⟨m, fun _ => 0, ρ⟩ fun r => ∀ c : Dev nD,
      r.2.mem ((c.tc : Thread nD τ).loc main_v9_0) = SPEC_T (cosE (a0 m c)) id
      ∧ r.2.mem ((c.tc : Thread nD τ).loc main_v9_1) = SPEC_T (sinE (a0 m c)) id
      ∧ r.2.mem ((c.tc : Thread nD τ).loc main_v9_2) = SPEC_T (cosE (a0 m c)) row4
      ∧ r.2.mem ((c.tc : Thread nD τ).loc main_v9_3) = SPEC_T (sinE (a0 m c)) row4
      ∧ r.2.mem ((c.tc : Thread nD τ).loc main_v9_4) = SPEC_T (cosE (a0 m c)) row16
      ∧ r.2.mem ((c.tc : Thread nD τ).loc main_v9_5) = SPEC_T (sinE (a0 m c)) row16
      ∧ r.2.mem ((c.tc : Thread nD τ).loc main_arg0) = m ((c.tc : Thread nD τ).loc main_arg0) :=
  (θ_run defs _ _).mono (fun r h c => ⟨(h c).1.trans (array2 m c), (h c).2.1.trans (array3 m c), (h c).2.2.1.trans (array4 m c), (h c).2.2.2.1.trans (array5 m c),
    (h c).2.2.2.2.1.trans (array6 m c), (h c).2.2.2.2.2.1.trans (array7 m c), (h c).2.2.2.2.2.2⟩) (Cert.Kernel8Ideal.Value.run_blocks m ρ)

end Cert.Rope
-- ==== Proof.Rope3.lean ====
module

public import proofs.«01_k».proof.Proof.Rope2
public import proofs.«01_k».proof.Proof.Gen.Reference8Ideal.Run

@[expose] public section

set_option maxRecDepth 16384

noncomputable section
open Idealize.ShloMosaic Idealize.ShloMosaic.TcCoe Idealize.SL.Sem

namespace Cert.Rope.Ref

open Cert.Reference8Ideal Cert.Reference8Ideal.Gen Cert.Reference8Ideal.Value
open Cert.Rope (sgnE frE posE cosE sinE row4 row16 SPEC_T freqA)

/-- The angles: positions times frequencies. -/
def angA (p : IVec S4x8192 32) : FVec Ideal S4x8192x64 .f32 :=
  mulf (broadcastInDim S4x8192x64 ![0, 1, 2] bcast_S4x8192x1_S4x8192x64_0_1_2 (broadcastInDim S4x8192x1 ![0, 1] bcast_S4x8192_S4x8192x1_0_1 (sitofp .f32 p)))
    (broadcastInDim S4x8192x64 ![0, 1, 2] bcast_S1x1x64_S4x8192x64_0_1_2 (broadcastInDim S1x1x64 ![2] bcast_S64_S1x1x64_2 freqA))

/-- Two arrays of 64 columns side by side, the four sequences one below the other. -/
def sideA (x y : FVec Ideal S4x8192x64 .f32) : FVec Ideal S32768x128 .f32 :=
  shapeCast S32768x128 (concatenate S4x8192x128 2 [⟨S4x8192x64, x⟩, ⟨S4x8192x64, y⟩] concatenates_S4x8192x64_S4x8192x64_S4x8192x128_d2) shapeCasts_S4x8192x128_S32768x128

/-- A table with the rows of each tile of 1024 ordered by their residue modulo 4. -/
def res4A (x : FVec Ideal S32768x128 .f32) : FVec Ideal S32768x128 .f32 :=
  shapeCast S32768x128 (transpose S32x4x256x128 [0, 2, 1, 3] (shapeCast S32x256x4x128 x shapeCasts_S32768x128_S32x256x4x128) transposes_S32x256x4x128_S32x4x256x128_0_2_1_3)
    shapeCasts_S32x4x256x128_S32768x128
/-- The same for the residue modulo 16. -/
def res16A (x : FVec Ideal S32768x128 .f32) : FVec Ideal S32768x128 .f32 :=
  shapeCast S32768x128 (transpose S32x16x64x128 [0, 2, 1, 3] (shapeCast S32x64x16x128 x shapeCasts_S32768x128_S32x64x16x128) transposes_S32x64x16x128_S32x16x64x128_0_2_1_3)
    shapeCasts_S32x16x64x128_S32768x128

/-- An angle is its position times its frequency. -/
theorem ang_at (p : IVec S4x8192 32) (b : Fin 4) (r : Fin 8192) (d : Fin 64) :
    (angA p (ix3 b r d) : EReal) = FloatOps.sitofp (F := Ideal) .f32 (p (ix2 b r)) * freqA (ix1 d) := by
  unfold angA
  generalize freqA = z
  pointwise

/-- An entry of two arrays side by side: the first one's in the first 64 columns, the second one's after. -/
theorem side_at (x y : FVec Ideal S4x8192x64 .f32) (r : Fin 32768) (d : Fin 128) :
    (sideA x y (ix2 r d) : EReal) = if d.val < 64 then x (ix3 (Fin.ofNat 4 (r.val / 8192)) (Fin.ofNat 8192 (r.val % 8192)) (Fin.ofNat 64 (d.val % 64)))
      else y (ix3 (Fin.ofNat 4 (r.val / 8192)) (Fin.ofNat 8192 (r.val % 8192)) (Fin.ofNat 64 (d.val % 64))) := by
  unfold sideA
  pointwise
  split
  · refine congrArg x ?_
    congr 1 <;> refine Fin.ext ?_ <;> simp only [Fin.val_ofNat] <;> omega
  · refine congrArg y ?_
    congr 1 <;> refine Fin.ext ?_ <;> simp only [Fin.val_ofNat] <;> omega

/-- A row of the ordered table is the row `row4` of the table. -/
theorem res4_at (x : FVec Ideal S32768x128 .f32) (r : Fin 32768) (d : Fin 128) : (res4A x (ix2 r d) : EReal) = x (ix2 (Fin.ofNat 32768 (row4 r.val)) d) := by
  unfold res4A row4
  pointwise
  refine congrArg x ?_
  congr 1 <;> refine Fin.ext ?_ <;> (try simp only [Fin.val_ofNat]) <;> omega

/-- A row of the ordered table is the row `row16` of the table. -/
theorem res16_at (x : FVec Ideal S32768x128 .f32) (r : Fin 32768) (d : Fin 128) : (res16A x (ix2 r d) : EReal) = x (ix2 (Fin.ofNat 32768 (row16 r.val)) d) := by
  unfold res16A row16
  pointwise
  refine congrArg x ?_
  congr 1 <;> refine Fin.ext ?_ <;> (try simp only [Fin.val_ofNat]) <;> omega

/-- The reference's table of cosines. -/
def cosA (p : IVec S4x8192 32) : FVec Ideal S32768x128 .f32 := sideA (Host.cos (angA p)) (Host.cos (angA p))
/-- The reference's table of signed sines. -/
def sinA (p : IVec S4x8192 32) : FVec Ideal S32768x128 .f32 := sideA (Host.negf (Host.sin (angA p))) (Host.sin (angA p))

/-- The cosine at an index. -/
theorem hcos_at (x : FVec Ideal S4x8192x64 .f32) (b : Fin 4) (r : Fin 8192) (d : Fin 64) : (Host.cos x (ix3 b r d) : EReal) = Ideal.cos (x (ix3 b r d)) := by pointwise
/-- The sine at an index. -/
theorem hsin_at (x : FVec Ideal S4x8192x64 .f32) (b : Fin 4) (r : Fin 8192) (d : Fin 64) : (Host.sin x (ix3 b r d) : EReal) = Ideal.sin (x (ix3 b r d)) := by pointwise
/-- The negation at an index. -/
theorem hneg_at (x : FVec Ideal S4x8192x64 .f32) (b : Fin 4) (r : Fin 8192) (d : Fin 64) : (Host.negf x (ix3 b r d) : EReal) = -x (ix3 b r d) := by pointwise

/-- The reference's cosines are the specification's. -/
theorem cos_eq (p : IVec S4x8192 32) : cosA p = SPEC_T (cosE p) id := by
  funext y
  obtain ⟨r, d, rfl⟩ : ∃ (r : Fin 32768) (d : Fin 128), y = ix2 r d := ⟨y 0, y 1, eq_ix2 y⟩
  refine (side_at _ _ r d).trans ?_
  rw [hcos_at, ang_at, ite_self]
  rfl

/-- The reference's signed sines are the specification's. -/
theorem sin_eq (p : IVec S4x8192 32) : sinA p = SPEC_T (sinE p) id := by
  funext y
  obtain ⟨r, d, rfl⟩ : ∃ (r : Fin 32768) (d : Fin 128), y = ix2 r d := ⟨y 0, y 1, eq_ix2 y⟩
  refine (side_at _ _ r d).trans ?_
  rw [hneg_at, hsin_at, ang_at]
  rfl

/-- A table with its rows ordered by residue modulo 4 is the specification's. -/
theorem res4_eq (h : ℕ → ℕ → EReal) : res4A (SPEC_T h id) = SPEC_T h row4 := by
  funext y
  obtain ⟨r, d, rfl⟩ : ∃ (r : Fin 32768) (d : Fin 128), y = ix2 r d := ⟨y 0, y 1, eq_ix2 y⟩
  refine (res4_at _ r d).trans ?_
  show h (row4 r.val % 32768) d.val = h (row4 r.val) d.val
  have hr := r.isLt
  congr 1
  unfold row4
  omega

/-- The same for the residue modulo 16. -/
theorem res16_eq (h : ℕ → ℕ → EReal) : res16A (SPEC_T h id) = SPEC_T h row16 := by
  funext y
  obtain ⟨r, d, rfl⟩ : ∃ (r : Fin 32768) (d : Fin 128), y = ix2 r d := ⟨y 0, y 1, eq_ix2 y⟩
  refine (res16_at _ r d).trans ?_
  show h (row16 r.val % 32768) d.val = h (row16 r.val) d.val
  have hr := r.isLt
  congr 1
  unfold row16
  omega

/-- The reference's run with its six results named by the specification, its argument unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = SPEC_T (cosE (m ((c.tc : Thread nD τ).loc main_arg0))) id
      ∧ r.2.mem ((c.tc : Thread nD τ).loc main_v18) = SPEC_T (sinE (m ((c.tc : Thread nD τ).loc main_arg0))) id
      ∧ r.2.mem ((c.tc : Thread nD τ).loc main_v21) = SPEC_T (cosE (m ((c.tc : Thread nD τ).loc main_arg0))) row4
      ∧ r.2.mem ((c.tc : Thread nD τ).loc main_v24) = SPEC_T (sinE (m ((c.tc : Thread nD τ).loc main_arg0))) row4
      ∧ r.2.mem ((c.tc : Thread nD τ).loc main_v27) = SPEC_T (cosE (m ((c.tc : Thread nD τ).loc main_arg0))) row16
      ∧ r.2.mem ((c.tc : Thread nD τ).loc main_v30) = SPEC_T (sinE (m ((c.tc : Thread nD τ).loc main_arg0))) row16
      ∧ r.2.mem ((c.tc : Thread nD τ).loc main_arg0) = m ((c.tc : Thread nD τ).loc main_arg0) :=
  (θ_run defs _ _).mono (fun r h c => by
      obtain ⟨h0, h1, h2, h3, h4, h5, hk⟩ := h c
      have e0 : r.2.mem ((c.tc : Thread nD τ).loc main_v15) = cosA (m ((c.tc : Thread nD τ).loc main_arg0)) := h0
      have e1 : r.2.mem ((c.tc : Thread nD τ).loc main_v18) = sinA (m ((c.tc : Thread nD τ).loc main_arg0)) := h1
      have e2 : r.2.mem ((c.tc : Thread nD τ).loc main_v21) = res4A (cosA (m ((c.tc : Thread nD τ).loc main_arg0))) := h2
      have e3 : r.2.mem ((c.tc : Thread nD τ).loc main_v24) = res4A (sinA (m ((c.tc : Thread nD τ).loc main_arg0))) := h3
      have e4 : r.2.mem ((c.tc : Thread nD τ).loc main_v27) = res16A (cosA (m ((c.tc : Thread nD τ).loc main_arg0))) := h4
      have e5 : r.2.mem ((c.tc : Thread nD τ).loc main_v30) = res16A (sinA (m ((c.tc : Thread nD τ).loc main_arg0))) := h5
      rw [cos_eq] at e0 e2 e4
      rw [sin_eq] at e1 e3 e5
      exact ⟨e0, e1, e2.trans (res4_eq _), e3.trans (res4_eq _), e4.trans (res16_eq _), e5.trans (res16_eq _), hk⟩)
    (Cert.Reference8Ideal.Value.run (F := Ideal) m ρ)

end Cert.Rope.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Fin
public import proofs.«01_k».proof.Proof.Ffn5
public import proofs.«01_k».proof.Proof.Proj4
public import proofs.«01_k».proof.Proof.Proj5
public import proofs.«01_k».proof.Proof.Dil4
public import proofs.«01_k».proof.Proof.Dil8
public import proofs.«01_k».proof.Proof.Mods
public import proofs.«01_k».proof.Proof.Rope3
public import Idealize.ShloMosaic.Adequacy
public import Idealize.ShloMosaic.Init

@[expose] public section

noncomputable section

namespace Cert.Proof

open Idealize.ShloMosaic Idealize.SL.Sem Cert.Kernel

/-- Every run of the reference ends with its arguments unchanged; it declares no semaphore, so every counter is zero. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From finite queries, keys, values and gate arguments, the kernel and the reference end with the same result: the
specification `Cert.Gla.SPEC` of the arguments. -/
theorem algebraic : Cert.algebraic_KernelIdeal_ReferenceIdeal_pre_finite (hKernelIdeal := Cert.KernelIdeal.Gen.facts)
    (hReferenceIdeal := Cert.ReferenceIdeal.Gen.facts) (hPre_finite := Cert.Gla.pre_facts) := by
  intro m g m' g' hpre hargs
  have F : ∀ c, Cert.Gla.Fins (Cert.Gla.a0 m c) (Cert.Gla.a1 m c) (Cert.Gla.a2 m c) (Cert.Gla.a3 m c) := fun c =>
    @Cert.Gla.fins_of _ _ _ _ _ Cert.Gla.pre_facts (hpre c)
  refine ⟨fun c => Cert.Gla.SPEC (Cert.Gla.a0 m c) (Cert.Gla.a1 m c) (Cert.Gla.a2 m c) (Cert.Gla.a3 m c) (Cert.Gla.a4 m c), ?_, ?_⟩
  · exact (θ_run Cert.KernelIdeal.defs _ _).mono (fun r h c => ⟨(h c).1.trans (Cert.Gla.kernel_array (F c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3, h4⟩ := hargs c
    have F' : Cert.Gla.Fins (Cert.ReferenceIdeal.Entry.r0 m' c) (Cert.ReferenceIdeal.Entry.r1 m' c) (Cert.ReferenceIdeal.Entry.r2 m' c)
        (Cert.ReferenceIdeal.Entry.r3 m' c) := by
      rw [show Cert.ReferenceIdeal.Entry.r0 m' c = Cert.Gla.a0 m c from h0, show Cert.ReferenceIdeal.Entry.r1 m' c = Cert.Gla.a1 m c from h1,
        show Cert.ReferenceIdeal.Entry.r2 m' c = Cert.Gla.a2 m c from h2, show Cert.ReferenceIdeal.Entry.r3 m' c = Cert.Gla.a3 m c from h3]
      exact F c
    refine (Cert.Gla.Ref.reference_array F' 128 rfl).trans ?_
    rw [show Cert.ReferenceIdeal.Entry.r0 m' c = Cert.Gla.a0 m c from h0, show Cert.ReferenceIdeal.Entry.r1 m' c = Cert.Gla.a1 m c from h1,
      show Cert.ReferenceIdeal.Entry.r2 m' c = Cert.Gla.a2 m c from h2, show Cert.ReferenceIdeal.Entry.r3 m' c = Cert.Gla.a3 m c from h3, h4]
    rfl

/-- Every run of the first feed-forward reference ends with its arguments unchanged; it declares no semaphore. -/
theorem frame_ref2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Each of the first feed-forward kernel's two named constants is printed by the pattern nearest to it. -/
theorem preserves2 : Cert.preserves_Kernel2_Kernel2Ideal :=
  ⟨IdealRules.named_const.statement Cert.Kernel2Ideal.κ "half_inv_alpha" .f32 0x3ED744FD#32 ((262144 / 623487 : ℝ) : EReal) rfl,
    IdealRules.named_const.statement Cert.Kernel2Ideal.κ "eps_inv_alpha_sq" .f32 0x36ED4403#32 ((2748779 / 388736039169 : ℝ) : EReal) rfl⟩

/-- From any arguments, the first feed-forward kernel and its reference end with the same result: the specification
`Cert.Ffn.SPEC 0` of the arguments. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Ffn.SPEC 0 (Cert.Ffn.a0 m c) (Cert.Ffn.a1 m c) (Cert.Ffn.a2 m c) (Cert.Ffn.a3 m c) (Cert.Ffn.a4 m c) (Cert.Ffn.a5 m c), ?_, ?_⟩
  · exact (θ_run Cert.Kernel2Ideal.defs _ _).mono (fun r h c => ⟨(h c).1.trans (Cert.Ffn.kernel_array m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    obtain ⟨h0, h1, h2, h3, h4, h5⟩ := hargs c
    refine (Cert.Ffn.Ref.reference_array m' c).trans ?_
    rw [h0, h1, h2, h3, h4, h5]

/-- Every run of the second feed-forward reference ends with its arguments unchanged; it declares no semaphore. -/
theorem frame_ref3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Each of the second feed-forward kernel's two named constants is printed by the pattern nearest to it. -/
theorem preserves3 : Cert.preserves_Kernel3_Kernel3Ideal :=
  ⟨IdealRules.named_const.statement Cert.Kernel3Ideal.κ "half_inv_alpha" .f32 0x3ED744FD#32 ((262144 / 623487 : ℝ) : EReal) rfl,
    IdealRules.named_const.statement Cert.Kernel3Ideal.κ "eps_inv_alpha_sq" .f32 0x36ED4403#32 ((2748779 / 388736039169 : ℝ) : EReal) rfl⟩

/-- From any arguments, the second feed-forward kernel and its reference end with the same result: the specification
`Cert.Ffn.SPEC 6` of the arguments. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Ffn.SPEC 6 (Cert.Ffn.Second.a0 m c) (Cert.Ffn.Second.a1 m c) (Cert.Ffn.Second.a2 m c) (Cert.Ffn.Second.a3 m c) (Cert.Ffn.Second.a4 m c) (Cert.Ffn.Second.a5 m c), ?_, ?_⟩
  · exact (θ_run Cert.Kernel3Ideal.defs _ _).mono (fun r h c => ⟨(h c).1.trans (Cert.Ffn.Second.kernel_array m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨h0, h1, h2, h3, h4, h5⟩ := hargs c
    refine (Cert.Ffn.SecondRef.reference_array m' c).trans ?_
    rw [h0, h1, h2, h3, h4, h5]

/-- Every run of the projection kernel ends with its arguments unchanged and every counter at zero: the program's text is that
of its idealization, whose body was run in `Proj2`. -/
theorem frame4 : Cert.quiescent_Kernel4 (hKernel4 := Cert.Kernel4.Gen.facts) := fun m ρ _ =>
  Cert.Kernel4.Body.frame m ρ

/-- The same at the ideal instance. -/
theorem frame4_ideal : Cert.quiescent_Kernel4Ideal (hKernel4Ideal := Cert.Kernel4Ideal.Gen.facts) := fun m ρ _ =>
  Cert.Kernel4Ideal.Body.frame (F := Ideal) m ρ

/-- Every run of the projection's reference ends with its arguments unchanged; it declares no semaphore. -/
theorem frame_ref4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- From any arguments, the projection kernel and its reference end with the same two results: the specifications
`Cert.Proj.SPEC_P` and `Cert.Proj.SPEC_L` of the arguments. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Proj.SPEC_P (Cert.Proj.a0 m c) (Cert.Proj.a1 m c) (Cert.Proj.a2 m c),
    fun c => Cert.Proj.SPEC_L (Cert.Proj.a0 m c) (Cert.Proj.a1 m c) (Cert.Proj.a2 m c), Cert.Proj.run_arrays m g, ?_⟩
  refine (θ_run Cert.Reference4Ideal.defs _ _).mono (fun r h c => ⟨(h c).1.trans ?_, (h c).2.1.trans ?_, (h c).2.2⟩)
    (Cert.Proj.Ref.run_arrays m' g')
  all_goals
    obtain ⟨h0, h1, h2⟩ := hargs c
    rw [h0, h1, h2]

/-- Every run of the dilated projection's reference ends with its arguments unchanged; it declares no semaphore. -/
theorem frame_ref5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- From any arguments, the dilated projection kernel and its reference end with the same result: the specification
`Cert.Dil.SPEC_D` of the arguments. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Dil.SPEC_D (Cert.Dil.a0 m c) (Cert.Dil.a1 m c) (Cert.Dil.a2 m c) (Cert.Dil.a3 m c) (Cert.Dil.a4 m c),
    Cert.Dil.run_arrays m g, ?_⟩
  refine (θ_run Cert.Reference5Ideal.defs _ _).mono (fun r h c => ⟨(h c).1.trans ?_, (h c).2⟩)
    (Cert.Dil.Ref.run_arrays m' g')
  obtain ⟨h0, h1, h2, h3, h4⟩ := hargs c
  rw [h0, h1, h2, h3, h4]

/-- Every run of the reference of the dilated projection by residues modulo four ends with its arguments unchanged; it
declares no semaphore. -/
theorem frame_ref6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- From any arguments, the kernel that projects and orders rows by residue modulo four and its reference end with the
same result: the specification `Cert.Dil4.Ref.SPEC_E` of the arguments. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Dil4.Ref.SPEC_E (Cert.Dil4.a0 m c) (Cert.Dil4.a1 m c) (Cert.Dil4.a2 m c) (Cert.Dil4.a3 m c) (Cert.Dil4.a4 m c),
    Cert.Dil4.run_arrays m g, ?_⟩
  refine (θ_run Cert.Reference6Ideal.defs _ _).mono (fun r h c => ⟨(h c).1.trans ?_, (h c).2⟩)
    (Cert.Dil4.Ref.run_arrays m' g')
  obtain ⟨h0, h1, h2, h3, h4⟩ := hargs c
  rw [h0, h1, h2, h3, h4]

/-- Every run of the modulation vectors' reference ends with the arguments unchanged and every semaphore at zero. -/
theorem frame_ref7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- From any arguments, the kernel of the modulation vectors and its reference end with the same result: the specification
`Cert.Mods.SPEC_M` of the arguments. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Mods.SPEC_M (Cert.Mods.a0 m c) (Cert.Mods.a1 m c) (Cert.Mods.a2 m c), Cert.Mods.run_arrays m g, ?_⟩
  refine (θ_run Cert.Reference7Ideal.defs _ _).mono (fun r h c => ⟨(h c).1.trans ?_, (h c).2⟩)
    (Cert.Mods.Ref.run_arrays m' g')
  obtain ⟨h0, h1, h2⟩ := hargs c
  rw [h0, h1, h2]

/-- Every run of the rotary tables' reference ends with its argument unchanged and every semaphore at zero. -/
theorem frame_ref8 : Cert.quiescent_Reference8Ideal := fun m ρ _ =>
  (θ_run Cert.Reference8Ideal.defs _ _).mono (fun r h => ⟨fun c => (h c).2.2.2.2.2.2,
      Idealize.ShloMosaic.sem_eq_zero_of_no_sems (by decide) r.2⟩)
    (Cert.Reference8Ideal.Value.run (F := Ideal) m ρ)

/-- From any positions, the kernel of the rotary tables and its reference end with the same six results: the cosines and the
signed sines, in order and ordered by residue modulo 4 and modulo 16. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Rope.SPEC_T (Cert.Rope.cosE (Cert.Rope.a0 m c)) id, fun c => Cert.Rope.SPEC_T (Cert.Rope.sinE (Cert.Rope.a0 m c)) id,
    fun c => Cert.Rope.SPEC_T (Cert.Rope.cosE (Cert.Rope.a0 m c)) Cert.Rope.row4, fun c => Cert.Rope.SPEC_T (Cert.Rope.sinE (Cert.Rope.a0 m c)) Cert.Rope.row4,
    fun c => Cert.Rope.SPEC_T (Cert.Rope.cosE (Cert.Rope.a0 m c)) Cert.Rope.row16, fun c => Cert.Rope.SPEC_T (Cert.Rope.sinE (Cert.Rope.a0 m c)) Cert.Rope.row16,
    Cert.Rope.run_arrays m g, ?_⟩
  refine (θ_run Cert.Reference8Ideal.defs _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.Rope.Ref.run_arrays m' g')
  all_goals rw [hargs c]

/-- Every claim of the certificate. The kernels' frames are the generated runs, for the projection the run of `Proj2`:
every run ends with the arguments unchanged and every semaphore at zero. No operation was rewritten between `Kernel` and `KernelIdeal`; two constants are named between
`Kernel2` and `Kernel2Ideal`, and between `Kernel3` and `Kernel3Ideal`. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Gla.pre_facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  frame_ref3,
  frame4,
  frame4_ideal,
  frame_ref4,
  fun m ρ _ => Cert.Kernel5.Gen.frame m ρ,
  fun m ρ _ => Cert.Kernel5Ideal.Gen.frame m ρ,
  frame_ref5,
  fun m ρ _ => Cert.Kernel6.Gen.frame m ρ,
  fun m ρ _ => Cert.Kernel6Ideal.Gen.frame m ρ,
  frame_ref6,
  fun m ρ _ => Cert.Kernel7.Gen.frame m ρ,
  fun m ρ _ => Cert.Kernel7Ideal.Gen.frame m ρ,
  frame_ref7,
  fun m ρ _ => Cert.Kernel8.Gen.frame m ρ,
  fun m ρ _ => Cert.Kernel8Ideal.Gen.frame m ρ,
  frame_ref8,
  trivial,
  algebraic,
  preserves2,
  algebraic2,
  preserves3,
  algebraic3,
  trivial,
  algebraic4,
  trivial,
  algebraic5,
  trivial,
  algebraic6,
  trivial,
  algebraic7,
  trivial,
  algebraic8⟩

end Cert.Proof

end
